-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_core12 [hPre_core12 : Cert.Pre_core12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_core12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_core12 [hPre_core12 : Cert.Pre_core12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_core12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_core13 [hPre_core13 : Cert.Pre_core13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_core13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_core13 [hPre_core13 : Cert.Pre_core13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_core13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_core14 [hPre_core14 : Cert.Pre_core14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_core14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_core14 [hPre_core14 : Cert.Pre_core14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_core14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_core15 [hPre_core15 : Cert.Pre_core15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_core15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_core15 [hPre_core15 : Cert.Pre_core15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_core15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Kernel12Ideal_pre_core12 [hKernel12Ideal : Cert.Kernel12Ideal.Facts] [hPre_core12 : Cert.Pre_core12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_core12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_core12 [hReference12Ideal : Cert.Reference12Ideal.Facts] [hPre_core12 : Cert.Pre_core12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_core12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_core13 [hKernel13Ideal : Cert.Kernel13Ideal.Facts] [hPre_core13 : Cert.Pre_core13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_core13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_core13 [hReference13Ideal : Cert.Reference13Ideal.Facts] [hPre_core13 : Cert.Pre_core13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_core13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_core14 [hKernel14Ideal : Cert.Kernel14Ideal.Facts] [hPre_core14 : Cert.Pre_core14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_core14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_core14 [hReference14Ideal : Cert.Reference14Ideal.Facts] [hPre_core14 : Cert.Pre_core14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_core14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Kernel15Ideal_pre_core15 [hKernel15Ideal : Cert.Kernel15Ideal.Facts] [hPre_core15 : Cert.Pre_core15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_core15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_core15 [hReference15Ideal : Cert.Reference15Ideal.Facts] [hPre_core15 : Cert.Pre_core15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_core15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def preserves_Kernel_KernelIdeal : Prop :=
  True

def algebraic_KernelIdeal_ReferenceIdeal_on_dx_and_db_pre_finite [hKernelIdeal : Cert.KernelIdeal.Facts] [hReferenceIdeal : Cert.ReferenceIdeal.Facts] [hPre_finite : Cert.Pre_finite.Facts] [hOn_dx_and_db : Cert.On_dx_and_db.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Cert.On_dx_and_db.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.KernelIdeal.nD Cert.KernelIdeal.τ).loc Cert.KernelIdeal.main_v13_1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 2048]⟩ : Shape).Idx, (Cert.On_dx_and_db.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.ReferenceIdeal.nD Cert.ReferenceIdeal.τ).loc Cert.ReferenceIdeal.main_v119) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_core12 [hKernel12Ideal : Cert.Kernel12Ideal.Facts] [hReference12Ideal : Cert.Reference12Ideal.Facts] [hPre_core12 : Cert.Pre_core12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_core12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v16) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal_pre_core13 [hKernel13Ideal : Cert.Kernel13Ideal.Facts] [hReference13Ideal : Cert.Reference13Ideal.Facts] [hPre_core13 : Cert.Pre_core13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_core13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v29) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_v16) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal_pre_core14 [hKernel14Ideal : Cert.Kernel14Ideal.Facts] [hReference14Ideal : Cert.Reference14Ideal.Facts] [hPre_core14 : Cert.Pre_core14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_core14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_v16) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal_pre_core15 [hKernel15Ideal : Cert.Kernel15Ideal.Facts] [hReference15Ideal : Cert.Reference15Ideal.Facts] [hPre_core15 : Cert.Pre_core15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_core15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v29) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_v16) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v42) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_core12 : Cert.Pre_core12.Facts) (hPre_core13 : Cert.Pre_core13.Facts) (hPre_core14 : Cert.Pre_core14.Facts) (hPre_core15 : Cert.Pre_core15.Facts) (hOn_dx_and_db : Cert.On_dx_and_db.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_core12 (hKernel12Ideal := hKernel12Ideal) (hPre_core12 := hPre_core12)
    ∧ quiescent_Reference12Ideal (hReference12Ideal := hReference12Ideal)
    ∧ quiescent_Reference12Ideal_pre_core12 (hReference12Ideal := hReference12Ideal) (hPre_core12 := hPre_core12)
    ∧ quiescent_Kernel13 (hKernel13 := hKernel13)
    ∧ quiescent_Kernel13Ideal (hKernel13Ideal := hKernel13Ideal)
    ∧ quiescent_Kernel13Ideal_pre_core13 (hKernel13Ideal := hKernel13Ideal) (hPre_core13 := hPre_core13)
    ∧ quiescent_Reference13Ideal (hReference13Ideal := hReference13Ideal)
    ∧ quiescent_Reference13Ideal_pre_core13 (hReference13Ideal := hReference13Ideal) (hPre_core13 := hPre_core13)
    ∧ quiescent_Kernel14 (hKernel14 := hKernel14)
    ∧ quiescent_Kernel14Ideal (hKernel14Ideal := hKernel14Ideal)
    ∧ quiescent_Kernel14Ideal_pre_core14 (hKernel14Ideal := hKernel14Ideal) (hPre_core14 := hPre_core14)
    ∧ quiescent_Reference14Ideal (hReference14Ideal := hReference14Ideal)
    ∧ quiescent_Reference14Ideal_pre_core14 (hReference14Ideal := hReference14Ideal) (hPre_core14 := hPre_core14)
    ∧ quiescent_Kernel15 (hKernel15 := hKernel15)
    ∧ quiescent_Kernel15Ideal (hKernel15Ideal := hKernel15Ideal)
    ∧ quiescent_Kernel15Ideal_pre_core15 (hKernel15Ideal := hKernel15Ideal) (hPre_core15 := hPre_core15)
    ∧ quiescent_Reference15Ideal (hReference15Ideal := hReference15Ideal)
    ∧ quiescent_Reference15Ideal_pre_core15 (hReference15Ideal := hReference15Ideal) (hPre_core15 := hPre_core15)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_on_dx_and_db_pre_finite (hKernelIdeal := hKernelIdeal) (hReferenceIdeal := hReferenceIdeal) (hPre_finite := hPre_finite) (hOn_dx_and_db := hOn_dx_and_db)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_core12 (hKernel12Ideal := hKernel12Ideal) (hReference12Ideal := hReference12Ideal) (hPre_core12 := hPre_core12)
    ∧ preserves_Kernel13_Kernel13Ideal
    ∧ algebraic_Kernel13Ideal_Reference13Ideal_pre_core13 (hKernel13Ideal := hKernel13Ideal) (hReference13Ideal := hReference13Ideal) (hPre_core13 := hPre_core13)
    ∧ preserves_Kernel14_Kernel14Ideal
    ∧ algebraic_Kernel14Ideal_Reference14Ideal_pre_core14 (hKernel14Ideal := hKernel14Ideal) (hReference14Ideal := hReference14Ideal) (hPre_core14 := hPre_core14)
    ∧ preserves_Kernel15_Kernel15Ideal
    ∧ algebraic_Kernel15Ideal_Reference15Ideal_pre_core15 (hKernel15Ideal := hKernel15Ideal) (hReference15Ideal := hReference15Ideal) (hPre_core15 := hPre_core15)
    ∧ preserves_Kernel16_Kernel16Ideal
    ∧ algebraic_Kernel16Ideal_Reference16Ideal (hKernel16Ideal := hKernel16Ideal) (hReference16Ideal := hReference16Ideal)
-- ==== On_dx_and_db.lean ====
abbrev S4096x5120 : Shape := ⟨2, ![4096, 5120]⟩
abbrev S4096x2048 : Shape := ⟨2, ![4096, 2048]⟩
abbrev S4096x1024 : Shape := ⟨2, ![4096, 1024]⟩
abbrev S4096x128 : Shape := ⟨2, ![4096, 128]⟩
abbrev S32x8x128x128 : Shape := ⟨4, ![32, 8, 128, 128]⟩
abbrev S1x16 : Shape := ⟨2, ![1, 16]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x5120 .bf16) (main_arg1 : FVec F S4096x2048 .f32) (main_arg2 : FVec F S4096x5120 .f32) (main_arg3 : FVec F S4096x1024 .f32) (main_arg4 : FVec F S4096x2048 .f32) (main_arg5 : FVec F S4096x128 .f32) (main_arg6 : FVec F S32x8x128x128 .f32) (main_arg7 : FVec F S1x16 .f32) (main_arg8 : FVec F S1x16 .f32) (main_arg9 : FVec F S1x16 .f32) (main_arg10 : FVec F S1x1024 .f32) : IVec S4096x2048 1 :=
  let main_v0 : IVec S4096x2048 32 := iotaInDim S4096x2048 32 1
  let main_c : IVec S_ 32 := constantI S_ 32 1536#32
  let main_v1 : IVec S4096x2048 32 := broadcastInDim S4096x2048 ![] bcast_S_S4096x2048 main_c
  let main_v2 : IVec S4096x2048 1 := cmpi .slt main_v0 main_v1
  main_v2
-- ==== Pre_core12.lean ====
abbrev S2 : Shape := ⟨1, ![2]⟩
abbrev S1408x2048 : Shape := ⟨2, ![1408, 2048]⟩
abbrev S704x2048 : Shape := ⟨2, ![704, 2048]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S1408x2048 .f32) (main_arg2 : FVec F S704x2048 .f32) (main_arg3 : FVec F S704x2048 .f32) (main_arg4 : FVec F S1408x2048 .f32) (main_arg5 : FVec F S1408x2048 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core13.lean ====
abbrev S2 : Shape := ⟨1, ![2]⟩
abbrev S2048x1408 : Shape := ⟨2, ![2048, 1408]⟩
abbrev S1024x1408 : Shape := ⟨2, ![1024, 1408]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S2048x1408 .f32) (main_arg2 : FVec F S1024x1408 .f32) (main_arg3 : FVec F S1024x1408 .f32) (main_arg4 : FVec F S2048x1408 .f32) (main_arg5 : FVec F S2048x1408 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core14.lean ====
abbrev S2 : Shape := ⟨1, ![2]⟩
abbrev S512x2048 : Shape := ⟨2, ![512, 2048]⟩
abbrev S256x2048 : Shape := ⟨2, ![256, 2048]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S512x2048 .f32) (main_arg2 : FVec F S256x2048 .f32) (main_arg3 : FVec F S256x2048 .f32) (main_arg4 : FVec F S512x2048 .f32) (main_arg5 : FVec F S512x2048 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core15.lean ====
abbrev S2 : Shape := ⟨1, ![2]⟩
abbrev S1284x2048 : Shape := ⟨2, ![1284, 2048]⟩
abbrev S1284x1024 : Shape := ⟨2, ![1284, 1024]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S1284x2048 .f32) (main_arg2 : FVec F S1284x1024 .f32) (main_arg3 : FVec F S1284x1024 .f32) (main_arg4 : FVec F S1284x2048 .f32) (main_arg5 : FVec F S1284x2048 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_finite.lean ====
abbrev S4096x5120 : Shape := ⟨2, ![4096, 5120]⟩
abbrev S4096x2048 : Shape := ⟨2, ![4096, 2048]⟩
abbrev S4096x1024 : Shape := ⟨2, ![4096, 1024]⟩
abbrev S4096x128 : Shape := ⟨2, ![4096, 128]⟩
abbrev S32x8x128x128 : Shape := ⟨4, ![32, 8, 128, 128]⟩
abbrev S1x16 : Shape := ⟨2, ![1, 16]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  bcast_S_S4096x5120 : S_.BroadcastsInDim S4096x5120 (![] : Fin 0 → Fin S4096x5120.rank)
  bcast_S_S4096x1024 : S_.BroadcastsInDim S4096x1024 (![] : Fin 0 → Fin S4096x1024.rank)
  bcast_S_S4096x128 : S_.BroadcastsInDim S4096x128 (![] : Fin 0 → Fin S4096x128.rank)
  bcast_S_S1x16 : S_.BroadcastsInDim S1x16 (![] : Fin 0 → Fin S1x16.rank)
  bcast_S_S1x1024 : S_.BroadcastsInDim S1x1024 (![] : Fin 0 → Fin S1x1024.rank)

variable [Facts]

def fn_part1 {F : FTy → Type} [FloatOps F] (main_arg8 : FVec F S1x16 .f32) (main_arg9 : FVec F S1x16 .f32) (main_arg10 : FVec F S1x1024 .f32) (main_v2 : IVec S4096x2048 1) (main_v5 : IVec S4096x5120 1) (main_v8 : IVec S4096x1024 1) (main_v11 : IVec S4096x2048 1) (main_v14 : IVec S4096x128 1) (main_v17 : IVec S1x16 1) : IVec S4096x2048 1 × IVec S4096x5120 1 × IVec S4096x1024 1 × IVec S4096x2048 1 × IVec S4096x128 1 × IVec S1x16 1 × IVec S1x16 1 × IVec S1x16 1 × IVec S1x1024 1 :=
  let main_v18 : FVec F S1x16 .f32 := Host.absf main_arg8
  let main_cst_5 : FVec F S_ .f32 := constant S_ .f32 0x7F800000#32
  let main_v19 : FVec F S1x16 .f32 := broadcastInDim S1x16 ![] bcast_S_S1x16 main_cst_5
  let main_v20 : IVec S1x16 1 := cmpf .olt main_v18 main_v19
  let main_v21 : FVec F S1x16 .f32 := Host.absf main_arg9
  let main_cst_6 : FVec F S_ .f32 := constant S_ .f32 0x7F800000#32
  let main_v22 : FVec F S1x16 .f32 := broadcastInDim S1x16 ![] bcast_S_S1x16 main_cst_6
  let main_v23 : IVec S1x16 1 := cmpf .olt main_v21 main_v22
  let main_v24 : FVec F S1x1024 .f32 := Host.absf main_arg10
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S4096x5120 .bf16) (main_arg1 : FVec F S4096x2048 .f32) (main_arg2 : FVec F S4096x5120 .f32) (main_arg3 : FVec F S4096x1024 .f32) (main_arg4 : FVec F S4096x2048 .f32) (main_arg5 : FVec F S4096x128 .f32) (main_arg6 : FVec F S32x8x128x128 .f32) (main_arg7 : FVec F S1x16 .f32) (main_arg8 : FVec F S1x16 .f32) (main_arg9 : FVec F S1x16 .f32) (main_arg10 : FVec F S1x1024 .f32) : IVec S4096x2048 1 × IVec S4096x5120 1 × IVec S4096x1024 1 × IVec S4096x2048 1 × IVec S4096x128 1 × IVec S1x16 1 × IVec S1x16 1 × IVec S1x16 1 × IVec S1x1024 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x5120 .f32 := Host.absf main_arg2
  let main_cst_0 : FVec F S_ .f32 := constant S_ .f32 0x7F800000#32
  let main_v4 : FVec F S4096x5120 .f32 := broadcastInDim S4096x5120 ![] bcast_S_S4096x5120 main_cst_0
  let main_v5 : IVec S4096x5120 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x2048 .f32 := Host.absf main_arg4
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S4096x128 .f32 := Host.absf main_arg5
  let main_cst_3 : FVec F S_ .f32 := constant S_ .f32 0x7F800000#32
  let main_v13 : FVec F S4096x128 .f32 := broadcastInDim S4096x128 ![] bcast_S_S4096x128 main_cst_3
  let main_v14 : IVec S4096x128 1 := cmpf .olt main_v12 main_v13
  let main_v15 : FVec F S1x16 .f32 := Host.absf main_arg7
  let main_cst_4 : FVec F S_ .f32 := constant S_ .f32 0x7F800000#32
  let main_v16 : FVec F S1x16 .f32 := broadcastInDim S1x16 ![] bcast_S_S1x16 main_cst_4
  let main_v17 : IVec S1x16 1 := cmpf .olt main_v15 main_v16
  fn_part1 (F := F) main_arg8 main_arg9 main_arg10 main_v2 main_v5 main_v8 main_v11 main_v14 main_v17
-- ==== Pre_finite2.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg3
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Kernel.lean ====
abbrev S4096x5120 : Shape := ⟨2, ![4096, 5120]⟩
abbrev S4096x2048 : Shape := ⟨2, ![4096, 2048]⟩
abbrev S4096x1024 : Shape := ⟨2, ![4096, 1024]⟩
abbrev S4096x128 : Shape := ⟨2, ![4096, 128]⟩
abbrev S32x8x128x128 : Shape := ⟨4, ![32, 8, 128, 128]⟩
abbrev S1x16 : Shape := ⟨2, ![1, 16]⟩
abbrev S1x1024 : Shape := ⟨2, ![1, 1024]⟩
abbrev S1x16x64 : Shape := ⟨3, ![1, 16, 64]⟩
abbrev S_ : Shape := ⟨0, ![]⟩
abbrev S1x128 : Shape := ⟨2, ![1, 128]⟩
abbrev S1024 : Shape := ⟨1, ![1024]⟩
abbrev S1024x1 : Shape := ⟨2, ![1024, 1]⟩
abbrev S128 : Shape := ⟨1, ![128]⟩
abbrev S1024x128 : Shape := ⟨2, ![1024, 128]⟩
abbrev S8x1024 : Shape := ⟨2, ![8, 1024]⟩
abbrev S128x1024 : Shape := ⟨2, ![128, 1024]⟩
abbrev S128x512 : Shape := ⟨2, ![128, 512]⟩
abbrev S128x128 : Shape := ⟨2, ![128, 128]⟩
abbrev S1x8x128x128 : Shape := ⟨4, ![1, 8, 128, 128]⟩
abbrev S128x2048 : Shape := ⟨2, ![128, 2048]⟩
abbrev S8x128x128 : Shape := ⟨3, ![8, 128, 128]⟩
abbrev S128x256 : Shape := ⟨2, ![128, 256]⟩
abbrev S128x1 : Shape := ⟨2, ![128, 1]⟩
abbrev S1x256 : Shape := ⟨2, ![1, 256]⟩
abbrev S256 : Shape := ⟨1, ![256]⟩
abbrev S1x1x128x128 : Shape := ⟨4, ![1, 1, 128, 128]⟩
abbrev S1x128x128 : Shape := ⟨3, ![1, 128, 128]⟩
abbrev S8x128 : Shape := ⟨2, ![8, 128]⟩

abbrev nBuf : Space → Nat
  | .hbm => 49
  | .vmem => 37
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .f32⟩
  | .hbm, ⟨2, _⟩ => ⟨S4096x5120, .f32⟩
  | .hbm, ⟨3, _⟩ => ⟨S4096x1024, .f32⟩
  | .hbm, ⟨4, _⟩ => ⟨S4096x2048, .f32⟩
  | .hbm, ⟨5, _⟩ => ⟨S4096x128, .f32⟩
  | .hbm, ⟨6, _⟩ => ⟨S32x8x128x128, .f32⟩
  | .hbm, ⟨7, _⟩ => ⟨S1x16, .f32⟩
  | .hbm, ⟨8, _⟩ => ⟨S1x16, .f32⟩
  | .hbm, ⟨9, _⟩ => ⟨S1x16, .f32⟩
  | .hbm, ⟨10, _⟩ => ⟨S1x1024, .f32⟩
  | .hbm, ⟨11, _⟩ => ⟨S1x16x64, .f32⟩
  | .hbm, ⟨12, _⟩ => ⟨S1x1024, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S1024, .i32⟩
  | .hbm, ⟨20, _⟩ => ⟨S1024x1, .i32⟩
  | .hbm, ⟨21, _⟩ => ⟨S_, .i32⟩
  | .hbm, ⟨22, _⟩ => ⟨S_, .i32⟩
  | .hbm, ⟨23, _⟩ => ⟨S1024x1, .i32⟩
  | .hbm, ⟨24, _⟩ => ⟨S1024x1, .i32⟩
  | .hbm, ⟨25, _⟩ => ⟨S1024x1, .i32⟩
  | .hbm, ⟨26, _⟩ => ⟨S_, .i32⟩
  | .hbm, ⟨27, _⟩ => ⟨S1024x1, .i32⟩
  | .hbm, ⟨28, _⟩ => ⟨S1024x1, .i1⟩
  | .hbm, ⟨29, _⟩ => ⟨S1024x1, .i32⟩
  | .hbm, ⟨30, _⟩ => ⟨S1024x1, .i32⟩
  | .hbm, ⟨31, _⟩ => ⟨S_, .i32⟩
  | .hbm, ⟨32, _⟩ => ⟨S1024x1, .i32⟩
  | .hbm, ⟨33, _⟩ => ⟨S1024x1, .i1⟩
  | .hbm, ⟨34, _⟩ => ⟨S1024x1, .i1⟩
  | .hbm, ⟨35, _⟩ => ⟨S_, .i32⟩
  | .hbm, ⟨36, _⟩ => ⟨S1024x1, .i32⟩
  | .hbm, ⟨37, _⟩ => ⟨S1024x1, .i32⟩
  | .hbm, ⟨38, _⟩ => ⟨S1024x1, .i32⟩
  | .hbm, ⟨39, _⟩ => ⟨S128, .i32⟩
  | .hbm, ⟨40, _⟩ => ⟨S1x128, .i32⟩
  | .hbm, ⟨41, _⟩ => ⟨S1024x128, .i32⟩
  | .hbm, ⟨42, _⟩ => ⟨S1024x128, .i32⟩
  | .hbm, ⟨43, _⟩ => ⟨S1024x128, .i1⟩
  | .hbm, ⟨44, _⟩ => ⟨S1024x128, .bf16⟩
  | .hbm, ⟨45, _⟩ => ⟨S4096x5120, .bf16⟩
  | .hbm, ⟨46, _⟩ => ⟨S4096x2048, .f32⟩
  | .hbm, ⟨47, _⟩ => ⟨S4096x128, .f32⟩
  | .hbm, ⟨48, _⟩ => ⟨S8x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x128, .f32⟩
  | .local _ .vmem, ⟨13, _⟩ => ⟨S128x128, .f32⟩
  | .local _ .vmem, ⟨14, _⟩ => ⟨S1x8x128x128, .f32⟩
  | .local _ .vmem, ⟨15, _⟩ => ⟨S1x8x128x128, .f32⟩
  | .local _ .vmem, ⟨16, _⟩ => ⟨S1x128, .f32⟩
  | .local _ .vmem, ⟨17, _⟩ => ⟨S1x128, .f32⟩
  | .local _ .vmem, ⟨18, _⟩ => ⟨S1x1024, .f32⟩
  | .local _ .vmem, ⟨19, _⟩ => ⟨S1x1024, .f32⟩
  | .local _ .vmem, ⟨20, _⟩ => ⟨S1024x128, .bf16⟩
  | .local _ .vmem, ⟨21, _⟩ => ⟨S128x1024, .bf16⟩
  | .local _ .vmem, ⟨22, _⟩ => ⟨S128x1024, .bf16⟩
  | .local _ .vmem, ⟨23, _⟩ => ⟨S128x2048, .f32⟩
  | .local _ .vmem, ⟨24, _⟩ => ⟨S128x2048, .f32⟩
  | .local _ .vmem, ⟨25, _⟩ => ⟨S128x128, .f32⟩
  | .local _ .vmem, ⟨26, _⟩ => ⟨S128x128, .f32⟩
  | .local _ .vmem, ⟨27, _⟩ => ⟨S8x1024, .f32⟩
  | .local _ .vmem, ⟨28, _⟩ => ⟨S8x128x128, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x128, .f32⟩
  | .local _ .vmem, ⟨33, _⟩ => ⟨S1x1024, .f32⟩
  | .local _ .vmem, ⟨34, _⟩ => ⟨S1x1024, .f32⟩
  | .local _ .vmem, ⟨35, _⟩ => ⟨S1x128, .f32⟩
  | .local _ .vmem, ⟨36, _⟩ => ⟨S1x128, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_c : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_0 : Ref sig .tc := ⟨.hbm, 35, rfl⟩
abbrev main_call2_v12 : Ref sig .tc := ⟨.hbm, 36, rfl⟩
abbrev main_call2_v13 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13_0 : Ref sig .tc := ⟨.hbm, 45, rfl⟩
abbrev main_v13_1 : Ref sig .tc := ⟨.hbm, 46, rfl⟩
abbrev main_v13_2 : Ref sig .tc := ⟨.hbm, 47, rfl⟩
abbrev main_v13_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg0 : BitVec 32 := BitVec.ofNat 32 (i 0).val
  let c1_i32_576 : BitVec 32 := 1#32
  let v1652 : BitVec 1 := Scalar.cmpi .eq arg0 c1_i32_576
  let arg1 : BitVec 32 := BitVec.ofNat 32 (i 1).val
  let c15_i32_577 : BitVec 32 := 15#32
  let v1653 : BitVec 1 := Scalar.cmpi .eq arg1 c15_i32_577
  let v1654 : BitVec 1 := Scalar.andi v1652 v1653
  let v1655 : BitVec 32 := Scalar.extui v1654
  let c0_i32_578 : BitVec 32 := 0#32
  let v1656 : BitVec 1 := Scalar.cmpi .ne v1655 c0_i32_578
  v1656

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c1_i32 : BitVec 32 := 1#32
  let c0_i32 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c2_i32 : BitVec 32 := 2#32
  let c0_i32 : BitVec 32 := 0#32
  ![v2.toNat, c2_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c3_i32 : BitVec 32 := 3#32
  let c0_i32 : BitVec 32 := 0#32
  ![v2.toNat, c3_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_8 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c2_i32 : BitVec 32 := 2#32
  let c0_i32 : BitVec 32 := 0#32
  ![v2.toNat, c2_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== ReferenceIdeal.lean ====
abbrev S4096x5120 : Shape := ⟨2, ![4096, 5120]⟩
abbrev S4096x2048 : Shape := ⟨2, ![4096, 2048]⟩
abbrev S4096x1024 : Shape := ⟨2, ![4096, 1024]⟩
abbrev S4096x128 : Shape := ⟨2, ![4096, 128]⟩
abbrev S32x8x128x128 : Shape := ⟨4, ![32, 8, 128, 128]⟩
abbrev S1x16 : Shape := ⟨2, ![1, 16]⟩
abbrev S1x1024 : Shape := ⟨2, ![1, 1024]⟩
abbrev S2x2048x1024 : Shape := ⟨3, ![2, 2048, 1024]⟩
abbrev S1024 : Shape := ⟨1, ![1024]⟩
abbrev S_ : Shape := ⟨0, ![]⟩
abbrev S2x2048x4x256 : Shape := ⟨4, ![2, 2048, 4, 256]⟩
abbrev S2x2048x4 : Shape := ⟨3, ![2, 2048, 4]⟩
abbrev S2x2048x4x1 : Shape := ⟨4, ![2, 2048, 4, 1]⟩
abbrev S1x1x1024 : Shape := ⟨3, ![1, 1, 1024]⟩
abbrev S4096x16 : Shape := ⟨2, ![4096, 16]⟩
abbrev S2x2048x16 : Shape := ⟨3, ![2, 2048, 16]⟩
abbrev S2x2048x2048 : Shape := ⟨3, ![2, 2048, 2048]⟩
abbrev S16 : Shape := ⟨1, ![16]⟩
abbrev S2x2048x512 : Shape := ⟨3, ![2, 2048, 512]⟩
abbrev S2x2048x16x64 : Shape := ⟨4, ![2, 2048, 16, 64]⟩
abbrev S2x2048x4x128 : Shape := ⟨4, ![2, 2048, 4, 128]⟩
abbrev S1x1x16 : Shape := ⟨3, ![1, 1, 16]⟩
abbrev S2x2048x16x1 : Shape := ⟨4, ![2, 2048, 16, 1]⟩
abbrev S2x2048x4x4x64 : Shape := ⟨5, ![2, 2048, 4, 4, 64]⟩
abbrev S2x2048x4x4 : Shape := ⟨4, ![2, 2048, 4, 4]⟩
abbrev S2x4x4x2048 : Shape := ⟨4, ![2, 4, 4, 2048]⟩
abbrev S2x4x4x2048x1 : Shape := ⟨5, ![2, 4, 4, 2048, 1]⟩
abbrev S2x4x4x1x2048 : Shape := ⟨5, ![2, 4, 4, 1, 2048]⟩
abbrev S2x4x4x2048x2048 : Shape := ⟨5, ![2, 4, 4, 2048, 2048]⟩
abbrev S2048x2048 : Shape := ⟨2, ![2048, 2048]⟩
abbrev S2x4x2048x2048 : Shape := ⟨4, ![2, 4, 2048, 2048]⟩
abbrev S2x4x1x2048x2048 : Shape := ⟨5, ![2, 4, 1, 2048, 2048]⟩
abbrev S2x4x4x64x2048 : Shape := ⟨5, ![2, 4, 4, 64, 2048]⟩
abbrev S16x1 : Shape := ⟨2, ![16, 1]⟩
abbrev S1x1x16x1 : Shape := ⟨4, ![1, 1, 16, 1]⟩
abbrev S2x4x2048x128 : Shape := ⟨4, ![2, 4, 2048, 128]⟩

abbrev nBuf : Space → Nat
  | .hbm => 176
  | .vmem => 0
  | .smem => 0
  | _ => 0

abbrev hbmTy0_0 (i : Nat) : BufTy := match i % 128 with
  | 0 => ⟨S4096x5120, .bf16⟩
  | 1 => ⟨S4096x2048, .f32⟩
  | 2 => ⟨S4096x5120, .f32⟩
  | 3 => ⟨S4096x1024, .f32⟩
  | 4 => ⟨S4096x2048, .f32⟩
  | 5 => ⟨S4096x128, .f32⟩
  | 6 => ⟨S32x8x128x128, .f32⟩
  | 7 => ⟨S1x16, .f32⟩
  | 8 => ⟨S1x16, .f32⟩
  | 9 => ⟨S1x16, .f32⟩
  | 10 => ⟨S1x1024, .f32⟩
  | 11 => ⟨S4096x1024, .f32⟩
  | 12 => ⟨S2x2048x1024, .f32⟩
  | 13 => ⟨S4096x1024, .f32⟩
  | 14 => ⟨S2x2048x1024, .f32⟩
  | 15 => ⟨S2x2048x1024, .f32⟩
  | 16 => ⟨S1024, .f32⟩
  | 17 => ⟨S2x2048x1024, .f32⟩
  | 18 => ⟨S2x2048x1024, .f32⟩
  | 19 => ⟨S_, .f32⟩
  | 20 => ⟨S2x2048x1024, .f32⟩
  | 21 => ⟨S2x2048x1024, .f32⟩
  | 22 => ⟨S_, .f32⟩
  | 23 => ⟨S2x2048x1024, .f32⟩
  | 24 => ⟨S2x2048x1024, .f32⟩
  | 25 => ⟨S2x2048x1024, .f32⟩
  | 26 => ⟨S2x2048x1024, .f32⟩
  | 27 => ⟨S2x2048x4x256, .f32⟩
  | 28 => ⟨S2x2048x4x256, .f32⟩
  | 29 => ⟨S_, .f32⟩
  | 30 => ⟨S2x2048x4, .f32⟩
  | 31 => ⟨S2x2048x4x1, .f32⟩
  | 32 => ⟨S_, .f32⟩
  | 33 => ⟨S2x2048x4x1, .f32⟩
  | 34 => ⟨S2x2048x4x1, .f32⟩
  | 35 => ⟨S_, .f32⟩
  | 36 => ⟨S2x2048x4x1, .f32⟩
  | 37 => ⟨S2x2048x4x1, .f32⟩
  | 38 => ⟨S2x2048x4x1, .f32⟩
  | 39 => ⟨S2x2048x4x1, .f32⟩
  | 40 => ⟨S_, .f32⟩
  | 41 => ⟨S2x2048x4x1, .f32⟩
  | 42 => ⟨S2x2048x4x1, .f32⟩
  | 43 => ⟨S2x2048x4x256, .f32⟩
  | 44 => ⟨S2x2048x4x256, .f32⟩
  | 45 => ⟨S2x2048x1024, .f32⟩
  | 46 => ⟨S1x1x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S2x2048x4x256, .f32⟩
  | 52 => ⟨S2x2048x4x256, .f32⟩
  | 53 => ⟨S_, .f32⟩
  | 54 => ⟨S2x2048x4, .f32⟩
  | 55 => ⟨S2x2048x4x1, .f32⟩
  | 56 => ⟨S2x2048x4x256, .f32⟩
  | 57 => ⟨S2x2048x4x256, .f32⟩
  | 58 => ⟨S2x2048x4x1, .f32⟩
  | 59 => ⟨S_, .f32⟩
  | 60 => ⟨S2x2048x4x1, .f32⟩
  | 61 => ⟨S2x2048x4x1, .f32⟩
  | 62 => ⟨S_, .f32⟩
  | 63 => ⟨S2x2048x4, .f32⟩
  | 64 => ⟨S2x2048x4x256, .f32⟩
  | 65 => ⟨S2x2048x4x256, .f32⟩
  | 66 => ⟨S2x2048x4x256, .f32⟩
  | 67 => ⟨S2x2048x4x256, .f32⟩
  | 68 => ⟨S2x2048x4x256, .f32⟩
  | 69 => ⟨S2x2048x1024, .f32⟩
  | 70 => ⟨S2x2048x1024, .f32⟩
  | 71 => ⟨S4096x16, .f32⟩
  | 72 => ⟨S2x2048x16, .f32⟩
  | 73 => ⟨S2x2048x2048, .f32⟩
  | 74 => ⟨S16, .f32⟩
  | 75 => ⟨S16, .f32⟩
  | 76 => ⟨S16, .f32⟩
  | 77 => ⟨S2x2048x1024, .f32⟩
  | 78 => ⟨S2x2048x512, .f32⟩
  | 79 => ⟨S2x2048x512, .f32⟩
  | 80 => ⟨S2x2048x16x64, .f32⟩
  | 81 => ⟨S2x2048x4x128, .f32⟩
  | 82 => ⟨S2x2048x4x128, .f32⟩
  | 83 => ⟨S1x1x16, .f32⟩
  | 84 => ⟨S2x2048x16, .f32⟩
  | 85 => ⟨S2x2048x16, .f32⟩
  | 86 => ⟨S_, .f32⟩
  | 87 => ⟨S2x2048x16, .f32⟩
  | 88 => ⟨S2x2048x16, .f32⟩
  | 89 => ⟨S2x2048x16, .f32⟩
  | 90 => ⟨S2x2048x16, .f32⟩
  | 91 => ⟨S2x2048x16, .i1⟩
  | 92 => ⟨S2x2048x16, .f32⟩
  | 93 => ⟨S2x2048x16, .f32⟩
  | 94 => ⟨S2x2048x16, .f32⟩
  | 95 => ⟨S2x2048x16, .f32⟩
  | 96 => ⟨S2x2048x16, .f32⟩
  | 97 => ⟨S2x2048x16, .f32⟩
  | 98 => ⟨S2x2048x16, .f32⟩
  | 99 => ⟨S2x2048x16, .f32⟩
  | 100 => ⟨S16, .f32⟩
  | 101 => ⟨S16, .f32⟩
  | 102 => ⟨S2x2048x16x1, .f32⟩
  | 103 => ⟨S2x2048x16x64, .f32⟩
  | 104 => ⟨S2x2048x16x64, .f32⟩
  | 105 => ⟨S2x2048x4x4x64, .f32⟩
  | 106 => ⟨S1x1x16, .f32⟩
  | 107 => ⟨S2x2048x16, .f32⟩
  | 108 => ⟨S2x2048x16, .f32⟩
  | 109 => ⟨S2x2048x4x4, .f32⟩
  | 110 => ⟨S2x4x4x2048, .f32⟩
  | 111 => ⟨S_, .f32⟩
  | 112 => ⟨S_, .f32⟩
  | 113 => ⟨S2x4x4x2048, .f32⟩
  | 114 => ⟨S2x4x4x2048x1, .f32⟩
  | 115 => ⟨S2x4x4x1x2048, .f32⟩
  | 116 => ⟨S2x4x4x2048x2048, .f32⟩
  | 117 => ⟨S2x4x4x2048x2048, .f32⟩
  | 118 => ⟨S2x4x4x2048x2048, .f32⟩
  | 119 => ⟨S_, .i1⟩
  | 120 => ⟨S2048x2048, .i1⟩
  | 121 => ⟨S2048x2048, .i32⟩
  | 122 => ⟨S_, .i32⟩
  | 123 => ⟨S2048x2048, .i32⟩
  | 124 => ⟨S2048x2048, .i32⟩
  | 125 => ⟨S2048x2048, .i32⟩
  | 126 => ⟨S2048x2048, .i1⟩
  | 127 => ⟨S_, .i1⟩
  | _ => ⟨S4096x5120, .bf16⟩

abbrev hbmTy0_1 (i : Nat) : BufTy := match i % 128 with
  | 0 => ⟨S2048x2048, .i1⟩
  | 1 => ⟨S2048x2048, .i1⟩
  | 2 => ⟨S_, .f32⟩
  | 3 => ⟨S_, .f32⟩
  | 4 => ⟨S2x4x4x2048x2048, .i1⟩
  | 5 => ⟨S2x4x4x2048x2048, .f32⟩
  | 6 => ⟨S2x4x4x2048x2048, .f32⟩
  | 7 => ⟨S2x4x4x2048x2048, .f32⟩
  | 8 => ⟨S2x4x2048x2048, .f32⟩
  | 9 => ⟨S2x4x1x2048x2048, .f32⟩
  | 10 => ⟨S2x4x4x2048x2048, .f32⟩
  | 11 => ⟨S2x4x4x2048x2048, .f32⟩
  | 12 => ⟨S2x4x4x64x2048, .f32⟩
  | 13 => ⟨S2x2048x4x4x64, .f32⟩
  | 14 => ⟨S2x2048x16x64, .f32⟩
  | 15 => ⟨S16x1, .f32⟩
  | 16 => ⟨S1x1x16x1, .f32⟩
  | 17 => ⟨S2x2048x16x64, .f32⟩
  | 18 => ⟨S2x2048x16x64, .f32⟩
  | 19 => ⟨S2x2048x16x64, .f32⟩
  | 20 => ⟨S2x2048x1024, .f32⟩
  | 21 => ⟨S2x2048x16x64, .f32⟩
  | 22 => ⟨S2x2048x16x64, .f32⟩
  | 23 => ⟨S2x2048x16x64, .f32⟩
  | 24 => ⟨S2x2048x4x4x64, .f32⟩
  | 25 => ⟨S2x4x4x64x2048, .f32⟩
  | 26 => ⟨S2x4x4x2048x2048, .f32⟩
  | 27 => ⟨S2x4x4x64x2048, .f32⟩
  | 28 => ⟨S2x2048x4x4x64, .f32⟩
  | 29 => ⟨S2x4x4x2048x2048, .f32⟩
  | 30 => ⟨S_, .f32⟩
  | 31 => ⟨S2x4x2048x2048, .f32⟩
  | 32 => ⟨S2x4x1x2048x2048, .f32⟩
  | 33 => ⟨S_, .f32⟩
  | 34 => ⟨S2x4x2048x2048, .f32⟩
  | 35 => ⟨S2x4x2048x128, .f32⟩
  | 36 => ⟨S2x2048x4x128, .f32⟩
  | 37 => ⟨S2x4x2048x128, .f32⟩
  | 38 => ⟨S2x2048x4x128, .f32⟩
  | 39 => ⟨S2x2048x16x64, .f32⟩
  | 40 => ⟨S2x2048x16x64, .f32⟩
  | 41 => ⟨S2x2048x16x64, .f32⟩
  | 42 => ⟨S2x2048x16x64, .f32⟩
  | 43 => ⟨S2x2048x512, .f32⟩
  | 44 => ⟨S2x2048x512, .f32⟩
  | 45 => ⟨S2x2048x1024, .f32⟩
  | 46 => ⟨S2x2048x2048, .f32⟩
  | 47 => ⟨S4096x2048, .f32⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_call2_call0_cst : Ref sig .tc := ⟨.hbm, 111, rfl⟩
abbrev main_call2_call0_v0 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c : Ref sig .tc := ⟨.hbm, 119, rfl⟩
abbrev main_v78 : Ref sig .tc := ⟨.hbm, 120, rfl⟩
abbrev main_call3_v0 : Ref sig .tc := ⟨.hbm, 121, rfl⟩
abbrev main_call3_c : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_c_0 : Ref sig .tc := ⟨.hbm, 127, rfl⟩
abbrev main_call3_v5 : Ref sig .tc := ⟨.hbm, 128, rfl⟩
abbrev main_v79 : Ref sig .tc := ⟨.hbm, 129, rfl⟩
abbrev main_cst_6 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_7 : Ref sig .tc := ⟨.hbm, 158, rfl⟩
abbrev main_v104 : Ref sig .tc := ⟨.hbm, 159, rfl⟩
abbrev main_v105 : Ref sig .tc := ⟨.hbm, 160, rfl⟩
abbrev main_cst_8 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x2048, .f32⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S4096x5632 : Shape := ⟨2, ![4096, 5632]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x5632, .bf16⟩
  | .hbm, ⟨3, _⟩ => ⟨S2048x5632, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x5632, .bf16⟩
  | .hbm, ⟨3, _⟩ => ⟨S2048x5632, .bf16⟩
  | .hbm, ⟨4, _⟩ => ⟨S4096x5632, .f32⟩
  | .hbm, ⟨5, _⟩ => ⟨S2048x5632, .f32⟩
  | .hbm, ⟨6, _⟩ => ⟨S4096x5632, .f32⟩
  | .hbm, ⟨7, _⟩ => ⟨S2048x5632, .f32⟩
  | .hbm, ⟨8, _⟩ => ⟨S_, .f32⟩
  | .hbm, ⟨9, _⟩ => ⟨S4096x2048, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S2048x4096 : Shape := ⟨2, ![2048, 4096]⟩
abbrev S4096x5632 : Shape := ⟨2, ![4096, 5632]⟩
abbrev S4x2048x1408 : Shape := ⟨3, ![4, 2048, 1408]⟩
abbrev S1024x2048 : Shape := ⟨2, ![1024, 2048]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4096x5632, .bf16⟩
  | .hbm, ⟨2, _⟩ => ⟨S4x2048x1408, .f32⟩
  | .hbm, ⟨3, _⟩ => ⟨S4x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x4096 : Shape := ⟨2, ![2048, 4096]⟩
abbrev S4096x5632 : Shape := ⟨2, ![4096, 5632]⟩
abbrev S_ : Shape := ⟨0, ![]⟩
abbrev S2048x5632 : Shape := ⟨2, ![2048, 5632]⟩
abbrev S4096x2048 : Shape := ⟨2, ![4096, 2048]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x5632, .bf16⟩
  | .hbm, ⟨2, _⟩ => ⟨S2048x4096, .f32⟩
  | .hbm, ⟨3, _⟩ => ⟨S4096x5632, .f32⟩
  | .hbm, ⟨4, _⟩ => ⟨S_, .f32⟩
  | .hbm, ⟨5, _⟩ => ⟨S2048x5632, .f32⟩
  | .hbm, ⟨6, _⟩ => ⟨S4096x2048, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x4x1408, .f32⟩
  | .hbm, ⟨11, _⟩ => ⟨S4x2048x1408, .f32⟩
  | .hbm, ⟨12, _⟩ => ⟨S4x2048x1408, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S5632x4096 : Shape := ⟨2, ![5632, 4096]⟩
abbrev S4096x2048 : Shape := ⟨2, ![4096, 2048]⟩
abbrev S5632x2048 : Shape := ⟨2, ![5632, 2048]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S5632x4096, .bf16⟩
  | .hbm, ⟨1, _⟩ => ⟨S4096x2048, .bf16⟩
  | .hbm, ⟨2, _⟩ => ⟨S5632x2048, .f32⟩
  | .hbm, ⟨3, _⟩ => ⟨S5632x2048, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S5632x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S5632x4096 : Shape := ⟨2, ![5632, 4096]⟩
abbrev S4096x2048 : Shape := ⟨2, ![4096, 2048]⟩
abbrev S_ : Shape := ⟨0, ![]⟩
abbrev S5632x2048 : Shape := ⟨2, ![5632, 2048]⟩
abbrev S4096x5632 : Shape := ⟨2, ![4096, 5632]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S5632x4096, .bf16⟩
  | .hbm, ⟨1, _⟩ => ⟨S4096x2048, .bf16⟩
  | .hbm, ⟨2, _⟩ => ⟨S5632x4096, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x5632, .f32⟩
  | .hbm, ⟨7, _⟩ => ⟨S4096x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S5632x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x2048 : Shape := ⟨2, ![4096, 2048]⟩
abbrev S2048x5632 : Shape := ⟨2, ![2048, 5632]⟩
abbrev S4096x5632 : Shape := ⟨2, ![4096, 5632]⟩
abbrev S5632x4096 : Shape := ⟨2, ![5632, 4096]⟩
abbrev S1024x2048 : Shape := ⟨2, ![1024, 2048]⟩
abbrev S2048x512 : Shape := ⟨2, ![2048, 512]⟩
abbrev S1024x512 : Shape := ⟨2, ![1024, 512]⟩
abbrev S512x1024 : Shape := ⟨2, ![512, 1024]⟩
abbrev S256x2048 : Shape := ⟨2, ![256, 2048]⟩
abbrev S256x512 : Shape := ⟨2, ![256, 512]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .hbm, ⟨6, _⟩ => ⟨S5632x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .vmem, ⟨13, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩
abbrev S5632x4096 : Shape := ⟨2, ![5632, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .bf16⟩
  | .hbm, ⟨19, _⟩ => ⟨S4096x5632, .bf16⟩
  | .hbm, ⟨20, _⟩ => ⟨S4096x5632, .bf16⟩
  | .hbm, ⟨21, _⟩ => ⟨S5632x4096, .f32⟩
  | .hbm, ⟨22, _⟩ => ⟨S5632x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S4096x2048 : Shape := ⟨2, ![4096, 2048]⟩
abbrev S5136x2048 : Shape := ⟨2, ![5136, 2048]⟩
abbrev S4096x5120 : Shape := ⟨2, ![4096, 5120]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S5136x2048 : Shape := ⟨2, ![5136, 2048]⟩
abbrev S2048x5136 : Shape := ⟨2, ![2048, 5136]⟩
abbrev S4096x5136 : Shape := ⟨2, ![4096, 5136]⟩
abbrev S4096x5120 : Shape := ⟨2, ![4096, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x2048, .f32⟩
  | .hbm, ⟨3, _⟩ => ⟨S5136x2048, .f32⟩
  | .hbm, ⟨4, _⟩ => ⟨S2048x5136, .f32⟩
  | .hbm, ⟨5, _⟩ => ⟨S4096x5136, .f32⟩
  | .hbm, ⟨6, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S192x128 : Shape := ⟨2, ![192, 128]⟩

abbrev nBuf : Space → Nat
  | .hbm => 7
  | .vmem => 7
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .local _ .vmem, ⟨0, _⟩ => ⟨S192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S192x128 : Shape := ⟨2, ![192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S192x128, .f32⟩
  | .hbm, ⟨7, _⟩ => ⟨S_, .f32⟩
  | .hbm, ⟨8, _⟩ => ⟨S192x128, .f32⟩
  | .hbm, ⟨9, _⟩ => ⟨S192x128, .f32⟩
  | .hbm, ⟨10, _⟩ => ⟨S192x128, .f32⟩
  | .hbm, ⟨11, _⟩ => ⟨S_, .f32⟩
  | .hbm, ⟨12, _⟩ => ⟨S192x128, .f32⟩
  | .hbm, ⟨13, _⟩ => ⟨S192x128, .f32⟩
  | .hbm, ⟨14, _⟩ => ⟨S192x128, .f32⟩
  | .hbm, ⟨15, _⟩ => ⟨S_, .f32⟩
  | .hbm, ⟨16, _⟩ => ⟨S192x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S_, .f32⟩
  | .hbm, ⟨23, _⟩ => ⟨S192x128, .f32⟩
  | .hbm, ⟨24, _⟩ => ⟨S192x128, .f32⟩
  | .hbm, ⟨25, _⟩ => ⟨S192x128, .f32⟩
  | .hbm, ⟨26, _⟩ => ⟨S_, .f32⟩
  | .hbm, ⟨27, _⟩ => ⟨S192x128, .f32⟩
  | .hbm, ⟨28, _⟩ => ⟨S192x128, .f32⟩
  | .hbm, ⟨29, _⟩ => ⟨S192x128, .f32⟩
  | .hbm, ⟨30, _⟩ => ⟨S_, .f32⟩
  | .hbm, ⟨31, _⟩ => ⟨S192x128, .f32⟩
  | .hbm, ⟨32, _⟩ => ⟨S192x128, .f32⟩
  | .hbm, ⟨33, _⟩ => ⟨S192x128, .f32⟩
  | .hbm, ⟨34, _⟩ => ⟨S_, .f32⟩
  | .hbm, ⟨35, _⟩ => ⟨S192x128, .f32⟩
  | .hbm, ⟨36, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2 : Shape := ⟨1, ![2]⟩
abbrev S1408x2048 : Shape := ⟨2, ![1408, 2048]⟩
abbrev S704x2048 : Shape := ⟨2, ![704, 2048]⟩
abbrev S176x2048 : Shape := ⟨2, ![176, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1408x2048, .f32⟩
  | .hbm, ⟨1, _⟩ => ⟨S704x2048, .f32⟩
  | .hbm, ⟨2, _⟩ => ⟨S704x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .smem, ⟨0, _⟩ => ⟨S2, .i32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 1 := Scalar.cmpi .eq arg0 v0
  let v2 : BitVec 1 := Scalar.cmpi .slt arg0 v0
  let c0_i32 : BitVec 32 := 0#32
  let c3_i32 : BitVec 32 := 3#32
  let v3 : BitVec 32 := Scalar.select v2 c0_i32 c3_i32
  let v4 : BitVec 32 := Scalar.select v1 arg1 v3
  let c0_i32_0 : BitVec 32 := 0#32
  let v5 : BitVec 32 := Scalar.addi c0_i32_0 v4
  let c0_i32_1 : BitVec 32 := 0#32
  let c0_i32_2 : BitVec 32 := 0#32
  ![v5.toNat, c0_i32_1.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.subi c1_i32 v0
  let v2 : BitVec 1 := Scalar.cmpi .eq arg0 v1
  let v3 : BitVec 1 := Scalar.cmpi .slt arg0 v1
  let c0_i32 : BitVec 32 := 0#32
  let c3_i32 : BitVec 32 := 3#32
  let v4 : BitVec 32 := Scalar.select v3 c0_i32 c3_i32
  let v5 : BitVec 32 := Scalar.select v2 arg1 v4
  let c0_i32_0 : BitVec 32 := 0#32
  let v6 : BitVec 32 := Scalar.addi c0_i32_0 v5
  let c0_i32_1 : BitVec 32 := 0#32
  let c0_i32_2 : BitVec 32 := 0#32
  ![v6.toNat, c0_i32_1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S2 : Shape := ⟨1, ![2]⟩
abbrev S1408x2048 : Shape := ⟨2, ![1408, 2048]⟩
abbrev S704x2048 : Shape := ⟨2, ![704, 2048]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2, .i32⟩
  | .hbm, ⟨1, _⟩ => ⟨S1408x2048, .f32⟩
  | .hbm, ⟨2, _⟩ => ⟨S704x2048, .f32⟩
  | .hbm, ⟨3, _⟩ => ⟨S704x2048, .f32⟩
  | .hbm, ⟨4, _⟩ => ⟨S1408x2048, .f32⟩
  | .hbm, ⟨5, _⟩ => ⟨S1408x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S_, .f32⟩
  | .hbm, ⟨17, _⟩ => ⟨S1408x2048, .f32⟩
  | .hbm, ⟨18, _⟩ => ⟨S1408x2048, .f32⟩
  | .hbm, ⟨19, _⟩ => ⟨S1408x2048, .f32⟩
  | .hbm, ⟨20, _⟩ => ⟨S_, .f32⟩
  | .hbm, ⟨21, _⟩ => ⟨S1408x2048, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S_, .f32⟩
  | .hbm, ⟨32, _⟩ => ⟨S1408x2048, .f32⟩
  | .hbm, ⟨33, _⟩ => ⟨S1408x2048, .f32⟩
  | .hbm, ⟨34, _⟩ => ⟨S1408x2048, .f32⟩
  | .hbm, ⟨35, _⟩ => ⟨S_, .f32⟩
  | .hbm, ⟨36, _⟩ => ⟨S1408x2048, .f32⟩
  | .hbm, ⟨37, _⟩ => ⟨S1408x2048, .f32⟩
  | .hbm, ⟨38, _⟩ => ⟨S1408x2048, .f32⟩
  | .hbm, ⟨39, _⟩ => ⟨S_, .f32⟩
  | .hbm, ⟨40, _⟩ => ⟨S1408x2048, .f32⟩
  | .hbm, ⟨41, _⟩ => ⟨S1408x2048, .f32⟩
  | .hbm, ⟨42, _⟩ => ⟨S1408x2048, .f32⟩
  | .hbm, ⟨43, _⟩ => ⟨S_, .f32⟩
  | .hbm, ⟨44, _⟩ => ⟨S1408x2048, .f32⟩
  | .hbm, ⟨45, _⟩ => ⟨S1408x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel13.lean ====
abbrev S2 : Shape := ⟨1, ![2]⟩
abbrev S2048x1408 : Shape := ⟨2, ![2048, 1408]⟩
abbrev S1024x1408 : Shape := ⟨2, ![1024, 1408]⟩
abbrev S256x1408 : Shape := ⟨2, ![256, 1408]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x1408, .f32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S2, .i32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 1 := Scalar.cmpi .eq arg0 v0
  let v2 : BitVec 1 := Scalar.cmpi .slt arg0 v0
  let c0_i32 : BitVec 32 := 0#32
  let c3_i32 : BitVec 32 := 3#32
  let v3 : BitVec 32 := Scalar.select v2 c0_i32 c3_i32
  let v4 : BitVec 32 := Scalar.select v1 arg1 v3
  let c0_i32_0 : BitVec 32 := 0#32
  let v5 : BitVec 32 := Scalar.addi c0_i32_0 v4
  let c0_i32_1 : BitVec 32 := 0#32
  let c0_i32_2 : BitVec 32 := 0#32
  ![v5.toNat, c0_i32_1.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.subi c1_i32 v0
  let v2 : BitVec 1 := Scalar.cmpi .eq arg0 v1
  let v3 : BitVec 1 := Scalar.cmpi .slt arg0 v1
  let c0_i32 : BitVec 32 := 0#32
  let c3_i32 : BitVec 32 := 3#32
  let v4 : BitVec 32 := Scalar.select v3 c0_i32 c3_i32
  let v5 : BitVec 32 := Scalar.select v2 arg1 v4
  let c0_i32_0 : BitVec 32 := 0#32
  let v6 : BitVec 32 := Scalar.addi c0_i32_0 v5
  let c0_i32_1 : BitVec 32 := 0#32
  let c0_i32_2 : BitVec 32 := 0#32
  ![v6.toNat, c0_i32_1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S2 : Shape := ⟨1, ![2]⟩
abbrev S2048x1408 : Shape := ⟨2, ![2048, 1408]⟩
abbrev S1024x1408 : Shape := ⟨2, ![1024, 1408]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x1408, .f32⟩
  | .hbm, ⟨2, _⟩ => ⟨S1024x1408, .f32⟩
  | .hbm, ⟨3, _⟩ => ⟨S1024x1408, .f32⟩
  | .hbm, ⟨4, _⟩ => ⟨S2048x1408, .f32⟩
  | .hbm, ⟨5, _⟩ => ⟨S2048x1408, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S_, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel14.lean ====
abbrev S2 : Shape := ⟨1, ![2]⟩
abbrev S512x2048 : Shape := ⟨2, ![512, 2048]⟩
abbrev S256x2048 : Shape := ⟨2, ![256, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S256x2048, .f32⟩
  | .hbm, ⟨2, _⟩ => ⟨S256x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .smem, ⟨0, _⟩ => ⟨S2, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 1 := Scalar.cmpi .eq arg0 v0
  let v2 : BitVec 1 := Scalar.cmpi .slt arg0 v0
  let c0_i32 : BitVec 32 := 0#32
  let c0_i32_0 : BitVec 32 := 0#32
  let v3 : BitVec 32 := Scalar.select v2 c0_i32 c0_i32_0
  let v4 : BitVec 32 := Scalar.select v1 arg1 v3
  let c0_i32_1 : BitVec 32 := 0#32
  let v5 : BitVec 32 := Scalar.addi c0_i32_1 v4
  let c0_i32_2 : BitVec 32 := 0#32
  let c0_i32_3 : BitVec 32 := 0#32
  ![v5.toNat, c0_i32_2.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.subi c1_i32 v0
  let v2 : BitVec 1 := Scalar.cmpi .eq arg0 v1
  let v3 : BitVec 1 := Scalar.cmpi .slt arg0 v1
  let c0_i32 : BitVec 32 := 0#32
  let c0_i32_0 : BitVec 32 := 0#32
  let v4 : BitVec 32 := Scalar.select v3 c0_i32 c0_i32_0
  let v5 : BitVec 32 := Scalar.select v2 arg1 v4
  let c0_i32_1 : BitVec 32 := 0#32
  let v6 : BitVec 32 := Scalar.addi c0_i32_1 v5
  let c0_i32_2 : BitVec 32 := 0#32
  let c0_i32_3 : BitVec 32 := 0#32
  ![v6.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S2 : Shape := ⟨1, ![2]⟩
abbrev S512x2048 : Shape := ⟨2, ![512, 2048]⟩
abbrev S256x2048 : Shape := ⟨2, ![256, 2048]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2, .i32⟩
  | .hbm, ⟨1, _⟩ => ⟨S512x2048, .f32⟩
  | .hbm, ⟨2, _⟩ => ⟨S256x2048, .f32⟩
  | .hbm, ⟨3, _⟩ => ⟨S256x2048, .f32⟩
  | .hbm, ⟨4, _⟩ => ⟨S512x2048, .f32⟩
  | .hbm, ⟨5, _⟩ => ⟨S512x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel15.lean ====
abbrev S2 : Shape := ⟨1, ![2]⟩
abbrev S1284x2048 : Shape := ⟨2, ![1284, 2048]⟩
abbrev S1284x1024 : Shape := ⟨2, ![1284, 1024]⟩
abbrev S1284x256 : Shape := ⟨2, ![1284, 256]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1284x2048, .f32⟩
  | .hbm, ⟨1, _⟩ => ⟨S1284x1024, .f32⟩
  | .hbm, ⟨2, _⟩ => ⟨S1284x1024, .f32⟩
  | .hbm, ⟨3, _⟩ => ⟨S1284x2048, .f32⟩
  | .hbm, ⟨4, _⟩ => ⟨S1284x2048, .f32⟩
  | .hbm, ⟨5, _⟩ => ⟨S1284x2048, .f32⟩
  | .hbm, ⟨6, _⟩ => ⟨S1284x2048, .f32⟩
  | .hbm, ⟨7, _⟩ => ⟨S1284x2048, .f32⟩
  | .hbm, ⟨8, _⟩ => ⟨S1284x2048, .f32⟩
  | .local _ .vmem, ⟨0, _⟩ => ⟨S1284x256, .f32⟩
  | .local _ .vmem, ⟨1, _⟩ => ⟨S1284x256, .f32⟩
  | .local _ .vmem, ⟨2, _⟩ => ⟨S1284x256, .f32⟩
  | .local _ .vmem, ⟨3, _⟩ => ⟨S1284x256, .f32⟩
  | .local _ .vmem, ⟨4, _⟩ => ⟨S1284x256, .f32⟩
  | .local _ .vmem, ⟨5, _⟩ => ⟨S1284x256, .f32⟩
  | .local _ .vmem, ⟨6, _⟩ => ⟨S1284x256, .f32⟩
  | .local _ .vmem, ⟨7, _⟩ => ⟨S1284x256, .f32⟩
  | .local _ .vmem, ⟨8, _⟩ => ⟨S1284x256, .f32⟩
  | .local _ .vmem, ⟨9, _⟩ => ⟨S1284x256, .f32⟩
  | .local _ .vmem, ⟨10, _⟩ => ⟨S1284x256, .f32⟩
  | .local _ .vmem, ⟨11, _⟩ => ⟨S1284x256, .f32⟩
  | .local _ .vmem, ⟨12, _⟩ => ⟨S1284x256, .f32⟩
  | .local _ .vmem, ⟨13, _⟩ => ⟨S1284x256, .f32⟩
  | .local _ .vmem, ⟨14, _⟩ => ⟨S1284x256, .f32⟩
  | .local _ .vmem, ⟨15, _⟩ => ⟨S1284x256, .f32⟩
  | .local _ .vmem, ⟨16, _⟩ => ⟨S1284x256, .f32⟩
  | .local _ .vmem, ⟨17, _⟩ => ⟨S1284x256, .f32⟩
  | .local _ .smem, ⟨0, _⟩ => ⟨S2, .i32⟩
  | _, _ => ⟨S1284x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 1 := Scalar.cmpi .eq arg0 v0
  let v2 : BitVec 1 := Scalar.cmpi .slt arg0 v0
  let c0_i32 : BitVec 32 := 0#32
  let c3_i32 : BitVec 32 := 3#32
  let v3 : BitVec 32 := Scalar.select v2 c0_i32 c3_i32
  let v4 : BitVec 32 := Scalar.select v1 arg1 v3
  let c0_i32_0 : BitVec 32 := 0#32
  let v5 : BitVec 32 := Scalar.addi c0_i32_0 v4
  let c0_i32_1 : BitVec 32 := 0#32
  let c0_i32_2 : BitVec 32 := 0#32
  ![c0_i32_1.toNat, v5.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.subi c1_i32 v0
  let v2 : BitVec 1 := Scalar.cmpi .eq arg0 v1
  let v3 : BitVec 1 := Scalar.cmpi .slt arg0 v1
  let c0_i32 : BitVec 32 := 0#32
  let c3_i32 : BitVec 32 := 3#32
  let v4 : BitVec 32 := Scalar.select v3 c0_i32 c3_i32
  let v5 : BitVec 32 := Scalar.select v2 arg1 v4
  let c0_i32_0 : BitVec 32 := 0#32
  let v6 : BitVec 32 := Scalar.addi c0_i32_0 v5
  let c0_i32_1 : BitVec 32 := 0#32
  let c0_i32_2 : BitVec 32 := 0#32
  ![c0_i32_1.toNat, v6.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1284x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1284x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1284x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1284x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1284x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1284x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1284x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1284x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1284x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S2 : Shape := ⟨1, ![2]⟩
abbrev S1284x2048 : Shape := ⟨2, ![1284, 2048]⟩
abbrev S1284x1024 : Shape := ⟨2, ![1284, 1024]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2, .i32⟩
  | .hbm, ⟨1, _⟩ => ⟨S1284x2048, .f32⟩
  | .hbm, ⟨2, _⟩ => ⟨S1284x1024, .f32⟩
  | .hbm, ⟨3, _⟩ => ⟨S1284x1024, .f32⟩
  | .hbm, ⟨4, _⟩ => ⟨S1284x2048, .f32⟩
  | .hbm, ⟨5, _⟩ => ⟨S1284x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1284x2048, .f32⟩
  | .hbm, ⟨11, _⟩ => ⟨S1284x2048, .f32⟩
  | .hbm, ⟨12, _⟩ => ⟨S1284x2048, .f32⟩
  | .hbm, ⟨13, _⟩ => ⟨S_, .f32⟩
  | .hbm, ⟨14, _⟩ => ⟨S1284x2048, .f32⟩
  | .hbm, ⟨15, _⟩ => ⟨S1284x2048, .f32⟩
  | .hbm, ⟨16, _⟩ => ⟨S_, .f32⟩
  | .hbm, ⟨17, _⟩ => ⟨S1284x2048, .f32⟩
  | .hbm, ⟨18, _⟩ => ⟨S1284x2048, .f32⟩
  | .hbm, ⟨19, _⟩ => ⟨S1284x2048, .f32⟩
  | .hbm, ⟨20, _⟩ => ⟨S_, .f32⟩
  | .hbm, ⟨21, _⟩ => ⟨S1284x2048, .f32⟩
  | .hbm, ⟨22, _⟩ => ⟨S1284x2048, .f32⟩
  | .hbm, ⟨23, _⟩ => ⟨S1284x2048, .f32⟩
  | .hbm, ⟨24, _⟩ => ⟨S_, .f32⟩
  | .hbm, ⟨25, _⟩ => ⟨S1284x2048, .f32⟩
  | .hbm, ⟨26, _⟩ => ⟨S1284x2048, .f32⟩
  | .hbm, ⟨27, _⟩ => ⟨S1284x2048, .f32⟩
  | .hbm, ⟨28, _⟩ => ⟨S_, .f32⟩
  | .hbm, ⟨29, _⟩ => ⟨S1284x2048, .f32⟩
  | .hbm, ⟨30, _⟩ => ⟨S1284x2048, .f32⟩
  | .hbm, ⟨31, _⟩ => ⟨S_, .f32⟩
  | .hbm, ⟨32, _⟩ => ⟨S1284x2048, .f32⟩
  | .hbm, ⟨33, _⟩ => ⟨S1284x2048, .f32⟩
  | .hbm, ⟨34, _⟩ => ⟨S1284x2048, .f32⟩
  | .hbm, ⟨35, _⟩ => ⟨S_, .f32⟩
  | .hbm, ⟨36, _⟩ => ⟨S1284x2048, .f32⟩
  | .hbm, ⟨37, _⟩ => ⟨S1284x2048, .f32⟩
  | .hbm, ⟨38, _⟩ => ⟨S1284x2048, .f32⟩
  | .hbm, ⟨39, _⟩ => ⟨S_, .f32⟩
  | .hbm, ⟨40, _⟩ => ⟨S1284x2048, .f32⟩
  | .hbm, ⟨41, _⟩ => ⟨S1284x2048, .f32⟩
  | .hbm, ⟨42, _⟩ => ⟨S1284x2048, .f32⟩
  | .hbm, ⟨43, _⟩ => ⟨S_, .f32⟩
  | .hbm, ⟨44, _⟩ => ⟨S1284x2048, .f32⟩
  | .hbm, ⟨45, _⟩ => ⟨S1284x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel16.lean ====
abbrev S4096x5120 : Shape := ⟨2, ![4096, 5120]⟩
abbrev S5136x2048 : Shape := ⟨2, ![5136, 2048]⟩
abbrev S4096x128 : Shape := ⟨2, ![4096, 128]⟩
abbrev S128x2048 : Shape := ⟨2, ![128, 2048]⟩
abbrev S4096x2048 : Shape := ⟨2, ![4096, 2048]⟩
abbrev S1x2048 : Shape := ⟨2, ![1, 2048]⟩
abbrev S512x1280 : Shape := ⟨2, ![512, 1280]⟩
abbrev S1280x2048 : Shape := ⟨2, ![1280, 2048]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S4096x5120, .bf16⟩
  | .hbm, ⟨1, _⟩ => ⟨S5136x2048, .bf16⟩
  | .hbm, ⟨2, _⟩ => ⟨S4096x128, .bf16⟩
  | .hbm, ⟨3, _⟩ => ⟨S128x2048, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S1x2048, .f32⟩
  | .local _ .vmem, ⟨0, _⟩ => ⟨S512x1280, .bf16⟩
  | .local _ .vmem, ⟨1, _⟩ => ⟨S512x1280, .bf16⟩
  | .local _ .vmem, ⟨2, _⟩ => ⟨S1280x2048, .bf16⟩
  | .local _ .vmem, ⟨3, _⟩ => ⟨S1280x2048, .bf16⟩
  | .local _ .vmem, ⟨4, _⟩ => ⟨S512x128, .bf16⟩
  | .local _ .vmem, ⟨5, _⟩ => ⟨S512x128, .bf16⟩
  | .local _ .vmem, ⟨6, _⟩ => ⟨S128x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S512x2048, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference16Ideal.lean ====
abbrev S4096x5120 : Shape := ⟨2, ![4096, 5120]⟩
abbrev S5136x2048 : Shape := ⟨2, ![5136, 2048]⟩
abbrev S4096x128 : Shape := ⟨2, ![4096, 128]⟩
abbrev S128x2048 : Shape := ⟨2, ![128, 2048]⟩
abbrev S4096x2048 : Shape := ⟨2, ![4096, 2048]⟩
abbrev S1x2048 : Shape := ⟨2, ![1, 2048]⟩
abbrev S5120x2048 : Shape := ⟨2, ![5120, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S5136x2048, .bf16⟩
  | .hbm, ⟨2, _⟩ => ⟨S4096x128, .bf16⟩
  | .hbm, ⟨3, _⟩ => ⟨S128x2048, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x5120, .f32⟩
  | .hbm, ⟨8, _⟩ => ⟨S5136x2048, .f32⟩
  | .hbm, ⟨9, _⟩ => ⟨S4096x128, .f32⟩
  | .hbm, ⟨10, _⟩ => ⟨S128x2048, .f32⟩
  | .hbm, ⟨11, _⟩ => ⟨S5120x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.ChunkMath.lean ====
module

public import Mathlib.Analysis.SpecialFunctions.Log.Basic
public import Mathlib.Algebra.BigOperators.Intervals
public import Mathlib.Tactic.Ring
public import Mathlib.Tactic.FieldSimp

@[expose] public section

/-!
# Sixteen chunks of 128 rows against one sequence of 2048

The scan's backward pass over a whole sequence sums, for every row, over all the rows at or after it. Going chunk by
chunk from the end, the rows after the chunk enter only through one matrix, the state's gradient at the chunk's end.
Here `a t` is the logarithm of the decay at row `t`.
-/

namespace SsdBwd

open scoped BigOperators

variable (a : ℕ → ℝ)

/-- The logarithm of the decay of the rows before chunk `c`. -/
noncomputable def before (c : ℕ) : ℝ := ∑ k ∈ Finset.range (128 * c), a k

/-- The running sum over the sequence. -/
noncomputable def runSum (t : ℕ) : ℝ := ∑ k ∈ Finset.range 2048, if k ≤ t then a k else 0

/-- The running sum over chunk `c`. -/
noncomputable def localSum (c i : ℕ) : ℝ := ∑ q ∈ Finset.range 128, if q ≤ i then a (128 * c + q) else 0

/-- The decay from row `s` to row `t`, zero where `t` comes before `s`. -/
noncomputable def decayTo (t s : ℕ) : ℝ := if s ≤ t then Real.exp (runSum a t - runSum a s) else 0

theorem sum_upto (n : ℕ) (f : ℕ → ℝ) {t : ℕ} (h : t < n) :
    (∑ k ∈ Finset.range n, if k ≤ t then f k else 0) = ∑ k ∈ Finset.range (t + 1), f k := by
  rw [← Finset.sum_filter]
  refine Finset.sum_congr (Finset.ext fun k => ?_) fun _ _ => rfl
  simp only [Finset.mem_filter, Finset.mem_range]
  omega

theorem runSum_eq {c i : ℕ} (hc : c < 16) (hi : i < 128) : runSum a (128 * c + i) = before a c + localSum a c i := by
  rw [runSum, sum_upto 2048 a (by omega), localSum, sum_upto 128 (fun q => a (128 * c + q)) hi, before, Nat.add_assoc,
    Finset.sum_range_add]

theorem before_succ (c : ℕ) : before a (c + 1) = before a c + localSum a c 127 := by
  rw [before, before, localSum, sum_upto 128 (fun q => a (128 * c + q)) (by norm_num), Nat.mul_add, Nat.mul_one, Finset.sum_range_add]

/-- A sum over the sequence of terms that vanish before chunk `c`: the chunk, and the rows after it. -/
theorem sum_from (F : ℕ → ℝ) {c : ℕ} (hc : c < 16) (h0 : ∀ t, t < 128 * c → F t = 0) :
    ∑ t ∈ Finset.range 2048, F t = (∑ i ∈ Finset.range 128, F (128 * c + i)) + ∑ t ∈ Finset.Ico (128 * (c + 1)) 2048, F t := by
  rw [← Finset.sum_range_add_sum_Ico F (show 128 * (c + 1) ≤ 2048 by omega), Nat.mul_add, Nat.mul_one, Finset.sum_range_add,
    Finset.sum_eq_zero (s := Finset.range (128 * c)) fun t ht => h0 t (Finset.mem_range.1 ht), zero_add]

/-- The state's gradient at the start of chunk `c`: the later rows' terms `g t`, each decayed from there. -/
noncomputable def stateGrad (g : ℕ → ℝ) (c : ℕ) : ℝ := ∑ t ∈ Finset.Ico (128 * c) 2048, Real.exp (runSum a t - before a c) * g t

theorem stateGrad_last (g : ℕ → ℝ) : stateGrad a g 16 = 0 := by simp [stateGrad]

theorem stateGrad_step (g : ℕ → ℝ) {c : ℕ} (hc : c < 16) :
    stateGrad a g c = Real.exp (localSum a c 127) * stateGrad a g (c + 1)
      + ∑ i ∈ Finset.range 128, Real.exp (localSum a c i) * g (128 * c + i) := by
  rw [stateGrad, ← Finset.sum_Ico_consecutive _ (show 128 * c ≤ 128 * (c + 1) by omega) (show 128 * (c + 1) ≤ 2048 by omega), add_comm]
  congr 1
  · rw [stateGrad, Finset.mul_sum]
    refine Finset.sum_congr rfl fun t _ => ?_
    rw [← mul_assoc, ← Real.exp_add, before_succ]
    congr 2; ring
  · rw [Finset.sum_Ico_eq_sum_range, show 128 * (c + 1) - 128 * c = 128 by omega]
    refine Finset.sum_congr rfl fun i hi => ?_
    rw [runSum_eq a hc (Finset.mem_range.1 hi)]
    congr 2; ring

/-- A sum over the sequence under the decay to row `j` of chunk `c`: the chunk's rows, and the rest through the state. -/
theorem decay_split (g : ℕ → ℝ) {c j : ℕ} (hc : c < 16) (hj : j < 128) :
    ∑ t ∈ Finset.range 2048, decayTo a t (128 * c + j) * g t
      = (∑ i ∈ Finset.range 128, (if j ≤ i then Real.exp (localSum a c i - localSum a c j) else 0) * g (128 * c + i))
        + Real.exp (localSum a c 127 - localSum a c j) * stateGrad a g (c + 1) := by
  rw [sum_from _ hc fun t ht => by rw [decayTo, if_neg (by omega), zero_mul]]
  congr 1
  · refine Finset.sum_congr rfl fun i hi => ?_
    rw [decayTo, runSum_eq a hc (Finset.mem_range.1 hi), runSum_eq a hc hj]
    by_cases h : j ≤ i
    · rw [if_pos h, if_pos (by omega)]; congr 2; ring
    · rw [if_neg h, if_neg (by omega)]
  · rw [stateGrad, Finset.mul_sum]
    refine Finset.sum_congr rfl fun t ht => ?_
    rw [decayTo, if_pos (by have := (Finset.mem_Ico.1 ht).1; omega), runSum_eq a hc hj, ← mul_assoc, ← Real.exp_add, before_succ]
    congr 2; ring

/-- The state's gradient is linear in the terms. -/
theorem stateGrad_sum {ι : Type} (s : Finset ι) (k : ι → ℝ) (g : ι → ℕ → ℝ) (c : ℕ) :
    stateGrad a (fun t => ∑ n ∈ s, k n * g n t) c = ∑ n ∈ s, k n * stateGrad a (g n) c := by
  simp only [stateGrad, Finset.mul_sum]
  rw [Finset.sum_comm]
  refine Finset.sum_congr rfl fun n _ => Finset.sum_congr rfl fun t _ => ?_
  ring

end SsdBwd
-- ==== Proof.RealBlock.lean ====
module

public import Idealize.ShloMosaic.Lib.MatmulPlain
public import Idealize.ShloMosaic.Lib.Pipeline.Value

@[expose] public section

/-!
# Blocks of real numbers

Over the extended reals a block of finite numbers is the image of a function of two natural coordinates into `ℝ`.
`Is2 v f` says that the two-axis vector `v` is the image of `f`, and there is one lemma per vector operation: what
function the result is the image of when the operands are images. `IsMask v p` says the same of a one-bit vector and
a predicate. A kernel body is then read operation by operation, and what is left is an equality of real functions.
-/

set_option maxRecDepth 16384

namespace SsdBwd

open Idealize.ShloMosaic
open Idealize.ShloMosaic.ValueIdx
open scoped BigOperators

variable {m n k : ℕ} {φ ψ : FTy}

/-- The vector `v` holds the real numbers `f row column`. -/
def Is2 (v : FVec Ideal ⟨2, ![m, n]⟩ φ) (f : ℕ → ℕ → ℝ) : Prop :=
  ∀ i : (⟨2, ![m, n]⟩ : Shape).Idx, v i = ((f (i 0).val (i 1).val : ℝ) : EReal)

/-- The one-bit vector `v` is set exactly where `p row column` holds. -/
def IsMask (v : IVec ⟨2, ![m, n]⟩ 1) (p : ℕ → ℕ → Prop) : Prop :=
  ∀ i : (⟨2, ![m, n]⟩ : Shape).Idx, (v i = 1 ↔ p (i 0).val (i 1).val)

/-- A finite sum of real numbers, taken over the extended reals. -/
theorem sum_image {n : ℕ} (F : Fin n → EReal) (g : ℕ → ℝ) (h : ∀ q : Fin n, F q = ((g q.val : ℝ) : EReal)) :
    ∑ q, F q = ((∑ q ∈ Finset.range n, g q : ℝ) : EReal) := by
  rw [Finset.sum_range, Finset.sum_congr rfl fun q _ => h q]
  induction n with
  | zero => simp
  | succ n ih => rw [Fin.sum_univ_castSucc, Fin.sum_univ_castSucc, EReal.coe_add]; exact congrArg (· + _) (ih (fun q => F q.castSucc) fun q => h q.castSucc)

namespace Is2

theorem congr {v : FVec Ideal ⟨2, ![m, n]⟩ φ} {f g : ℕ → ℕ → ℝ} (h : Is2 v f)
    (e : ∀ r c, r < m → c < n → f r c = g r c) : Is2 v g := fun i => by
  rw [h i, e _ _ (i 0).isLt (i 1).isLt]

theorem at_ix2 {v : FVec Ideal ⟨2, ![m, n]⟩ φ} {f : ℕ → ℕ → ℝ} (h : Is2 v f) (r : Fin m) (c : Fin n) :
    v (ix2 r c) = ((f r.val c.val : ℝ) : EReal) := h (ix2 r c)

theorem addf {x y : FVec Ideal ⟨2, ![m, n]⟩ φ} {f g : ℕ → ℕ → ℝ} (hx : Is2 x f) (hy : Is2 y g) :
    Is2 (addf x y) fun r c => f r c + g r c := fun i => by
  show x i + y i = _
  rw [hx i, hy i, ← EReal.coe_add]

theorem subf {x y : FVec Ideal ⟨2, ![m, n]⟩ φ} {f g : ℕ → ℕ → ℝ} (hx : Is2 x f) (hy : Is2 y g) :
    Is2 (subf x y) fun r c => f r c - g r c := fun i => by
  show x i - y i = _
  rw [hx i, hy i, ← EReal.coe_sub]

theorem mulf {x y : FVec Ideal ⟨2, ![m, n]⟩ φ} {f g : ℕ → ℕ → ℝ} (hx : Is2 x f) (hy : Is2 y g) :
    Is2 (mulf x y) fun r c => f r c * g r c := fun i => by
  show x i * y i = _
  rw [hx i, hy i, ← EReal.coe_mul]

theorem divf {x y : FVec Ideal ⟨2, ![m, n]⟩ φ} {f g : ℕ → ℕ → ℝ} (hx : Is2 x f) (hy : Is2 y g)
    (h0 : ∀ r c, g r c ≠ 0) : Is2 (divf x y) fun r c => f r c / g r c := fun i => by
  show Ideal.div (x i) (y i) = _
  rw [hx i, hy i, Ideal.div, if_neg (by exact_mod_cast h0 _ _), ← EReal.coe_inv, ← EReal.coe_mul]
  exact congrArg _ (div_eq_mul_inv _ _).symm

theorem exp {x : FVec Ideal ⟨2, ![m, n]⟩ φ} {f : ℕ → ℕ → ℝ} (hx : Is2 x f) :
    Is2 (exp x) fun r c => Real.exp (f r c) := fun i => by
  show Ideal.exp (x i) = _
  rw [hx i]; rfl

theorem log {x : FVec Ideal ⟨2, ![m, n]⟩ φ} {f : ℕ → ℕ → ℝ} (hx : Is2 x f) (h0 : ∀ r c, 0 < f r c) :
    Is2 (log x) fun r c => Real.log (f r c) := fun i => by
  show Ideal.log (x i) = _
  rw [hx i]
  show (if _ ≤ 0 then _ else _) = _
  rw [if_neg (not_le.2 (h0 _ _))]

theorem rsqrt {x : FVec Ideal ⟨2, ![m, n]⟩ φ} {f : ℕ → ℕ → ℝ} (hx : Is2 x f) (h0 : ∀ r c, 0 < f r c) :
    Is2 (rsqrt x) fun r c => (Real.sqrt (f r c))⁻¹ := fun i => by
  show Ideal.rsqrt (x i) = _
  rw [hx i]
  show (if _ < 0 then _ else if _ = 0 then _ else _) = _
  rw [if_neg (not_lt.2 (h0 _ _).le), if_neg (h0 _ _).ne']

theorem absf {x : FVec Ideal ⟨2, ![m, n]⟩ φ} {f : ℕ → ℕ → ℝ} (hx : Is2 x f) :
    Is2 (absf x) fun r c => |f r c| := fun i => by
  show max (x i) (-(x i)) = _
  rw [hx i, ← EReal.coe_neg, ← EReal.coe_strictMono.monotone.map_max]; rfl

theorem maximumf {x y : FVec Ideal ⟨2, ![m, n]⟩ φ} {f g : ℕ → ℕ → ℝ} (hx : Is2 x f) (hy : Is2 y g) :
    Is2 (maximumf x y) fun r c => max (f r c) (g r c) := fun i => by
  show max (x i) (y i) = _
  rw [hx i, hy i, ← EReal.coe_strictMono.monotone.map_max]

theorem truncf {x : FVec Ideal ⟨2, ![m, n]⟩ φ} {f : ℕ → ℕ → ℝ} (h : ψ.bits < φ.bits) (hx : Is2 x f) :
    Is2 (truncf ψ x h) f := fun i => hx i

theorem extf {x : FVec Ideal ⟨2, ![m, n]⟩ φ} {f : ℕ → ℕ → ℝ} (h : φ.bits < ψ.bits) (hx : Is2 x f) :
    Is2 (extf ψ x h) f := fun i => hx i

theorem splat {a : Ideal φ} {x : ℝ} (h : a = (x : EReal)) :
    Is2 (broadcast (⟨2, ![m, n]⟩ : Shape) a) fun _ _ => x := fun _ => h

theorem select {w : IVec ⟨2, ![m, n]⟩ 1} {p : ℕ → ℕ → Prop} [∀ r c, Decidable (p r c)]
    {x y : FVec Ideal ⟨2, ![m, n]⟩ φ} {f g : ℕ → ℕ → ℝ}
    (hw : IsMask w p) (hx : Is2 x f) (hy : Is2 y g) : Is2 (select w x y) fun r c => if p r c then f r c else g r c := fun i => by
  show (if w i = 1 then x i else y i) = ((if p (i 0).val (i 1).val then f (i 0).val (i 1).val else g (i 0).val (i 1).val : ℝ) : EReal)
  by_cases h : p (i 0).val (i 1).val
  · rw [if_pos ((hw i).2 h), if_pos h, hx i]
  · rw [if_neg (mt (hw i).1 h), if_neg h, hy i]

/-- A column spread over the columns of a block. -/
theorem spreadCol {x : FVec Ideal ⟨2, ![m, 1]⟩ φ} {f : ℕ → ℕ → ℝ} (h : (⟨2, ![m, 1]⟩ : Shape).Broadcasts ⟨2, ![m, n]⟩)
    (hm : m ≠ 1) (hx : Is2 x f) : Is2 (broadcastTo ⟨2, ![m, n]⟩ x h) fun r _ => f r 0 := fun i => by
  rw [broadcastTo_apply x h i (ix2 ⟨(i 0).val, (i 0).isLt⟩ 0) fun a => match a with
    | ⟨0, _⟩ => (if_neg hm).symm
    | ⟨1, _⟩ => (if_pos rfl).symm]
  exact hx _

/-- A row spread over the rows of a block. -/
theorem spreadRow {x : FVec Ideal ⟨2, ![1, n]⟩ φ} {f : ℕ → ℕ → ℝ} (h : (⟨2, ![1, n]⟩ : Shape).Broadcasts ⟨2, ![m, n]⟩)
    (hn : n ≠ 1) (hx : Is2 x f) : Is2 (broadcastTo ⟨2, ![m, n]⟩ x h) fun _ c => f 0 c := fun i => by
  rw [broadcastTo_apply x h i (ix2 0 ⟨(i 1).val, (i 1).isLt⟩) fun a => match a with
    | ⟨0, _⟩ => (if_pos rfl).symm
    | ⟨1, _⟩ => (if_neg hn).symm]
  exact hx _

/-- A cast to the same shape changes nothing. -/
theorem recast {x : FVec Ideal ⟨2, ![m, n]⟩ φ} {f : ℕ → ℕ → ℝ} (h : (⟨2, ![m, n]⟩ : Shape).ShapeCasts ⟨2, ![m, n]⟩)
    (hx : Is2 x f) : Is2 (shapeCast ⟨2, ![m, n]⟩ x h) f := fun i => by
  rw [shapeCast_apply x h i i rfl]; exact hx i

/-- A rectangle cut out of a block, starting at row `a` and column `b`. -/
theorem slice {M N a b : ℕ} {x : FVec Ideal ⟨2, ![M, N]⟩ φ} {f : ℕ → ℕ → ℝ}
    (h : (⟨2, ![M, N]⟩ : Shape).Slices ![a, b] ⟨2, ![m, n]⟩)
    (hx : Is2 x f) : Is2 (extractStridedSlice ⟨2, ![m, n]⟩ ![a, b] x h) fun r c => f (a + r) (b + c) := fun i => by
  have h0 : a + (i 0).val < M := lt_of_lt_of_le (Nat.add_lt_add_left (i 0).isLt a) (h.2 0)
  have h1 : b + (i 1).val < N := lt_of_lt_of_le (Nat.add_lt_add_left (i 1).isLt b) (h.2 1)
  rw [extractStridedSlice_apply ![a, b] x h i (ix2 ⟨a + (i 0).val, h0⟩ ⟨b + (i 1).val, h1⟩) fun q => match q with
    | ⟨0, _⟩ => rfl
    | ⟨1, _⟩ => rfl]
  exact hx _

theorem transpose {x : FVec Ideal ⟨2, ![m, n]⟩ φ} {f : ℕ → ℕ → ℝ} (h : (⟨2, ![m, n]⟩ : Shape).Transposes [1, 0] ⟨2, ![n, m]⟩)
    (hx : Is2 x f) : Is2 (transpose ⟨2, ![n, m]⟩ [1, 0] x h) fun r c => f c r := fun i => by
  rw [transpose_apply [1, 0] x h i (ix2 ⟨(i 1).val, (i 1).isLt⟩ ⟨(i 0).val, (i 0).isLt⟩) fun q => match q with
    | ⟨0, _⟩ => rfl
    | ⟨1, _⟩ => rfl]
  exact hx _

/-- The sums of the rows, kept as a column. -/
theorem rowSums {x : FVec Ideal ⟨2, ![m, n]⟩ φ} {f : ℕ → ℕ → ℝ} {acc : BitVec φ.bits}
    (h : (⟨2, ![m, n]⟩ : Shape).Reduces [1] ⟨1, ![m]⟩) (hφ : FKind.Formats φ) (hacc : acc = FKind.add.neutral φ hφ)
    (h' : (⟨1, ![m]⟩ : Shape).ShapeCasts ⟨2, ![m, 1]⟩) (hx : Is2 x f) :
    Is2 (shapeCast ⟨2, ![m, 1]⟩ (multiReduction .add [1] ⟨1, ![m]⟩ x acc h hφ hacc) h') fun r _ => ∑ c ∈ Finset.range n, f r c := fun i => by
  rw [shapeCast_apply _ h' i (ix1 ⟨(i 0).val, (i 0).isLt⟩) (by
    have := (i 1).isLt
    have h1 : (i 1).val = 0 := by change (i 1).val < 1 at this; omega
    rw [Shape.rowMajor_val_one, Shape.rowMajor_val_two, h1]; simp; rfl), Ideal.multiReduction_add_single]
  exact sum_image _ (f (i 0).val) fun c => hx _

/-- `A · B`, into a zero block. -/
theorem dot {x : FVec Ideal ⟨2, ![m, k]⟩ φ} {y : FVec Ideal ⟨2, ![k, n]⟩ ψ} {f g : ℕ → ℕ → ℝ}
    (d : DotDims ⟨2, ![m, k]⟩ ⟨2, ![k, n]⟩ ⟨2, ![m, n]⟩) (hd : d = DotDims.plain m k n) {p : Option ContractPrecision}
    (hx : Is2 x f) (hy : Is2 y g) :
    Is2 (matmul d p x y (constant (⟨2, ![m, n]⟩ : Shape) .f32 0x00000000#32)) fun r c => ∑ q ∈ Finset.range k, f r q * g q c := fun i => by
  subst hd
  obtain ⟨r, c, rfl⟩ : ∃ (r : Fin m) (c : Fin n), i = ix2 r c := ⟨⟨_, (i 0).isLt⟩, ⟨_, (i 1).isLt⟩, Shape.idx_ext₂ rfl rfl⟩
  show FloatOps.matmul _ _ _ _ _ _ = _
  rw [Ideal.matmul_plain_apply]
  show Ideal.ofBits .f32 0x00000000#32 + _ = _
  rw [Ideal.ofBits_zero_f32, zero_add]
  exact sum_image _ (fun q => f r.val q * g q c.val) fun q => by rw [hx.at_ix2, hy.at_ix2, ← EReal.coe_mul]

/-- `A · Bᵀ`, into a zero block. -/
theorem dotT {x : FVec Ideal ⟨2, ![m, k]⟩ φ} {y : FVec Ideal ⟨2, ![n, k]⟩ ψ} {f g : ℕ → ℕ → ℝ}
    (d : DotDims ⟨2, ![m, k]⟩ ⟨2, ![n, k]⟩ ⟨2, ![m, n]⟩) (hd : d = DotDims.transposedRhs m k n) {p : Option ContractPrecision}
    (hx : Is2 x f) (hy : Is2 y g) :
    Is2 (matmul d p x y (constant (⟨2, ![m, n]⟩ : Shape) .f32 0x00000000#32)) fun r c => ∑ q ∈ Finset.range k, f r q * g c q := fun i => by
  subst hd
  obtain ⟨r, c, rfl⟩ : ∃ (r : Fin m) (c : Fin n), i = ix2 r c := ⟨⟨_, (i 0).isLt⟩, ⟨_, (i 1).isLt⟩, Shape.idx_ext₂ rfl rfl⟩
  show FloatOps.matmul _ _ _ _ _ _ = _
  rw [Ideal.matmul_transposedRhs_apply]
  show Ideal.ofBits .f32 0x00000000#32 + _ = _
  rw [Ideal.ofBits_zero_f32, zero_add]
  exact sum_image _ (fun q => f r.val q * g c.val q) fun q => by rw [hx.at_ix2, hy.at_ix2, ← EReal.coe_mul]

end Is2

/-- The dimension numbers of `Aᵀ · B` over blocks of 128 × 128. -/
theorem Is2.tdot {x y : FVec Ideal ⟨2, ![128, 128]⟩ .bf16} {f g : ℕ → ℕ → ℝ}
    (d : DotDims ⟨2, ![128, 128]⟩ ⟨2, ![128, 128]⟩ ⟨2, ![128, 128]⟩) {p : Option ContractPrecision}
    (hr : d.contr.rank = 1) (hs : d.contr.size ⟨0, by rw [hr]; exact Nat.one_pos⟩ = 128)
    (l0 : ∀ j q, (d.lhsIdx j q 0).val = (q ⟨0, by rw [hr]; exact Nat.one_pos⟩).val) (l1 : ∀ j q, (d.lhsIdx j q 1).val = (j 0).val)
    (r0 : ∀ j q, (d.rhsIdx j q 0).val = (q ⟨0, by rw [hr]; exact Nat.one_pos⟩).val) (r1 : ∀ j q, (d.rhsIdx j q 1).val = (j 1).val)
    (hx : Is2 x f) (hy : Is2 y g) :
    Is2 (matmul d p x y (constant (⟨2, ![128, 128]⟩ : Shape) .f32 0x00000000#32))
      fun r c => ∑ q ∈ Finset.range 128, f q r * g q c := fun i => by
  show FloatOps.matmul _ _ _ _ _ _ = _
  rw [Ideal.matmul_constant_zero_apply, ← Equiv.sum_comp (contrEquiv1 d 128 hr hs).symm]
  refine sum_image _ (fun q => f q (i 0).val * g q (i 1).val) fun q => ?_
  have hk := contrEquiv1_symm_val d 128 hr hs q
  rw [hx, hy, ← EReal.coe_mul, l0, l1, r0, r1, hk]

namespace IsMask

/-- Column at most row. -/
theorem tri (h0 : (⟨2, ![m, n]⟩ : Shape).Iotas .tc 32 [0]) (h1 : (⟨2, ![m, n]⟩ : Shape).Iotas .tc 32 [1]) (hm : m ≤ 1024) (hn : n ≤ 1024) :
    IsMask (cmpi .sle (iota .tc ⟨2, ![m, n]⟩ 32 [1] h1) (iota .tc ⟨2, ![m, n]⟩ 32 [0] h0)) fun r c => c ≤ r := fun i => by
  have a := (i 0).isLt
  have b := (i 1).isLt
  change (i 0).val < m at a
  change (i 1).val < n at b
  show IntOp.cmpi .sle (iota .tc _ 32 [1] h1 i) (iota .tc _ 32 [0] h0 i) = 1 ↔ _
  rw [iota_single_apply, iota_single_apply]
  show BitVec.ofBool (BitVec.sle _ _) = 1 ↔ _
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  by_cases h : (i 1).val ≤ (i 0).val <;> simp [h]

/-- Column below a bound. -/
theorem below {b : ℕ} (h1 : (⟨2, ![m, n]⟩ : Shape).Iotas .tc 32 [1]) (hn : n ≤ 1024) (hb : b < 1024) :
    IsMask (cmpi .slt (iota .tc ⟨2, ![m, n]⟩ 32 [1] h1) (broadcast (⟨2, ![m, n]⟩ : Shape) (BitVec.ofNat 32 b))) fun _ c => c < b := fun i => by
  have a := (i 1).isLt
  change (i 1).val < n at a
  show IntOp.cmpi .slt (iota .tc _ 32 [1] h1 i) (BitVec.ofNat 32 b) = 1 ↔ _
  rw [iota_single_apply]
  show BitVec.ofBool (BitVec.slt _ _) = 1 ↔ _
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  by_cases h : (i 1).val < b <;> simp [h]

theorem compl {w : IVec ⟨2, ![m, n]⟩ 1} {p : ℕ → ℕ → Prop} (hw : IsMask w p) :
    IsMask (xori w (constantI (⟨2, ![m, n]⟩ : Shape) 1 1#1)) fun r c => ¬ p r c := fun i => by
  show w i ^^^ 1#1 = 1 ↔ ¬ p (i 0).val (i 1).val
  rw [← hw i]
  generalize w i = b
  revert b; decide

theorem spreadRow {x : IVec ⟨2, ![1, n]⟩ 1} {p : ℕ → ℕ → Prop} (h : (⟨2, ![1, n]⟩ : Shape).Broadcasts ⟨2, ![m, n]⟩)
    (hn : n ≠ 1) (hx : IsMask x p) : IsMask (broadcastTo ⟨2, ![m, n]⟩ x h) fun _ c => p 0 c := fun i => by
  rw [broadcastTo_apply x h i (ix2 0 ⟨(i 1).val, (i 1).isLt⟩) fun a => match a with
    | ⟨0, _⟩ => (if_pos rfl).symm
    | ⟨1, _⟩ => (if_neg hn).symm]
  exact hx _

theorem recast {x : IVec ⟨2, ![m, n]⟩ 1} {p : ℕ → ℕ → Prop} (h : (⟨2, ![m, n]⟩ : Shape).ShapeCasts ⟨2, ![m, n]⟩)
    (hx : IsMask x p) : IsMask (shapeCast ⟨2, ![m, n]⟩ x h) p := fun i => by
  rw [shapeCast_apply x h i i rfl]; exact hx i

/-- A mask as a block of zeros and ones. -/
theorem ones {w : IVec ⟨2, ![m, n]⟩ 1} {p : ℕ → ℕ → Prop} [∀ r c, Decidable (p r c)] (h : 1 < 32) (hw : IsMask w p) :
    Is2 (φ := .f32) (sitofp .f32 (extui 32 w h)) fun r c => if p r c then 1 else 0 := fun i => by
  show (((BitVec.setWidth 32 (w i)).toInt : ℝ) : EReal) = ((if p (i 0).val (i 1).val then 1 else 0 : ℝ) : EReal)
  by_cases hp : p (i 0).val (i 1).val
  · rw [if_pos hp, (hw i).2 hp]; norm_num [show (BitVec.setWidth 32 (1 : BitVec 1)).toInt = 1 by decide]
  · rw [if_neg hp]
    have : w i = 0 := by
      have := mt (hw i).1 hp
      revert this; generalize w i = b; revert b; decide
    rw [this]; norm_num [show (BitVec.setWidth 32 (0 : BitVec 1)).toInt = 0 by decide]

end IsMask

/-- The small constants of the bodies, as numbers. -/
theorem word_zero : Scalar.ofBits (F := Ideal) .f32 0x00000000#32 = ((0 : ℝ) : EReal) := Ideal.ofBits_zero_f32
theorem word_one : Scalar.ofBits (F := Ideal) .f32 0x3F800000#32 = ((1 : ℝ) : EReal) := by
  show Ideal.ofBits .f32 _ = _
  simp [Ideal.ofBits, Ideal.ieee]
  rw [← EReal.coe_mul]; norm_num
theorem word_256 : Scalar.ofBits (F := Ideal) .f32 0x43800000#32 = ((256 : ℝ) : EReal) := by
  show Ideal.ofBits .f32 _ = _
  simp [Ideal.ofBits, Ideal.ieee]
  rw [← EReal.coe_mul]; norm_num

end SsdBwd
-- ==== Proof.ChunkBlocks.lean ====
module

public import proofs.«01_k».proof.Proof.Gen.KernelIdeal
public import proofs.«01_k».proof.Proof.RealBlock

@[expose] public section

/-!
# The blocks of one chunk

What the body computes at one grid point, block by block, each named once for every group and every pair of heads; and
what real function each block holds. A pair of heads shares a block of 128 lanes: head `o0` has the lanes below 64 and
head `o1` the others.
-/

set_option maxRecDepth 16384

noncomputable section

namespace SsdBwd

open Idealize.ShloMosaic Cert.KernelIdeal Cert.KernelIdeal.Gen
open scoped BigOperators

section Vectors
variable {F : FTy → Type} [FloatOps F]

/-- Zero everywhere. -/
def zeroBlk : FVec F S128x128 .f32 := broadcast S128x128 (Scalar.ofBits .f32 0x00000000#32 : F .f32)
/-- The zero block a product adds to. -/
def zeroAcc : FVec F S128x128 .f32 := constant S128x128 .f32 0x00000000#32

/-- The rows at or after the column. -/
def triMask : IVec S128x128 1 :=
  cmpi .sle (iota .tc S128x128 32 [1] iota_S128x128_d1_w32) (iota .tc S128x128 32 [0] iota_S128x128_d0_w32)

/-- The lanes of the first head of a pair. -/
def firstMask : IVec S1x128 1 := cmpi .slt (iota .tc S1x128 32 [1] iota_S1x128_d1_w32) (broadcast S1x128 64#32)

/-- The lanes of the second head of a pair. -/
def secondMask : IVec S1x128 1 := xori firstMask (constantI S1x128 1 1#1)

/-- `softplus (dtr + bias)`. -/
def dtBlk (dtr : FVec F S128x128 .f32) (bias : FVec F S1x128 .f32) : FVec F S128x128 .f32 :=
  have s := addf dtr (broadcastTo S128x128 (shapeCast S1x128 bias shapeCasts_S1x128_S1x128) broadcasts_S1x128_S128x128)
  addf (maximumf s zeroBlk)
    (log (addf (broadcast S128x128 (Scalar.ofBits .f32 0x3F800000#32 : F .f32)) (exp (subf zeroBlk (absf s)))))

/-- The rate of decay per head, `- exp a_log`. -/
def aRow (alog : FVec F S1x128 .f32) : FVec F S1x128 .f32 :=
  subf (broadcast S1x128 (Scalar.ofBits .f32 0x00000000#32 : F .f32)) (exp (shapeCast S1x128 alog shapeCasts_S1x128_S1x128))

/-- The running sums of `dt · a` down the chunk. -/
def csBlk (dt : FVec F S128x128 .f32) (a : FVec F S1x128 .f32) : FVec F S128x128 .f32 :=
  have t : FVec F S128x128 .bf16 := truncf .bf16 (sitofp .f32 (extui 32 triMask natLt_1_32) : FVec F S128x128 .f32) bitsLt_bf16_f32
  have v := mulf dt (broadcastTo S128x128 a broadcasts_S1x128_S128x128)
  have hi : FVec F S128x128 .bf16 := truncf .bf16 v bitsLt_bf16_f32
  have r1 := subf v (extf .f32 hi bitsLt_bf16_f32)
  have mid : FVec F S128x128 .bf16 := truncf .bf16 r1 bitsLt_bf16_f32
  have lo : FVec F S128x128 .bf16 := truncf .bf16 (subf r1 (extf .f32 mid bitsLt_bf16_f32)) bitsLt_bf16_f32
  addf (matmul dot_S128x128_S128x128_S128x128_1_0_0_1_n_n none t hi zeroAcc)
    (addf (matmul dot_S128x128_S128x128_S128x128_1_0_0_1_n_n none t mid zeroAcc)
      (matmul dot_S128x128_S128x128_S128x128_1_0_0_1_n_n none t lo zeroAcc))

/-- The columns `o0` and `o1` of a per-head block, each on the lanes of its head. -/
def lanesBlk (v : FVec F S128x128 .f32) (o0 o1 : ℕ) (h0 : S128x128.Slices ![0, o0] S128x1) (h1 : S128x128.Slices ![0, o1] S128x1) :
    FVec F S128x128 .f32 :=
  select (broadcastTo S128x128 (shapeCast S1x128 firstMask shapeCasts_S1x128_S1x128) broadcasts_S1x128_S128x128)
    (broadcastTo S128x128 (shapeCast S128x1 (extractStridedSlice S128x1 ![0, o0] v h0) shapeCasts_S128x1_S128x1) broadcasts_S128x1_S128x128)
    (broadcastTo S128x128 (shapeCast S128x1 (extractStridedSlice S128x1 ![0, o1] v h1) shapeCasts_S128x1_S128x1) broadcasts_S128x1_S128x128)

/-- The last row of the running sums, on the lanes. -/
def lastRow (csp : FVec F S128x128 .f32) : FVec F S1x128 .f32 := extractStridedSlice S1x128 ![127, 0] csp slices_S128x128_o127_0_S1x128

/-- The decay from a row to the end of the chunk. -/
def tailBlk (csp : FVec F S128x128 .f32) : FVec F S128x128 .f32 :=
  exp (subf (broadcastTo S128x128 (lastRow csp) broadcasts_S1x128_S128x128) csp)

/-- The decay from the column's row to the row, of head `o`, and zero above the diagonal. -/
def decayBlk (cs : FVec F S128x128 .f32) (o : ℕ) (h : S128x128.Slices ![0, o] S128x1) (h' : S128x128.Slices ![o, 0] S1x128) :
    FVec F S128x128 .f32 :=
  select triMask
    (exp (subf (broadcastTo S128x128 (extractStridedSlice S128x1 ![0, o] cs h) broadcasts_S128x1_S128x128)
      (broadcastTo S128x128 (extractStridedSlice S1x128 ![o, 0] (transpose S128x128 [1, 0] cs transposes_S128x128_p1_0_S128x128) h') broadcasts_S1x128_S128x128)))
    zeroBlk

/-- A block on the lanes of one head, zero on the others. -/
def headBlk (keep : IVec S1x128 1) (v : FVec F S128x128 .f32) : FVec F S128x128 .bf16 :=
  truncf .bf16 (select (broadcastTo S128x128 (shapeCast S1x128 keep shapeCasts_S1x128_S1x128) broadcasts_S1x128_S128x128) v zeroBlk) bitsLt_bf16_f32

/-- `C Bᵀ`. -/
def scoreBlk (b c : FVec F S128x128 .f32) : FVec F S128x128 .f32 :=
  matmul dot_S128x128_S128x128_S128x128_1_1_0_0_n_n none (truncf .bf16 c bitsLt_bf16_f32) (truncf .bf16 b bitsLt_bf16_f32) zeroAcc

/-- The gradient of `x · dt` of a pair of heads: the rows of the chunk, then the chunks after it through their state `ds`. -/
def dxdBlk (s b dy ds l0 l1 w : FVec F S128x128 .f32) : FVec F S128x128 .f32 :=
  addf (addf (addf zeroBlk
      (matmul dot_S128x128_S128x128_S128x128_0_0_1_1_n_n none (truncf .bf16 (mulf s l0) bitsLt_bf16_f32) (headBlk firstMask dy) zeroAcc))
      (matmul dot_S128x128_S128x128_S128x128_0_0_1_1_n_n none (truncf .bf16 (mulf s l1) bitsLt_bf16_f32) (headBlk secondMask dy) zeroAcc))
    (mulf w (matmul dot_S128x128_S128x128_S128x128_1_0_0_1_n_n none (truncf .bf16 b bitsLt_bf16_f32) (truncf .bf16 ds bitsLt_bf16_f32) zeroAcc))

/-- The gradient of `x` of a pair of heads. -/
def dxBlk (dxd dt dy : FVec F S128x128 .f32) (d : FVec F S1x128 .f32) : FVec F S128x128 .f32 :=
  addf (mulf dxd dt)
    (mulf dy (broadcastTo S128x128 (shapeCast S1x128 d shapeCasts_S1x128_S1x128) broadcasts_S1x128_S128x128))

/-- The state's gradient handed to the chunk before. -/
def dsBlk (c dy ds csp : FVec F S128x128 .f32) : FVec F S128x128 .f32 :=
  addf (mulf (broadcastTo S128x128 (exp (lastRow csp)) broadcasts_S1x128_S128x128) ds)
    (matmul dot_S128x128_S128x128_S128x128_0_0_1_1_n_n none (truncf .bf16 c bitsLt_bf16_f32)
      (truncf .bf16 (mulf (exp csp) dy) bitsLt_bf16_f32) zeroAcc)

/-- One head's part of the gradient of the scores, added to `acc`. -/
def dscoreBlk (acc : FVec F S128x128 .f32) (keep : IVec S1x128 1) (dy xd l : FVec F S128x128 .f32) : FVec F S128x128 .f32 :=
  addf acc (mulf (matmul dot_S128x128_S128x128_S128x128_1_1_0_0_n_n none (headBlk keep dy) (truncf .bf16 xd bitsLt_bf16_f32) zeroAcc) l)

/-- One pair's part, through the state, of the gradient of `B`, added to `acc`. -/
def dbStateBlk (acc xd w ds : FVec F S128x128 .f32) : FVec F S128x128 .f32 :=
  addf acc (matmul dot_S128x128_S128x128_S128x128_1_1_0_0_n_n none (truncf .bf16 (mulf xd w) bitsLt_bf16_f32) (truncf .bf16 ds bitsLt_bf16_f32) zeroAcc)

/-- The gradient of `B`. -/
def dbBlk (dbs dsc c : FVec F S128x128 .f32) : FVec F S128x128 .f32 :=
  addf dbs (matmul dot_S128x128_S128x128_S128x128_0_0_1_1_n_n none (truncf .bf16 dsc bitsLt_bf16_f32) (truncf .bf16 c bitsLt_bf16_f32) zeroAcc)

/-- The gate's argument through its sigmoid. -/
def sigBlk (z : FVec F S128x1024 .f32) : FVec F S128x1024 .f32 :=
  divf (broadcast S128x1024 (Scalar.ofBits .f32 0x3F800000#32 : F .f32))
    (addf (broadcast S128x1024 (Scalar.ofBits .f32 0x3F800000#32 : F .f32))
      (exp (subf (broadcast S128x1024 (Scalar.ofBits .f32 0x00000000#32 : F .f32)) z)))

/-- The root mean square of a group's columns, inverted. -/
def rmsCol (v : FVec F S128x256 .f32) : FVec F S128x1 .f32 :=
  rsqrt (addf (divf (shapeCast S128x1 (multiReduction .add [1] S128 (mulf v v) 0x00000000#32 reduces_S128x256_S128 (.inl rfl) rfl) shapeCasts_S128_S128x1)
      (broadcast S128x1 (Scalar.ofBits .f32 0x43800000#32 : F .f32))) (broadcast S128x1 (Scalar.ofBits .f32 0x358637BD#32 : F .f32)))

/-- The gradient of one group's normalisation. -/
def normBlk (gated dy : FVec F S128x1024 .f32) (nw : FVec F S1x1024 .f32) (o : ℕ) (h : S128x1024.Slices ![0, o] S128x256)
    (h' : S1x1024.Slices ![0, o] S1x256) : FVec F S128x256 .f32 :=
  have v := extractStridedSlice S128x256 ![0, o] gated h
  have r := rmsCol v
  have yn := mulf v (broadcastTo S128x256 r broadcasts_S128x1_S128x256)
  have dyn := mulf (extractStridedSlice S128x256 ![0, o] dy h) (broadcastTo S128x256 (extractStridedSlice S1x256 ![0, o] nw h') broadcasts_S1x256_S128x256)
  have mean := divf (shapeCast S128x1 (multiReduction .add [1] S128 (mulf dyn yn) 0x00000000#32 reduces_S128x256_S128 (.inl rfl) rfl) shapeCasts_S128_S128x1)
      (broadcast S128x1 (Scalar.ofBits .f32 0x43800000#32 : F .f32))
  mulf (broadcastTo S128x256 r broadcasts_S128x1_S128x256)
    (subf dyn (mulf yn (broadcastTo S128x256 mean broadcasts_S128x1_S128x256)))

end Vectors

/-! ## What the blocks hold -/

variable {f g a b s x dy ds w l0 l1 l : ℕ → ℕ → ℝ}

theorem zeroBlk_is : Is2 (zeroBlk (F := Ideal)) fun _ _ => 0 := Is2.splat word_zero

theorem triMask_is : IsMask triMask fun r c => c ≤ r := IsMask.tri _ _ (by norm_num) (by norm_num)
theorem firstMask_is : IsMask firstMask fun _ c => c < 64 := IsMask.below (b := 64) _ (by norm_num) (by norm_num)
theorem secondMask_is : IsMask secondMask fun _ c => ¬ c < 64 := firstMask_is.compl

theorem dot_is {φ ψ : FTy} {u : FVec Ideal S128x128 φ} {v : FVec Ideal S128x128 ψ} (hu : Is2 u f) (hv : Is2 v g) :
    Is2 (matmul dot_S128x128_S128x128_S128x128_1_0_0_1_n_n none u v zeroAcc) fun r c => ∑ q ∈ Finset.range 128, f r q * g q c :=
  Is2.dot _ rfl hu hv
theorem dotT_is {φ ψ : FTy} {u : FVec Ideal S128x128 φ} {v : FVec Ideal S128x128 ψ} (hu : Is2 u f) (hv : Is2 v g) :
    Is2 (matmul dot_S128x128_S128x128_S128x128_1_1_0_0_n_n none u v zeroAcc) fun r c => ∑ q ∈ Finset.range 128, f r q * g c q :=
  Is2.dotT _ rfl hu hv
theorem tdot_is {u v : FVec Ideal S128x128 .bf16} (hu : Is2 u f) (hv : Is2 v g) :
    Is2 (matmul dot_S128x128_S128x128_S128x128_0_0_1_1_n_n none u v zeroAcc) fun r c => ∑ q ∈ Finset.range 128, f q r * g q c :=
  Is2.tdot _ rfl rfl (fun _ _ => rfl) (fun _ _ => rfl) (fun _ _ => rfl) (fun _ _ => rfl) hu hv

/-- `softplus` as the body writes it. -/
def softplusR (x : ℝ) : ℝ := max x 0 + Real.log (1 + Real.exp (0 - |x|))

theorem dtBlk_is {u : FVec Ideal S128x128 .f32} {v : FVec Ideal S1x128 .f32} (hu : Is2 u f) (hv : Is2 v g) :
    Is2 (dtBlk u v) fun r c => softplusR (f r c + g 0 c) := by
  have hs := hu.addf ((hv.recast shapeCasts_S1x128_S1x128).spreadRow (m := 128) broadcasts_S1x128_S128x128 (by norm_num))
  exact (hs.maximumf zeroBlk_is).addf (((Is2.splat word_one).addf (zeroBlk_is.subf hs.absf).exp).log fun _ _ => by positivity)

theorem aRow_is {v : FVec Ideal S1x128 .f32} (hv : Is2 v g) : Is2 (aRow v) fun r c => 0 - Real.exp (g r c) :=
  (Is2.splat word_zero).subf (hv.recast _).exp

theorem csBlk_is {u : FVec Ideal S128x128 .f32} {v : FVec Ideal S1x128 .f32} (hu : Is2 u f) (hv : Is2 v g) :
    Is2 (csBlk u v) fun r c => ∑ q ∈ Finset.range 128, if q ≤ r then f q c * g 0 c else 0 := by
  have ht : Is2 (φ := .bf16) (truncf .bf16 (sitofp .f32 (extui 32 triMask natLt_1_32) : FVec Ideal S128x128 .f32) bitsLt_bf16_f32) _ :=
    (IsMask.ones natLt_1_32 triMask_is).truncf bitsLt_bf16_f32
  have hm := hu.mulf (hv.spreadRow (m := 128) broadcasts_S1x128_S128x128 (by norm_num))
  have h1 := hm.truncf bitsLt_bf16_f32
  have r1 := hm.subf (h1.extf bitsLt_bf16_f32)
  have h2 := r1.truncf bitsLt_bf16_f32
  have h3 := (r1.subf (h2.extf bitsLt_bf16_f32)).truncf bitsLt_bf16_f32
  refine ((dot_is ht h1).addf ((dot_is ht h2).addf (dot_is ht h3))).congr fun r c _ _ => ?_
  simp

theorem lanesBlk_is {v : FVec Ideal S128x128 .f32} {o0 o1 : ℕ} (h0 : S128x128.Slices ![0, o0] S128x1) (h1 : S128x128.Slices ![0, o1] S128x1)
    (hv : Is2 v f) : Is2 (lanesBlk v o0 o1 h0 h1) fun r c => f r (if c < 64 then o0 else o1) := by
  refine (Is2.select ((firstMask_is.recast shapeCasts_S1x128_S1x128).spreadRow broadcasts_S1x128_S128x128 (by norm_num))
    (((hv.slice h0).recast shapeCasts_S128x1_S128x1).spreadCol broadcasts_S128x1_S128x128 (by norm_num))
    (((hv.slice h1).recast shapeCasts_S128x1_S128x1).spreadCol broadcasts_S128x1_S128x128 (by norm_num))).congr fun r c _ _ => ?_
  by_cases h : c < 64 <;> simp [h]

theorem lastRow_is {v : FVec Ideal S128x128 .f32} (hv : Is2 v f) : Is2 (lastRow v) fun r c => f (127 + r) (0 + c) := hv.slice _

theorem tailBlk_is {v : FVec Ideal S128x128 .f32} (hv : Is2 v f) : Is2 (tailBlk v) fun r c => Real.exp (f 127 c - f r c) := by
  refine (((lastRow_is hv).spreadRow broadcasts_S1x128_S128x128 (by norm_num)).subf hv).exp.congr fun r c _ _ => ?_
  simp

theorem decayBlk_is {v : FVec Ideal S128x128 .f32} {o : ℕ} (h : S128x128.Slices ![0, o] S128x1) (h' : S128x128.Slices ![o, 0] S1x128)
    (hv : Is2 v f) : Is2 (decayBlk v o h h') fun r c => if c ≤ r then Real.exp (f r o - f c o) else 0 := by
  refine (Is2.select triMask_is (((hv.slice h).spreadCol broadcasts_S128x1_S128x128 (by norm_num)).subf
    (((hv.transpose transposes_S128x128_p1_0_S128x128).slice h').spreadRow broadcasts_S1x128_S128x128 (by norm_num))).exp zeroBlk_is).congr
    fun r c _ _ => ?_
  simp

theorem headBlk_is {keep : IVec S1x128 1} {p : ℕ → ℕ → Prop} [∀ r c, Decidable (p r c)] {v : FVec Ideal S128x128 .f32}
    (hk : IsMask keep p) (hv : Is2 v f) : Is2 (headBlk keep v) fun r c => if p 0 c then f r c else 0 :=
  (Is2.select ((hk.recast shapeCasts_S1x128_S1x128).spreadRow broadcasts_S1x128_S128x128 (by norm_num)) hv zeroBlk_is).truncf _

theorem scoreBlk_is {u v : FVec Ideal S128x128 .f32} (hb : Is2 u b) (hc : Is2 v f) :
    Is2 (scoreBlk u v) fun r c => ∑ q ∈ Finset.range 128, f r q * b c q := dotT_is (hc.truncf _) (hb.truncf _)

theorem dxdBlk_is {vs vb vy vd v0 v1 vw : FVec Ideal S128x128 .f32} (hs : Is2 vs s) (hb : Is2 vb b) (hy : Is2 vy dy) (hd : Is2 vd ds)
    (h0 : Is2 v0 l0) (h1 : Is2 v1 l1) (hw : Is2 vw w) :
    Is2 (dxdBlk vs vb vy vd v0 v1 vw) fun r c =>
      (∑ q ∈ Finset.range 128, s q r * (if c < 64 then l0 q r else l1 q r) * dy q c) + w r c * ∑ q ∈ Finset.range 128, b r q * ds q c := by
  refine (((zeroBlk_is.addf (tdot_is ((hs.mulf h0).truncf bitsLt_bf16_f32) (headBlk_is firstMask_is hy))).addf
    (tdot_is ((hs.mulf h1).truncf bitsLt_bf16_f32) (headBlk_is secondMask_is hy))).addf
    (hw.mulf (dot_is (hb.truncf bitsLt_bf16_f32) (hd.truncf bitsLt_bf16_f32)))).congr fun r c _ _ => ?_
  by_cases h : c < 64 <;> simp [h]

theorem dxBlk_is {vx vt vy : FVec Ideal S128x128 .f32} {vd : FVec Ideal S1x128 .f32} (hx : Is2 vx x) (ht : Is2 vt f) (hy : Is2 vy dy) (hd : Is2 vd g) :
    Is2 (dxBlk vx vt vy vd) fun r c => x r c * f r c + dy r c * g 0 c :=
  (hx.mulf ht).addf (hy.mulf ((hd.recast shapeCasts_S1x128_S1x128).spreadRow broadcasts_S1x128_S128x128 (by norm_num)))

theorem dsBlk_is {vc vy vd vp : FVec Ideal S128x128 .f32} (hc : Is2 vc g) (hy : Is2 vy dy) (hd : Is2 vd ds) (hp : Is2 vp f) :
    Is2 (dsBlk vc vy vd vp) fun r c => Real.exp (f 127 c) * ds r c + ∑ q ∈ Finset.range 128, g q r * (Real.exp (f q c) * dy q c) := by
  refine ((((lastRow_is hp).exp.spreadRow broadcasts_S1x128_S128x128 (by norm_num)).mulf hd).addf
    (tdot_is (hc.truncf bitsLt_bf16_f32) ((hp.exp.mulf hy).truncf bitsLt_bf16_f32))).congr fun r c _ _ => ?_
  simp

theorem dscoreBlk_is {keep : IVec S1x128 1} {p : ℕ → ℕ → Prop} [∀ r c, Decidable (p r c)] {va vy vx vl : FVec Ideal S128x128 .f32}
    (hk : IsMask keep p) (ha : Is2 va a) (hy : Is2 vy dy) (hx : Is2 vx x) (hl : Is2 vl l) :
    Is2 (dscoreBlk va keep vy vx vl) fun r c => a r c + (∑ q ∈ Finset.range 128, (if p 0 q then dy r q else 0) * x c q) * l r c :=
  ha.addf ((dotT_is (headBlk_is hk hy) (hx.truncf bitsLt_bf16_f32)).mulf hl)

theorem dbStateBlk_is {va vx vw vd : FVec Ideal S128x128 .f32} (ha : Is2 va a) (hx : Is2 vx x) (hw : Is2 vw w) (hd : Is2 vd ds) :
    Is2 (dbStateBlk va vx vw vd) fun r c => a r c + ∑ q ∈ Finset.range 128, x r q * w r q * ds c q :=
  ha.addf (dotT_is ((hx.mulf hw).truncf bitsLt_bf16_f32) (hd.truncf bitsLt_bf16_f32))

theorem dbBlk_is {va vs vc : FVec Ideal S128x128 .f32} (ha : Is2 va a) (hs : Is2 vs s) (hc : Is2 vc g) :
    Is2 (dbBlk va vs vc) fun r c => a r c + ∑ q ∈ Finset.range 128, s q r * g q c :=
  ha.addf (tdot_is (hs.truncf bitsLt_bf16_f32) (hc.truncf bitsLt_bf16_f32))

/-- The sigmoid as the body writes it. -/
def sigR (x : ℝ) : ℝ := 1 / (1 + Real.exp (0 - x))

theorem sigBlk_is {v : FVec Ideal S128x1024 .f32} (hv : Is2 v f) : Is2 (sigBlk v) fun r c => sigR (f r c) :=
  (Is2.splat word_one).divf ((Is2.splat word_one).addf ((Is2.splat word_zero).subf hv).exp) fun _ _ => by positivity

/-- The small constant added to the mean square, as a number. -/
def epsR : ℝ := 8796093 * (2 ^ 43)⁻¹
theorem word_eps : Scalar.ofBits (F := Ideal) .f32 0x358637BD#32 = ((epsR : ℝ) : EReal) := by
  show Ideal.ofBits .f32 _ = _
  simp [Ideal.ofBits, Ideal.ieee]
  rw [← EReal.coe_mul]; norm_num [epsR]
theorem epsR_pos : 0 < epsR := by unfold epsR; positivity

theorem rmsCol_is {v : FVec Ideal S128x256 .f32} (hv : Is2 v f) :
    Is2 (rmsCol v) fun r _ => (Real.sqrt ((∑ c ∈ Finset.range 256, f r c * f r c) / 256 + epsR))⁻¹ :=
  ((((hv.mulf hv).rowSums reduces_S128x256_S128 (.inl rfl) rfl shapeCasts_S128_S128x1).divf (Is2.splat word_256) fun _ _ => by norm_num).addf
    (Is2.splat word_eps)).rsqrt fun r _ =>
      add_pos_of_nonneg_of_pos (div_nonneg (Finset.sum_nonneg fun c _ => mul_self_nonneg _) (by norm_num)) epsR_pos

/-- The gradient of a normalised group, at one row: `y` the group's entries, `e` the gradient times the weights. -/
def normR (y e : ℕ → ℝ) (c : ℕ) : ℝ :=
  have r := (Real.sqrt ((∑ q ∈ Finset.range 256, y q * y q) / 256 + epsR))⁻¹
  r * (e c - y c * r * ((∑ q ∈ Finset.range 256, e q * (y q * r)) / 256))

theorem normBlk_is {vg vy : FVec Ideal S128x1024 .f32} {vn : FVec Ideal S1x1024 .f32} {o : ℕ} (h : S128x1024.Slices ![0, o] S128x256)
    (h' : S1x1024.Slices ![0, o] S1x256) (hg : Is2 vg g) (hy : Is2 vy dy) (hn : Is2 vn w) :
    Is2 (normBlk vg vy vn o h h') fun r c => normR (fun q => g r (o + q)) (fun q => dy r (o + q) * w 0 (o + q)) c := by
  have hv := hg.slice h
  have hr := (rmsCol_is hv).spreadCol (n := 256) broadcasts_S128x1_S128x256 (by norm_num)
  have hyn := hv.mulf hr
  have he := (hy.slice h).mulf ((hn.slice h').spreadRow (m := 128) broadcasts_S1x256_S128x256 (by norm_num))
  have hmean := (((he.mulf hyn).rowSums reduces_S128x256_S128 (.inl rfl) rfl shapeCasts_S128_S128x1).divf (Is2.splat word_256)
    fun _ _ => by norm_num).spreadCol (n := 256) broadcasts_S128x1_S128x256 (by norm_num)
  refine (hr.mulf (he.subf (hyn.mulf hmean))).congr fun r c _ _ => ?_
  simp [normR]

end SsdBwd

end
-- ==== Proof.SequenceSpec.lean ====
module

public import proofs.«01_k».proof.Proof.ChunkMath
public import proofs.«01_k».proof.Proof.ChunkBlocks

@[expose] public section

/-!
# The gradients over whole sequences

The arguments as real functions of a row and a column, the rows of the two sequences one after the other, and the
gradients of the gated norm and of the scan at a row and a column. The kernel and the reference are both read as these.
-/

noncomputable section

namespace SsdBwd

open scoped BigOperators

/-- The arguments, as real functions of row and column. -/
structure Args where
  duy : ℕ → ℕ → ℝ
  proj : ℕ → ℕ → ℝ
  ys : ℕ → ℕ → ℝ
  xbc : ℕ → ℕ → ℝ
  dtr : ℕ → ℕ → ℝ
  bias : ℕ → ℕ → ℝ
  alog : ℕ → ℕ → ℝ
  d : ℕ → ℕ → ℝ
  nw : ℕ → ℕ → ℝ

namespace Args
variable (D : Args)

/-- The gate, `silu z`. -/
def gate (r c : ℕ) : ℝ := D.proj r (2048 + c) * sigR (D.proj r (2048 + c))
def gated (r c : ℕ) : ℝ := D.ys r c * D.gate r c
/-- The gradient of the normalised groups. -/
def dnorm (r c : ℕ) : ℝ := D.duy r (1024 + c) * D.nw 0 c
/-- The gradient of the scan's output. -/
def dys (r c : ℕ) : ℝ :=
  normR (fun q => D.gated r (c / 256 * 256 + q)) (fun q => D.dnorm r (c / 256 * 256 + q)) (c % 256) * D.gate r c

def dt (r h : ℕ) : ℝ := softplusR (D.dtr r h + D.bias 0 h)
/-- The decay's logarithm at row `t` of sequence `b`, of head `h`. -/
def logDecay (b h t : ℕ) : ℝ := D.dt (2048 * b + t) h * (0 - Real.exp (D.alog 0 h))
def xd (r c : ℕ) : ℝ := D.xbc r c * D.dt r (c / 64)
def matB (r g n : ℕ) : ℝ := D.xbc r (1024 + 128 * g + n)
def matC (r g n : ℕ) : ℝ := D.xbc r (1536 + 128 * g + n)
/-- The score of row `t` against row `s`, both of sequence `b`. -/
def score (b g t s : ℕ) : ℝ := ∑ n ∈ Finset.range 128, D.matC (2048 * b + t) g n * D.matB (2048 * b + s) g n
def decay (b h t s : ℕ) : ℝ := decayTo (D.logDecay b h) t s

/-- The gradient of `x · dt` at row `s` of sequence `b`. -/
def dxd (b s c : ℕ) : ℝ :=
  ∑ t ∈ Finset.range 2048, D.dys (2048 * b + t) c * (D.score b (c / 256) t s * D.decay b (c / 64) t s)
def dx (b s c : ℕ) : ℝ :=
  D.dys (2048 * b + s) c * D.d 0 (c / 64) + D.dxd b s c * D.dt (2048 * b + s) (c / 64)

/-- The gradient of the score of row `t` against row `s`, of one head. -/
def dscore (b h t s : ℕ) : ℝ :=
  (∑ p ∈ Finset.range 64, D.dys (2048 * b + t) (64 * h + p) * D.xd (2048 * b + s) (64 * h + p)) * D.decay b h t s
def dB (b s g n : ℕ) : ℝ :=
  ∑ t ∈ Finset.range 2048, (∑ r ∈ Finset.range 4, D.dscore b (4 * g + r) t s) * D.matC (2048 * b + t) g n

end Args

end SsdBwd

end
-- ==== Proof.ChunkSplit.lean ====
module

public import proofs.«01_k».proof.Proof.SequenceSpec

@[expose] public section

/-!
# One chunk's gradients

The gradients of `x` and of `B` at a row of chunk `c`, as the chunk's own rows and the state's gradient at the chunk's
end give them; and the step that the state's gradient takes over a chunk.
-/

noncomputable section

namespace SsdBwd

open scoped BigOperators

namespace Args
variable (D : Args)

/-- The running sum of the decay's logarithm over chunk `c`, of head `h`, up to its row `r`. -/
def cs (b c h r : ℕ) : ℝ := localSum (D.logDecay b h) c r

/-- The state's gradient at the start of chunk `c`, at row `n` of the state and column `col` of the heads' output. -/
def ds (b c n col : ℕ) : ℝ :=
  stateGrad (D.logDecay b (col / 64)) (fun t => D.matC (2048 * b + t) (col / 256) n * D.dys (2048 * b + t) col) c

theorem ds_last (b n col : ℕ) : D.ds b 16 n col = 0 := stateGrad_last _ _

theorem ds_step {b c : ℕ} (n col : ℕ) (hc : c < 16) :
    D.ds b c n col = Real.exp (D.cs b c (col / 64) 127) * D.ds b (c + 1) n col
      + ∑ i ∈ Finset.range 128, D.matC (2048 * b + 128 * c + i) (col / 256) n
          * (Real.exp (D.cs b c (col / 64) i) * D.dys (2048 * b + 128 * c + i) col) := by
  rw [ds, stateGrad_step _ _ hc]
  refine congrArg₂ (· + ·) rfl (Finset.sum_congr rfl fun i _ => ?_)
  rw [← Nat.add_assoc, cs]; ring

/-- The decay between two rows of a chunk. -/
def within (b c h i j : ℕ) : ℝ := if j ≤ i then Real.exp (D.cs b c h i - D.cs b c h j) else 0

theorem dxd_chunk {b c j : ℕ} (col : ℕ) (hc : c < 16) (hj : j < 128) :
    D.dxd b (128 * c + j) col
      = (∑ i ∈ Finset.range 128, D.score b (col / 256) (128 * c + i) (128 * c + j) * D.within b c (col / 64) i j
          * D.dys (2048 * b + 128 * c + i) col)
        + Real.exp (D.cs b c (col / 64) 127 - D.cs b c (col / 64) j)
          * ∑ n ∈ Finset.range 128, D.matB (2048 * b + 128 * c + j) (col / 256) n * D.ds b (c + 1) n col := by
  have h := decay_split (D.logDecay b (col / 64)) (fun t => D.dys (2048 * b + t) col * D.score b (col / 256) t (128 * c + j)) hc hj
  have e : D.dxd b (128 * c + j) col = ∑ t ∈ Finset.range 2048, decayTo (D.logDecay b (col / 64)) t (128 * c + j)
      * (D.dys (2048 * b + t) col * D.score b (col / 256) t (128 * c + j)) := Finset.sum_congr rfl fun t _ => by rw [decay]; ring
  rw [e, h]
  refine congrArg₂ (· + ·) (Finset.sum_congr rfl fun i _ => ?_) (congrArg₂ (· * ·) rfl ?_)
  · rw [← Nat.add_assoc, within, cs, cs]; ring
  · simp only [ds]
    rw [← stateGrad_sum]
    refine congrArg (fun g => stateGrad _ g _) (funext fun t => ?_)
    rw [score, Finset.mul_sum, ← Nat.add_assoc]
    exact Finset.sum_congr rfl fun n _ => by ring

theorem dB_chunk {b c j : ℕ} (g n : ℕ) (hc : c < 16) (hj : j < 128) :
    D.dB b (128 * c + j) g n
      = (∑ i ∈ Finset.range 128, (∑ r ∈ Finset.range 4,
          (∑ p ∈ Finset.range 64, D.dys (2048 * b + 128 * c + i) (64 * (4 * g + r) + p) * D.xd (2048 * b + 128 * c + j) (64 * (4 * g + r) + p))
            * D.within b c (4 * g + r) i j) * D.matC (2048 * b + 128 * c + i) g n)
        + ∑ r ∈ Finset.range 4, ∑ p ∈ Finset.range 64, D.xd (2048 * b + 128 * c + j) (64 * (4 * g + r) + p)
            * Real.exp (D.cs b c (4 * g + r) 127 - D.cs b c (4 * g + r) j) * D.ds b (c + 1) n (64 * (4 * g + r) + p) := by
  have e : D.dB b (128 * c + j) g n = ∑ r ∈ Finset.range 4, ∑ t ∈ Finset.range 2048, decayTo (D.logDecay b (4 * g + r)) t (128 * c + j)
      * ((∑ p ∈ Finset.range 64, D.dys (2048 * b + t) (64 * (4 * g + r) + p) * D.xd (2048 * b + (128 * c + j)) (64 * (4 * g + r) + p))
        * D.matC (2048 * b + t) g n) := by
    rw [Finset.sum_comm]
    refine Finset.sum_congr rfl fun t _ => ?_
    rw [Finset.sum_mul]
    exact Finset.sum_congr rfl fun r _ => by rw [dscore, decay]; ring
  rw [e]
  simp only [decay_split _ _ hc hj]
  rw [Finset.sum_add_distrib, Finset.sum_comm]
  refine congrArg₂ (· + ·) (Finset.sum_congr rfl fun i _ => ?_) (Finset.sum_congr rfl fun r hr => ?_)
  · rw [Finset.sum_mul]
    refine Finset.sum_congr rfl fun r _ => ?_
    rw [← Nat.add_assoc, ← Nat.add_assoc, within, cs, cs]; ring
  · have hr' := Finset.mem_range.1 hr
    have h := stateGrad_sum (D.logDecay b (4 * g + r)) (Finset.range 64) (fun p => D.xd (2048 * b + 128 * c + j) (64 * (4 * g + r) + p))
      (fun p t => D.matC (2048 * b + t) g n * D.dys (2048 * b + t) (64 * (4 * g + r) + p)) (c + 1)
    have e2 : (fun t => (∑ p ∈ Finset.range 64, D.dys (2048 * b + t) (64 * (4 * g + r) + p) * D.xd (2048 * b + (128 * c + j)) (64 * (4 * g + r) + p))
        * D.matC (2048 * b + t) g n) = fun t => ∑ p ∈ Finset.range 64, D.xd (2048 * b + 128 * c + j) (64 * (4 * g + r) + p)
          * (D.matC (2048 * b + t) g n * D.dys (2048 * b + t) (64 * (4 * g + r) + p)) := funext fun t => by
      rw [Finset.sum_mul, ← Nat.add_assoc]
      exact Finset.sum_congr rfl fun p _ => by ring
    rw [e2, h, Finset.mul_sum]
    refine Finset.sum_congr rfl fun p hp => ?_
    have hp' := Finset.mem_range.1 hp
    rw [ds, show (64 * (4 * g + r) + p) / 64 = 4 * g + r by omega, show (64 * (4 * g + r) + p) / 256 = g by omega, cs, cs]
    ring

end Args

/-- A sum over the lanes of the first head. -/
theorem sum_first (f : ℕ → ℝ) : (∑ q ∈ Finset.range 128, if q < 64 then f q else 0) = ∑ p ∈ Finset.range 64, f p := by
  rw [show 128 = 64 + 64 from rfl, Finset.sum_range_add, Finset.sum_congr rfl fun q hq => if_pos (Finset.mem_range.1 hq),
    Finset.sum_eq_zero (s := Finset.range 64) (f := fun q => if 64 + q < 64 then f (64 + q) else 0) fun q _ => if_neg (by omega), add_zero]

/-- A sum over the lanes of the second head. -/
theorem sum_second (f : ℕ → ℝ) : (∑ q ∈ Finset.range 128, if ¬ q < 64 then f q else 0) = ∑ p ∈ Finset.range 64, f (64 + p) := by
  rw [show 128 = 64 + 64 from rfl, Finset.sum_range_add,
    Finset.sum_eq_zero (s := Finset.range 64) (f := fun q => if ¬ q < 64 then f q else 0) fun q hq => if_neg (not_not.2 (Finset.mem_range.1 hq)), zero_add]
  exact Finset.sum_congr rfl fun q _ => if_pos (by omega)

end SsdBwd

end
-- ==== Proof.ChunkTiles.lean ====
module

public import proofs.«01_k».proof.Proof.ChunkBlocks

@[expose] public section

/-!
# What a grid point loads, and the tiles it stores

`Loads` names the blocks that the body loads at one grid point. From them come the tiles of the gradient's block, pair
by pair and group by group, and the slabs of the state's gradient.
-/

set_option maxRecDepth 16384

noncomputable section

namespace SsdBwd

open Idealize.ShloMosaic Cert.KernelIdeal Cert.KernelIdeal.Gen

variable {F : FTy → Type} [FloatOps F]

theorem slices_col {o : ℕ} (h : o < 128) : S128x128.Slices ![0, o] S128x1 :=
  ⟨rfl, fun a => by
    match a with
    | 0 => exact le_refl 128
    | 1 => exact h⟩
theorem slices_row {o : ℕ} (h : o < 128) : S128x128.Slices ![o, 0] S1x128 :=
  ⟨rfl, fun a => by
    match a with
    | 0 => exact h
    | 1 => exact le_refl 128⟩
theorem inb_lanes (k : Fin 8) : ∀ a, (![0, 128 * k.val] : Fin 2 → ℕ) a + S128x128.size a ≤ S128x1024.size a := fun a => by
  match a with
  | 0 => exact le_refl 128
  | 1 => show 128 * k.val + 128 ≤ 1024; omega
theorem inb_row (k : Fin 8) : ∀ a, (![0, 128 * k.val] : Fin 2 → ℕ) a + S1x128.size a ≤ S1x1024.size a := fun a => by
  match a with
  | 0 => exact le_refl 1
  | 1 => show 128 * k.val + 128 ≤ 1024; omega
theorem inb_mat (k : Fin 4) : ∀ a, (![0, 128 * k.val] : Fin 2 → ℕ) a + S128x128.size a ≤ S128x512.size a := fun a => by
  match a with
  | 0 => exact le_refl 128
  | 1 => show 128 * k.val + 128 ≤ 512; omega
theorem inb_slab (k : Fin 8) : ∀ a, (![k.val, 0, 0] : Fin 3 → ℕ) a + S1x128x128.size a ≤ S8x128x128.size a := fun a => by
  match a with
  | 0 => show k.val + 1 ≤ 8; omega
  | 1 => exact le_refl 128
  | 2 => exact le_refl 128

/-- The blocks that a grid point loads: per pair of heads the gradient of the output, the input, the state's gradient
and the skip weights; per group `B` and `C`; the step sizes, their bias and the decay rates' logarithms. -/
structure Loads (F : FTy → Type) where
  dy : Fin 8 → FVec F S128x128 .f32
  x : Fin 8 → FVec F S128x128 .f32
  dl : Fin 8 → FVec F S1x128 .f32
  slab : Fin 8 → FVec F S1x128x128 .f32
  b : Fin 4 → FVec F S128x128 .f32
  c : Fin 4 → FVec F S128x128 .f32
  dtr : FVec F S128x128 .f32
  bias : FVec F S1x128 .f32
  alog : FVec F S1x128 .f32

/-- The group of a pair of heads. -/
def group (k : Fin 8) : Fin 4 := ⟨k.val / 2, by omega⟩

namespace Loads
variable (L : Loads F)

def dt : FVec F S128x128 .f32 := dtBlk L.dtr L.bias
def cs : FVec F S128x128 .f32 := csBlk L.dt (aRow L.alog)
def dtp (k : Fin 8) : FVec F S128x128 .f32 :=
  lanesBlk L.dt (2 * k.val) (2 * k.val + 1) (slices_col (by omega)) (slices_col (by omega))
def csp (k : Fin 8) : FVec F S128x128 .f32 :=
  lanesBlk L.cs (2 * k.val) (2 * k.val + 1) (slices_col (by omega)) (slices_col (by omega))
def decay (h : Fin 16) : FVec F S128x128 .f32 := decayBlk L.cs h.val (slices_col (by omega)) (slices_row (by omega))
def xd (k : Fin 8) : FVec F S128x128 .f32 := mulf (L.x k) (L.dtp k)
def ds (k : Fin 8) : FVec F S128x128 .f32 := shapeCast S128x128 (L.slab k) shapeCasts_S1x128x128_S128x128
def score (g : Fin 4) : FVec F S128x128 .f32 := scoreBlk (L.b g) (L.c g)
/-- The first and the second head of a pair. -/
def head0 (k : Fin 8) : Fin 16 := ⟨2 * k.val, by omega⟩
def head1 (k : Fin 8) : Fin 16 := ⟨2 * k.val + 1, by omega⟩

/-- The tile of the gradient of `x`. -/
def dx (k : Fin 8) : FVec F S128x128 .f32 :=
  dxBlk (dxdBlk (L.score (group k)) (L.b (group k)) (L.dy k) (L.ds k) (L.decay (head0 k)) (L.decay (head1 k)) (tailBlk (L.csp k)))
    (L.dtp k) (L.dy k) (L.dl k)

/-- The slab of the state's gradient. -/
def next (k : Fin 8) : FVec F S1x128x128 .f32 :=
  shapeCast S1x128x128 (dsBlk (L.c (group k)) (L.dy k) (L.ds k) (L.csp k)) shapeCasts_S128x128_S1x128x128

/-- The gradient of the scores of a group, pair by pair. -/
def dscoreOf (acc : FVec F S128x128 .f32) (k : Fin 8) : FVec F S128x128 .f32 :=
  dscoreBlk (dscoreBlk acc firstMask (L.dy k) (L.xd k) (L.decay (head0 k))) secondMask (L.dy k) (L.xd k) (L.decay (head1 k))
def dbStateOf (acc : FVec F S128x128 .f32) (k : Fin 8) : FVec F S128x128 .f32 := dbStateBlk acc (L.xd k) (tailBlk (L.csp k)) (L.ds k)
def pair0 (g : Fin 4) : Fin 8 := ⟨2 * g.val, by omega⟩
def pair1 (g : Fin 4) : Fin 8 := ⟨2 * g.val + 1, by omega⟩

/-- The tile of the gradient of `B`. -/
def db (g : Fin 4) : FVec F S128x128 .f32 :=
  dbBlk (L.dbStateOf (L.dbStateOf zeroBlk (pair0 g)) (pair1 g)) (L.dscoreOf (L.dscoreOf zeroBlk (pair0 g)) (pair1 g)) (L.c g)

/-- The tiles of the gradient's block, last first; those of `C`'s gradient are given. -/
def tiles (e : Fin 4 → FVec F S128x128 .f32) : List (View.Piece (Elt F) S128x2048 .f32) :=
  [⟨Rect.unit ![0, 1920] S128x128.size inb_S128x2048_S128x128_0_1920, e 3⟩,
   ⟨Rect.unit ![0, 1408] S128x128.size inb_S128x2048_S128x128_0_1408, L.db 3⟩,
   ⟨Rect.unit ![0, 896] S128x128.size inb_S128x2048_S128x128_0_896, L.dx 7⟩,
   ⟨Rect.unit ![0, 768] S128x128.size inb_S128x2048_S128x128_0_768, L.dx 6⟩,
   ⟨Rect.unit ![0, 1792] S128x128.size inb_S128x2048_S128x128_0_1792, e 2⟩,
   ⟨Rect.unit ![0, 1280] S128x128.size inb_S128x2048_S128x128_0_1280, L.db 2⟩,
   ⟨Rect.unit ![0, 640] S128x128.size inb_S128x2048_S128x128_0_640, L.dx 5⟩,
   ⟨Rect.unit ![0, 512] S128x128.size inb_S128x2048_S128x128_0_512, L.dx 4⟩,
   ⟨Rect.unit ![0, 1664] S128x128.size inb_S128x2048_S128x128_0_1664, e 1⟩,
   ⟨Rect.unit ![0, 1152] S128x128.size inb_S128x2048_S128x128_0_1152, L.db 1⟩,
   ⟨Rect.unit ![0, 384] S128x128.size inb_S128x2048_S128x128_0_384, L.dx 3⟩,
   ⟨Rect.unit ![0, 256] S128x128.size inb_S128x2048_S128x128_0_256, L.dx 2⟩,
   ⟨Rect.unit ![0, 1536] S128x128.size inb_S128x2048_S128x128_0_1536, e 0⟩,
   ⟨Rect.unit ![0, 1024] S128x128.size inb_S128x2048_S128x128_0_1024, L.db 0⟩,
   ⟨Rect.unit ![0, 128] S128x128.size inb_S128x2048_S128x128_0_128, L.dx 1⟩,
   ⟨Rect.unit ![0, 0] S128x128.size inb_S128x2048_S128x128_0_0, L.dx 0⟩]

/-- The slabs of the state's gradient, last first. -/
def slabs (rest : List (View.Piece (Elt F) S8x128x128 .f32)) : List (View.Piece (Elt F) S8x128x128 .f32) :=
  ⟨Rect.unit ![7, 0, 0] S1x128x128.size inb_S8x128x128_S1x128x128_7_0_0, L.next 7⟩ ::
  ⟨Rect.unit ![6, 0, 0] S1x128x128.size inb_S8x128x128_S1x128x128_6_0_0, L.next 6⟩ ::
  ⟨Rect.unit ![5, 0, 0] S1x128x128.size inb_S8x128x128_S1x128x128_5_0_0, L.next 5⟩ ::
  ⟨Rect.unit ![4, 0, 0] S1x128x128.size inb_S8x128x128_S1x128x128_4_0_0, L.next 4⟩ ::
  ⟨Rect.unit ![3, 0, 0] S1x128x128.size inb_S8x128x128_S1x128x128_3_0_0, L.next 3⟩ ::
  ⟨Rect.unit ![2, 0, 0] S1x128x128.size inb_S8x128x128_S1x128x128_2_0_0, L.next 2⟩ ::
  ⟨Rect.unit ![1, 0, 0] S1x128x128.size inb_S8x128x128_S1x128x128_1_0_0, L.next 1⟩ ::
  ⟨Rect.unit ![0, 0, 0] S1x128x128.size inb_S8x128x128_S1x128x128_0_0_0, L.next 0⟩ :: rest

end Loads

/-- The gradient through the gated norm, written group by group: the normalised groups' gradients, last first. -/
def groupPieces (dy z ys : FVec F S128x1024 .f32) (nw : FVec F S1x1024 .f32) : List (View.Piece (Elt F) S128x1024 .f32) :=
  have gated := mulf ys (mulf z (sigBlk z))
  [⟨Rect.unit ![0, 768] S128x256.size inb_S128x1024_S128x256_0_768,
      shapeCast S128x256 (normBlk gated dy nw 768 slices_S128x1024_o0_768_S128x256 slices_S1x1024_o0_768_S1x256) shapeCasts_S128x256_S128x256⟩,
   ⟨Rect.unit ![0, 512] S128x256.size inb_S128x1024_S128x256_0_512,
      shapeCast S128x256 (normBlk gated dy nw 512 slices_S128x1024_o0_512_S128x256 slices_S1x1024_o0_512_S1x256) shapeCasts_S128x256_S128x256⟩,
   ⟨Rect.unit ![0, 256] S128x256.size inb_S128x1024_S128x256_0_256,
      shapeCast S128x256 (normBlk gated dy nw 256 slices_S128x1024_o0_256_S128x256 slices_S1x1024_o0_256_S1x256) shapeCasts_S128x256_S128x256⟩,
   ⟨Rect.unit ![0, 0] S128x256.size inb_S128x1024_S128x256_0_0,
      shapeCast S128x256 (normBlk gated dy nw 0 slices_S128x1024_o0_0_S128x256 slices_S1x1024_o0_0_S1x256) shapeCasts_S128x256_S128x256⟩]

/-- The gradient of the scan's output, stored whole over the groups' gradients. -/
def dysPieces (dy z ys : FVec F S128x1024 .f32) (nw : FVec F S1x1024 .f32) (dg : FVec F S128x1024 .f32) : List (View.Piece (Elt F) S128x1024 .f32) :=
  ⟨Rect.unit ![0, 0] S128x1024.size inb_S128x1024_S128x1024_0_0,
    shapeCast S128x1024 (mulf dg (mulf z (sigBlk z))) shapeCasts_S128x1024_S128x1024⟩ :: groupPieces dy z ys nw

end SsdBwd

end
-- ==== Proof.ChunkReal.lean ====
module

public import proofs.«01_k».proof.Proof.ChunkSplit
public import proofs.«01_k».proof.Proof.ChunkTiles

@[expose] public section

/-!
# The tiles of a chunk are the gradients over the sequence

`Holds L D b ch` says that the blocks loaded are those of chunk `ch` of sequence `b`, the slabs being the state's
gradient at the end of that chunk. Then the tiles are the gradients over the whole sequence at the rows of the chunk, and
the next slabs are the state's gradient at its start.
-/

set_option maxRecDepth 16384

noncomputable section

namespace SsdBwd

open Idealize.ShloMosaic Cert.KernelIdeal Cert.KernelIdeal.Gen
open scoped BigOperators

/-- The blocks loaded at chunk `ch` of sequence `b`. -/
structure Holds (L : Loads Ideal) (D : Args) (b ch : ℕ) : Prop where
  dy : ∀ k, Is2 (L.dy k) fun r q => D.dys (2048 * b + 128 * ch + r) (128 * k.val + q)
  x : ∀ k, Is2 (L.x k) fun r q => D.xbc (2048 * b + 128 * ch + r) (128 * k.val + q)
  dl : ∀ k, Is2 (L.dl k) fun _ q => D.d 0 ((128 * k.val + q) / 64)
  slab : ∀ k i, L.slab k i = ((D.ds b (ch + 1) (i 1).val (128 * k.val + (i 2).val) : ℝ) : EReal)
  bm : ∀ g, Is2 (L.b g) fun r n => D.matB (2048 * b + 128 * ch + r) g.val n
  cm : ∀ g, Is2 (L.c g) fun r n => D.matC (2048 * b + 128 * ch + r) g.val n
  dtr : Is2 L.dtr fun r h => D.dtr (2048 * b + 128 * ch + r) h
  bias : Is2 L.bias fun _ h => D.bias 0 h
  alog : Is2 L.alog fun _ h => D.alog 0 h

theorem sum_halves (f : ℕ → ℝ) : ∑ q ∈ Finset.range 128, f q = ∑ p ∈ Finset.range 64, f p + ∑ p ∈ Finset.range 64, f (64 + p) :=
  Finset.sum_range_add f 64 64

namespace Holds
variable {L : Loads Ideal} {D : Args} {b ch : ℕ} (H : Holds L D b ch)

theorem lane_head {k q : ℕ} (h : q < 128) : (if q < 64 then 2 * k else 2 * k + 1) = (128 * k + q) / 64 := by split_ifs <;> omega

theorem lane_group {k : Fin 8} {q : ℕ} (h : q < 128) : (group k).val = (128 * k.val + q) / 256 := by
  show k.val / 2 = _; omega

include H

theorem dt : Is2 L.dt fun r h => D.dt (2048 * b + 128 * ch + r) h := dtBlk_is (g := fun _ h => D.bias 0 h) H.dtr H.bias

theorem cs : Is2 L.cs fun r h => D.cs b ch h r :=
  (csBlk_is H.dt (aRow_is H.alog)).congr fun r h _ _ => by
    simp only [Args.cs, localSum, Args.logDecay, Nat.add_assoc]

theorem dtp (k : Fin 8) : Is2 (L.dtp k) fun r q => D.dt (2048 * b + 128 * ch + r) ((128 * k.val + q) / 64) :=
  (lanesBlk_is _ _ H.dt).congr fun r q _ hq => by rw [lane_head hq]

theorem csp (k : Fin 8) : Is2 (L.csp k) fun r q => D.cs b ch ((128 * k.val + q) / 64) r :=
  (lanesBlk_is _ _ H.cs).congr fun r q _ hq => by rw [lane_head hq]

theorem decay (h : Fin 16) : Is2 (L.decay h) fun r c => D.within b ch h.val r c := decayBlk_is _ _ H.cs

theorem xd (k : Fin 8) : Is2 (L.xd k) fun r q => D.xd (2048 * b + 128 * ch + r) (128 * k.val + q) := (H.x k).mulf (H.dtp k)

theorem ds (k : Fin 8) : Is2 (L.ds k) fun n q => D.ds b (ch + 1) n (128 * k.val + q) := fun i => by
  refine (shapeCast_dropUnit_apply (n := 2) ![128, 128] (L.slab k) _ i).trans ?_
  exact H.slab k _

theorem score (g : Fin 4) : Is2 (L.score g) fun r c => D.score b g.val (128 * ch + r) (128 * ch + c) :=
  (scoreBlk_is (H.bm g) (H.cm g)).congr fun r c _ _ => by
    simp only [Args.score, Nat.add_assoc]

theorem dx (hc : ch < 16) (k : Fin 8) : Is2 (L.dx k) fun r q => D.dx b (128 * ch + r) (128 * k.val + q) := by
  have hx := dxdBlk_is (H.score (group k)) (H.bm (group k)) (H.dy k) (H.ds k) (H.decay (Loads.head0 k)) (H.decay (Loads.head1 k)) (tailBlk_is (H.csp k))
  refine (dxBlk_is hx (H.dtp k) (H.dy k) (H.dl k)).congr fun r q hr hq => ?_
  rw [Args.dx, D.dxd_chunk (128 * k.val + q) hc hr, ← lane_group hq, ← Nat.add_assoc, add_comm]
  refine congrArg₂ (· + ·) rfl (congrArg₂ (· * ·) (congrArg₂ (· + ·) (Finset.sum_congr rfl fun i _ => ?_) rfl) rfl)
  rw [← lane_head hq]
  by_cases h : q < 64 <;> simp only [h, if_true, if_false] <;> rfl

theorem next (hc : ch < 16) (k : Fin 8) (i : S1x128x128.Idx) :
    L.next k i = ((D.ds b ch (i 1).val (128 * k.val + (i 2).val) : ℝ) : EReal) := by
  refine (shapeCast_addUnit_apply (n := 2) ![128, 128] _ _ i).trans ?_
  have h := (dsBlk_is (H.cm (group k)) (H.dy k) (H.ds k) (H.csp k)).congr (g := fun n q => D.ds b ch n (128 * k.val + q))
    fun n q _ hq => by
      rw [D.ds_step n (128 * k.val + q) hc, ← lane_group hq]
  exact h _

theorem dscoreOf {v : FVec Ideal S128x128 .f32} {a : ℕ → ℕ → ℝ} (ha : Is2 v a) (k : Fin 8) :
    Is2 (L.dscoreOf v k) fun r c => a r c
      + (∑ p ∈ Finset.range 64, D.dys (2048 * b + 128 * ch + r) (64 * (2 * k.val) + p) * D.xd (2048 * b + 128 * ch + c) (64 * (2 * k.val) + p))
          * D.within b ch (2 * k.val) r c
      + (∑ p ∈ Finset.range 64, D.dys (2048 * b + 128 * ch + r) (64 * (2 * k.val + 1) + p) * D.xd (2048 * b + 128 * ch + c) (64 * (2 * k.val + 1) + p))
          * D.within b ch (2 * k.val + 1) r c := by
  have h := dscoreBlk_is secondMask_is (dscoreBlk_is firstMask_is ha (H.dy k) (H.xd k) (H.decay (Loads.head0 k))) (H.dy k) (H.xd k) (H.decay (Loads.head1 k))
  refine h.congr fun r c _ _ => ?_
  simp only [ite_mul, zero_mul]
  rw [sum_first, sum_second]
  refine congrArg₂ (· + ·) (congrArg₂ (· + ·) rfl (congrArg₂ (· * ·) (Finset.sum_congr rfl fun p _ => ?_) rfl))
    (congrArg₂ (· * ·) (Finset.sum_congr rfl fun p _ => ?_) rfl)
  · rw [show 64 * (2 * k.val) = 128 * k.val by omega]
  · rw [show 64 * (2 * k.val + 1) + p = 128 * k.val + (64 + p) by omega]

theorem dbStateOf {v : FVec Ideal S128x128 .f32} {a : ℕ → ℕ → ℝ} (ha : Is2 v a) (k : Fin 8) :
    Is2 (L.dbStateOf v k) fun r n => a r n
      + (∑ p ∈ Finset.range 64, D.xd (2048 * b + 128 * ch + r) (64 * (2 * k.val) + p)
          * Real.exp (D.cs b ch (2 * k.val) 127 - D.cs b ch (2 * k.val) r) * D.ds b (ch + 1) n (64 * (2 * k.val) + p))
      + (∑ p ∈ Finset.range 64, D.xd (2048 * b + 128 * ch + r) (64 * (2 * k.val + 1) + p)
          * Real.exp (D.cs b ch (2 * k.val + 1) 127 - D.cs b ch (2 * k.val + 1) r) * D.ds b (ch + 1) n (64 * (2 * k.val + 1) + p)) := by
  refine (dbStateBlk_is ha (H.xd k) (tailBlk_is (H.csp k)) (H.ds k)).congr fun r n _ _ => ?_
  rw [sum_halves, ← add_assoc]
  refine congrArg₂ (· + ·) (congrArg₂ (· + ·) rfl (Finset.sum_congr rfl fun p hp => ?_)) (Finset.sum_congr rfl fun p hp => ?_)
  · have hp' := Finset.mem_range.1 hp
    rw [show 128 * k.val + p = 64 * (2 * k.val) + p by omega, show (64 * (2 * k.val) + p) / 64 = 2 * k.val by omega]
  · have hp' := Finset.mem_range.1 hp
    rw [show 128 * k.val + (64 + p) = 64 * (2 * k.val + 1) + p by omega, show (64 * (2 * k.val + 1) + p) / 64 = 2 * k.val + 1 by omega]

theorem db (hc : ch < 16) (g : Fin 4) : Is2 (L.db g) fun r n => D.dB b (128 * ch + r) g.val n := by
  have hs := H.dscoreOf (H.dscoreOf zeroBlk_is (Loads.pair0 g)) (Loads.pair1 g)
  have hd := H.dbStateOf (H.dbStateOf zeroBlk_is (Loads.pair0 g)) (Loads.pair1 g)
  refine (dbBlk_is hd hs (H.cm g)).congr fun r n hr _ => ?_
  rw [D.dB_chunk g.val n hc hr, add_comm]
  have e0 : 2 * (Loads.pair0 g).val = 4 * g.val + 0 := by show 2 * (2 * g.val) = _; omega
  have e1 : 2 * (Loads.pair0 g).val + 1 = 4 * g.val + 1 := by show 2 * (2 * g.val) + 1 = _; omega
  have e2 : 2 * (Loads.pair1 g).val = 4 * g.val + 2 := by show 2 * (2 * g.val + 1) = _; omega
  have e3 : 2 * (Loads.pair1 g).val + 1 = 4 * g.val + 3 := by show 2 * (2 * g.val + 1) + 1 = _; omega
  simp only [e1, e3]
  simp only [e0, e2, Finset.sum_range_succ _ 3, Finset.sum_range_succ _ 2, Finset.sum_range_succ _ 1, Finset.sum_range_succ _ 0, Finset.sum_range_zero]

end Holds

end SsdBwd

end
-- ==== Proof.ChunkStored.lean ====
module

public import proofs.«01_k».proof.Proof.ChunkReal

@[expose] public section

/-!
# What the stores of a chunk leave

A block written in several places is read index by index: the last store that covers an index decides. The tiles cover
the columns of `x` and `B`, the slabs the whole state, the groups the whole of the scan's gradient.
-/

set_option maxRecDepth 16384

noncomputable section

namespace SsdBwd

open Idealize.ShloMosaic Cert.KernelIdeal Cert.KernelIdeal.Gen
open scoped BigOperators

/-- The gradient of `xbc` on the columns of `x` and `B`. -/
def Args.dxbc (D : Args) (b s c : ℕ) : ℝ :=
  if c < 1024 then D.dx b s c else D.dB b s ((c - 1024) / 128) ((c - 1024) % 128)

theorem canon_cons_of {Val : EltTy → Type} [∀ e, Nonempty (Val e)] {s : Shape} {e : EltTy} (r : Rect s) (w : r.shape.Idx → Val e) (L : List (View.Piece Val s e)) {y : s.Idx}
    {v : Val e} (hp : ∀ x, r.emb x = y → w x = v) (hL : y ∉ r.set → View.canon L y = v) : View.canon (⟨r, w⟩ :: L) y = v := by
  by_cases h : y ∈ r.set
  · obtain ⟨x, hx⟩ := r.exists_idx_of_mem h
    have hx' : r.emb x = y := hx
    rw [← hx', View.canon_cons_emb]
    exact hp x hx'
  · rw [View.canon_cons_of_not_mem _ _ h]
    exact hL h

/-- A store of a band of `n` columns from column `o`. -/
theorem band_at {M N n o : ℕ} {inb : ∀ a, (![0, o] : Fin 2 → ℕ) a + (⟨2, ![M, n]⟩ : Shape).size a ≤ (⟨2, ![M, N]⟩ : Shape).size a}
    {w : FVec Ideal ⟨2, ![M, n]⟩ .f32} {f G : ℕ → ℕ → ℝ} (hw : Is2 w f) (y : (⟨2, ![M, N]⟩ : Shape).Idx) (e : ∀ r q, q < n → f r q = G r (o + q))
    (x : (⟨2, ![M, n]⟩ : Shape).Idx) (hx : (Rect.unit (s := ⟨2, ![M, N]⟩) ![0, o] (⟨2, ![M, n]⟩ : Shape).size inb).emb x = y) :
    w x = ((G (y 0).val (y 1).val : ℝ) : EReal) := by
  subst hx
  rw [hw x]
  refine congrArg _ ((e _ _ (x 1).isLt).trans ?_)
  show G (x 0).val (o + (x 1).val) = G (0 + 1 * (x 0).val) (o + 1 * (x 1).val)
  rw [Nat.zero_add, Nat.one_mul, Nat.one_mul]

/-- A column outside the band. -/
theorem band_off {M N n o : ℕ} {inb : ∀ a, (![0, o] : Fin 2 → ℕ) a + (⟨2, ![M, n]⟩ : Shape).size a ≤ (⟨2, ![M, N]⟩ : Shape).size a}
    {y : (⟨2, ![M, N]⟩ : Shape).Idx} (h : y ∉ (Rect.unit (s := ⟨2, ![M, N]⟩) ![0, o] (⟨2, ![M, n]⟩ : Shape).size inb).set) :
    (y 1).val < o ∨ o + n ≤ (y 1).val := by
  by_contra hc
  push Not at hc
  refine h (Rect.mem_set_unit.2 fun a => ?_)
  match a with
  | 0 => exact ⟨Nat.zero_le _, by have := (y 0).isLt; show (y 0).val < 0 + M; rw [Nat.zero_add]; exact this⟩
  | 1 => exact hc

/-- A store of a band that lies after the column read. -/
theorem band_above {M N n o : ℕ} {inb : ∀ a, (![0, o] : Fin 2 → ℕ) a + (⟨2, ![M, n]⟩ : Shape).size a ≤ (⟨2, ![M, N]⟩ : Shape).size a}
    {w : FVec Ideal ⟨2, ![M, n]⟩ .f32} {v : EReal} {y : (⟨2, ![M, N]⟩ : Shape).Idx} (h : (y 1).val < o)
    (x : (⟨2, ![M, n]⟩ : Shape).Idx) (hx : (Rect.unit (s := ⟨2, ![M, N]⟩) ![0, o] (⟨2, ![M, n]⟩ : Shape).size inb).emb x = y) :
    w x = v := by
  subst hx
  have : o + 1 * (x 1).val < o := h
  omega

theorem slab_at {k : ℕ} {inb : ∀ a, (![k, 0, 0] : Fin 3 → ℕ) a + S1x128x128.size a ≤ S8x128x128.size a}
    {w : FVec Ideal S1x128x128 .f32} {G : ℕ → ℕ → ℕ → ℝ} (hw : ∀ x, w x = ((G k (x 1).val (x 2).val : ℝ) : EReal)) (y : S8x128x128.Idx)
    (x : S1x128x128.Idx) (hx : (Rect.unit (s := S8x128x128) ![k, 0, 0] S1x128x128.size inb).emb x = y) :
    w x = ((G (y 0).val (y 1).val (y 2).val : ℝ) : EReal) := by
  subst hx
  have h0 : (x 0).val < 1 := (x 0).isLt
  rw [hw x]
  refine congrArg _ ?_
  show G k (x 1).val (x 2).val = G (k + 1 * (x 0).val) (0 + 1 * (x 1).val) (0 + 1 * (x 2).val)
  simp only [Nat.zero_add, Nat.one_mul]
  rw [show k + (x 0).val = k by omega]

theorem slab_off {k : ℕ} {inb : ∀ a, (![k, 0, 0] : Fin 3 → ℕ) a + S1x128x128.size a ≤ S8x128x128.size a} {y : S8x128x128.Idx}
    (h : y ∉ (Rect.unit (s := S8x128x128) ![k, 0, 0] S1x128x128.size inb).set) : (y 0).val ≠ k := fun e => by
  refine h (Rect.mem_set_unit.2 fun a => ?_)
  match a with
  | 0 => exact ⟨e.ge, by show (y 0).val < k + 1; omega⟩
  | 1 => exact ⟨Nat.zero_le _, by show (y 1).val < 0 + 128; rw [Nat.zero_add]; exact (y 1).isLt⟩
  | 2 => exact ⟨Nat.zero_le _, by show (y 2).val < 0 + 128; rw [Nat.zero_add]; exact (y 2).isLt⟩

namespace Holds
variable {L : Loads Ideal} {D : Args} {b ch : ℕ} (H : Holds L D b ch) (hc : ch < 16)
include H hc

theorem dx_tile (k : Fin 8) (r q : ℕ) (hq : q < 128) : D.dx b (128 * ch + r) (128 * k.val + q) = D.dxbc b (128 * ch + r) (128 * k.val + q) :=
  (if_pos (by omega)).symm
theorem db_tile (g : Fin 4) (r q : ℕ) (hq : q < 128) : D.dB b (128 * ch + r) g.val q = D.dxbc b (128 * ch + r) (1024 + 128 * g.val + q) := by
  rw [Args.dxbc, if_neg (by omega), show (1024 + 128 * g.val + q - 1024) / 128 = g.val by omega, show (1024 + 128 * g.val + q - 1024) % 128 = q by omega]

theorem tiles (e : Fin 4 → FVec Ideal S128x128 .f32) (y : S128x2048.Idx) (hy : (y 1).val < 1536) :
    View.canon (Val := Elt Ideal) (L.tiles e) y = ((D.dxbc b (128 * ch + (y 0).val) (y 1).val : ℝ) : EReal) := by
  have X := fun (k : Fin 8) inb => band_at (N := 2048) (inb := inb) (o := 128 * k.val) (G := fun r q => D.dxbc b (128 * ch + r) q) (H.dx hc k) y (H.dx_tile hc k)
  have B := fun (g : Fin 4) inb => band_at (N := 2048) (inb := inb) (o := 1024 + 128 * g.val) (G := fun r q => D.dxbc b (128 * ch + r) q) (H.db hc g) y (H.db_tile hc g)
  refine canon_cons_of _ _ _ (band_above (by omega)) fun _ => ?_
  refine canon_cons_of _ _ _ (B 3 _) fun b3 => ?_
  refine canon_cons_of _ _ _ (X 7 _) fun x7 => ?_
  refine canon_cons_of _ _ _ (X 6 _) fun x6 => ?_
  refine canon_cons_of _ _ _ (band_above (by omega)) fun _ => ?_
  refine canon_cons_of _ _ _ (B 2 _) fun b2 => ?_
  refine canon_cons_of _ _ _ (X 5 _) fun x5 => ?_
  refine canon_cons_of _ _ _ (X 4 _) fun x4 => ?_
  refine canon_cons_of _ _ _ (band_above (by omega)) fun _ => ?_
  refine canon_cons_of _ _ _ (B 1 _) fun b1 => ?_
  refine canon_cons_of _ _ _ (X 3 _) fun x3 => ?_
  refine canon_cons_of _ _ _ (X 2 _) fun x2 => ?_
  refine canon_cons_of _ _ _ (band_above (by omega)) fun _ => ?_
  refine canon_cons_of _ _ _ (B 0 _) fun b0 => ?_
  refine canon_cons_of _ _ _ (X 1 _) fun x1 => ?_
  refine canon_cons_of _ _ _ (X 0 _) fun x0 => ?_
  have := band_off b0; have := band_off b1; have := band_off b2; have := band_off b3
  have := band_off x0; have := band_off x1; have := band_off x2; have := band_off x3
  have := band_off x4; have := band_off x5; have := band_off x6; have := band_off x7
  omega

theorem slabs (rest : List (View.Piece (Elt Ideal) S8x128x128 .f32)) (y : S8x128x128.Idx) :
    View.canon (Val := Elt Ideal) (L.slabs rest) y = ((D.ds b ch (y 1).val (128 * (y 0).val + (y 2).val) : ℝ) : EReal) := by
  have X := fun (k : Fin 8) inb => slab_at (inb := inb) (k := k.val) (G := fun k n q => D.ds b ch n (128 * k + q)) (H.next hc k) y
  refine canon_cons_of _ _ _ (X 7 _) fun x7 => ?_
  refine canon_cons_of _ _ _ (X 6 _) fun x6 => ?_
  refine canon_cons_of _ _ _ (X 5 _) fun x5 => ?_
  refine canon_cons_of _ _ _ (X 4 _) fun x4 => ?_
  refine canon_cons_of _ _ _ (X 3 _) fun x3 => ?_
  refine canon_cons_of _ _ _ (X 2 _) fun x2 => ?_
  refine canon_cons_of _ _ _ (X 1 _) fun x1 => ?_
  refine canon_cons_of _ _ _ (X 0 _) fun x0 => ?_
  have := slab_off x0; have := slab_off x1; have := slab_off x2; have := slab_off x3
  have := slab_off x4; have := slab_off x5; have := slab_off x6; have := slab_off x7
  have : (y 0).val < 8 := (y 0).isLt
  omega

end Holds

/-- The gradient through the norm, at a column of the heads' output. -/
theorem groups {dy z ys : FVec Ideal S128x1024 .f32} {nw : FVec Ideal S1x1024 .f32} {D : Args} {R : ℕ}
    (hy : Is2 dy fun r q => D.duy (R + r) (1024 + q)) (hz : Is2 z fun r q => D.proj (R + r) (2048 + q)) (hs : Is2 ys fun r q => D.ys (R + r) q)
    (hn : Is2 nw fun _ q => D.nw 0 q) :
    Is2 (φ := .f32) (View.canon (Val := Elt Ideal) (groupPieces dy z ys nw)) fun r q =>
      normR (fun p => D.gated (R + r) (q / 256 * 256 + p)) (fun p => D.dnorm (R + r) (q / 256 * 256 + p)) (q % 256) := fun y => by
  have hg : Is2 (mulf ys (mulf z (sigBlk z))) fun r q => D.gated (R + r) q := hs.mulf (hz.mulf (sigBlk_is hz))
  have X := fun (o : ℕ) (ho : o % 256 = 0) (h : S128x1024.Slices ![0, o] S128x256) (h' : S1x1024.Slices ![0, o] S1x256) =>
    band_at (N := 1024) (o := o) (inb := h.2)
      (G := fun r q => normR (fun p => D.gated (R + r) (q / 256 * 256 + p)) (fun p => D.dnorm (R + r) (q / 256 * 256 + p)) (q % 256))
      ((normBlk_is h h' hg hy hn).recast shapeCasts_S128x256_S128x256) y fun r q hq => by
        rw [show (o + q) / 256 * 256 = o by omega, show (o + q) % 256 = q by omega]; rfl
  refine canon_cons_of _ _ _ (X 768 rfl _ _) fun x3 => ?_
  refine canon_cons_of _ _ _ (X 512 rfl _ _) fun x2 => ?_
  refine canon_cons_of _ _ _ (X 256 rfl _ _) fun x1 => ?_
  refine canon_cons_of _ _ _ (X 0 rfl _ _) fun x0 => ?_
  have := band_off x0; have := band_off x1; have := band_off x2; have := band_off x3
  have : (y 1).val < 1024 := (y 1).isLt
  omega

/-- The scan's gradient, as stored. -/
theorem dys_stored {dy z ys : FVec Ideal S128x1024 .f32} {nw : FVec Ideal S1x1024 .f32} {dg : FVec Ideal S128x1024 .f32} {D : Args} {R : ℕ}
    (hz : Is2 z fun r q => D.proj (R + r) (2048 + q))
    (hd : Is2 dg fun r q =>
      normR (fun p => D.gated (R + r) (q / 256 * 256 + p)) (fun p => D.dnorm (R + r) (q / 256 * 256 + p)) (q % 256)) :
    Is2 (φ := .f32) (View.canon (Val := Elt Ideal) (dysPieces dy z ys nw dg)) fun r q => D.dys (R + r) q := by
  rw [dysPieces, View.canon_cons_unit_zero (S := S128x1024) (off := ![0, 0]) (funext fun a => by match a with | 0 => rfl | 1 => rfl)]
  exact (hd.mulf (hz.mulf (sigBlk_is hz))).recast _

end SsdBwd

end
-- ==== Proof.ChunkRun.lean ====
module

public import proofs.«01_k».proof.Proof.ChunkTiles
public import proofs.«01_k».proof.Proof.Gen.KernelIdeal.Frame.Runs

@[expose] public section

/-!
# The blocks of `Loads` at a grid point

Each is a load through the memref that the body is given, at the staged inputs' contents.
-/

set_option maxRecDepth 16384

noncomputable section

namespace SsdBwd

open Idealize.ShloMosaic Idealize.ShloMosaic.TcCoe Cert.KernelIdeal Cert.KernelIdeal.Gen

variable {F : FTy → Type} [FloatOps F]
variable (c : Dev nD)
variable (i : grid0.Coords)
variable (arg3 : Memref sig .tc .vmem S128x1024 .f32)
variable (harg3 : arg3.IsWhole)
variable (arg4 : Memref sig .tc .vmem S128x1024 .f32)
variable (harg4 : arg4.IsWhole)
variable (arg5 : Memref sig .tc .vmem S128x1024 .f32)
variable (harg5 : arg5.IsWhole)
variable (arg6 : Memref sig .tc .vmem S128x1024 .f32)
variable (harg6 : arg6.IsWhole)
variable (arg7 : Memref sig .tc .vmem S128x512 .f32)
variable (harg7 : arg7.IsWhole)
variable (arg8 : Memref sig .tc .vmem S128x512 .f32)
variable (harg8 : arg8.IsWhole)
variable (arg9 : Memref sig .tc .vmem S128x128 .f32)
variable (harg9 : arg9.IsWhole)
variable (arg10 : Memref sig .tc .vmem S1x8x128x128 .f32)
variable (harg10 : arg10.IsWhole)
variable (arg11 : Memref sig .tc .vmem S1x128 .f32)
variable (harg11 : arg11.IsWhole)
variable (arg12 : Memref sig .tc .vmem S1x128 .f32)
variable (harg12 : arg12.IsWhole)
variable (arg13 : Memref sig .tc .vmem S1x1024 .f32)
variable (harg13 : arg13.IsWhole)
variable (arg14 : Memref sig .tc .vmem S1x1024 .f32)
variable (harg14 : arg14.IsWhole)
variable (arg15 : Memref sig .tc .vmem S1024x128 .bf16)
variable (harg15 : arg15.IsWhole)
variable (arg16 : Memref sig .tc .vmem S128x1024 .bf16)
variable (harg16 : arg16.IsWhole)
variable (arg17 : Memref sig .tc .vmem S128x2048 .f32)
variable (harg17 : arg17.IsWhole)
variable (arg18 : Memref sig .tc .vmem S128x128 .f32)
variable (harg18 : arg18.IsWhole)
variable (arg19 : Memref sig .tc .vmem S8x1024 .f32)
variable (harg19 : arg19.IsWhole)
variable (arg20 : Memref sig .tc .vmem S8x128x128 .f32)
variable (harg20 : arg20.IsWhole)
variable (arg21 : Memref sig .tc .vmem S128x1024 .f32)
variable (harg21 : arg21.IsWhole)
variable (arg22 : Memref sig .tc .vmem S128x1024 .f32)
variable (harg22 : arg22.IsWhole)
variable (arg23 : Memref sig .tc .vmem S128x1024 .f32)
variable (harg23 : arg23.IsWhole)
variable (arg24 : Memref sig .tc .vmem S128x128 .f32)
variable (harg24 : arg24.IsWhole)
variable (arg25 : Memref sig .tc .vmem S1x1024 .f32)
variable (harg25 : arg25.IsWhole)
variable (arg26 : Memref sig .tc .vmem S1x1024 .f32)
variable (harg26 : arg26.IsWhole)
variable (arg27 : Memref sig .tc .vmem S1x128 .f32)
variable (harg27 : arg27.IsWhole)
variable (arg28 : Memref sig .tc .vmem S1x128 .f32)
variable (harg28 : arg28.IsWhole)
variable (x0 : Vec F S128x1024 .f32)
variable (x1 : Vec F S128x1024 .f32)
variable (x2 : Vec F S128x1024 .f32)
variable (x3 : Vec F S128x1024 .f32)
variable (x4 : Vec F S128x512 .f32)
variable (x5 : Vec F S128x512 .f32)
variable (x6 : Vec F S128x128 .f32)
variable (x7 : Vec F S1x8x128x128 .f32)
variable (x8 : Vec F S1x128 .f32)
variable (x9 : Vec F S1x128 .f32)
variable (x10 : Vec F S1x1024 .f32)
variable (x11 : Vec F S1x1024 .f32)
variable (x12 : Vec F S1024x128 .bf16)
variable (xs0 : Vec F S8x128x128 .f32)
variable (xs4 : Vec F S128x128 .f32)
variable (xs5 : Vec F S1x1024 .f32)
variable (xs6 : Vec F S1x1024 .f32)
variable (xs7 : Vec F S1x128 .f32)
variable (xs8 : Vec F S1x128 .f32)

/-- The blocks loaded at a point whose staged inputs are `x0`, …, with the slabs of the state's gradient as given. -/
def loadsAt (slab : Fin 8 → FVec F S1x128x128 .f32) : Loads F where
  dy k :=
    have dy := View.readAt (Elt F) arg3.view (Rect.unit ![0, 0] S128x1024.size inb_S128x1024_S128x1024_0_0).toLoadRect (harg3.unread x0)
    have z := View.readAt (Elt F) arg4.view (Rect.unit ![0, 0] S128x1024.size inb_S128x1024_S128x1024_0_0).toLoadRect (harg4.unread x1)
    have ys := View.readAt (Elt F) arg5.view (Rect.unit ![0, 0] S128x1024.size inb_S128x1024_S128x1024_0_0).toLoadRect (harg5.unread x2)
    have nw := View.readAt (Elt F) arg14.view (Rect.unit ![0, 0] S1x1024.size inb_S1x1024_S1x1024_0_0).toLoadRect (harg14.unread x11)
    arg21.view.readCov
      (dysPieces dy z ys nw (arg21.view.readCov (groupPieces dy z ys nw) (Rect.unit ![0, 0] S128x1024.size inb_S128x1024_S128x1024_0_0).toLoadRect))
      (Rect.unit (s := S128x1024) ![0, 128 * k.val] S128x128.size (inb_lanes k)).toLoadRect
  x k := View.readAt (Elt F) arg6.view (Rect.unit (s := S128x1024) ![0, 128 * k.val] S128x128.size (inb_lanes k)).toLoadRect (harg6.unread x3)
  dl k := View.readAt (Elt F) arg13.view (Rect.unit (s := S1x1024) ![0, 128 * k.val] S1x128.size (inb_row k)).toLoadRect (harg13.unread x10)
  slab := slab
  b g := View.readAt (Elt F) arg7.view (Rect.unit (s := S128x512) ![0, 128 * g.val] S128x128.size (inb_mat g)).toLoadRect (harg7.unread x4)
  c g := View.readAt (Elt F) arg8.view (Rect.unit (s := S128x512) ![0, 128 * g.val] S128x128.size (inb_mat g)).toLoadRect (harg8.unread x5)
  dtr := View.readAt (Elt F) arg9.view (Rect.unit ![0, 0] S128x128.size inb_S128x128_S128x128_0_0).toLoadRect (harg9.unread x6)
  bias := View.readAt (Elt F) arg11.view (Rect.unit ![0, 0] S1x128.size inb_S1x128_S1x128_0_0).toLoadRect (harg11.unread x8)
  alog := View.readAt (Elt F) arg12.view (Rect.unit ![0, 0] S1x128.size inb_S1x128_S1x128_0_0).toLoadRect (harg12.unread x9)

/-- The slabs that the point before left. -/
def keptSlabs : Fin 8 → FVec F S1x128x128 .f32 := fun k =>
  View.readAt (Elt F) arg20.view (Rect.unit (s := S8x128x128) ![k.val, 0, 0] S1x128x128.size (inb_slab k)).toLoadRect (harg20.unread xs0)

end SsdBwd

end
-- ==== Proof.ChunkPoint.lean ====
module

public import proofs.«01_k».proof.Proof.ChunkStored
public import proofs.«01_k».proof.Proof.ChunkRun
public import Idealize.ShloMosaic.Lib.WholeRead

@[expose] public section

/-!
# The blocks loaded at a grid point are those of its chunk

`Staged` says that the staged inputs are the arguments' rows of chunk `ch` of sequence `b`. Then so are the blocks that
the body loads, the scan's gradient through the stores that the body itself made.
-/

set_option maxRecDepth 16384

noncomputable section

namespace SsdBwd

open Idealize.ShloMosaic Idealize.ShloMosaic.TcCoe Cert.KernelIdeal Cert.KernelIdeal.Gen
open scoped BigOperators

/-- The staged inputs at chunk `ch` of sequence `b`. -/
structure Staged (x0 x1 x2 x3 : FVec Ideal S128x1024 .f32) (x4 x5 : FVec Ideal S128x512 .f32) (x6 : FVec Ideal S128x128 .f32)
    (x8 x9 : FVec Ideal S1x128 .f32) (x10 x11 : FVec Ideal S1x1024 .f32) (D : Args) (b ch : ℕ) : Prop where
  duy : Is2 x0 fun r q => D.duy (2048 * b + 128 * ch + r) (1024 + q)
  proj : Is2 x1 fun r q => D.proj (2048 * b + 128 * ch + r) (2048 + q)
  ys : Is2 x2 fun r q => D.ys (2048 * b + 128 * ch + r) q
  x : Is2 x3 fun r q => D.xbc (2048 * b + 128 * ch + r) q
  bm : Is2 x4 fun r q => D.xbc (2048 * b + 128 * ch + r) (1024 + q)
  cm : Is2 x5 fun r q => D.xbc (2048 * b + 128 * ch + r) (1536 + q)
  dtr : Is2 x6 fun r q => D.dtr (2048 * b + 128 * ch + r) q
  bias : Is2 x8 fun _ q => D.bias 0 q
  alog : Is2 x9 fun _ q => D.alog 0 q
  d : Is2 x10 fun _ q => D.d 0 (q / 64)
  nw : Is2 x11 fun _ q => D.nw 0 q

theorem rect_is {M N m n o p : ℕ} {X : FVec Ideal ⟨2, ![M, N]⟩ .f32} {f : ℕ → ℕ → ℝ} (hX : Is2 X f)
    (inb : ∀ a, (![o, p] : Fin 2 → ℕ) a + (⟨2, ![m, n]⟩ : Shape).size a ≤ (⟨2, ![M, N]⟩ : Shape).size a)
    {v : FVec Ideal ⟨2, ![m, n]⟩ .f32} (hv : ∀ x, v x = X ((Rect.unit (s := ⟨2, ![M, N]⟩) ![o, p] (⟨2, ![m, n]⟩ : Shape).size inb).toLoadRect.idx x)) :
    Is2 v fun r q => f (o + r) (p + q) := fun x => by
  rw [hv x, hX]
  refine congrArg _ ?_
  show f (o + 1 * (x 0).val) (p + 1 * (x 1).val) = f (o + (x 0).val) (p + (x 1).val)
  rw [Nat.one_mul, Nat.one_mul]

theorem read_is {M N m n o p : ℕ} (a : Memref sig .tc .vmem ⟨2, ![M, N]⟩ .f32) (h : a.IsWhole) {X : FVec Ideal ⟨2, ![M, N]⟩ .f32} {f : ℕ → ℕ → ℝ}
    (hX : Is2 X f) (inb : ∀ a, (![o, p] : Fin 2 → ℕ) a + (⟨2, ![m, n]⟩ : Shape).size a ≤ (⟨2, ![M, N]⟩ : Shape).size a) :
    Is2 (φ := .f32) (m := m) (n := n)
      (View.readAt (Elt Ideal) a.view (Rect.unit (s := ⟨2, ![M, N]⟩) ![o, p] (⟨2, ![m, n]⟩ : Shape).size inb).toLoadRect (h.unread X))
      fun r q => f (o + r) (p + q) :=
  rect_is hX inb fun x =>
    h.readAt_unread (Val := Elt Ideal) X (Rect.unit (s := ⟨2, ![M, N]⟩) ![o, p] (⟨2, ![m, n]⟩ : Shape).size inb).toLoadRect x

theorem cover_is {M N m n o p : ℕ} (a : Memref sig .tc .vmem ⟨2, ![M, N]⟩ .f32) (L : List (View.Piece (Elt Ideal) ⟨2, ![M, N]⟩ .f32)) {f : ℕ → ℕ → ℝ}
    (hL : Is2 (φ := .f32) (View.canon (Val := Elt Ideal) L) f) (inb : ∀ a, (![o, p] : Fin 2 → ℕ) a + (⟨2, ![m, n]⟩ : Shape).size a ≤ (⟨2, ![M, N]⟩ : Shape).size a) :
    Is2 (φ := .f32) (m := m) (n := n)
      (a.view.readCov (Val := Elt Ideal) L (Rect.unit (s := ⟨2, ![M, N]⟩) ![o, p] (⟨2, ![m, n]⟩ : Shape).size inb).toLoadRect)
      fun r q => f (o + r) (p + q) :=
  rect_is hL inb fun x => congrFun (View.readCov_eq_canon' (Val := Elt Ideal) a.view L (Rect.unit (s := ⟨2, ![M, N]⟩) ![o, p] (⟨2, ![m, n]⟩ : Shape).size inb).toLoadRect) x

variable (arg3 : Memref sig .tc .vmem S128x1024 .f32) (harg3 : arg3.IsWhole) (arg4 : Memref sig .tc .vmem S128x1024 .f32) (harg4 : arg4.IsWhole)
  (arg5 : Memref sig .tc .vmem S128x1024 .f32) (harg5 : arg5.IsWhole) (arg6 : Memref sig .tc .vmem S128x1024 .f32) (harg6 : arg6.IsWhole)
  (arg7 : Memref sig .tc .vmem S128x512 .f32) (harg7 : arg7.IsWhole) (arg8 : Memref sig .tc .vmem S128x512 .f32) (harg8 : arg8.IsWhole)
  (arg9 : Memref sig .tc .vmem S128x128 .f32) (harg9 : arg9.IsWhole) (arg11 : Memref sig .tc .vmem S1x128 .f32) (harg11 : arg11.IsWhole)
  (arg12 : Memref sig .tc .vmem S1x128 .f32) (harg12 : arg12.IsWhole) (arg13 : Memref sig .tc .vmem S1x1024 .f32) (harg13 : arg13.IsWhole)
  (arg14 : Memref sig .tc .vmem S1x1024 .f32) (harg14 : arg14.IsWhole) (arg21 : Memref sig .tc .vmem S128x1024 .f32)

theorem Staged.holds {x0 x1 x2 x3 : FVec Ideal S128x1024 .f32} {x4 x5 : FVec Ideal S128x512 .f32} {x6 : FVec Ideal S128x128 .f32}
    {x8 x9 : FVec Ideal S1x128 .f32} {x10 x11 : FVec Ideal S1x1024 .f32} {D : Args} {b ch : ℕ}
    (S : Staged x0 x1 x2 x3 x4 x5 x6 x8 x9 x10 x11 D b ch) (slab : Fin 8 → FVec Ideal S1x128x128 .f32)
    (hslab : ∀ k i, slab k i = ((D.ds b (ch + 1) (i 1).val (128 * k.val + (i 2).val) : ℝ) : EReal)) :
    Holds (loadsAt arg3 harg3 arg4 harg4 arg5 harg5 arg6 harg6 arg7 harg7 arg8 harg8 arg9 harg9 arg11 harg11 arg12 harg12 arg13 harg13 arg14 harg14
      arg21 x0 x1 x2 x3 x4 x5 x6 x8 x9 x10 x11 slab) D b ch := by
  have hz := (read_is arg4 harg4 S.proj inb_S128x1024_S128x1024_0_0).congr (g := fun r q => D.proj (2048 * b + 128 * ch + r) (2048 + q))
    fun r q _ _ => by simp only [Nat.zero_add]
  have hdy := (read_is arg3 harg3 S.duy inb_S128x1024_S128x1024_0_0).congr (g := fun r q => D.duy (2048 * b + 128 * ch + r) (1024 + q))
    fun r q _ _ => by simp only [Nat.zero_add]
  have hys := (read_is arg5 harg5 S.ys inb_S128x1024_S128x1024_0_0).congr (g := fun r q => D.ys (2048 * b + 128 * ch + r) q)
    fun r q _ _ => by simp only [Nat.zero_add]
  have hnw := (read_is arg14 harg14 S.nw inb_S1x1024_S1x1024_0_0).congr (g := fun _ q => D.nw 0 q) fun r q _ _ => by simp only [Nat.zero_add]
  have hg := (cover_is arg21 _ (groups hdy hz hys hnw) inb_S128x1024_S128x1024_0_0).congr
    (g := fun r q => normR (fun p => D.gated (2048 * b + 128 * ch + r) (q / 256 * 256 + p)) (fun p => D.dnorm (2048 * b + 128 * ch + r) (q / 256 * 256 + p)) (q % 256))
    fun r q _ _ => by simp only [Nat.zero_add]
  exact
    { dy := fun k => (cover_is arg21 _ (dys_stored hz hg) (inb_lanes k)).congr fun r q _ _ => by simp only [Nat.zero_add]
      x := fun k => (read_is arg6 harg6 S.x (inb_lanes k)).congr fun r q _ _ => by simp only [Nat.zero_add]
      dl := fun k => (read_is arg13 harg13 S.d (inb_row k)).congr fun r q _ _ => rfl
      slab := hslab
      bm := fun g => (read_is arg7 harg7 S.bm (inb_mat g)).congr fun r q _ _ => by simp only [Nat.zero_add, Args.matB, Nat.add_assoc]
      cm := fun g => (read_is arg8 harg8 S.cm (inb_mat g)).congr fun r q _ _ => by simp only [Nat.zero_add, Args.matC, Nat.add_assoc]
      dtr := (read_is arg9 harg9 S.dtr inb_S128x128_S128x128_0_0).congr fun r q _ _ => by simp only [Nat.zero_add]
      bias := (read_is arg11 harg11 S.bias inb_S1x128_S1x128_0_0).congr fun r q _ _ => by simp only [Nat.zero_add]
      alog := (read_is arg12 harg12 S.alog inb_S1x128_S1x128_0_0).congr fun r q _ _ => by simp only [Nat.zero_add] }

/-- The slabs that the point before left, at the contents it left. -/
theorem keptSlabs_is (arg20 : Memref sig .tc .vmem S8x128x128 .f32) (harg20 : arg20.IsWhole) {xs0 : FVec Ideal S8x128x128 .f32} {G : ℕ → ℕ → ℕ → ℝ}
    (h : ∀ y, xs0 y = ((G (y 0).val (y 1).val (y 2).val : ℝ) : EReal)) (k : Fin 8) (i : S1x128x128.Idx) :
    keptSlabs (F := Ideal) arg20 harg20 xs0 k i = ((G k.val (i 1).val (i 2).val : ℝ) : EReal) := by
  have h0 : (i 0).val < 1 := (i 0).isLt
  refine (harg20.readAt_unread (Val := Elt Ideal) xs0 (Rect.unit (s := S8x128x128) ![k.val, 0, 0] S1x128x128.size (inb_slab k)).toLoadRect i).trans ((h _).trans (congrArg _ ?_))
  show G (k.val + 1 * (i 0).val) (0 + 1 * (i 1).val) (0 + 1 * (i 2).val) = _
  simp only [Nat.zero_add, Nat.one_mul]
  rw [show k.val + (i 0).val = k.val by omega]

/-- From slab `n` on, the stores leave zeros. -/
def ZerosFrom (n : ℕ) (L : List (View.Piece (Elt Ideal) S8x128x128 .f32)) : Prop :=
  ∀ y : S8x128x128.Idx, n ≤ (y 0).val → View.canon (Val := Elt Ideal) L y = ((0 : ℝ) : EReal)

theorem ZerosFrom.cons {n : ℕ} {L : List (View.Piece (Elt Ideal) S8x128x128 .f32)} (h : ZerosFrom n L)
    {inb : ∀ a, (![n, 0, 0] : Fin 3 → ℕ) a + S1x128x128.size a ≤ S8x128x128.size a} (w : S1x128x128.Idx → Elt Ideal .f32) :
    ZerosFrom (n + 1) (⟨Rect.unit ![n, 0, 0] S1x128x128.size inb, w⟩ :: L) := fun y hy => by
  refine (View.canon_cons_of_not_mem _ _ fun hm => ?_).trans (h y (by omega))
  have : (y 0).val < n + 1 := ((Rect.mem_set_unit (s := S8x128x128) (off := ![n, 0, 0]) (size := S1x128x128.size) (inb := inb)).1 hm 0).2
  omega

theorem zerosFrom_first : ZerosFrom 0 [⟨Rect.unit ![0, 0, 0] S8x128x128.size inb_S8x128x128_S8x128x128_0_0_0, k0_pay9 (F := Ideal)⟩] := fun y _ => by
  rw [View.canon_cons_unit_zero (S := S8x128x128) (off := ![0, 0, 0]) (funext fun a => by match a with | 0 => rfl | 1 => rfl | 2 => rfl)]
  exact word_zero

/-- A slab loaded from the zeros. -/
theorem ZerosFrom.load {n : ℕ} {L : List (View.Piece (Elt Ideal) S8x128x128 .f32)} (h : ZerosFrom n L) (arg20 : Memref sig .tc .vmem S8x128x128 .f32)
    {inb : ∀ a, (![n, 0, 0] : Fin 3 → ℕ) a + S1x128x128.size a ≤ S8x128x128.size a} (i : S1x128x128.Idx) :
    arg20.view.readCov (Val := Elt Ideal) L (Rect.unit (s := S8x128x128) ![n, 0, 0] S1x128x128.size inb).toLoadRect i = ((0 : ℝ) : EReal) :=
  (congrFun (View.readCov_eq_canon' (Val := Elt Ideal) arg20.view L (Rect.unit (s := S8x128x128) ![n, 0, 0] S1x128x128.size inb).toLoadRect) i).trans
    (h _ (by show n ≤ n + 1 * (i 0).val; omega))

end SsdBwd

end
-- ==== Proof.TilesA.lean ====
module

public import proofs.«01_k».proof.Proof.ChunkRun
public import proofs.«01_k».proof.Proof.Gen.KernelIdeal.Frame.RunA

@[expose] public section

/-!
# What the first point of all stores

The body's stores into the gradient's block and into the state's gradient are the tiles and the slabs of `Loads`, at the
blocks that the point loads.
-/

set_option maxRecDepth 16384

noncomputable section

namespace SsdBwd

open Idealize.ShloMosaic Idealize.ShloMosaic.TcCoe Cert.KernelIdeal Cert.KernelIdeal.Gen

variable {F : FTy → Type} [FloatOps F]
variable (c : Dev nD)
variable (i : grid0.Coords)
variable (arg3 : Memref sig .tc .vmem S128x1024 .f32)
variable (harg3 : arg3.IsWhole)
variable (arg4 : Memref sig .tc .vmem S128x1024 .f32)
variable (harg4 : arg4.IsWhole)
variable (arg5 : Memref sig .tc .vmem S128x1024 .f32)
variable (harg5 : arg5.IsWhole)
variable (arg6 : Memref sig .tc .vmem S128x1024 .f32)
variable (harg6 : arg6.IsWhole)
variable (arg7 : Memref sig .tc .vmem S128x512 .f32)
variable (harg7 : arg7.IsWhole)
variable (arg8 : Memref sig .tc .vmem S128x512 .f32)
variable (harg8 : arg8.IsWhole)
variable (arg9 : Memref sig .tc .vmem S128x128 .f32)
variable (harg9 : arg9.IsWhole)
variable (arg10 : Memref sig .tc .vmem S1x8x128x128 .f32)
variable (harg10 : arg10.IsWhole)
variable (arg11 : Memref sig .tc .vmem S1x128 .f32)
variable (harg11 : arg11.IsWhole)
variable (arg12 : Memref sig .tc .vmem S1x128 .f32)
variable (harg12 : arg12.IsWhole)
variable (arg13 : Memref sig .tc .vmem S1x1024 .f32)
variable (harg13 : arg13.IsWhole)
variable (arg14 : Memref sig .tc .vmem S1x1024 .f32)
variable (harg14 : arg14.IsWhole)
variable (arg15 : Memref sig .tc .vmem S1024x128 .bf16)
variable (harg15 : arg15.IsWhole)
variable (arg16 : Memref sig .tc .vmem S128x1024 .bf16)
variable (harg16 : arg16.IsWhole)
variable (arg17 : Memref sig .tc .vmem S128x2048 .f32)
variable (harg17 : arg17.IsWhole)
variable (arg18 : Memref sig .tc .vmem S128x128 .f32)
variable (harg18 : arg18.IsWhole)
variable (arg19 : Memref sig .tc .vmem S8x1024 .f32)
variable (harg19 : arg19.IsWhole)
variable (arg20 : Memref sig .tc .vmem S8x128x128 .f32)
variable (harg20 : arg20.IsWhole)
variable (arg21 : Memref sig .tc .vmem S128x1024 .f32)
variable (harg21 : arg21.IsWhole)
variable (arg22 : Memref sig .tc .vmem S128x1024 .f32)
variable (harg22 : arg22.IsWhole)
variable (arg23 : Memref sig .tc .vmem S128x1024 .f32)
variable (harg23 : arg23.IsWhole)
variable (arg24 : Memref sig .tc .vmem S128x128 .f32)
variable (harg24 : arg24.IsWhole)
variable (arg25 : Memref sig .tc .vmem S1x1024 .f32)
variable (harg25 : arg25.IsWhole)
variable (arg26 : Memref sig .tc .vmem S1x1024 .f32)
variable (harg26 : arg26.IsWhole)
variable (arg27 : Memref sig .tc .vmem S1x128 .f32)
variable (harg27 : arg27.IsWhole)
variable (arg28 : Memref sig .tc .vmem S1x128 .f32)
variable (harg28 : arg28.IsWhole)
variable (x0 : Vec F S128x1024 .f32)
variable (x1 : Vec F S128x1024 .f32)
variable (x2 : Vec F S128x1024 .f32)
variable (x3 : Vec F S128x1024 .f32)
variable (x4 : Vec F S128x512 .f32)
variable (x5 : Vec F S128x512 .f32)
variable (x6 : Vec F S128x128 .f32)
variable (x7 : Vec F S1x8x128x128 .f32)
variable (x8 : Vec F S1x128 .f32)
variable (x9 : Vec F S1x128 .f32)
variable (x10 : Vec F S1x1024 .f32)
variable (x11 : Vec F S1x1024 .f32)
variable (x12 : Vec F S1024x128 .bf16)
variable (xs0 : Vec F S8x128x128 .f32)
variable (xs4 : Vec F S128x128 .f32)
variable (xs5 : Vec F S1x1024 .f32)
variable (xs6 : Vec F S1x1024 .f32)
variable (xs7 : Vec F S1x128 .f32)
variable (xs8 : Vec F S1x128 .f32)

/-- The slabs loaded: each is read before the point stores it, from the zeros stored first. -/
def ownSlabsA : Fin 8 → FVec F S1x128x128 .f32 :=
  ![kernelRun0_A.sl.v270 c arg20,
    kernelRun0_A.sl.v429 c arg3 harg3 arg4 harg4 arg5 harg5 arg8 harg8 arg9 harg9 arg11 harg11 arg12 harg12 arg14 harg14 arg20 arg21 x0 x1 x2 x5 x6 x8 x9 x11,
    kernelRun0_A.sl.v603 c arg3 harg3 arg4 harg4 arg5 harg5 arg8 harg8 arg9 harg9 arg11 harg11 arg12 harg12 arg14 harg14 arg20 arg21 x0 x1 x2 x5 x6 x8 x9 x11,
    kernelRun0_A.sl.v762 c arg3 harg3 arg4 harg4 arg5 harg5 arg8 harg8 arg9 harg9 arg11 harg11 arg12 harg12 arg14 harg14 arg20 arg21 x0 x1 x2 x5 x6 x8 x9 x11,
    kernelRun0_A.sl.v936 c arg3 harg3 arg4 harg4 arg5 harg5 arg8 harg8 arg9 harg9 arg11 harg11 arg12 harg12 arg14 harg14 arg20 arg21 x0 x1 x2 x5 x6 x8 x9 x11,
    kernelRun0_A.sl.v1095 c arg3 harg3 arg4 harg4 arg5 harg5 arg8 harg8 arg9 harg9 arg11 harg11 arg12 harg12 arg14 harg14 arg20 arg21 x0 x1 x2 x5 x6 x8 x9 x11,
    kernelRun0_A.sl.v1269 c arg3 harg3 arg4 harg4 arg5 harg5 arg8 harg8 arg9 harg9 arg11 harg11 arg12 harg12 arg14 harg14 arg20 arg21 x0 x1 x2 x5 x6 x8 x9 x11,
    kernelRun0_A.sl.v1428 c arg3 harg3 arg4 harg4 arg5 harg5 arg8 harg8 arg9 harg9 arg11 harg11 arg12 harg12 arg14 harg14 arg20 arg21 x0 x1 x2 x5 x6 x8 x9 x11]

set_option maxHeartbeats 8000000 in
theorem tiles_A (hc0 : cond0_0 i) (hc1 : cond0_1 i) (hc2 : ¬cond0_2 i) : ∃ e, (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 ).2.1 = (loadsAt arg3 harg3 arg4 harg4 arg5 harg5 arg6 harg6 arg7 harg7 arg8 harg8 arg9 harg9 arg11 harg11 arg12 harg12 arg13 harg13 arg14 harg14 arg21 x0 x1 x2 x3 x4 x5 x6 x8 x9 x10 x11 (ownSlabsA c arg3 harg3 arg4 harg4 arg5 harg5 arg8 harg8 arg9 harg9 arg11 harg11 arg12 harg12 arg14 harg14 arg20 arg21 x0 x1 x2 x5 x6 x8 x9 x11)).tiles e :=
  ⟨![_, _, _, _], rfl⟩

set_option maxHeartbeats 8000000 in
theorem slabs_A (hc0 : cond0_0 i) (hc1 : cond0_1 i) (hc2 : ¬cond0_2 i) : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 ).2.2.2.2.1 = (loadsAt arg3 harg3 arg4 harg4 arg5 harg5 arg6 harg6 arg7 harg7 arg8 harg8 arg9 harg9 arg11 harg11 arg12 harg12 arg13 harg13 arg14 harg14 arg21 x0 x1 x2 x3 x4 x5 x6 x8 x9 x10 x11 (ownSlabsA c arg3 harg3 arg4 harg4 arg5 harg5 arg8 harg8 arg9 harg9 arg11 harg11 arg12 harg12 arg14 harg14 arg20 arg21 x0 x1 x2 x5 x6 x8 x9 x11)).slabs [⟨Rect.unit ![0, 0, 0] S8x128x128.size inb_S8x128x128_S8x128x128_0_0_0, k0_pay9⟩] := rfl

end SsdBwd

end
-- ==== Proof.TilesB.lean ====
module

public import proofs.«01_k».proof.Proof.ChunkRun
public import proofs.«01_k».proof.Proof.Gen.KernelIdeal.Frame.RunB

@[expose] public section

/-!
# What a point inside a sequence stores

The body's stores into the gradient's block and into the state's gradient are the tiles and the slabs of `Loads`, at the
blocks that the point loads.
-/

set_option maxRecDepth 16384

noncomputable section

namespace SsdBwd

open Idealize.ShloMosaic Idealize.ShloMosaic.TcCoe Cert.KernelIdeal Cert.KernelIdeal.Gen

variable {F : FTy → Type} [FloatOps F]
variable (c : Dev nD)
variable (i : grid0.Coords)
variable (arg3 : Memref sig .tc .vmem S128x1024 .f32)
variable (harg3 : arg3.IsWhole)
variable (arg4 : Memref sig .tc .vmem S128x1024 .f32)
variable (harg4 : arg4.IsWhole)
variable (arg5 : Memref sig .tc .vmem S128x1024 .f32)
variable (harg5 : arg5.IsWhole)
variable (arg6 : Memref sig .tc .vmem S128x1024 .f32)
variable (harg6 : arg6.IsWhole)
variable (arg7 : Memref sig .tc .vmem S128x512 .f32)
variable (harg7 : arg7.IsWhole)
variable (arg8 : Memref sig .tc .vmem S128x512 .f32)
variable (harg8 : arg8.IsWhole)
variable (arg9 : Memref sig .tc .vmem S128x128 .f32)
variable (harg9 : arg9.IsWhole)
variable (arg10 : Memref sig .tc .vmem S1x8x128x128 .f32)
variable (harg10 : arg10.IsWhole)
variable (arg11 : Memref sig .tc .vmem S1x128 .f32)
variable (harg11 : arg11.IsWhole)
variable (arg12 : Memref sig .tc .vmem S1x128 .f32)
variable (harg12 : arg12.IsWhole)
variable (arg13 : Memref sig .tc .vmem S1x1024 .f32)
variable (harg13 : arg13.IsWhole)
variable (arg14 : Memref sig .tc .vmem S1x1024 .f32)
variable (harg14 : arg14.IsWhole)
variable (arg15 : Memref sig .tc .vmem S1024x128 .bf16)
variable (harg15 : arg15.IsWhole)
variable (arg16 : Memref sig .tc .vmem S128x1024 .bf16)
variable (harg16 : arg16.IsWhole)
variable (arg17 : Memref sig .tc .vmem S128x2048 .f32)
variable (harg17 : arg17.IsWhole)
variable (arg18 : Memref sig .tc .vmem S128x128 .f32)
variable (harg18 : arg18.IsWhole)
variable (arg19 : Memref sig .tc .vmem S8x1024 .f32)
variable (harg19 : arg19.IsWhole)
variable (arg20 : Memref sig .tc .vmem S8x128x128 .f32)
variable (harg20 : arg20.IsWhole)
variable (arg21 : Memref sig .tc .vmem S128x1024 .f32)
variable (harg21 : arg21.IsWhole)
variable (arg22 : Memref sig .tc .vmem S128x1024 .f32)
variable (harg22 : arg22.IsWhole)
variable (arg23 : Memref sig .tc .vmem S128x1024 .f32)
variable (harg23 : arg23.IsWhole)
variable (arg24 : Memref sig .tc .vmem S128x128 .f32)
variable (harg24 : arg24.IsWhole)
variable (arg25 : Memref sig .tc .vmem S1x1024 .f32)
variable (harg25 : arg25.IsWhole)
variable (arg26 : Memref sig .tc .vmem S1x1024 .f32)
variable (harg26 : arg26.IsWhole)
variable (arg27 : Memref sig .tc .vmem S1x128 .f32)
variable (harg27 : arg27.IsWhole)
variable (arg28 : Memref sig .tc .vmem S1x128 .f32)
variable (harg28 : arg28.IsWhole)
variable (x0 : Vec F S128x1024 .f32)
variable (x1 : Vec F S128x1024 .f32)
variable (x2 : Vec F S128x1024 .f32)
variable (x3 : Vec F S128x1024 .f32)
variable (x4 : Vec F S128x512 .f32)
variable (x5 : Vec F S128x512 .f32)
variable (x6 : Vec F S128x128 .f32)
variable (x7 : Vec F S1x8x128x128 .f32)
variable (x8 : Vec F S1x128 .f32)
variable (x9 : Vec F S1x128 .f32)
variable (x10 : Vec F S1x1024 .f32)
variable (x11 : Vec F S1x1024 .f32)
variable (x12 : Vec F S1024x128 .bf16)
variable (xs0 : Vec F S8x128x128 .f32)
variable (xs4 : Vec F S128x128 .f32)
variable (xs5 : Vec F S1x1024 .f32)
variable (xs6 : Vec F S1x1024 .f32)
variable (xs7 : Vec F S1x128 .f32)
variable (xs8 : Vec F S1x128 .f32)

set_option maxHeartbeats 8000000 in
theorem tiles_B (hc0 : ¬cond0_0 i) (hc1 : ¬cond0_1 i) (hc2 : ¬cond0_2 i) : ∃ e, (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs0 xs4 xs5 xs6 xs7 xs8).2.1 = (loadsAt arg3 harg3 arg4 harg4 arg5 harg5 arg6 harg6 arg7 harg7 arg8 harg8 arg9 harg9 arg11 harg11 arg12 harg12 arg13 harg13 arg14 harg14 arg21 x0 x1 x2 x3 x4 x5 x6 x8 x9 x10 x11 (keptSlabs arg20 harg20 xs0)).tiles e :=
  ⟨![_, _, _, _], rfl⟩

set_option maxHeartbeats 8000000 in
theorem slabs_B (hc0 : ¬cond0_0 i) (hc1 : ¬cond0_1 i) (hc2 : ¬cond0_2 i) : (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs0 xs4 xs5 xs6 xs7 xs8).2.2.2.2.1 = (loadsAt arg3 harg3 arg4 harg4 arg5 harg5 arg6 harg6 arg7 harg7 arg8 harg8 arg9 harg9 arg11 harg11 arg12 harg12 arg13 harg13 arg14 harg14 arg21 x0 x1 x2 x3 x4 x5 x6 x8 x9 x10 x11 (keptSlabs arg20 harg20 xs0)).slabs [] := rfl

end SsdBwd

end
-- ==== Proof.TilesC.lean ====
module

public import proofs.«01_k».proof.Proof.ChunkRun
public import proofs.«01_k».proof.Proof.Gen.KernelIdeal.Frame.RunC

@[expose] public section

/-!
# What the first point of the second sequence stores

The body's stores into the gradient's block and into the state's gradient are the tiles and the slabs of `Loads`, at the
blocks that the point loads.
-/

set_option maxRecDepth 16384

noncomputable section

namespace SsdBwd

open Idealize.ShloMosaic Idealize.ShloMosaic.TcCoe Cert.KernelIdeal Cert.KernelIdeal.Gen

variable {F : FTy → Type} [FloatOps F]
variable (c : Dev nD)
variable (i : grid0.Coords)
variable (arg3 : Memref sig .tc .vmem S128x1024 .f32)
variable (harg3 : arg3.IsWhole)
variable (arg4 : Memref sig .tc .vmem S128x1024 .f32)
variable (harg4 : arg4.IsWhole)
variable (arg5 : Memref sig .tc .vmem S128x1024 .f32)
variable (harg5 : arg5.IsWhole)
variable (arg6 : Memref sig .tc .vmem S128x1024 .f32)
variable (harg6 : arg6.IsWhole)
variable (arg7 : Memref sig .tc .vmem S128x512 .f32)
variable (harg7 : arg7.IsWhole)
variable (arg8 : Memref sig .tc .vmem S128x512 .f32)
variable (harg8 : arg8.IsWhole)
variable (arg9 : Memref sig .tc .vmem S128x128 .f32)
variable (harg9 : arg9.IsWhole)
variable (arg10 : Memref sig .tc .vmem S1x8x128x128 .f32)
variable (harg10 : arg10.IsWhole)
variable (arg11 : Memref sig .tc .vmem S1x128 .f32)
variable (harg11 : arg11.IsWhole)
variable (arg12 : Memref sig .tc .vmem S1x128 .f32)
variable (harg12 : arg12.IsWhole)
variable (arg13 : Memref sig .tc .vmem S1x1024 .f32)
variable (harg13 : arg13.IsWhole)
variable (arg14 : Memref sig .tc .vmem S1x1024 .f32)
variable (harg14 : arg14.IsWhole)
variable (arg15 : Memref sig .tc .vmem S1024x128 .bf16)
variable (harg15 : arg15.IsWhole)
variable (arg16 : Memref sig .tc .vmem S128x1024 .bf16)
variable (harg16 : arg16.IsWhole)
variable (arg17 : Memref sig .tc .vmem S128x2048 .f32)
variable (harg17 : arg17.IsWhole)
variable (arg18 : Memref sig .tc .vmem S128x128 .f32)
variable (harg18 : arg18.IsWhole)
variable (arg19 : Memref sig .tc .vmem S8x1024 .f32)
variable (harg19 : arg19.IsWhole)
variable (arg20 : Memref sig .tc .vmem S8x128x128 .f32)
variable (harg20 : arg20.IsWhole)
variable (arg21 : Memref sig .tc .vmem S128x1024 .f32)
variable (harg21 : arg21.IsWhole)
variable (arg22 : Memref sig .tc .vmem S128x1024 .f32)
variable (harg22 : arg22.IsWhole)
variable (arg23 : Memref sig .tc .vmem S128x1024 .f32)
variable (harg23 : arg23.IsWhole)
variable (arg24 : Memref sig .tc .vmem S128x128 .f32)
variable (harg24 : arg24.IsWhole)
variable (arg25 : Memref sig .tc .vmem S1x1024 .f32)
variable (harg25 : arg25.IsWhole)
variable (arg26 : Memref sig .tc .vmem S1x1024 .f32)
variable (harg26 : arg26.IsWhole)
variable (arg27 : Memref sig .tc .vmem S1x128 .f32)
variable (harg27 : arg27.IsWhole)
variable (arg28 : Memref sig .tc .vmem S1x128 .f32)
variable (harg28 : arg28.IsWhole)
variable (x0 : Vec F S128x1024 .f32)
variable (x1 : Vec F S128x1024 .f32)
variable (x2 : Vec F S128x1024 .f32)
variable (x3 : Vec F S128x1024 .f32)
variable (x4 : Vec F S128x512 .f32)
variable (x5 : Vec F S128x512 .f32)
variable (x6 : Vec F S128x128 .f32)
variable (x7 : Vec F S1x8x128x128 .f32)
variable (x8 : Vec F S1x128 .f32)
variable (x9 : Vec F S1x128 .f32)
variable (x10 : Vec F S1x1024 .f32)
variable (x11 : Vec F S1x1024 .f32)
variable (x12 : Vec F S1024x128 .bf16)
variable (xs0 : Vec F S8x128x128 .f32)
variable (xs4 : Vec F S128x128 .f32)
variable (xs5 : Vec F S1x1024 .f32)
variable (xs6 : Vec F S1x1024 .f32)
variable (xs7 : Vec F S1x128 .f32)
variable (xs8 : Vec F S1x128 .f32)

/-- The slabs loaded: each is read before the point stores it, from the zeros stored first. -/
def ownSlabsC : Fin 8 → FVec F S1x128x128 .f32 :=
  ![kernelRun0_C.sl.v270 c arg20,
    kernelRun0_C.sl.v429 c arg3 harg3 arg4 harg4 arg5 harg5 arg8 harg8 arg9 harg9 arg11 harg11 arg12 harg12 arg14 harg14 arg20 arg21 x0 x1 x2 x5 x6 x8 x9 x11,
    kernelRun0_C.sl.v603 c arg3 harg3 arg4 harg4 arg5 harg5 arg8 harg8 arg9 harg9 arg11 harg11 arg12 harg12 arg14 harg14 arg20 arg21 x0 x1 x2 x5 x6 x8 x9 x11,
    kernelRun0_C.sl.v762 c arg3 harg3 arg4 harg4 arg5 harg5 arg8 harg8 arg9 harg9 arg11 harg11 arg12 harg12 arg14 harg14 arg20 arg21 x0 x1 x2 x5 x6 x8 x9 x11,
    kernelRun0_C.sl.v936 c arg3 harg3 arg4 harg4 arg5 harg5 arg8 harg8 arg9 harg9 arg11 harg11 arg12 harg12 arg14 harg14 arg20 arg21 x0 x1 x2 x5 x6 x8 x9 x11,
    kernelRun0_C.sl.v1095 c arg3 harg3 arg4 harg4 arg5 harg5 arg8 harg8 arg9 harg9 arg11 harg11 arg12 harg12 arg14 harg14 arg20 arg21 x0 x1 x2 x5 x6 x8 x9 x11,
    kernelRun0_C.sl.v1269 c arg3 harg3 arg4 harg4 arg5 harg5 arg8 harg8 arg9 harg9 arg11 harg11 arg12 harg12 arg14 harg14 arg20 arg21 x0 x1 x2 x5 x6 x8 x9 x11,
    kernelRun0_C.sl.v1428 c arg3 harg3 arg4 harg4 arg5 harg5 arg8 harg8 arg9 harg9 arg11 harg11 arg12 harg12 arg14 harg14 arg20 arg21 x0 x1 x2 x5 x6 x8 x9 x11]

set_option maxHeartbeats 8000000 in
theorem tiles_C (hc0 : ¬cond0_0 i) (hc1 : cond0_1 i) (hc2 : ¬cond0_2 i) : ∃ e, (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs4 xs5 xs6 xs7 xs8).2.1 = (loadsAt arg3 harg3 arg4 harg4 arg5 harg5 arg6 harg6 arg7 harg7 arg8 harg8 arg9 harg9 arg11 harg11 arg12 harg12 arg13 harg13 arg14 harg14 arg21 x0 x1 x2 x3 x4 x5 x6 x8 x9 x10 x11 (ownSlabsC c arg3 harg3 arg4 harg4 arg5 harg5 arg8 harg8 arg9 harg9 arg11 harg11 arg12 harg12 arg14 harg14 arg20 arg21 x0 x1 x2 x5 x6 x8 x9 x11)).tiles e :=
  ⟨![_, _, _, _], rfl⟩

set_option maxHeartbeats 8000000 in
theorem slabs_C (hc0 : ¬cond0_0 i) (hc1 : cond0_1 i) (hc2 : ¬cond0_2 i) : (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs4 xs5 xs6 xs7 xs8).2.2.2.2.1 = (loadsAt arg3 harg3 arg4 harg4 arg5 harg5 arg6 harg6 arg7 harg7 arg8 harg8 arg9 harg9 arg11 harg11 arg12 harg12 arg13 harg13 arg14 harg14 arg21 x0 x1 x2 x3 x4 x5 x6 x8 x9 x10 x11 (ownSlabsC c arg3 harg3 arg4 harg4 arg5 harg5 arg8 harg8 arg9 harg9 arg11 harg11 arg12 harg12 arg14 harg14 arg20 arg21 x0 x1 x2 x5 x6 x8 x9 x11)).slabs [⟨Rect.unit ![0, 0, 0] S8x128x128.size inb_S8x128x128_S8x128x128_0_0_0, k0_pay9⟩] := rfl

end SsdBwd

end
-- ==== Proof.TilesD.lean ====
module

public import proofs.«01_k».proof.Proof.ChunkRun
public import proofs.«01_k».proof.Proof.Gen.KernelIdeal.Frame.RunD

@[expose] public section

/-!
# What the last point stores

The body's stores into the gradient's block and into the state's gradient are the tiles and the slabs of `Loads`, at the
blocks that the point loads.
-/

set_option maxRecDepth 16384

noncomputable section

namespace SsdBwd

open Idealize.ShloMosaic Idealize.ShloMosaic.TcCoe Cert.KernelIdeal Cert.KernelIdeal.Gen

variable {F : FTy → Type} [FloatOps F]
variable (c : Dev nD)
variable (i : grid0.Coords)
variable (arg3 : Memref sig .tc .vmem S128x1024 .f32)
variable (harg3 : arg3.IsWhole)
variable (arg4 : Memref sig .tc .vmem S128x1024 .f32)
variable (harg4 : arg4.IsWhole)
variable (arg5 : Memref sig .tc .vmem S128x1024 .f32)
variable (harg5 : arg5.IsWhole)
variable (arg6 : Memref sig .tc .vmem S128x1024 .f32)
variable (harg6 : arg6.IsWhole)
variable (arg7 : Memref sig .tc .vmem S128x512 .f32)
variable (harg7 : arg7.IsWhole)
variable (arg8 : Memref sig .tc .vmem S128x512 .f32)
variable (harg8 : arg8.IsWhole)
variable (arg9 : Memref sig .tc .vmem S128x128 .f32)
variable (harg9 : arg9.IsWhole)
variable (arg10 : Memref sig .tc .vmem S1x8x128x128 .f32)
variable (harg10 : arg10.IsWhole)
variable (arg11 : Memref sig .tc .vmem S1x128 .f32)
variable (harg11 : arg11.IsWhole)
variable (arg12 : Memref sig .tc .vmem S1x128 .f32)
variable (harg12 : arg12.IsWhole)
variable (arg13 : Memref sig .tc .vmem S1x1024 .f32)
variable (harg13 : arg13.IsWhole)
variable (arg14 : Memref sig .tc .vmem S1x1024 .f32)
variable (harg14 : arg14.IsWhole)
variable (arg15 : Memref sig .tc .vmem S1024x128 .bf16)
variable (harg15 : arg15.IsWhole)
variable (arg16 : Memref sig .tc .vmem S128x1024 .bf16)
variable (harg16 : arg16.IsWhole)
variable (arg17 : Memref sig .tc .vmem S128x2048 .f32)
variable (harg17 : arg17.IsWhole)
variable (arg18 : Memref sig .tc .vmem S128x128 .f32)
variable (harg18 : arg18.IsWhole)
variable (arg19 : Memref sig .tc .vmem S8x1024 .f32)
variable (harg19 : arg19.IsWhole)
variable (arg20 : Memref sig .tc .vmem S8x128x128 .f32)
variable (harg20 : arg20.IsWhole)
variable (arg21 : Memref sig .tc .vmem S128x1024 .f32)
variable (harg21 : arg21.IsWhole)
variable (arg22 : Memref sig .tc .vmem S128x1024 .f32)
variable (harg22 : arg22.IsWhole)
variable (arg23 : Memref sig .tc .vmem S128x1024 .f32)
variable (harg23 : arg23.IsWhole)
variable (arg24 : Memref sig .tc .vmem S128x128 .f32)
variable (harg24 : arg24.IsWhole)
variable (arg25 : Memref sig .tc .vmem S1x1024 .f32)
variable (harg25 : arg25.IsWhole)
variable (arg26 : Memref sig .tc .vmem S1x1024 .f32)
variable (harg26 : arg26.IsWhole)
variable (arg27 : Memref sig .tc .vmem S1x128 .f32)
variable (harg27 : arg27.IsWhole)
variable (arg28 : Memref sig .tc .vmem S1x128 .f32)
variable (harg28 : arg28.IsWhole)
variable (x0 : Vec F S128x1024 .f32)
variable (x1 : Vec F S128x1024 .f32)
variable (x2 : Vec F S128x1024 .f32)
variable (x3 : Vec F S128x1024 .f32)
variable (x4 : Vec F S128x512 .f32)
variable (x5 : Vec F S128x512 .f32)
variable (x6 : Vec F S128x128 .f32)
variable (x7 : Vec F S1x8x128x128 .f32)
variable (x8 : Vec F S1x128 .f32)
variable (x9 : Vec F S1x128 .f32)
variable (x10 : Vec F S1x1024 .f32)
variable (x11 : Vec F S1x1024 .f32)
variable (x12 : Vec F S1024x128 .bf16)
variable (xs0 : Vec F S8x128x128 .f32)
variable (xs4 : Vec F S128x128 .f32)
variable (xs5 : Vec F S1x1024 .f32)
variable (xs6 : Vec F S1x1024 .f32)
variable (xs7 : Vec F S1x128 .f32)
variable (xs8 : Vec F S1x128 .f32)

set_option maxHeartbeats 8000000 in
theorem tiles_D (hc0 : ¬cond0_0 i) (hc1 : ¬cond0_1 i) (hc2 : cond0_2 i) : ∃ e, (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs0 xs4 xs5 xs6 xs7 xs8).2.1 = (loadsAt arg3 harg3 arg4 harg4 arg5 harg5 arg6 harg6 arg7 harg7 arg8 harg8 arg9 harg9 arg11 harg11 arg12 harg12 arg13 harg13 arg14 harg14 arg21 x0 x1 x2 x3 x4 x5 x6 x8 x9 x10 x11 (keptSlabs arg20 harg20 xs0)).tiles e :=
  ⟨![_, _, _, _], rfl⟩

set_option maxHeartbeats 8000000 in
theorem slabs_D (hc0 : ¬cond0_0 i) (hc1 : ¬cond0_1 i) (hc2 : cond0_2 i) : (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs0 xs4 xs5 xs6 xs7 xs8).2.2.2.2.1 = (loadsAt arg3 harg3 arg4 harg4 arg5 harg5 arg6 harg6 arg7 harg7 arg8 harg8 arg9 harg9 arg11 harg11 arg12 harg12 arg13 harg13 arg14 harg14 arg21 x0 x1 x2 x3 x4 x5 x6 x8 x9 x10 x11 (keptSlabs arg20 harg20 xs0)).slabs [] := rfl

end SsdBwd

end
-- ==== Proof.ChunkAfter.lean ====
module

public import proofs.«01_k».proof.Proof.ChunkPoint
public import proofs.«01_k».proof.Proof.TilesA
public import proofs.«01_k».proof.Proof.TilesB
public import proofs.«01_k».proof.Proof.TilesC
public import proofs.«01_k».proof.Proof.TilesD
public import proofs.«01_k».proof.Proof.Gen.KernelIdeal.Frame

@[expose] public section

/-!
# What a grid point leaves

`After D b ch o s` says that the gradient's block `o` holds the gradient's rows of chunk `ch` and the carried block `s`
the state's gradient at the start of that chunk. Each of the body's four cases leaves such blocks: the first point of a
sequence starts from zeros, the others from what the point before left.
-/

set_option maxRecDepth 16384

noncomputable section

namespace SsdBwd

open Idealize.ShloMosaic Idealize.ShloMosaic.TcCoe Cert.KernelIdeal Cert.KernelIdeal.Gen

/-- The blocks that the point of chunk `ch` of sequence `b` leaves. -/
def After (D : Args) (b ch : ℕ) (o : FVec Ideal S128x2048 .f32) (s : FVec Ideal S8x128x128 .f32) : Prop :=
  (∀ y, (y 1).val < 1536 → o y = ((D.dxbc b (128 * ch + (y 0).val) (y 1).val : ℝ) : EReal)) ∧
    ∀ y, s y = ((D.ds b ch (y 1).val (128 * (y 0).val + (y 2).val) : ℝ) : EReal)

theorem Holds.after {L : Loads Ideal} {D : Args} {b ch : ℕ} (H : Holds L D b ch) (hc : ch < 16) {o : FVec Ideal S128x2048 .f32} {s : FVec Ideal S8x128x128 .f32}
    {L14 : List (View.Piece (Elt Ideal) S128x2048 .f32)} {LS0 rest : List (View.Piece (Elt Ideal) S8x128x128 .f32)}
    (ho : o = View.canon (Val := Elt Ideal) L14) (hs : s = View.canon (Val := Elt Ideal) LS0) (h14 : ∃ e, L14 = L.tiles e) (h0 : LS0 = L.slabs rest) :
    After D b ch o s := by
  obtain ⟨e, rfl⟩ := h14
  subst ho hs h0
  exact ⟨fun y hy => H.tiles hc e y hy, fun y => H.slabs hc rest y⟩

variable (c : Dev nD)
variable (i : grid0.Coords)
variable (arg3 : Memref sig .tc .vmem S128x1024 .f32)
variable (harg3 : arg3.IsWhole)
variable (arg4 : Memref sig .tc .vmem S128x1024 .f32)
variable (harg4 : arg4.IsWhole)
variable (arg5 : Memref sig .tc .vmem S128x1024 .f32)
variable (harg5 : arg5.IsWhole)
variable (arg6 : Memref sig .tc .vmem S128x1024 .f32)
variable (harg6 : arg6.IsWhole)
variable (arg7 : Memref sig .tc .vmem S128x512 .f32)
variable (harg7 : arg7.IsWhole)
variable (arg8 : Memref sig .tc .vmem S128x512 .f32)
variable (harg8 : arg8.IsWhole)
variable (arg9 : Memref sig .tc .vmem S128x128 .f32)
variable (harg9 : arg9.IsWhole)
variable (arg10 : Memref sig .tc .vmem S1x8x128x128 .f32)
variable (harg10 : arg10.IsWhole)
variable (arg11 : Memref sig .tc .vmem S1x128 .f32)
variable (harg11 : arg11.IsWhole)
variable (arg12 : Memref sig .tc .vmem S1x128 .f32)
variable (harg12 : arg12.IsWhole)
variable (arg13 : Memref sig .tc .vmem S1x1024 .f32)
variable (harg13 : arg13.IsWhole)
variable (arg14 : Memref sig .tc .vmem S1x1024 .f32)
variable (harg14 : arg14.IsWhole)
variable (arg15 : Memref sig .tc .vmem S1024x128 .bf16)
variable (harg15 : arg15.IsWhole)
variable (arg16 : Memref sig .tc .vmem S128x1024 .bf16)
variable (harg16 : arg16.IsWhole)
variable (arg17 : Memref sig .tc .vmem S128x2048 .f32)
variable (harg17 : arg17.IsWhole)
variable (arg18 : Memref sig .tc .vmem S128x128 .f32)
variable (harg18 : arg18.IsWhole)
variable (arg19 : Memref sig .tc .vmem S8x1024 .f32)
variable (harg19 : arg19.IsWhole)
variable (arg20 : Memref sig .tc .vmem S8x128x128 .f32)
variable (harg20 : arg20.IsWhole)
variable (arg21 : Memref sig .tc .vmem S128x1024 .f32)
variable (harg21 : arg21.IsWhole)
variable (arg22 : Memref sig .tc .vmem S128x1024 .f32)
variable (harg22 : arg22.IsWhole)
variable (arg23 : Memref sig .tc .vmem S128x1024 .f32)
variable (harg23 : arg23.IsWhole)
variable (arg24 : Memref sig .tc .vmem S128x128 .f32)
variable (harg24 : arg24.IsWhole)
variable (arg25 : Memref sig .tc .vmem S1x1024 .f32)
variable (harg25 : arg25.IsWhole)
variable (arg26 : Memref sig .tc .vmem S1x1024 .f32)
variable (harg26 : arg26.IsWhole)
variable (arg27 : Memref sig .tc .vmem S1x128 .f32)
variable (harg27 : arg27.IsWhole)
variable (arg28 : Memref sig .tc .vmem S1x128 .f32)
variable (harg28 : arg28.IsWhole)
variable (x0 : Vec Ideal S128x1024 .f32)
variable (x1 : Vec Ideal S128x1024 .f32)
variable (x2 : Vec Ideal S128x1024 .f32)
variable (x3 : Vec Ideal S128x1024 .f32)
variable (x4 : Vec Ideal S128x512 .f32)
variable (x5 : Vec Ideal S128x512 .f32)
variable (x6 : Vec Ideal S128x128 .f32)
variable (x7 : Vec Ideal S1x8x128x128 .f32)
variable (x8 : Vec Ideal S1x128 .f32)
variable (x9 : Vec Ideal S1x128 .f32)
variable (x10 : Vec Ideal S1x1024 .f32)
variable (x11 : Vec Ideal S1x1024 .f32)
variable (x12 : Vec Ideal S1024x128 .bf16)
variable (xs0 : Vec Ideal S8x128x128 .f32)
variable (xs4 : Vec Ideal S128x128 .f32)
variable (xs5 : Vec Ideal S1x1024 .f32)
variable (xs6 : Vec Ideal S1x1024 .f32)
variable (xs7 : Vec Ideal S1x128 .f32)
variable (xs8 : Vec Ideal S1x128 .f32)
variable {D : Args} {b ch : ℕ}

set_option maxHeartbeats 8000000 in
theorem ownSlabsA_is (k : Fin 8) (i : S1x128x128.Idx) : ownSlabsA (F := Ideal) c arg3 harg3 arg4 harg4 arg5 harg5 arg8 harg8 arg9 harg9 arg11 harg11 arg12 harg12 arg14 harg14 arg20 arg21 x0 x1 x2 x5 x6 x8 x9 x11 k i = ((0 : ℝ) : EReal) := by
  have h0 : ZerosFrom 0 (kernelRun0_A.sl.HS0_1 ) := zerosFrom_first
  have h1 : ZerosFrom 1 (kernelRun0_A.sl.HS0_2 c arg3 harg3 arg4 harg4 arg5 harg5 arg8 harg8 arg9 harg9 arg11 harg11 arg12 harg12 arg14 harg14 arg20 arg21 x0 x1 x2 x5 x6 x8 x9 x11) := h0.cons _
  have h2 : ZerosFrom 2 (kernelRun0_A.sl.HS0_3 c arg3 harg3 arg4 harg4 arg5 harg5 arg8 harg8 arg9 harg9 arg11 harg11 arg12 harg12 arg14 harg14 arg20 arg21 x0 x1 x2 x5 x6 x8 x9 x11) := h1.cons _
  have h3 : ZerosFrom 3 (kernelRun0_A.sl.HS0_4 c arg3 harg3 arg4 harg4 arg5 harg5 arg8 harg8 arg9 harg9 arg11 harg11 arg12 harg12 arg14 harg14 arg20 arg21 x0 x1 x2 x5 x6 x8 x9 x11) := h2.cons _
  have h4 : ZerosFrom 4 (kernelRun0_A.sl.HS0_5 c arg3 harg3 arg4 harg4 arg5 harg5 arg8 harg8 arg9 harg9 arg11 harg11 arg12 harg12 arg14 harg14 arg20 arg21 x0 x1 x2 x5 x6 x8 x9 x11) := h3.cons _
  have h5 : ZerosFrom 5 (kernelRun0_A.sl.HS0_6 c arg3 harg3 arg4 harg4 arg5 harg5 arg8 harg8 arg9 harg9 arg11 harg11 arg12 harg12 arg14 harg14 arg20 arg21 x0 x1 x2 x5 x6 x8 x9 x11) := h4.cons _
  have h6 : ZerosFrom 6 (kernelRun0_A.sl.HS0_7 c arg3 harg3 arg4 harg4 arg5 harg5 arg8 harg8 arg9 harg9 arg11 harg11 arg12 harg12 arg14 harg14 arg20 arg21 x0 x1 x2 x5 x6 x8 x9 x11) := h5.cons _
  have h7 : ZerosFrom 7 (kernelRun0_A.sl.HS0_8 c arg3 harg3 arg4 harg4 arg5 harg5 arg8 harg8 arg9 harg9 arg11 harg11 arg12 harg12 arg14 harg14 arg20 arg21 x0 x1 x2 x5 x6 x8 x9 x11) := h6.cons _
  match k with
  | 0 => exact h0.load arg20 i
  | 1 => exact h1.load arg20 i
  | 2 => exact h2.load arg20 i
  | 3 => exact h3.load arg20 i
  | 4 => exact h4.load arg20 i
  | 5 => exact h5.load arg20 i
  | 6 => exact h6.load arg20 i
  | 7 => exact h7.load arg20 i

set_option maxHeartbeats 8000000 in
theorem ownSlabsC_is (k : Fin 8) (i : S1x128x128.Idx) : ownSlabsC (F := Ideal) c arg3 harg3 arg4 harg4 arg5 harg5 arg8 harg8 arg9 harg9 arg11 harg11 arg12 harg12 arg14 harg14 arg20 arg21 x0 x1 x2 x5 x6 x8 x9 x11 k i = ((0 : ℝ) : EReal) := by
  have h0 : ZerosFrom 0 (kernelRun0_C.sl.HS0_1 ) := zerosFrom_first
  have h1 : ZerosFrom 1 (kernelRun0_C.sl.HS0_2 c arg3 harg3 arg4 harg4 arg5 harg5 arg8 harg8 arg9 harg9 arg11 harg11 arg12 harg12 arg14 harg14 arg20 arg21 x0 x1 x2 x5 x6 x8 x9 x11) := h0.cons _
  have h2 : ZerosFrom 2 (kernelRun0_C.sl.HS0_3 c arg3 harg3 arg4 harg4 arg5 harg5 arg8 harg8 arg9 harg9 arg11 harg11 arg12 harg12 arg14 harg14 arg20 arg21 x0 x1 x2 x5 x6 x8 x9 x11) := h1.cons _
  have h3 : ZerosFrom 3 (kernelRun0_C.sl.HS0_4 c arg3 harg3 arg4 harg4 arg5 harg5 arg8 harg8 arg9 harg9 arg11 harg11 arg12 harg12 arg14 harg14 arg20 arg21 x0 x1 x2 x5 x6 x8 x9 x11) := h2.cons _
  have h4 : ZerosFrom 4 (kernelRun0_C.sl.HS0_5 c arg3 harg3 arg4 harg4 arg5 harg5 arg8 harg8 arg9 harg9 arg11 harg11 arg12 harg12 arg14 harg14 arg20 arg21 x0 x1 x2 x5 x6 x8 x9 x11) := h3.cons _
  have h5 : ZerosFrom 5 (kernelRun0_C.sl.HS0_6 c arg3 harg3 arg4 harg4 arg5 harg5 arg8 harg8 arg9 harg9 arg11 harg11 arg12 harg12 arg14 harg14 arg20 arg21 x0 x1 x2 x5 x6 x8 x9 x11) := h4.cons _
  have h6 : ZerosFrom 6 (kernelRun0_C.sl.HS0_7 c arg3 harg3 arg4 harg4 arg5 harg5 arg8 harg8 arg9 harg9 arg11 harg11 arg12 harg12 arg14 harg14 arg20 arg21 x0 x1 x2 x5 x6 x8 x9 x11) := h5.cons _
  have h7 : ZerosFrom 7 (kernelRun0_C.sl.HS0_8 c arg3 harg3 arg4 harg4 arg5 harg5 arg8 harg8 arg9 harg9 arg11 harg11 arg12 harg12 arg14 harg14 arg20 arg21 x0 x1 x2 x5 x6 x8 x9 x11) := h6.cons _
  match k with
  | 0 => exact h0.load arg20 i
  | 1 => exact h1.load arg20 i
  | 2 => exact h2.load arg20 i
  | 3 => exact h3.load arg20 i
  | 4 => exact h4.load arg20 i
  | 5 => exact h5.load arg20 i
  | 6 => exact h6.load arg20 i
  | 7 => exact h7.load arg20 i

/-- The first point of all. -/
theorem after_A (hc0 : cond0_0 i) (hc1 : cond0_1 i) (hc2 : ¬cond0_2 i) (S : Staged x0 x1 x2 x3 x4 x5 x6 x8 x9 x10 x11 D b ch) (hc : ch = 15) :
    After D b ch (out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 ) (sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 ) :=
  (S.holds arg3 harg3 arg4 harg4 arg5 harg5 arg6 harg6 arg7 harg7 arg8 harg8 arg9 harg9 arg11 harg11 arg12 harg12 arg13 harg13 arg14 harg14 arg21 _ (fun k i => (ownSlabsA_is c arg3 harg3 arg4 harg4 arg5 harg5 arg8 harg8 arg9 harg9 arg11 harg11 arg12 harg12 arg14 harg14 arg20 arg21 x0 x1 x2 x5 x6 x8 x9 x11 k i).trans (by rw [hc, D.ds_last]))).after (by omega) (View.read_writes_junk_eq_canon VO0_14 _) (View.read_writes_junk_eq_canon VS0_0 _)
    (tiles_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12  hc0 hc1 hc2) (slabs_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12  hc0 hc1 hc2)

/-- A point inside a sequence. -/
theorem after_B (hc0 : ¬cond0_0 i) (hc1 : ¬cond0_1 i) (hc2 : ¬cond0_2 i) (S : Staged x0 x1 x2 x3 x4 x5 x6 x8 x9 x10 x11 D b ch) (hc : ch < 16) (hs : ∀ y, xs0 y = ((D.ds b (ch + 1) (y 1).val (128 * (y 0).val + (y 2).val) : ℝ) : EReal)) :
    After D b ch (out0_B_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs0 xs4 xs5 xs6 xs7 xs8) (sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs0 xs4 xs5 xs6 xs7 xs8) :=
  (S.holds arg3 harg3 arg4 harg4 arg5 harg5 arg6 harg6 arg7 harg7 arg8 harg8 arg9 harg9 arg11 harg11 arg12 harg12 arg13 harg13 arg14 harg14 arg21 _ (keptSlabs_is arg20 harg20 (G := fun k n q => D.ds b (ch + 1) n (128 * k + q)) hs)).after hc (View.read_writes_junk_eq_canon VO0_14 _) (View.read_writes_junk_eq_canon VS0_0 _)
    (tiles_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 xs0 xs4 xs5 xs6 xs7 xs8 hc0 hc1 hc2) (slabs_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 xs0 xs4 xs5 xs6 xs7 xs8 hc0 hc1 hc2)

/-- The first point of the second sequence. -/
theorem after_C (hc0 : ¬cond0_0 i) (hc1 : cond0_1 i) (hc2 : ¬cond0_2 i) (S : Staged x0 x1 x2 x3 x4 x5 x6 x8 x9 x10 x11 D b ch) (hc : ch = 15) :
    After D b ch (out0_C_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs4 xs5 xs6 xs7 xs8) (sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs4 xs5 xs6 xs7 xs8) :=
  (S.holds arg3 harg3 arg4 harg4 arg5 harg5 arg6 harg6 arg7 harg7 arg8 harg8 arg9 harg9 arg11 harg11 arg12 harg12 arg13 harg13 arg14 harg14 arg21 _ (fun k i => (ownSlabsC_is c arg3 harg3 arg4 harg4 arg5 harg5 arg8 harg8 arg9 harg9 arg11 harg11 arg12 harg12 arg14 harg14 arg20 arg21 x0 x1 x2 x5 x6 x8 x9 x11 k i).trans (by rw [hc, D.ds_last]))).after (by omega) (View.read_writes_junk_eq_canon VO0_14 _) (View.read_writes_junk_eq_canon VS0_0 _)
    (tiles_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 xs4 xs5 xs6 xs7 xs8 hc0 hc1 hc2) (slabs_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 xs4 xs5 xs6 xs7 xs8 hc0 hc1 hc2)

/-- The last point. -/
theorem after_D (hc0 : ¬cond0_0 i) (hc1 : ¬cond0_1 i) (hc2 : cond0_2 i) (S : Staged x0 x1 x2 x3 x4 x5 x6 x8 x9 x10 x11 D b ch) (hc : ch < 16) (hs : ∀ y, xs0 y = ((D.ds b (ch + 1) (y 1).val (128 * (y 0).val + (y 2).val) : ℝ) : EReal)) :
    After D b ch (out0_D_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs0 xs4 xs5 xs6 xs7 xs8) (sout0_D_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 xs0 xs4 xs5 xs6 xs7 xs8) :=
  (S.holds arg3 harg3 arg4 harg4 arg5 harg5 arg6 harg6 arg7 harg7 arg8 harg8 arg9 harg9 arg11 harg11 arg12 harg12 arg13 harg13 arg14 harg14 arg21 _ (keptSlabs_is arg20 harg20 (G := fun k n q => D.ds b (ch + 1) n (128 * k + q)) hs)).after hc (View.read_writes_junk_eq_canon VO0_14 _) (View.read_writes_junk_eq_canon VS0_0 _)
    (tiles_D (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 xs0 xs4 xs5 xs6 xs7 xs8 hc0 hc1 hc2) (slabs_D (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 xs0 xs4 xs5 xs6 xs7 xs8 hc0 hc1 hc2)

end SsdBwd

end
-- ==== Proof.FiniteArgs.lean ====
module

public import proofs.«01_k».proof.Proof.SequenceSpec
public import proofs.«01_k».proof.Proof.RealBlock

@[expose] public section

/-!
# Finite arguments are arrays of real numbers

The precondition compares the magnitude of every entry with infinity. Where all the comparisons hold the array is the
image of its entries' real parts (`real2`), and zero stands outside of its bounds.
-/

set_option maxRecDepth 16384

noncomputable section

namespace SsdBwd

open Idealize.ShloMosaic Idealize.ShloMosaic.ValueIdx

/-- No entry is infinite. -/
def Finite {s : Shape} (X : FVec Ideal s .f32) : Prop := ∀ i, (X i : EReal) ≠ ⊤ ∧ (X i : EReal) ≠ ⊥

theorem finite_of_lt {s : Shape} (X : FVec Ideal s .f32) (hb : (⟨0, ![]⟩ : Shape).BroadcastsInDim s (![] : Fin 0 → Fin s.rank))
    (h : cmpf .olt (Host.absf X) (broadcastInDim s ![] hb (constant ⟨0, ![]⟩ .f32 0x7F800000#32)) = fun _ => 1#1) : Finite X := by
  intro i
  have htop : Ideal.ofBits .f32 0x7F800000#32 = ⊤ := by simp [Ideal.ofBits, Ideal.ieee]
  have h1 : Ideal.cmp .olt (max (X i : EReal) (-(X i : EReal))) (Ideal.ofBits .f32 0x7F800000#32) = 1#1 := congrFun h i
  rw [htop] at h1
  constructor
  · intro e; rw [e] at h1; simp [Ideal.cmp] at h1
  · intro e; rw [e] at h1; simp [Ideal.cmp] at h1

/-- The real entries of an array of two axes. -/
def real2 {M N : ℕ} (X : FVec Ideal ⟨2, ![M, N]⟩ .f32) (r q : ℕ) : ℝ :=
  if h : r < M ∧ q < N then EReal.toReal (X (ix2 ⟨r, h.1⟩ ⟨q, h.2⟩)) else 0

theorem real2_is {M N : ℕ} {X : FVec Ideal ⟨2, ![M, N]⟩ .f32} (h : Finite X) : Is2 X (real2 X) := fun i => by
  have b : (i 0).val < M ∧ (i 1).val < N := ⟨(i 0).isLt, (i 1).isLt⟩
  unfold real2
  rw [dif_pos b]
  have e : i = ix2 ⟨(i 0).val, b.1⟩ ⟨(i 1).val, b.2⟩ := by
    funext a
    match a with
    | 0 => rfl
    | 1 => rfl
  rw [← e]
  exact (EReal.coe_toReal (h i).1 (h i).2).symm

theorem real2_outside {M N : ℕ} (X : FVec Ideal ⟨2, ![M, N]⟩ .f32) (r q : ℕ) (h : N ≤ q) : real2 X r q = 0 :=
  dif_neg fun b => absurd b.2 (Nat.not_lt.mpr h)

/-- The arguments' real entries. -/
def argsOf (x1 : FVec Ideal ⟨2, ![4096, 2048]⟩ .f32) (x2 : FVec Ideal ⟨2, ![4096, 5120]⟩ .f32) (x3 : FVec Ideal ⟨2, ![4096, 1024]⟩ .f32)
    (x4 : FVec Ideal ⟨2, ![4096, 2048]⟩ .f32) (x5 : FVec Ideal ⟨2, ![4096, 128]⟩ .f32) (x7 x8 x9 : FVec Ideal ⟨2, ![1, 16]⟩ .f32)
    (x10 : FVec Ideal ⟨2, ![1, 1024]⟩ .f32) : Args where
  duy := real2 x1
  proj := real2 x2
  ys := real2 x3
  xbc := real2 x4
  dtr := real2 x5
  bias := real2 x7
  alog := real2 x8
  d := real2 x9
  nw := real2 x10

end SsdBwd

end
-- ==== Proof.LaunchArgs.lean ====
module

public import proofs.«01_k».proof.Proof.ChunkPoint
public import proofs.«01_k».proof.Proof.FiniteArgs
public import proofs.«01_k».proof.Proof.Gen.KernelIdeal.Value
public import Idealize.ShloMosaic.Lib.Claim
public import Idealize.ShloMosaic.Lib.KernelVsHost
public import Idealize.ShloMosaic.Lib.Pipeline.Kit

@[expose] public section

/-!
# The blocks staged at a grid point are rows of the arguments

Grid point `t` works on chunk `15 - t % 16` of sequence `t / 16`: the chunks of a sequence go backwards. Each staged
block is a rectangle of its array; the parameters were padded or repeated before the launch.
-/

set_option maxRecDepth 16384

noncomputable section

namespace SsdBwd

open Idealize.ShloMosaic Idealize.ShloMosaic.TcCoe Idealize.ShloMosaic.ValueIdx Cert.KernelIdeal Cert.KernelIdeal.Gen
open scoped BigOperators

variable (m : (ℓ : Loc nD τ sig) → Buf (Elt Ideal) ℓ) (c : Dev nD)

theorem block_is {M N m n : ℕ} {X : FVec Ideal ⟨2, ![M, N]⟩ .f32} {f : ℕ → ℕ → ℝ} (hX : Is2 X f) (o p : ℕ)
    {v : FVec Ideal ⟨2, ![m, n]⟩ .f32} (e : (⟨2, ![m, n]⟩ : Shape).Idx → (⟨2, ![M, N]⟩ : Shape).Idx) (hv : ∀ y, v y = X (e y))
    (h0 : ∀ y, (e y 0).val = o + (y 0).val) (h1 : ∀ y, (e y 1).val = p + (y 1).val) :
    Is2 v fun r q => f (o + r) (p + q) := fun y => by
  rw [hv y, hX, h0, h1]

/-! ## The index maps -/

theorem index0 : ∀ t : Fin cfg0.N, win0_0.index t = ![16 * (t.val / 16) + (15 - t.val % 16), 1] :=
  (by decide +kernel : ∀ t : Fin grid0.N, win0_0.index t = ![16 * (t.val / 16) + (15 - t.val % 16), 1])
theorem index1 : ∀ t : Fin cfg0.N, win0_1.index t = ![16 * (t.val / 16) + (15 - t.val % 16), 2] :=
  (by decide +kernel : ∀ t : Fin grid0.N, win0_1.index t = ![16 * (t.val / 16) + (15 - t.val % 16), 2])
theorem index2 : ∀ t : Fin cfg0.N, win0_2.index t = ![16 * (t.val / 16) + (15 - t.val % 16), 0] :=
  (by decide +kernel : ∀ t : Fin grid0.N, win0_2.index t = ![16 * (t.val / 16) + (15 - t.val % 16), 0])
theorem index3 : ∀ t : Fin cfg0.N, win0_3.index t = ![16 * (t.val / 16) + (15 - t.val % 16), 0] :=
  (by decide +kernel : ∀ t : Fin grid0.N, win0_3.index t = ![16 * (t.val / 16) + (15 - t.val % 16), 0])
theorem index4 : ∀ t : Fin cfg0.N, win0_4.index t = ![16 * (t.val / 16) + (15 - t.val % 16), 2] :=
  (by decide +kernel : ∀ t : Fin grid0.N, win0_4.index t = ![16 * (t.val / 16) + (15 - t.val % 16), 2])
theorem index5 : ∀ t : Fin cfg0.N, win0_5.index t = ![16 * (t.val / 16) + (15 - t.val % 16), 3] :=
  (by decide +kernel : ∀ t : Fin grid0.N, win0_5.index t = ![16 * (t.val / 16) + (15 - t.val % 16), 3])
theorem index6 : ∀ t : Fin cfg0.N, win0_6.index t = ![16 * (t.val / 16) + (15 - t.val % 16), 0] :=
  (by decide +kernel : ∀ t : Fin grid0.N, win0_6.index t = ![16 * (t.val / 16) + (15 - t.val % 16), 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index14 : ∀ t : Fin cfg0.N, win0_14.index t = ![16 * (t.val / 16) + (15 - t.val % 16), 0] :=
  (by decide +kernel : ∀ t : Fin grid0.N, win0_14.index t = ![16 * (t.val / 16) + (15 - t.val % 16), 0])

/-! ## What the host did to the parameters -/

/-- A row of sixteen entries padded to a row of lanes. -/
theorem padded_is {X : FVec Ideal S1x16 .f32} (hX : Finite X) {Y : FVec Ideal S1x128 .f32}
    (hY : Y = pad S1x128 ![0, 0] ![0, 112] ![0, 0] X (sitofp (F := Ideal) .f32 (constantI S_ 32 0#32)) pads_S1x16_S1x128_000_01120 h_S_) :
    Is2 Y fun _ q => real2 X 0 q := fun i => by
  rw [hY]
  have b0 : (i 0).val < 1 := (i 0).isLt
  by_cases h : (i 1).val < 16
  · refine (pad_apply_of_inside ![0, 0] ![0, 112] ![0, 0] X _ pads_S1x16_S1x128_000_01120 h_S_ i (ix2 (⟨0, by norm_num⟩ : Fin 1) (⟨(i 1).val, h⟩ : Fin 16)) fun a => ?_).trans (real2_is hX _)
    match a with
    | 0 => show (i 0).val = 0 + 0 * (0 + 1); omega
    | 1 => show (i 1).val = 0 + (i 1).val * (0 + 1); omega
  · refine (pad_apply_of_not_inside ![0, 0] ![0, 112] ![0, 0] X _ pads_S1x16_S1x128_000_01120 h_S_ i 1 fun hin => ?_).trans ?_
    · have h2 : ((i 1).val - 0) / (0 + 1) < 16 := hin.2.2
      omega
    · show _ = ((real2 X 0 (i 1).val : ℝ) : EReal)
      rw [real2_outside X 0 _ (by omega)]
      show ((((0#32 : BitVec 32).toInt : ℤ) : ℝ) : EReal) = _
      simp

/-- A row of sixteen entries, each repeated over the 64 lanes of its head. -/
theorem repeated_is {X : FVec Ideal S1x16 .f32} (hX : Finite X) {Y : FVec Ideal S1x1024 .f32}
    (hY : Y = shapeCast S1x1024 (broadcastInDim S1x16x64 ![0, 1] bcast_S1x16_S1x16x64_0_1 X) shapeCasts_S1x16x64_S1x1024) :
    Is2 Y fun _ q => real2 X 0 (q / 64) := fun i => by
  rw [hY]
  have b0 : (i 0).val < 1 := (i 0).isLt
  have b1 : (i 1).val < 1024 := (i 1).isLt
  refine (shapeCast_apply _ shapeCasts_S1x16x64_S1x1024 i (ix3 (⟨0, by norm_num⟩ : Fin 1) (⟨(i 1).val / 64, by omega⟩ : Fin 16) (⟨(i 1).val % 64, by omega⟩ : Fin 64)) ?_).trans ?_
  · rewrite [Shape.rowMajor_val_three, Shape.rowMajor_val_two]
    show (0 * 16 + (i 1).val / 64) * 64 + (i 1).val % 64 = (i 0).val * 1024 + (i 1).val
    omega
  · refine Eq.trans (congrArg X ?_) (real2_is hX (ix2 (⟨0, by norm_num⟩ : Fin 1) (⟨(i 1).val / 64, by omega⟩ : Fin 16)))
    funext a
    match a with
    | 0 => exact Fin.ext rfl
    | 1 => exact Fin.ext rfl

/-! ## The arrays as the launch finds them -/

/-- A block of a chunk's rows. -/
theorem rows_is {N n : ℕ} {X : FVec Ideal ⟨2, ![4096, N]⟩ .f32} {f : ℕ → ℕ → ℝ} (hX : Is2 X f) (t : Fin cfg0.N) (p : ℕ)
    {v : FVec Ideal ⟨2, ![128, n]⟩ .f32} (e : (⟨2, ![128, n]⟩ : Shape).Idx → (⟨2, ![4096, N]⟩ : Shape).Idx) (hv : ∀ y, v y = X (e y))
    (h0 : ∀ y, (e y 0).val = (16 * (t.val / 16) + (15 - t.val % 16)) * 128 + (y 0).val) (h1 : ∀ y, (e y 1).val = p + (y 1).val) :
    Is2 v fun r q => f (2048 * (t.val / 16) + 128 * (15 - t.val % 16) + r) (p + q) :=
  block_is hX _ p e hv (fun y => (h0 y).trans (by omega)) h1

/-- A block that is its whole array, of one row. -/
theorem whole_is {N : ℕ} {Y : FVec Ideal ⟨2, ![1, N]⟩ .f32} {f : ℕ → ℝ} (hY : Is2 Y fun _ q => f q)
    {v : FVec Ideal ⟨2, ![1, N]⟩ .f32} (e : (⟨2, ![1, N]⟩ : Shape).Idx → (⟨2, ![1, N]⟩ : Shape).Idx) (hv : ∀ y, v y = Y (e y))
    (h1 : ∀ y, (e y 1).val = (y 1).val) : Is2 v fun _ q => f q := fun y => by
  rw [hv y, hY, h1]

theorem block0_is {X : FVec Ideal S4096x2048 .f32} (hm : m ((c : Thread nD τ).loc main_arg1) = X) (hX : Finite X) (t : Fin cfg0.N) :
    Is2 (φ := .f32) (m := 128) (n := 1024) (iblk m c 0 t) fun r q => real2 X (2048 * (t.val / 16) + 128 * (15 - t.val % 16) + r) (1024 + q) := by
  subst hm
  refine rows_is (real2_is hX) t 1024 (fun y => (win0_0.rect t).emb y) (fun y => ?_) (fun y => ?_) (fun y => ?_)
  · exact congrFun (V_main_arg1 m c) _
  · rw [win0_0.rect_emb_val, index0]; rfl
  · rw [win0_0.rect_emb_val, index0]; rfl

theorem block1_is {X : FVec Ideal S4096x5120 .f32} (hm : m ((c : Thread nD τ).loc main_arg2) = X) (hX : Finite X) (t : Fin cfg0.N) :
    Is2 (φ := .f32) (m := 128) (n := 1024) (iblk m c 1 t) fun r q => real2 X (2048 * (t.val / 16) + 128 * (15 - t.val % 16) + r) (2048 + q) := by
  subst hm
  refine rows_is (real2_is hX) t 2048 (fun y => (win0_1.rect t).emb y) (fun y => ?_) (fun y => ?_) (fun y => ?_)
  · exact congrFun (V_main_arg2 m c) _
  · rw [win0_1.rect_emb_val, index1]; rfl
  · rw [win0_1.rect_emb_val, index1]; rfl

theorem block2_is {X : FVec Ideal S4096x1024 .f32} (hm : m ((c : Thread nD τ).loc main_arg3) = X) (hX : Finite X) (t : Fin cfg0.N) :
    Is2 (φ := .f32) (m := 128) (n := 1024) (iblk m c 2 t) fun r q => real2 X (2048 * (t.val / 16) + 128 * (15 - t.val % 16) + r) (0 + q) := by
  subst hm
  refine rows_is (real2_is hX) t 0 (fun y => (win0_2.rect t).emb y) (fun y => ?_) (fun y => ?_) (fun y => ?_)
  · exact congrFun (V_main_arg3 m c) _
  · rw [win0_2.rect_emb_val, index2]; rfl
  · rw [win0_2.rect_emb_val, index2]; rfl

theorem block3_is {X : FVec Ideal S4096x2048 .f32} (hm : m ((c : Thread nD τ).loc main_arg4) = X) (hX : Finite X) (t : Fin cfg0.N) :
    Is2 (φ := .f32) (m := 128) (n := 1024) (iblk m c 3 t) fun r q => real2 X (2048 * (t.val / 16) + 128 * (15 - t.val % 16) + r) (0 + q) := by
  subst hm
  refine rows_is (real2_is hX) t 0 (fun y => (win0_3.rect t).emb y) (fun y => ?_) (fun y => ?_) (fun y => ?_)
  · exact congrFun (V_main_arg4 m c) _
  · rw [win0_3.rect_emb_val, index3]; rfl
  · rw [win0_3.rect_emb_val, index3]; rfl

theorem block4_is {X : FVec Ideal S4096x2048 .f32} (hm : m ((c : Thread nD τ).loc main_arg4) = X) (hX : Finite X) (t : Fin cfg0.N) :
    Is2 (φ := .f32) (m := 128) (n := 512) (iblk m c 4 t) fun r q => real2 X (2048 * (t.val / 16) + 128 * (15 - t.val % 16) + r) (1024 + q) := by
  subst hm
  refine rows_is (real2_is hX) t 1024 (fun y => (win0_4.rect t).emb y) (fun y => ?_) (fun y => ?_) (fun y => ?_)
  · exact congrFun (V_main_arg4 m c) _
  · rw [win0_4.rect_emb_val, index4]; rfl
  · rw [win0_4.rect_emb_val, index4]; rfl

theorem block5_is {X : FVec Ideal S4096x2048 .f32} (hm : m ((c : Thread nD τ).loc main_arg4) = X) (hX : Finite X) (t : Fin cfg0.N) :
    Is2 (φ := .f32) (m := 128) (n := 512) (iblk m c 5 t) fun r q => real2 X (2048 * (t.val / 16) + 128 * (15 - t.val % 16) + r) (1536 + q) := by
  subst hm
  refine rows_is (real2_is hX) t 1536 (fun y => (win0_5.rect t).emb y) (fun y => ?_) (fun y => ?_) (fun y => ?_)
  · exact congrFun (V_main_arg4 m c) _
  · rw [win0_5.rect_emb_val, index5]; rfl
  · rw [win0_5.rect_emb_val, index5]; rfl

theorem block6_is {X : FVec Ideal S4096x128 .f32} (hm : m ((c : Thread nD τ).loc main_arg5) = X) (hX : Finite X) (t : Fin cfg0.N) :
    Is2 (φ := .f32) (m := 128) (n := 128) (iblk m c 6 t) fun r q => real2 X (2048 * (t.val / 16) + 128 * (15 - t.val % 16) + r) (0 + q) := by
  subst hm
  refine rows_is (real2_is hX) t 0 (fun y => (win0_6.rect t).emb y) (fun y => ?_) (fun y => ?_) (fun y => ?_)
  · exact congrFun (V_main_arg5 m c) _
  · rw [win0_6.rect_emb_val, index6]; rfl
  · rw [win0_6.rect_emb_val, index6]; rfl

theorem block8_is {X : FVec Ideal S1x16 .f32} (hm : m ((c : Thread nD τ).loc main_arg7) = X) (hX : Finite X) (t : Fin cfg0.N) :
    Is2 (φ := .f32) (m := 1) (n := 128) (iblk m c 8 t) fun _ q => real2 X 0 q := by
  refine whole_is (Y := V m c main_v2) (padded_is hX ?_) (fun y => (win0_8.rect t).emb y) (fun y => rfl) (fun y => ?_)
  · subst hm; entry_read; rfl
  · rw [win0_8.rect_emb_val, index8]; exact Nat.zero_add _

theorem block9_is {X : FVec Ideal S1x16 .f32} (hm : m ((c : Thread nD τ).loc main_arg8) = X) (hX : Finite X) (t : Fin cfg0.N) :
    Is2 (φ := .f32) (m := 1) (n := 128) (iblk m c 9 t) fun _ q => real2 X 0 q := by
  refine whole_is (Y := V m c main_v3) (padded_is hX ?_) (fun y => (win0_9.rect t).emb y) (fun y => rfl) (fun y => ?_)
  · subst hm; entry_read; rfl
  · rw [win0_9.rect_emb_val, index9]; exact Nat.zero_add _

theorem block10_is {X : FVec Ideal S1x16 .f32} (hm : m ((c : Thread nD τ).loc main_arg9) = X) (hX : Finite X) (t : Fin cfg0.N) :
    Is2 (φ := .f32) (m := 1) (n := 1024) (iblk m c 10 t) fun _ q => real2 X 0 (q / 64) := by
  refine whole_is (Y := V m c main_v1) (repeated_is hX ?_) (fun y => (win0_10.rect t).emb y) (fun y => rfl) (fun y => ?_)
  · subst hm; entry_read; rfl
  · rw [win0_10.rect_emb_val, index10]; exact Nat.zero_add _

theorem block11_is {X : FVec Ideal S1x1024 .f32} (hm : m ((c : Thread nD τ).loc main_arg10) = X) (hX : Finite X) (t : Fin cfg0.N) :
    Is2 (φ := .f32) (m := 1) (n := 1024) (iblk m c 11 t) fun _ q => real2 X 0 q := by
  subst hm
  refine whole_is (Y := m ((c : Thread nD τ).loc main_arg10)) (fun y => ?_) (fun y => (win0_11.rect t).emb y) (fun y => ?_) (fun y => ?_)
  · have b0 : (y 0).val < 1 := (y 0).isLt
    rw [real2_is hX y, show (y 0).val = 0 by omega]
  · exact congrFun (V_main_arg10 m c) _
  · rw [win0_11.rect_emb_val, index11]; exact Nat.zero_add _

/-- The launch's arguments on device `c`, as real functions. -/
def launched : Args :=
  argsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10))

/-- The arguments that the value depends on are finite. -/
structure FiniteLaunch : Prop where
  duy : Finite (s := S4096x2048) (m ((c : Thread nD τ).loc main_arg1))
  proj : Finite (s := S4096x5120) (m ((c : Thread nD τ).loc main_arg2))
  ys : Finite (s := S4096x1024) (m ((c : Thread nD τ).loc main_arg3))
  xbc : Finite (s := S4096x2048) (m ((c : Thread nD τ).loc main_arg4))
  dtr : Finite (s := S4096x128) (m ((c : Thread nD τ).loc main_arg5))
  bias : Finite (s := S1x16) (m ((c : Thread nD τ).loc main_arg7))
  alog : Finite (s := S1x16) (m ((c : Thread nD τ).loc main_arg8))
  d : Finite (s := S1x16) (m ((c : Thread nD τ).loc main_arg9))
  nw : Finite (s := S1x1024) (m ((c : Thread nD τ).loc main_arg10))

/-- The staged blocks of grid point `t`. -/
theorem FiniteLaunch.staged {m : (ℓ : Loc nD τ sig) → Buf (Elt Ideal) ℓ} {c : Dev nD} (h : FiniteLaunch m c) (t : Fin cfg0.N) :
    Staged (iblk m c 0 t) (iblk m c 1 t) (iblk m c 2 t) (iblk m c 3 t) (iblk m c 4 t) (iblk m c 5 t) (iblk m c 6 t) (iblk m c 8 t)
      (iblk m c 9 t) (iblk m c 10 t) (iblk m c 11 t) (launched m c) (t.val / 16) (15 - t.val % 16) where
  duy := block0_is m c rfl h.duy t
  proj := block1_is m c rfl h.proj t
  ys := (block2_is m c rfl h.ys t).congr fun r q _ _ => by rw [Nat.zero_add]; rfl
  x := (block3_is m c rfl h.xbc t).congr fun r q _ _ => by rw [Nat.zero_add]; rfl
  bm := block4_is m c rfl h.xbc t
  cm := block5_is m c rfl h.xbc t
  dtr := (block6_is m c rfl h.dtr t).congr fun r q _ _ => by rw [Nat.zero_add]; rfl
  bias := block8_is m c rfl h.bias t
  alog := block9_is m c rfl h.alog t
  d := block10_is m c rfl h.d t
  nw := block11_is m c rfl h.nw t

end SsdBwd

end
-- ==== Proof.GridAfter.lean ====
module

public import proofs.«01_k».proof.Proof.ChunkAfter
public import proofs.«01_k».proof.Proof.LaunchArgs

@[expose] public section

/-!
# What the run leaves, chunk by chunk

By induction on the grid point: the first point of a sequence starts from a zero state gradient, every other one from
what the point before left, which is the gradient of the chunk after its own.
-/

set_option maxRecDepth 16384

noncomputable section

namespace SsdBwd

open Idealize.ShloMosaic Idealize.ShloMosaic.TcCoe Cert.KernelIdeal Cert.KernelIdeal.Gen

variable {m : (ℓ : Loc nD τ sig) → Buf (Elt Ideal) ℓ} {c : Dev nD}

theorem After.of_eq {D : Args} {b ch : ℕ} {α β γ δ : Type} {o : FVec Ideal S128x2048 .f32} {s : FVec Ideal S8x128x128 .f32} {x : α} {y : β} {z : γ} {w : δ}
    {T : α × FVec Ideal S128x2048 .f32 × β × γ × FVec Ideal S8x128x128 .f32 × δ} (e : T = (x, o, y, z, s, w)) (A : After D b ch o s) :
    After D b ch T.2.1 T.2.2.2.2.1 := by
  subst e
  exact A

theorem after_point (h : FiniteLaunch m c) : ∀ (n : ℕ) (hn : n < cfg0.N),
    After (launched m c) (n / 16) (15 - n % 16) (outsAt0 m c n hn).2.1 (outsAt0 m c n hn).2.2.2.2.1
  | n, hn => by
    have b : n < 32 := lt_of_lt_of_eq hn N_0
    by_cases h1 : n % 16 = 0
    · by_cases h0 : n % 32 = 0
      · refine After.of_eq (outsAt0_A m c ⟨n, hn⟩ h0 h1 (by show ¬n % 32 = 31; omega)) ?_
        apply after_A
        · exact h.staged ⟨n, hn⟩
        · show 15 - n % 16 = 15
          omega
      · refine After.of_eq (outsAt0_C m c ⟨n, hn⟩ h0 h1 (by show ¬n % 32 = 31; omega)) ?_
        apply after_C
        · exact h.staged ⟨n, hn⟩
        · show 15 - n % 16 = 15
          omega
    · have hp : n - 1 < cfg0.N := Nat.lt_of_le_of_lt (Nat.sub_le _ _) hn
      have P := (after_point h (n - 1) hp).2
      rw [show (n - 1) / 16 = n / 16 by omega, show 15 - (n - 1) % 16 = 15 - n % 16 + 1 by omega] at P
      by_cases h2 : n % 32 = 31
      · refine After.of_eq (outsAt0_D m c ⟨n, hn⟩ (by show ¬n % 32 = 0; omega) h1 h2) ?_
        apply after_D
        · exact h.staged ⟨n, hn⟩
        · show 15 - n % 16 < 16
          omega
        · exact P
      · refine After.of_eq (outsAt0_B m c ⟨n, hn⟩ (by show ¬n % 32 = 0; omega) h1 h2) ?_
        apply after_B
        · exact h.staged ⟨n, hn⟩
        · show 15 - n % 16 < 16
          omega
        · exact P
termination_by n => n
decreasing_by omega

/-- The grid point of row `r`: the chunks of a sequence go backwards. -/
def pointOf (r : ℕ) : ℕ := 16 * (r / 2048) + (15 - r % 2048 / 128)

theorem flush14 : ∀ t : Fin cfg0.N, (cfg0.win 14).flush t = true :=
  (by decide +kernel : ∀ t : Fin grid0.N, (cfg0.win 14).flush t = true)

/-- The second result's entries at the columns of the value and key gradients. -/
theorem result_is (h : FiniteLaunch m c) (i : S4096x2048.Idx) (hi : (i 1).val < 1536) :
    (dats m 0 c).arrAt 14 cfg0.N i = (((launched m c).dxbc ((i 0).val / 2048) ((i 0).val % 2048) (i 1).val : ℝ) : EReal) := by
  have b0 : (i 0).val < 4096 := (i 0).isLt
  have b1 : (i 1).val < 2048 := (i 1).isLt
  have hn : pointOf (i 0).val < cfg0.N := lt_of_lt_of_eq (b := 32) (by unfold pointOf; omega) N_0.symm
  let t : Fin cfg0.N := ⟨pointOf (i 0).val, hn⟩
  let y : S128x2048.Idx := ValueIdx.ix2 (⟨(i 0).val % 128, by omega⟩ : Fin 128) (⟨(i 1).val, b1⟩ : Fin 2048)
  have B : (dats m 0 c).arrAt 14 cfg0.N ((win0_14.rect t).emb y) = (outsAt0 m c t.val t.isLt).2.1 y :=
    congrFun ((Value.blocks14 m c t (flush14 t)).trans (Value.flushed14 m c t)) y
  have e : (win0_14.rect t).emb y = i := by
    funext a
    match a with
    | 0 =>
      refine Fin.ext ?_
      rw [win0_14.rect_emb_val, index14]
      show (16 * (pointOf (i 0).val / 16) + (15 - pointOf (i 0).val % 16)) * 128 + (i 0).val % 128 = (i 0).val
      unfold pointOf
      omega
    | 1 =>
      refine Fin.ext ?_
      rw [win0_14.rect_emb_val, index14]
      show 0 * 2048 + (i 1).val = (i 1).val
      omega
  rw [e] at B
  rw [B, (after_point h t.val t.isLt).1 y hi]
  have e0 : t.val / 16 = (i 0).val / 2048 := by show pointOf (i 0).val / 16 = _; unfold pointOf; omega
  have e1 : 128 * (15 - t.val % 16) + (y 0).val = (i 0).val % 2048 := by
    show 128 * (15 - pointOf (i 0).val % 16) + (i 0).val % 128 = _; unfold pointOf; omega
  rw [e0, e1]

end SsdBwd

end
-- ==== Proof.ReferenceNorm.lean ====
module

public import proofs.«01_k».proof.Proof.SequenceSpec
public import proofs.«01_k».proof.Proof.Gen.ReferenceIdeal.Read

@[expose] public section

/-!
# The reference's gated norm

What the reference's operations up to the gradient of the scan's output hold, on finite arguments.
-/

set_option maxRecDepth 16384

noncomputable section

namespace SsdBwd

open Idealize.ShloMosaic
open scoped BigOperators

theorem real_div {x y : ℝ} (h : y ≠ 0) : Ideal.div (x : EReal) (y : EReal) = ((x / y : ℝ) : EReal) := by
  rw [Ideal.div, if_neg (by exact_mod_cast h), ← EReal.coe_inv, ← EReal.coe_mul, div_eq_mul_inv]

theorem real_exp (x : ℝ) : Ideal.exp (x : EReal) = ((Real.exp x : ℝ) : EReal) := rfl

theorem real_log {x : ℝ} (h : 0 < x) : Ideal.log (x : EReal) = ((Real.log x : ℝ) : EReal) := by
  show (if _ ≤ 0 then _ else _) = _
  rw [if_neg (not_le.2 h)]

theorem real_rsqrt {x : ℝ} (h : 0 < x) : Ideal.rsqrt (x : EReal) = (((Real.sqrt x)⁻¹ : ℝ) : EReal) := by
  show (if _ < 0 then _ else if _ = 0 then _ else _) = _
  rw [if_neg (not_lt.2 h.le), if_neg h.ne']

theorem lit_zero : FloatOps.ofBits (F := Ideal) .f32 0x00000000#32 = ((0 : ℝ) : EReal) := word_zero
theorem lit_one : FloatOps.ofBits (F := Ideal) .f32 0x3F800000#32 = ((1 : ℝ) : EReal) := word_one
theorem lit_256 : FloatOps.ofBits (F := Ideal) .f32 0x43800000#32 = ((256 : ℝ) : EReal) := word_256
theorem lit_eps : FloatOps.ofBits (F := Ideal) .f32 0x358637BD#32 = ((epsR : ℝ) : EReal) := word_eps
theorem lit_neg_half : FloatOps.ofBits (F := Ideal) .f32 0xBF000000#32 = ((-(1 / 2) : ℝ) : EReal) := by
  show Ideal.ofBits .f32 _ = _
  simp [Ideal.ofBits, Ideal.ieee]
  norm_num
  rw [← EReal.coe_mul]; norm_num

namespace Reference
open Cert.ReferenceIdeal Cert.ReferenceIdeal.Gen Cert.ReferenceIdeal.Read

variable {x1 : (⟨S4096x2048, .f32⟩ : BufTy).Contents (Elt Ideal)} {x2 : (⟨S4096x5120, .f32⟩ : BufTy).Contents (Elt Ideal)}
  {x3 : (⟨S4096x1024, .f32⟩ : BufTy).Contents (Elt Ideal)} {x4 : (⟨S4096x2048, .f32⟩ : BufTy).Contents (Elt Ideal)}
  {x5 : (⟨S4096x128, .f32⟩ : BufTy).Contents (Elt Ideal)} {x7 x8 x9 : (⟨S1x16, .f32⟩ : BufTy).Contents (Elt Ideal)}
  {x10 : (⟨S1x1024, .f32⟩ : BufTy).Contents (Elt Ideal)} {D : Args}

theorem v1_is (h1 : Is2 (φ := .f32) x1 D.duy) (i : S2x2048x1024.Idx) :
    val_main_v1 (F := Ideal) x1 i = ((D.duy (2048 * (i 0).val + (i 1).val) (1024 + (i 2).val) : ℝ) : EReal) := by
  have b2 : (i 2).val < 1024 := (i 2).isLt
  rw [val_main_v1_apply, val_main_v0_apply, h1]
  refine congrArg _ (congrArg₂ D.duy ?_ ?_)
  · simp only [idx_main_v0, idx_main_v1]; omega
  · simp only [idx_main_v0, idx_main_v1]; omega

theorem v3_is (h2 : Is2 (φ := .f32) x2 D.proj) (i : S2x2048x1024.Idx) :
    val_main_v3 (F := Ideal) x2 i = ((D.proj (2048 * (i 0).val + (i 1).val) (2048 + (i 2).val) : ℝ) : EReal) := by
  have b2 : (i 2).val < 1024 := (i 2).isLt
  rw [val_main_v3_apply, val_main_v2_apply, h2]
  refine congrArg _ (congrArg₂ D.proj ?_ ?_)
  · simp only [idx_main_v2, idx_main_v3]; omega
  · simp only [idx_main_v2, idx_main_v3]; omega

theorem v4_is (h3 : Is2 (φ := .f32) x3 D.ys) (i : S2x2048x1024.Idx) :
    val_main_v4 (F := Ideal) x3 i = ((D.ys (2048 * (i 0).val + (i 1).val) (i 2).val : ℝ) : EReal) := by
  have b2 : (i 2).val < 1024 := (i 2).isLt
  rw [val_main_v4_apply, h3]
  refine congrArg _ (congrArg₂ D.ys ?_ ?_)
  · simp only [idx_main_v4]; omega
  · simp only [idx_main_v4]; omega

theorem v6_is (h2 : Is2 (φ := .f32) x2 D.proj) (i : S2x2048x1024.Idx) :
    val_main_v6 (F := Ideal) x2 i = ((D.gate (2048 * (i 0).val + (i 1).val) (i 2).val : ℝ) : EReal) := by
  rw [val_main_v6_apply, val_main_call0_v5_apply, val_main_call0_v4_apply, val_main_call0_v3_apply, val_main_call0_v2_apply,
    val_main_call0_v1_apply, val_main_call0_v0_apply, v3_is h2, val_main_call0_cst_apply, val_main_call0_cst_0_apply, lit_one]
  simp only [Ideal.mulf_def, Ideal.hostDivf_def, Ideal.addf_def, Ideal.hostUnary_exp_def, Ideal.hostNegf_def, Ideal.negf_def]
  rw [← EReal.coe_neg, real_exp, ← EReal.coe_add, real_div (by positivity), ← EReal.coe_mul]
  simp only [Args.gate, sigR, zero_sub]

theorem v7_is (h2 : Is2 (φ := .f32) x2 D.proj) (h3 : Is2 (φ := .f32) x3 D.ys) (i : S2x2048x1024.Idx) :
    val_main_v7 (F := Ideal) x2 x3 i = ((D.gated (2048 * (i 0).val + (i 1).val) (i 2).val : ℝ) : EReal) := by
  rw [val_main_v7_apply, v4_is h3, v6_is h2]
  exact (EReal.coe_mul _ _).symm

theorem v8_is (h2 : Is2 (φ := .f32) x2 D.proj) (h3 : Is2 (φ := .f32) x3 D.ys) (i : S2x2048x4x256.Idx) :
    val_main_v8 (F := Ideal) x2 x3 i = ((D.gated (2048 * (i 0).val + (i 1).val) ((i 2).val * 256 + (i 3).val) : ℝ) : EReal) := by
  have b0 : (i 0).val < 2 := (i 0).isLt
  have b1 : (i 1).val < 2048 := (i 1).isLt
  have b2 : (i 2).val < 4 := (i 2).isLt
  have b3 : (i 3).val < 256 := (i 3).isLt
  rw [val_main_v8_apply, v7_is h2 h3]
  refine congrArg _ (congrArg₂ D.gated ?_ ?_)
  · simp only [idx_main_v8]; omega
  · simp only [idx_main_v8]; omega

theorem v28_is (h1 : Is2 (φ := .f32) x1 D.duy) (h10 : Is2 (φ := .f32) x10 D.nw) (i : S2x2048x4x256.Idx) :
    val_main_v28 (F := Ideal) x1 x10 i = ((D.dnorm (2048 * (i 0).val + (i 1).val) ((i 2).val * 256 + (i 3).val) : ℝ) : EReal) := by
  have b0 : (i 0).val < 2 := (i 0).isLt
  have b1 : (i 1).val < 2048 := (i 1).isLt
  have b2 : (i 2).val < 4 := (i 2).isLt
  have b3 : (i 3).val < 256 := (i 3).isLt
  rw [val_main_v28_apply, val_main_v27_apply, v1_is h1, val_main_v26_apply, val_main_v23_apply, val_main_v5_apply, h10]
  refine (EReal.coe_mul _ _).symm.trans (congrArg _ (congrArg₂ _ (congrArg₂ D.duy ?_ ?_) (congrArg₂ D.nw rfl ?_)))
  · simp only [idx_main_v28]; omega
  · simp only [idx_main_v28]; omega
  · simp only [idx_main_v28, idx_main_v26, idx_main_v23, idx_main_v5]; omega

/-- The mean square of a group, and the small constant. -/
def square (D : Args) (r g : ℕ) : ℝ :=
  (∑ q ∈ Finset.range 256, D.gated r (g * 256 + q) * D.gated r (g * 256 + q)) / 256 + epsR

theorem square_pos (r g : ℕ) : 0 < square D r g :=
  add_pos_of_nonneg_of_pos (div_nonneg (Finset.sum_nonneg fun c _ => mul_self_nonneg _) (by norm_num)) epsR_pos

theorem v15_is (h2 : Is2 (φ := .f32) x2 D.proj) (h3 : Is2 (φ := .f32) x3 D.ys) (i : S2x2048x4x1.Idx) :
    val_main_v15 (F := Ideal) x2 x3 i = ((square D (2048 * (i 0).val + (i 1).val) (i 2).val : ℝ) : EReal) := by
  rw [val_main_v15_apply, val_main_v13_apply, val_main_v11_apply, val_main_v10_apply, val_main_v12_apply, val_main_v14_apply,
    val_main_cst_apply, val_main_cst_0_apply, val_main_cst_1_apply, lit_zero, lit_256, lit_eps,
    sum_image _ (fun q => D.gated (2048 * (i 0).val + (i 1).val) ((i 2).val * 256 + q) * D.gated (2048 * (i 0).val + (i 1).val) ((i 2).val * 256 + q))
      fun q => by rw [val_main_v9_apply, v8_is h2 h3]; exact (EReal.coe_mul _ _).symm]
  show Ideal.div (((0 : ℝ) : EReal) + _) ((256 : ℝ) : EReal) + (epsR : EReal) = _
  rw [← EReal.coe_add, real_div (by norm_num), ← EReal.coe_add, zero_add]
  rfl

theorem v16_is (h2 : Is2 (φ := .f32) x2 D.proj) (h3 : Is2 (φ := .f32) x3 D.ys) (i : S2x2048x4x1.Idx) :
    val_main_v16 (F := Ideal) x2 x3 i = (((Real.sqrt (square D (2048 * (i 0).val + (i 1).val) (i 2).val))⁻¹ : ℝ) : EReal) := by
  rw [val_main_v16_apply, v15_is h2 h3]
  exact real_rsqrt (square_pos _ _)

/-- The factor of the group's entries in the reference's derivative of the mean square's root. -/
def pull (D : Args) (r g : ℕ) : ℝ :=
  (∑ q ∈ Finset.range 256, D.gated r (g * 256 + q) * D.dnorm r (g * 256 + q))
    * (-(1 / 2) * ((Real.sqrt (square D r g))⁻¹ / square D r g)) / 256

theorem v38_is (h1 : Is2 (φ := .f32) x1 D.duy) (h2 : Is2 (φ := .f32) x2 D.proj) (h3 : Is2 (φ := .f32) x3 D.ys) (h10 : Is2 (φ := .f32) x10 D.nw)
    (i : S2x2048x4x256.Idx) :
    val_main_v38 (F := Ideal) x1 x2 x3 x10 i = ((pull D (2048 * (i 0).val + (i 1).val) (i 2).val : ℝ) : EReal) := by
  have b0 : (i 0).val < 2 := (i 0).isLt
  have b1 : (i 1).val < 2048 := (i 1).isLt
  have b2 : (i 2).val < 4 := (i 2).isLt
  have e (j : S2x2048x4x1.Idx) : val_main_v36 (F := Ideal) x1 x2 x3 x10 j
      = ((pull D (2048 * (j 0).val + (j 1).val) (j 2).val : ℝ) : EReal) := by
    have c0 : (j 0).val < 2 := (j 0).isLt
    have c1 : (j 1).val < 2048 := (j 1).isLt
    have c2 : (j 2).val < 4 := (j 2).isLt
    have c3 : (j 3).val < 1 := (j 3).isLt
    have hr : 2048 * (idx_main_v31 j 0).val + (idx_main_v31 j 1).val = 2048 * (j 0).val + (j 1).val := by simp only [idx_main_v31]; omega
    have hg : (idx_main_v31 j 2).val = (j 2).val := by simp only [idx_main_v31]; omega
    rw [val_main_v36_apply, val_main_v34_apply, val_main_v31_apply, val_main_v30_apply, val_main_v19_apply, val_main_v18_apply,
      val_main_v17_apply, v16_is h2 h3, v15_is h2 h3, val_main_v35_apply, val_main_cst_2_apply, val_main_cst_3_apply, val_main_cst_4_apply,
      lit_zero, lit_256, lit_neg_half,
      sum_image _ (fun q => D.gated (2048 * (j 0).val + (j 1).val) ((j 2).val * 256 + q) * D.dnorm (2048 * (j 0).val + (j 1).val) ((j 2).val * 256 + q))
        fun q => by
          rw [val_main_v29_apply, v8_is h2 h3, v28_is h1 h10]
          refine (EReal.coe_mul _ _).symm.trans (congrArg _ ?_)
          show D.gated (2048 * (idx_main_v31 j 0).val + (idx_main_v31 j 1).val) ((idx_main_v31 j 2).val * 256 + q.val)
            * D.dnorm (2048 * (idx_main_v31 j 0).val + (idx_main_v31 j 1).val) ((idx_main_v31 j 2).val * 256 + q.val) = _
          rw [hr, hg]]
    show Ideal.div ((((0 : ℝ) : EReal) + _) * (((-(1 / 2) : ℝ) : EReal) * Ideal.div _ _)) ((256 : ℝ) : EReal) = _
    rw [← EReal.coe_add, real_div (square_pos _ _).ne', ← EReal.coe_mul, ← EReal.coe_mul, real_div (by norm_num), zero_add]
    rfl
  rw [val_main_v38_apply, val_main_v37_apply, val_main_cst_5_apply, lit_zero, Fin.sum_univ_one, e, ← EReal.coe_add, zero_add]

/-- The two ways of writing the gradient of a group's normalisation. -/
theorem norm_forms (y e : ℕ → ℝ) (c : ℕ) :
    normR y e c = e c * (Real.sqrt ((∑ q ∈ Finset.range 256, y q * y q) / 256 + epsR))⁻¹
      + y c * ((∑ q ∈ Finset.range 256, y q * e q) * (-(1 / 2) * ((Real.sqrt ((∑ q ∈ Finset.range 256, y q * y q) / 256 + epsR))⁻¹
          / ((∑ q ∈ Finset.range 256, y q * y q) / 256 + epsR))) / 256)
      + ((∑ q ∈ Finset.range 256, y q * e q) * (-(1 / 2) * ((Real.sqrt ((∑ q ∈ Finset.range 256, y q * y q) / 256 + epsR))⁻¹
          / ((∑ q ∈ Finset.range 256, y q * y q) / 256 + epsR))) / 256) * y c := by
  have hp : 0 < (∑ q ∈ Finset.range 256, y q * y q) / 256 + epsR :=
    add_pos_of_nonneg_of_pos (div_nonneg (Finset.sum_nonneg fun c _ => mul_self_nonneg _) (by norm_num)) epsR_pos
  have hs (k : ℝ) : ∑ q ∈ Finset.range 256, e q * (y q * k) = (∑ q ∈ Finset.range 256, y q * e q) * k := by
    rw [Finset.sum_mul]; exact Finset.sum_congr rfl fun q _ => by ring
  unfold normR
  simp only [hs]
  generalize (∑ q ∈ Finset.range 256, y q * y q) / 256 + epsR = m at hp ⊢
  generalize (∑ q ∈ Finset.range 256, y q * e q) = S
  have hm : (Real.sqrt m)⁻¹ / m = (Real.sqrt m)⁻¹ ^ 3 := by
    conv_lhs => rw [div_eq_mul_inv, ← Real.mul_self_sqrt hp.le, Real.sqrt_mul_self (Real.sqrt_nonneg m)]
    rw [mul_inv]; ring
  rw [hm]; ring

theorem v44_is (h1 : Is2 (φ := .f32) x1 D.duy) (h2 : Is2 (φ := .f32) x2 D.proj) (h3 : Is2 (φ := .f32) x3 D.ys) (h10 : Is2 (φ := .f32) x10 D.nw)
    (i : S2x2048x1024.Idx) :
    val_main_v44 (F := Ideal) x1 x2 x3 x10 i = ((D.dys (2048 * (i 0).val + (i 1).val) (i 2).val : ℝ) : EReal) := by
  have b0 : (i 0).val < 2 := (i 0).isLt
  have b1 : (i 1).val < 2048 := (i 1).isLt
  have b2 : (i 2).val < 1024 := (i 2).isLt
  have hr : 2048 * (idx_main_v43 i 0).val + (idx_main_v43 i 1).val = 2048 * (i 0).val + (i 1).val := by simp only [idx_main_v43]; omega
  have hg : (idx_main_v43 i 2).val = (i 2).val / 256 := by simp only [idx_main_v43]; omega
  have hc : (idx_main_v43 i 3).val = (i 2).val % 256 := by simp only [idx_main_v43]; omega
  rw [val_main_v44_apply, val_main_v43_apply, v6_is h2]
  generalize idx_main_v43 i = j at hr hg hc ⊢
  rw [val_main_v42_apply, val_main_v41_apply, val_main_v40_apply, val_main_v39_apply,
    val_main_v33_apply, val_main_v32_apply, v8_is h2 h3, v28_is h1 h10, v38_is h1 h2 h3 h10, v16_is h2 h3]
  show ((_ : EReal) * _ + _ * _ + _ * _) * _ = _
  simp only [← EReal.coe_mul, ← EReal.coe_add]
  refine congrArg _ ?_
  show (D.dnorm _ _ * (Real.sqrt (square D (2048 * (j 0).val + (j 1).val) (j 2).val))⁻¹ + _ * _ + _ * _) * _ = _
  rw [hr, hg, hc, Args.dys, norm_forms]
  rfl

end Reference
end SsdBwd
end
-- ==== Proof.ReferenceScan.lean ====
module

public import proofs.«01_k».proof.Proof.ReferenceNorm

@[expose] public section

/-!
# The reference's scan

What the reference's operations from the gradient of the scan's output to the gradients of `x` and `B` hold, on finite
arguments.
-/

set_option maxRecDepth 16384

noncomputable section

namespace SsdBwd.Reference

open Idealize.ShloMosaic
open Cert.ReferenceIdeal Cert.ReferenceIdeal.Gen Cert.ReferenceIdeal.Read
open scoped BigOperators

variable {x1 : (⟨S4096x2048, .f32⟩ : BufTy).Contents (Elt Ideal)} {x2 : (⟨S4096x5120, .f32⟩ : BufTy).Contents (Elt Ideal)}
  {x3 : (⟨S4096x1024, .f32⟩ : BufTy).Contents (Elt Ideal)} {x4 : (⟨S4096x2048, .f32⟩ : BufTy).Contents (Elt Ideal)}
  {x5 : (⟨S4096x128, .f32⟩ : BufTy).Contents (Elt Ideal)} {x7 x8 x9 : (⟨S1x16, .f32⟩ : BufTy).Contents (Elt Ideal)}
  {x10 : (⟨S1x1024, .f32⟩ : BufTy).Contents (Elt Ideal)} {D : Args}

theorem v46_is (h5 : Is2 (φ := .f32) x5 D.dtr) (i : S2x2048x16.Idx) :
    val_main_v46 (F := Ideal) x5 i = ((D.dtr (2048 * (i 0).val + (i 1).val) (i 2).val : ℝ) : EReal) := by
  have b2 : (i 2).val < 16 := (i 2).isLt
  rw [val_main_v46_apply, val_main_v45_apply, h5]
  refine congrArg _ (congrArg₂ D.dtr ?_ ?_)
  · simp only [idx_main_v45, idx_main_v46]; omega
  · simp only [idx_main_v45, idx_main_v46]; omega

theorem v60_is (h5 : Is2 (φ := .f32) x5 D.dtr) (h7 : Is2 (φ := .f32) x7 D.bias) (i : S2x2048x16.Idx) :
    val_main_v60 (F := Ideal) x5 x7 i = ((D.dt (2048 * (i 0).val + (i 1).val) (i 2).val : ℝ) : EReal) := by
  have b2 : (i 2).val < 16 := (i 2).isLt
  have e : val_main_v59 (F := Ideal) x5 x7 i
      = ((D.dtr (2048 * (i 0).val + (i 1).val) (i 2).val + D.bias 0 (i 2).val : ℝ) : EReal) := by
    rw [val_main_v59_apply, v46_is h5, val_main_v58_apply, val_main_v57_apply, val_main_v48_apply, h7]
    refine (EReal.coe_add _ _).symm.trans (congrArg _ (congrArg _ (congrArg₂ D.bias rfl ?_)))
    simp only [idx_main_v58, idx_main_v57, idx_main_v48]; omega
  have e3 : val_main_call1_v3 (F := Ideal) x5 x7 i
      = ((D.dtr (2048 * (i 0).val + (i 1).val) (i 2).val + D.bias 0 (i 2).val : ℝ) : EReal) := by
    rw [val_main_call1_v3_apply, e, val_main_call1_v2_apply, val_main_call1_cst_apply, lit_zero]
    refine (EReal.coe_sub _ _).symm.trans (congrArg _ (sub_zero _))
  rw [val_main_v60_apply, val_main_call1_v4_apply, val_main_call1_v11_apply, val_main_call1_v10_apply, val_main_call1_v9_apply,
    val_main_call1_v8_apply, val_main_call1_v7_apply, val_main_call1_v1_apply, val_main_call1_v0_apply, e3, e, val_main_call1_cst_apply, lit_zero]
  rw [show D.dt (2048 * (i 0).val + (i 1).val) (i 2).val
    = softplusR (D.dtr (2048 * (i 0).val + (i 1).val) (i 2).val + D.bias 0 (i 2).val) from rfl]
  generalize D.dtr (2048 * (i 0).val + (i 1).val) (i 2).val + D.bias 0 (i 2).val = x at *
  have hn : FloatOps.cmpf (F := Ideal) (φ := .f32) .une (x : EReal) (x : EReal) = 0#1 := by
    simp [Ideal.cmpf_def, Ideal.cmp]
  rw [hn]
  show max (x : EReal) ((0 : ℝ) : EReal) + Ideal.log ((1 : EReal) + Ideal.exp (-(max (x : EReal) (-(x : EReal))))) = _
  rw [← EReal.coe_neg, ← EReal.coe_strictMono.monotone.map_max, ← EReal.coe_strictMono.monotone.map_max, ← EReal.coe_neg, real_exp,
    ← EReal.coe_one, ← EReal.coe_add, real_log (by positivity), ← EReal.coe_add]
  refine congrArg _ ?_
  show max x 0 + Real.log (1 + Real.exp (-|x|)) = _
  simp only [softplusR, zero_sub]

theorem v69_is (h5 : Is2 (φ := .f32) x5 D.dtr) (h7 : Is2 (φ := .f32) x7 D.bias) (h8 : Is2 (φ := .f32) x8 D.alog) (i : S2x2048x16.Idx) :
    val_main_v69 (F := Ideal) x5 x7 x8 i = ((D.logDecay (i 0).val (i 2).val (i 1).val : ℝ) : EReal) := by
  have b2 : (i 2).val < 16 := (i 2).isLt
  rw [val_main_v69_apply, v60_is h5 h7, val_main_v68_apply, val_main_v67_apply, val_main_v62_apply, val_main_v61_apply, val_main_v49_apply, h8]
  simp only [Ideal.mulf_def, Ideal.hostUnary_exp_def, Ideal.hostNegf_def, Ideal.negf_def, real_exp]
  rw [← EReal.coe_neg, ← EReal.coe_mul]
  refine congrArg _ ?_
  have e : (idx_main_v49 (idx_main_v67 (idx_main_v68 i)) 1).val = (i 2).val := by
    simp only [idx_main_v68, idx_main_v67, idx_main_v49]; omega
  rw [Args.logDecay, zero_sub]
  show D.dt _ _ * -Real.exp (D.alog 0 (idx_main_v49 (idx_main_v67 (idx_main_v68 i)) 1).val) = _
  rw [e]

theorem v71_is (h5 : Is2 (φ := .f32) x5 D.dtr) (h7 : Is2 (φ := .f32) x7 D.bias) (h8 : Is2 (φ := .f32) x8 D.alog) (i : S2x4x4x2048.Idx) :
    val_main_v71 (F := Ideal) x5 x7 x8 i = ((D.logDecay (i 0).val (4 * (i 1).val + (i 2).val) (i 3).val : ℝ) : EReal) := by
  have b0 : (i 0).val < 2 := (i 0).isLt
  have b1 : (i 1).val < 4 := (i 1).isLt
  have b2 : (i 2).val < 4 := (i 2).isLt
  have b3 : (i 3).val < 2048 := (i 3).isLt
  rw [val_main_v71_apply, val_main_v70_apply, v69_is h5 h7 h8]
  have e0 : (idx_main_v70 (idx_main_v71 i) 0).val = (i 0).val := by simp only [idx_main_v70, idx_main_v71]; omega
  have e1 : (idx_main_v70 (idx_main_v71 i) 1).val = (i 3).val := by simp only [idx_main_v70, idx_main_v71]; omega
  have e2 : (idx_main_v70 (idx_main_v71 i) 2).val = 4 * (i 1).val + (i 2).val := by simp only [idx_main_v70, idx_main_v71]; omega
  rw [e0, e1, e2]

/-- The positions of a window that runs along the last axis. -/
def windowEquiv : (⟨4, ![1, 1, 1, 2048]⟩ : Shape).Idx ≃ Fin 2048 where
  toFun w := ⟨(w 3).val, (w 3).isLt⟩
  invFun k := fun a => match a with
    | ⟨0, _⟩ => ⟨0, Nat.one_pos⟩
    | ⟨1, _⟩ => ⟨0, Nat.one_pos⟩
    | ⟨2, _⟩ => ⟨0, Nat.one_pos⟩
    | ⟨3, _⟩ => ⟨k.val, k.isLt⟩
  left_inv w := funext fun a => Fin.ext (by
    match a with
    | ⟨0, h⟩ => have : (w 0).val < 1 := (w 0).isLt; show 0 = (w 0).val; omega
    | ⟨1, h⟩ => have : (w 1).val < 1 := (w 1).isLt; show 0 = (w 1).val; omega
    | ⟨2, h⟩ => have : (w 2).val < 1 := (w 2).isLt; show 0 = (w 2).val; omega
    | ⟨3, h⟩ => rfl)
  right_inv k := rfl

/-- The terms of the windows that end at row `t`, summed: the terms up to row `t`. -/
theorem window_terms (f : ℕ → ℝ) {t : ℕ} (ht : t < 2048) :
    (∑ k ∈ Finset.range 2048, if 2047 ≤ t + k then f (t + k - 2047) else 0)
      = ∑ q ∈ Finset.range 2048, if q ≤ t then f q else 0 := by
  rw [← Finset.sum_filter, ← Finset.sum_filter]
  refine Finset.sum_nbij' (fun k => t + k - 2047) (fun q => q + 2047 - t) ?_ ?_ ?_ ?_ ?_
  all_goals intro k hk
  all_goals rw [Finset.mem_filter, Finset.mem_range] at hk
  · rw [Finset.mem_filter, Finset.mem_range]; omega
  · rw [Finset.mem_filter, Finset.mem_range]; omega
  · show t + k - 2047 + 2047 - t = k; omega
  · show t + (k + 2047 - t) - 2047 = k; omega

/-- A window sum over the extended reals, from zero, as a sum over the window's positions. -/
theorem window_sum {s t u : Shape} (window strides lo hi : Fin s.rank → ℕ) (x : s.Idx → EReal) (init : u.Idx → EReal)
    (h : s.ReduceWindows window strides lo hi t) (hu : 0 < u.numel) (h0 : init (Shape.Idx.first hu) = 0) (j : t.Idx) :
    Host.reduceWindow (· + ·) window strides lo hi x init h hu j
      = ∑ w : (⟨s.rank, window⟩ : Shape).Idx,
        if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0 := by
  unfold Host.reduceWindow
  rw [h0, sum_idx_eq_foldl]
  refine congrArg (fun f => List.foldl f 0 _) (funext fun r => funext fun n => congrArg (r + ·) ?_)
  by_cases hin : ∀ a : Fin s.rank, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · refine (dif_pos hin).trans ?_
    rw [dif_pos hin]
  · refine (dif_neg hin).trans ?_
    rw [dif_neg hin]

/-- The window sum, its windows of 2048 rows ending at the row: the running sum. -/
theorem v72_is (h5 : Is2 (φ := .f32) x5 D.dtr) (h7 : Is2 (φ := .f32) x7 D.bias) (h8 : Is2 (φ := .f32) x8 D.alog) (i : S2x4x4x2048.Idx) :
    val_main_v72 (F := Ideal) x5 x7 x8 i
      = ((runSum (D.logDecay (i 0).val (4 * (i 1).val + (i 2).val)) (i 3).val : ℝ) : EReal) := by
  have b0 : (i 0).val < 2 := (i 0).isLt
  have b1 : (i 1).val < 4 := (i 1).isLt
  have b2 : (i 2).val < 4 := (i 2).isLt
  have b3 : (i 3).val < 2048 := (i 3).isLt
  have hy := fun j => v71_is (D := D) h5 h7 h8 j
  unfold val_main_v72
  generalize val_main_v71 (F := Ideal) x5 x7 x8 = y at hy ⊢
  have h0 : (val_main_call2_call0_v0 (F := Ideal)) (Shape.Idx.first h_S_) = 0 := by
    rw [val_main_call2_call0_v0_apply, val_main_call2_call0_cst_apply, lit_zero, EReal.coe_zero]
  unfold Host.reduceWindowAdd
  rw [h0, Ideal.hostReduceWindowAdd_def]
  unfold Ideal.hostReduceWindowAdd
  rw [window_sum _ _ _ _ _ _ _ _ rfl]
  rw [← Equiv.sum_comp windowEquiv.symm]
  rw [sum_image _ fun k => if 2047 ≤ (i 3).val + k then D.logDecay (i 0).val (4 * (i 1).val + (i 2).val) ((i 3).val + k - 2047) else 0]
  · rw [window_terms _ b3]; rfl
  · intro k
    by_cases hk : 2047 ≤ (i 3).val + k.val
    · rw [if_pos hk, dif_pos fun a => ?_, hy]
      · refine congrArg _ (congr (congrArg₂ D.logDecay ?_ (congrArg₂ _ (congrArg _ ?_) ?_)) ?_)
        · show (i 0).val * 1 + 0 - 0 = _; omega
        · show (i 1).val * 1 + 0 - 0 = _; omega
        · show (i 2).val * 1 + 0 - 0 = _; omega
        · show (i 3).val * 1 + k.val - 2047 = _; omega
      · match a with
        | ⟨0, _⟩ => show 0 ≤ (i 0).val * 1 + 0 ∧ (i 0).val * 1 + 0 - 0 < 2; omega
        | ⟨1, _⟩ => show 0 ≤ (i 1).val * 1 + 0 ∧ (i 1).val * 1 + 0 - 0 < 4; omega
        | ⟨2, _⟩ => show 0 ≤ (i 2).val * 1 + 0 ∧ (i 2).val * 1 + 0 - 0 < 4; omega
        | ⟨3, _⟩ => have := k.isLt; show 2047 ≤ (i 3).val * 1 + k.val ∧ (i 3).val * 1 + k.val - 2047 < 2048; omega
    · rw [if_neg hk, dif_neg fun h => hk ?_, EReal.coe_zero]
      have := (h 3).1
      change 2047 ≤ (i 3).val * 1 + k.val at this
      omega

theorem pick_first {α : Type} (p q : α) : Scalar.select (Scalar.select (BitVec.ofBool true) 1#1 0#1) p q = p := rfl
theorem pick_second {α : Type} (p q : α) : Scalar.select (Scalar.select (BitVec.ofBool false) 1#1 0#1) p q = q := rfl

theorem v81_is (h5 : Is2 (φ := .f32) x5 D.dtr) (h7 : Is2 (φ := .f32) x7 D.bias) (h8 : Is2 (φ := .f32) x8 D.alog) (i : S2x4x4x2048x2048.Idx) :
    val_main_v81 (F := Ideal) x5 x7 x8 i
      = ((D.decay (i 0).val (4 * (i 1).val + (i 2).val) (i 3).val (i 4).val : ℝ) : EReal) := by
  have b3 : (i 3).val < 2048 := (i 3).isLt
  have b4 : (i 4).val < 2048 := (i 4).isLt
  have hm : val_main_call3_v4 (F := Ideal) (idx_main_call4_v1 i) = BitVec.ofBool (decide ((i 4).val ≤ (i 3).val)) := by
    rw [val_main_call3_v4_apply, val_main_call3_v2_apply, val_main_call3_v0_apply, val_main_call3_v3_apply, val_main_call3_v1_apply, val_main_call3_c_apply]
    show BitVec.ofBool (BitVec.sle (BitVec.ofNat 32 (i 4).val) (BitVec.ofNat 32 (i 3).val + 0#32)) = _
    rw [BitVec.add_zero, BitVec.sle_eq_decide, BitVec.toInt_eq_toNat_of_lt (by rw [BitVec.toNat_ofNat]; omega),
      BitVec.toInt_eq_toNat_of_lt (by rw [BitVec.toNat_ofNat]; omega),
      BitVec.toNat_ofNat, BitVec.toNat_ofNat, Nat.mod_eq_of_lt (by omega), Nat.mod_eq_of_lt (by omega)]
    simp
  rw [val_main_v81_apply, val_main_v80_apply, val_main_call4_v1_apply, val_main_v79_apply, hm, val_main_v78_apply, val_main_call3_v5_apply,
    val_main_call3_c_0_apply, val_main_c_apply, val_main_v77_apply, val_main_v75_apply, val_main_v73_apply, val_main_v76_apply, val_main_v74_apply,
    v72_is h5 h7 h8, v72_is h5 h7 h8, val_main_call4_v2_apply, val_main_call4_v0_apply, val_main_cst_6_apply]
  rw [Args.decay, decayTo]
  by_cases h : (i 4).val ≤ (i 3).val
  · rw [if_pos h, decide_eq_true h, pick_first, Ideal.hostUnary_exp_def, Ideal.subf_def, ← EReal.coe_sub]
    rfl
  · rw [if_neg h, decide_eq_false h, pick_second, Ideal.hostUnary_exp_def, show FloatOps.ofBits (F := Ideal) .f32 0xFF800000#32 = (⊥ : EReal) from by
      show Ideal.ofBits .f32 _ = _
      simp [Ideal.ofBits, Ideal.ieee]]
    rfl

end SsdBwd.Reference
end
-- ==== Proof.ReferenceGrad.lean ====
module

public import proofs.«01_k».proof.Proof.ReferenceScan

@[expose] public section

/-!
# The reference's gradients of `x` and `B`

The reference's products, sums and layouts, read at an index.
-/

set_option maxRecDepth 16384

noncomputable section

namespace SsdBwd.Reference

open Idealize.ShloMosaic
open Cert.ReferenceIdeal Cert.ReferenceIdeal.Gen Cert.ReferenceIdeal.Read
open scoped BigOperators

variable {x1 : (⟨S4096x2048, .f32⟩ : BufTy).Contents (Elt Ideal)} {x2 : (⟨S4096x5120, .f32⟩ : BufTy).Contents (Elt Ideal)}
  {x3 : (⟨S4096x1024, .f32⟩ : BufTy).Contents (Elt Ideal)} {x4 : (⟨S4096x2048, .f32⟩ : BufTy).Contents (Elt Ideal)}
  {x5 : (⟨S4096x128, .f32⟩ : BufTy).Contents (Elt Ideal)} {x7 x8 x9 : (⟨S1x16, .f32⟩ : BufTy).Contents (Elt Ideal)}
  {x10 : (⟨S1x1024, .f32⟩ : BufTy).Contents (Elt Ideal)} {D : Args}

theorem v47_is (h4 : Is2 (φ := .f32) x4 D.xbc) (i : S2x2048x2048.Idx) :
    val_main_v47 (F := Ideal) x4 i = ((D.xbc (2048 * (i 0).val + (i 1).val) (i 2).val : ℝ) : EReal) := by
  have b2 : (i 2).val < 2048 := (i 2).isLt
  rw [val_main_v47_apply, h4]
  refine congrArg _ (congrArg₂ D.xbc ?_ ?_)
  · simp only [idx_main_v47]; omega
  · simp only [idx_main_v47]; omega

theorem v55_is (h4 : Is2 (φ := .f32) x4 D.xbc) (i : S2x2048x4x128.Idx) :
    val_main_v55 (F := Ideal) x4 i = ((D.matB (2048 * (i 0).val + (i 1).val) (i 2).val (i 3).val : ℝ) : EReal) := by
  have b0 : (i 0).val < 2 := (i 0).isLt
  have b1 : (i 1).val < 2048 := (i 1).isLt
  have b2 : (i 2).val < 4 := (i 2).isLt
  have b3 : (i 3).val < 128 := (i 3).isLt
  rw [val_main_v55_apply, val_main_v52_apply, v47_is h4]
  refine congrArg _ (congrArg₂ D.xbc ?_ ?_)
  · simp only [idx_main_v55, idx_main_v52]; omega
  · simp only [idx_main_v55, idx_main_v52]; omega

theorem v56_is (h4 : Is2 (φ := .f32) x4 D.xbc) (i : S2x2048x4x128.Idx) :
    val_main_v56 (F := Ideal) x4 i = ((D.matC (2048 * (i 0).val + (i 1).val) (i 2).val (i 3).val : ℝ) : EReal) := by
  have b0 : (i 0).val < 2 := (i 0).isLt
  have b1 : (i 1).val < 2048 := (i 1).isLt
  have b2 : (i 2).val < 4 := (i 2).isLt
  have b3 : (i 3).val < 128 := (i 3).isLt
  rw [val_main_v56_apply, val_main_v53_apply, v47_is h4]
  refine congrArg _ (congrArg₂ D.xbc ?_ ?_)
  · simp only [idx_main_v56, idx_main_v53]; omega
  · simp only [idx_main_v56, idx_main_v53]; omega

theorem v66_is (h4 : Is2 (φ := .f32) x4 D.xbc) (h5 : Is2 (φ := .f32) x5 D.dtr) (h7 : Is2 (φ := .f32) x7 D.bias) (i : S2x2048x4x4x64.Idx) :
    val_main_v66 (F := Ideal) x4 x5 x7 i
      = ((D.xd (2048 * (i 0).val + (i 1).val) (64 * (4 * (i 2).val + (i 3).val) + (i 4).val) : ℝ) : EReal) := by
  have b0 : (i 0).val < 2 := (i 0).isLt
  have b1 : (i 1).val < 2048 := (i 1).isLt
  have b2 : (i 2).val < 4 := (i 2).isLt
  have b3 : (i 3).val < 4 := (i 3).isLt
  have b4 : (i 4).val < 64 := (i 4).isLt
  have e0 : (idx_main_v66 i 0).val = (i 0).val := by simp only [idx_main_v66]; omega
  have e1 : (idx_main_v66 i 1).val = (i 1).val := by simp only [idx_main_v66]; omega
  have e2 : (idx_main_v66 i 2).val = 4 * (i 2).val + (i 3).val := by simp only [idx_main_v66]; omega
  have e3 : (idx_main_v66 i 3).val = (i 4).val := by simp only [idx_main_v66]; omega
  rw [val_main_v66_apply]
  generalize idx_main_v66 i = j at e0 e1 e2 e3 ⊢
  rw [val_main_v65_apply, val_main_v64_apply, val_main_v63_apply, v60_is h5 h7, val_main_v54_apply, val_main_v51_apply, v47_is h4]
  refine (EReal.coe_mul _ _).symm.trans (congrArg _ (congrArg₂ _ (congrArg₂ D.xbc ?_ ?_) (congrArg₂ D.dt ?_ ?_)))
  · simp only [idx_main_v54, idx_main_v51]; omega
  · simp only [idx_main_v54, idx_main_v51]; omega
  · simp only [idx_main_v64, idx_main_v63]; omega
  · simp only [idx_main_v64, idx_main_v63]; omega

theorem v82_is (h4 : Is2 (φ := .f32) x4 D.xbc) (i : S2x4x2048x2048.Idx) :
    val_main_v82 (F := Ideal) x4 i = ((D.score (i 0).val (i 1).val (i 2).val (i 3).val : ℝ) : EReal) := by
  rw [val_main_v82_apply, sum_image _ fun n => D.matC (2048 * (i 0).val + (i 2).val) (i 1).val n * D.matB (2048 * (i 0).val + (i 3).val) (i 1).val n]
  · rfl
  · intro n
    rw [v56_is h4, v55_is h4]
    exact (EReal.coe_mul _ _).symm

theorem v85_is (h4 : Is2 (φ := .f32) x4 D.xbc) (h5 : Is2 (φ := .f32) x5 D.dtr) (h7 : Is2 (φ := .f32) x7 D.bias) (h8 : Is2 (φ := .f32) x8 D.alog)
    (i : S2x4x4x2048x2048.Idx) :
    val_main_v85 (F := Ideal) x4 x5 x7 x8 i
      = ((D.score (i 0).val (i 1).val (i 3).val (i 4).val * D.decay (i 0).val (4 * (i 1).val + (i 2).val) (i 3).val (i 4).val : ℝ) : EReal) := by
  rw [val_main_v85_apply, val_main_v84_apply, val_main_v83_apply, v82_is h4, v81_is h5 h7 h8]
  exact (EReal.coe_mul _ _).symm

theorem v95_is (h1 : Is2 (φ := .f32) x1 D.duy) (h2 : Is2 (φ := .f32) x2 D.proj) (h3 : Is2 (φ := .f32) x3 D.ys) (h10 : Is2 (φ := .f32) x10 D.nw)
    (i : S2x2048x16x64.Idx) :
    val_main_v95 (F := Ideal) x1 x2 x3 x10 i = ((D.dys (2048 * (i 0).val + (i 1).val) (64 * (i 2).val + (i 3).val) : ℝ) : EReal) := by
  have b0 : (i 0).val < 2 := (i 0).isLt
  have b1 : (i 1).val < 2048 := (i 1).isLt
  have b2 : (i 2).val < 16 := (i 2).isLt
  have b3 : (i 3).val < 64 := (i 3).isLt
  rw [val_main_v95_apply, v44_is h1 h2 h3 h10]
  refine congrArg _ (congrArg₂ D.dys ?_ ?_)
  · simp only [idx_main_v95]; omega
  · simp only [idx_main_v95]; omega

theorem v99_is (h1 : Is2 (φ := .f32) x1 D.duy) (h2 : Is2 (φ := .f32) x2 D.proj) (h3 : Is2 (φ := .f32) x3 D.ys) (h10 : Is2 (φ := .f32) x10 D.nw)
    (i : S2x4x4x64x2048.Idx) :
    val_main_v99 (F := Ideal) x1 x2 x3 x10 i
      = ((D.dys (2048 * (i 0).val + (i 4).val) (64 * (4 * (i 1).val + (i 2).val) + (i 3).val) : ℝ) : EReal) := by
  have b0 : (i 0).val < 2 := (i 0).isLt
  have b1 : (i 1).val < 4 := (i 1).isLt
  have b2 : (i 2).val < 4 := (i 2).isLt
  have b3 : (i 3).val < 64 := (i 3).isLt
  have b4 : (i 4).val < 2048 := (i 4).isLt
  have e0 : (idx_main_v98 (idx_main_v99 i) 0).val = (i 0).val := by simp only [idx_main_v98, idx_main_v99]; omega
  have e1 : (idx_main_v98 (idx_main_v99 i) 1).val = (i 4).val := by simp only [idx_main_v98, idx_main_v99]; omega
  have e2 : (idx_main_v98 (idx_main_v99 i) 2).val = 4 * (i 1).val + (i 2).val := by simp only [idx_main_v98, idx_main_v99]; omega
  have e3 : (idx_main_v98 (idx_main_v99 i) 3).val = (i 3).val := by simp only [idx_main_v98, idx_main_v99]; omega
  rw [val_main_v99_apply, val_main_v98_apply, v95_is h1 h2 h3 h10, e0, e1, e2, e3]

theorem v101_is (h1 : Is2 (φ := .f32) x1 D.duy) (h2 : Is2 (φ := .f32) x2 D.proj) (h3 : Is2 (φ := .f32) x3 D.ys) (h4 : Is2 (φ := .f32) x4 D.xbc)
    (h5 : Is2 (φ := .f32) x5 D.dtr) (h7 : Is2 (φ := .f32) x7 D.bias) (h8 : Is2 (φ := .f32) x8 D.alog) (h10 : Is2 (φ := .f32) x10 D.nw)
    (i : S2x4x4x64x2048.Idx) :
    val_main_v101 (F := Ideal) x1 x2 x3 x4 x5 x7 x8 x10 i
      = ((D.dxd (i 0).val (i 4).val (64 * (4 * (i 1).val + (i 2).val) + (i 3).val) : ℝ) : EReal) := by
  have b2 : (i 2).val < 4 := (i 2).isLt
  have b3 : (i 3).val < 64 := (i 3).isLt
  have eg : (64 * (4 * (i 1).val + (i 2).val) + (i 3).val) / 256 = (i 1).val := by omega
  have eh : (64 * (4 * (i 1).val + (i 2).val) + (i 3).val) / 64 = 4 * (i 1).val + (i 2).val := by omega
  rw [val_main_v101_apply, Args.dxd, eg, eh]
  refine sum_image _ _ fun t => ?_
  rw [v99_is h1 h2 h3 h10, v85_is h4 h5 h7 h8]
  exact (EReal.coe_mul _ _).symm

theorem v117_is (h1 : Is2 (φ := .f32) x1 D.duy) (h2 : Is2 (φ := .f32) x2 D.proj) (h3 : Is2 (φ := .f32) x3 D.ys) (h4 : Is2 (φ := .f32) x4 D.xbc)
    (h5 : Is2 (φ := .f32) x5 D.dtr) (h7 : Is2 (φ := .f32) x7 D.bias) (h8 : Is2 (φ := .f32) x8 D.alog) (h9 : Is2 (φ := .f32) x9 D.d)
    (h10 : Is2 (φ := .f32) x10 D.nw) (i : S2x2048x1024.Idx) :
    val_main_v117 (F := Ideal) x1 x2 x3 x4 x5 x7 x8 x9 x10 i = ((D.dx (i 0).val (i 1).val (i 2).val : ℝ) : EReal) := by
  have b0 : (i 0).val < 2 := (i 0).isLt
  have b1 : (i 1).val < 2048 := (i 1).isLt
  have b2 : (i 2).val < 1024 := (i 2).isLt
  have e0 : (idx_main_v117 i 0).val = (i 0).val := by simp only [idx_main_v117]; omega
  have e1 : (idx_main_v117 i 1).val = (i 1).val := by simp only [idx_main_v117]; omega
  have e2 : (idx_main_v117 i 2).val = (i 2).val / 64 := by simp only [idx_main_v117]; omega
  have e3 : (idx_main_v117 i 3).val = (i 2).val % 64 := by simp only [idx_main_v117]; omega
  rw [val_main_v117_apply]
  generalize idx_main_v117 i = j at e0 e1 e2 e3 ⊢
  have f0 : (idx_main_v102 (idx_main_v111 j) 0).val = (i 0).val := by simp only [idx_main_v102, idx_main_v111]; omega
  have f1 : (idx_main_v102 (idx_main_v111 j) 4).val = (i 1).val := by simp only [idx_main_v102, idx_main_v111]; omega
  have f2 : 64 * (4 * (idx_main_v102 (idx_main_v111 j) 1).val + (idx_main_v102 (idx_main_v111 j) 2).val) + (idx_main_v102 (idx_main_v111 j) 3).val
      = (i 2).val := by simp only [idx_main_v102, idx_main_v111]; omega
  rw [val_main_v114_apply, val_main_v113_apply, val_main_v111_apply, val_main_v102_apply, v101_is h1 h2 h3 h4 h5 h7 h8 h10, val_main_v112_apply,
    val_main_v63_apply, v60_is h5 h7, val_main_v97_apply, v95_is h1 h2 h3 h10, val_main_v96_apply, val_main_v90_apply, val_main_v89_apply,
    val_main_v50_apply, h9, f0, f1, f2, Ideal.addf_def, Ideal.mulf_def, Ideal.mulf_def, ← EReal.coe_mul, ← EReal.coe_mul, ← EReal.coe_add]
  refine congrArg _ (congrArg₂ _ (congrArg₂ _ (congrArg₂ D.dys ?_ ?_) (congrArg₂ D.d rfl ?_)) (congrArg₂ _ rfl (congrArg₂ D.dt ?_ ?_)))
  · omega
  · omega
  · simp only [idx_main_v96, idx_main_v90, idx_main_v89, idx_main_v50]; omega
  · simp only [idx_main_v112, idx_main_v63]; omega
  · simp only [idx_main_v112, idx_main_v63]; omega

theorem v103_is (h1 : Is2 (φ := .f32) x1 D.duy) (h2 : Is2 (φ := .f32) x2 D.proj) (h3 : Is2 (φ := .f32) x3 D.ys) (h4 : Is2 (φ := .f32) x4 D.xbc)
    (h5 : Is2 (φ := .f32) x5 D.dtr) (h7 : Is2 (φ := .f32) x7 D.bias) (h8 : Is2 (φ := .f32) x8 D.alog) (h10 : Is2 (φ := .f32) x10 D.nw)
    (i : S2x4x4x2048x2048.Idx) :
    val_main_v103 (F := Ideal) x1 x2 x3 x4 x5 x7 x8 x10 i
      = ((D.dscore (i 0).val (4 * (i 1).val + (i 2).val) (i 3).val (i 4).val : ℝ) : EReal) := by
  rw [val_main_v103_apply, v81_is h5 h7 h8, val_main_v100_apply,
    sum_image _ fun p => D.dys (2048 * (i 0).val + (i 3).val) (64 * (4 * (i 1).val + (i 2).val) + p)
      * D.xd (2048 * (i 0).val + (i 4).val) (64 * (4 * (i 1).val + (i 2).val) + p)]
  · exact (EReal.coe_mul _ _).symm
  · intro p
    rw [v99_is h1 h2 h3 h10, v66_is h4 h5 h7]
    exact (EReal.coe_mul _ _).symm

theorem v106_is (h1 : Is2 (φ := .f32) x1 D.duy) (h2 : Is2 (φ := .f32) x2 D.proj) (h3 : Is2 (φ := .f32) x3 D.ys) (h4 : Is2 (φ := .f32) x4 D.xbc)
    (h5 : Is2 (φ := .f32) x5 D.dtr) (h7 : Is2 (φ := .f32) x7 D.bias) (h8 : Is2 (φ := .f32) x8 D.alog) (h10 : Is2 (φ := .f32) x10 D.nw)
    (i : S2x4x2048x2048.Idx) :
    val_main_v106 (F := Ideal) x1 x2 x3 x4 x5 x7 x8 x10 i
      = ((∑ r ∈ Finset.range 4, D.dscore (i 0).val (4 * (i 1).val + r) (i 2).val (i 3).val : ℝ) : EReal) := by
  have b0 : (i 0).val < 2 := (i 0).isLt
  have b1 : (i 1).val < 4 := (i 1).isLt
  have b2 : (i 2).val < 2048 := (i 2).isLt
  have b3 : (i 3).val < 2048 := (i 3).isLt
  have e0 : (idx_main_v105 (idx_main_v106 i 0) 0).val = (i 0).val := by simp only [idx_main_v105, idx_main_v106, Fin.val_zero]; omega
  have e1 : (idx_main_v105 (idx_main_v106 i 0) 1).val = (i 1).val := by simp only [idx_main_v105, idx_main_v106, Fin.val_zero]; omega
  have e2 : (idx_main_v105 (idx_main_v106 i 0) 2).val = (i 2).val := by simp only [idx_main_v105, idx_main_v106, Fin.val_zero]; omega
  have e3 : (idx_main_v105 (idx_main_v106 i 0) 3).val = (i 3).val := by simp only [idx_main_v105, idx_main_v106, Fin.val_zero]; omega
  rw [val_main_v106_apply, Fin.sum_univ_one, val_main_v105_apply]
  generalize idx_main_v105 (idx_main_v106 i 0) = j at e0 e1 e2 e3 ⊢
  rw [val_main_v104_apply, val_main_cst_7_apply, val_main_cst_8_apply, lit_zero,
    sum_image _ fun r => D.dscore (i 0).val (4 * (i 1).val + r) (i 2).val (i 3).val]
  · rw [← EReal.coe_add, ← EReal.coe_add, zero_add, zero_add]
  · intro r
    rw [v103_is h1 h2 h3 h4 h5 h7 h8 h10, ← e0, ← e1, ← e2, ← e3]

theorem v116_is (h1 : Is2 (φ := .f32) x1 D.duy) (h2 : Is2 (φ := .f32) x2 D.proj) (h3 : Is2 (φ := .f32) x3 D.ys) (h4 : Is2 (φ := .f32) x4 D.xbc)
    (h5 : Is2 (φ := .f32) x5 D.dtr) (h7 : Is2 (φ := .f32) x7 D.bias) (h8 : Is2 (φ := .f32) x8 D.alog) (h10 : Is2 (φ := .f32) x10 D.nw)
    (i : S2x2048x512.Idx) :
    val_main_v116 (F := Ideal) x1 x2 x3 x4 x5 x7 x8 x10 i
      = ((D.dB (i 0).val (i 1).val ((i 2).val / 128) ((i 2).val % 128) : ℝ) : EReal) := by
  have b0 : (i 0).val < 2 := (i 0).isLt
  have b1 : (i 1).val < 2048 := (i 1).isLt
  have b2 : (i 2).val < 512 := (i 2).isLt
  have e0 : (idx_main_v108 (idx_main_v116 i) 0).val = (i 0).val := by simp only [idx_main_v108, idx_main_v116]; omega
  have e1 : (idx_main_v108 (idx_main_v116 i) 1).val = (i 2).val / 128 := by simp only [idx_main_v108, idx_main_v116]; omega
  have e2 : (idx_main_v108 (idx_main_v116 i) 2).val = (i 1).val := by simp only [idx_main_v108, idx_main_v116]; omega
  have e3 : (idx_main_v108 (idx_main_v116 i) 3).val = (i 2).val % 128 := by simp only [idx_main_v108, idx_main_v116]; omega
  rw [val_main_v116_apply, val_main_v108_apply]
  generalize idx_main_v108 (idx_main_v116 i) = j at e0 e1 e2 e3 ⊢
  rw [val_main_v107_apply, ← e0, ← e1, ← e2, ← e3]
  refine sum_image _ (fun t => (∑ r ∈ Finset.range 4, D.dscore (j 0).val (4 * (j 1).val + r) t (j 2).val) * D.matC (2048 * (j 0).val + t) (j 1).val (j 3).val) fun t => ?_
  rw [v106_is h1 h2 h3 h4 h5 h7 h8 h10, v56_is h4]
  exact (EReal.coe_mul _ _).symm

/-- The reference's result at a row of sequence `b` and a column of `x` or of `B`. -/
def want (D : Args) (b s c : ℕ) : ℝ := if c < 1024 then D.dx b s c else D.dB b s ((c - 1024) / 128) ((c - 1024) % 128)

theorem v119_is (h1 : Is2 (φ := .f32) x1 D.duy) (h2 : Is2 (φ := .f32) x2 D.proj) (h3 : Is2 (φ := .f32) x3 D.ys) (h4 : Is2 (φ := .f32) x4 D.xbc)
    (h5 : Is2 (φ := .f32) x5 D.dtr) (h7 : Is2 (φ := .f32) x7 D.bias) (h8 : Is2 (φ := .f32) x8 D.alog) (h9 : Is2 (φ := .f32) x9 D.d)
    (h10 : Is2 (φ := .f32) x10 D.nw) (i : S4096x2048.Idx) (hc : (i 1).val < 1536) :
    val_main_v119 (F := Ideal) x1 x2 x3 x4 x5 x7 x8 x9 x10 i
      = ((want D ((i 0).val / 2048) ((i 0).val % 2048) (i 1).val : ℝ) : EReal) := by
  have b0 : (i 0).val < 4096 := (i 0).isLt
  have e0 : (idx_main_v119 i 0).val = (i 0).val / 2048 := by simp only [idx_main_v119]; omega
  have e1 : (idx_main_v119 i 1).val = (i 0).val % 2048 := by simp only [idx_main_v119]; omega
  have e2 : (idx_main_v119 i 2).val = (i 1).val := by simp only [idx_main_v119]; omega
  rw [val_main_v119_apply]
  generalize idx_main_v119 i = j at e0 e1 e2 ⊢
  rw [← e0, ← e1, ← e2]
  rw [← e2] at hc
  unfold val_main_v118 want
  by_cases h : (j 2).val < 1024
  · rw [if_pos h]
    refine (concatenate_apply_piece _ _ _ j 0 (by show 0 < 3; norm_num) S2x2048x1024 _ rfl rfl 0 rfl
      (fun a => match a with
        | ⟨0, _⟩ => ⟨(j 0).val, (j 0).isLt⟩
        | ⟨1, _⟩ => ⟨(j 1).val, (j 1).isLt⟩
        | ⟨2, _⟩ => ⟨(j 2).val, h⟩)
      (fun b hb => match b with | ⟨0, _⟩ => rfl | ⟨1, _⟩ => rfl | ⟨2, _⟩ => absurd rfl hb) (Nat.zero_add _)).trans ?_
    exact v117_is h1 h2 h3 h4 h5 h7 h8 h9 h10 _
  · rw [if_neg h]
    refine (concatenate_apply_piece _ _ _ j 1 (by show 1 < 3; norm_num) S2x2048x512 _ rfl rfl 1024 rfl
      (fun a => match a with
        | ⟨0, _⟩ => ⟨(j 0).val, (j 0).isLt⟩
        | ⟨1, _⟩ => ⟨(j 1).val, (j 1).isLt⟩
        | ⟨2, _⟩ => ⟨(j 2).val - 1024, by show (j 2).val - 1024 < 512; omega⟩)
      (fun b hb => match b with | ⟨0, _⟩ => rfl | ⟨1, _⟩ => rfl | ⟨2, _⟩ => absurd rfl hb)
      (by show 1024 + ((j 2).val - 1024) = (j 2).val; omega)).trans ?_
    exact v116_is h1 h2 h3 h4 h5 h7 h8 h10 _

end SsdBwd.Reference
end
-- ==== Proof.DxAndDb.lean ====
module

public import proofs.«01_k».proof.Defs
public import proofs.«01_k».proof.Proof.GridAfter
public import proofs.«01_k».proof.Proof.ReferenceGrad
public import proofs.«01_k».proof.Proof.Gen.Pre_finite
public import proofs.«01_k».proof.Proof.Gen.On_dx_and_db
public import proofs.«01_k».proof.Proof.Gen.ReferenceIdeal.Run
public import proofs.«01_k».proof.Proof.Gen.ReferenceIdeal.Read

@[expose] public section

/-!
# The value claim

At the columns of the value gradient and of the key gradient, kernel and reference both end with the real number
`Args.dxbc` of the arguments.
-/

set_option maxRecDepth 16384

noncomputable section

namespace SsdBwd

open Idealize.ShloMosaic Idealize.ShloMosaic.TcCoe Idealize.SL.Sem

/-- The precondition says that the arguments are finite. -/
theorem finiteLaunch {m : (ℓ : Loc Cert.KernelIdeal.nD Cert.KernelIdeal.τ Cert.KernelIdeal.sig) → Buf (Elt Ideal) ℓ}
    (h : Cert.Pre_KernelIdeal_finite m) (c : Dev Cert.KernelIdeal.nD) : FiniteLaunch m c := by
  obtain ⟨h1, h2, h3, h4, h5, h7, h8, h9, h10⟩ := h c
  exact ⟨finite_of_lt _ _ h1, finite_of_lt _ _ h2, finite_of_lt _ _ h3, finite_of_lt _ _ h4, finite_of_lt _ _ h5, finite_of_lt _ _ h7,
    finite_of_lt _ _ h8, finite_of_lt _ _ h9, finite_of_lt _ _ h10⟩

/-- The mask selects columns below 1536. -/
theorem column_lt (k : ℕ) (hk : k < 2048) (h : IntOp.cmpi .slt (BitVec.ofNat 32 k) 1536#32 = 1#1) : k < 1536 := by
  have h1 : BitVec.ofBool (BitVec.slt (BitVec.ofNat 32 k) 1536#32) = 1#1 := h
  by_contra hn
  have e : BitVec.slt (BitVec.ofNat 32 k) 1536#32 = false := by
    rw [BitVec.slt_eq_decide, decide_eq_false_iff_not, BitVec.toInt_ofNat']
    have : (1536#32 : BitVec 32).toInt = 1536 := by decide
    rw [this]
    have hb : Int.bmod (k : ℤ) (2 ^ 32) = k := by
      rw [Int.bmod_eq_of_le] <;> norm_num <;> omega
    rw [hb]
    omega
  rw [e] at h1
  exact absurd h1 (by decide)

theorem equal_is {M N : ℕ} {X Y : FVec Ideal ⟨2, ![M, N]⟩ .f32} (e : X = Y) (h : Finite Y) : Is2 X (real2 Y) := by
  subst e
  exact real2_is h

/-- The reference's entries at those columns, from a memory that holds the same arguments. -/
theorem reference_is {m : (ℓ : Loc Cert.KernelIdeal.nD Cert.KernelIdeal.τ Cert.KernelIdeal.sig) → Buf (Elt Ideal) ℓ} {c : Dev Cert.KernelIdeal.nD}
    (h : FiniteLaunch m c) {x1 x4 : FVec Ideal ⟨2, ![4096, 2048]⟩ .f32} {x2 : FVec Ideal ⟨2, ![4096, 5120]⟩ .f32} {x3 : FVec Ideal ⟨2, ![4096, 1024]⟩ .f32}
    {x5 : FVec Ideal ⟨2, ![4096, 128]⟩ .f32} {x7 x8 x9 : FVec Ideal ⟨2, ![1, 16]⟩ .f32} {x10 : FVec Ideal ⟨2, ![1, 1024]⟩ .f32}
    (g1 : x1 = m ((c.tc : Thread Cert.KernelIdeal.nD Cert.KernelIdeal.τ).loc Cert.KernelIdeal.main_arg1))
    (g2 : x2 = m ((c.tc : Thread Cert.KernelIdeal.nD Cert.KernelIdeal.τ).loc Cert.KernelIdeal.main_arg2))
    (g3 : x3 = m ((c.tc : Thread Cert.KernelIdeal.nD Cert.KernelIdeal.τ).loc Cert.KernelIdeal.main_arg3))
    (g4 : x4 = m ((c.tc : Thread Cert.KernelIdeal.nD Cert.KernelIdeal.τ).loc Cert.KernelIdeal.main_arg4))
    (g5 : x5 = m ((c.tc : Thread Cert.KernelIdeal.nD Cert.KernelIdeal.τ).loc Cert.KernelIdeal.main_arg5))
    (g7 : x7 = m ((c.tc : Thread Cert.KernelIdeal.nD Cert.KernelIdeal.τ).loc Cert.KernelIdeal.main_arg7))
    (g8 : x8 = m ((c.tc : Thread Cert.KernelIdeal.nD Cert.KernelIdeal.τ).loc Cert.KernelIdeal.main_arg8))
    (g9 : x9 = m ((c.tc : Thread Cert.KernelIdeal.nD Cert.KernelIdeal.τ).loc Cert.KernelIdeal.main_arg9))
    (g10 : x10 = m ((c.tc : Thread Cert.KernelIdeal.nD Cert.KernelIdeal.τ).loc Cert.KernelIdeal.main_arg10))
    (i : Cert.ReferenceIdeal.S4096x2048.Idx) (hi : (i 1).val < 1536) :
    Cert.ReferenceIdeal.Read.val_main_v119 (F := Ideal) x1 x2 x3 x4 x5 x7 x8 x9 x10 i
      = (((launched m c).dxbc ((i 0).val / 2048) ((i 0).val % 2048) (i 1).val : ℝ) : EReal) :=
  Reference.v119_is (D := launched m c) (equal_is g1 h.duy) (equal_is g2 h.proj) (equal_is g3 h.ys) (equal_is g4 h.xbc) (equal_is g5 h.dtr)
    (equal_is g7 h.bias) (equal_is g8 h.alog) (equal_is g9 h.d) (equal_is g10 h.nw) i hi

/-- `Cert.algebraic_KernelIdeal_ReferenceIdeal_on_dx_and_db_pre_finite` (Defs.lean). -/
theorem algebraic : Cert.algebraic_KernelIdeal_ReferenceIdeal_on_dx_and_db_pre_finite := by
  intro m ρ m' ρ' hpre hagree
  refine ⟨fun c => (Cert.KernelIdeal.Gen.dats m 0 c).arrAt 14 Cert.KernelIdeal.cfg0.N, ?_, ?_⟩
  · refine (θ_run Cert.KernelIdeal.defs _ _).mono (fun r h c => ?_) (Cert.KernelIdeal.Value.run_blocks (F := Ideal) m ρ)
    obtain ⟨-, h1, -, -, k⟩ := h c
    exact ⟨fun i _ => congrFun h1 i, k⟩
  · refine (θ_run Cert.ReferenceIdeal.defs _ _).mono (fun r h c => ?_) (Cert.ReferenceIdeal.Value.run (F := Ideal) m' ρ')
    obtain ⟨h1, k⟩ := h c
    refine ⟨fun i hi => ?_, k⟩
    have hcol : (i 1).val < 1536 := column_lt _ (i 1).isLt hi
    obtain ⟨-, g1, g2, g3, g4, g5, -, g7, g8, g9, g10⟩ := hagree c
    refine (congrFun h1 i).trans ((congrFun (Cert.ReferenceIdeal.Read.val_main_v119_eq m' c) i).trans ?_)
    exact (reference_is (finiteLaunch hpre c) g1 g2 g3 g4 g5 g7 g8 g9 g10 i hcol).trans (result_is (finiteLaunch hpre c) i hcol).symm

/-- The reference leaves its arguments, and it declares no semaphore. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end SsdBwd

end
-- ==== Proof.Products.lean ====
module

public import Idealize.ShloMosaic.Lib.MatmulPlain
public import Idealize.ShloMosaic.Lib.Pipeline.Value
public import Idealize.ShloMosaic.Lib.WholeRead

@[expose] public section

/-!
# Matrix products over the extended reals

The matrix products of the step need no finiteness: a sum of products of extended reals is a sum in a commutative
monoid, so it may be cut into the pieces in which a kernel adds it up. `Holds v f` says that the two-axis vector `v`
holds the extended reals `f row column`, with one lemma for each thing that the kernels do to a block. `partial_step` is
the one fact about sums: a product over the first `o` columns, plus the product of the next `k` of them, is the product
over the first `o + k`.
-/

set_option maxRecDepth 16384

namespace Products

open Idealize.ShloMosaic
open Idealize.ShloMosaic.ValueIdx
open scoped BigOperators

variable {m n k M N : ℕ} {φ ψ : FTy}

/-- The vector `v` holds the extended reals `f row column`. -/
def Holds (v : FVec Ideal ⟨2, ![m, n]⟩ φ) (f : ℕ → ℕ → EReal) : Prop :=
  ∀ i : (⟨2, ![m, n]⟩ : Shape).Idx, v i = f (i 0).val (i 1).val

/-- An array as a function of two natural coordinates, zero outside. -/
noncomputable def table (X : FVec Ideal ⟨2, ![m, n]⟩ φ) (r c : ℕ) : EReal :=
  if h : r < m ∧ c < n then X (ix2 ⟨r, h.1⟩ ⟨c, h.2⟩) else 0

theorem table_holds (X : FVec Ideal ⟨2, ![m, n]⟩ φ) : Holds X (table X) := fun i => by
  have h : (i 0).val < m ∧ (i 1).val < n := ⟨(i 0).isLt, (i 1).isLt⟩
  rw [table, dif_pos h]
  exact congrArg X (Shape.idx_ext₂ rfl rfl)

/-- The product of rows of `f` by columns of `g`, over `k` terms. -/
noncomputable def prod (k : ℕ) (f g : ℕ → ℕ → EReal) (r c : ℕ) : EReal := ∑ q ∈ Finset.range k, f r q * g q c

/-- The columns of a table as rows. -/
def swapped (f : ℕ → ℕ → EReal) (r c : ℕ) : EReal := f c r

/-- A table seen from row `o` and column `p` on. -/
def shift (o p : ℕ) (f : ℕ → ℕ → EReal) (r c : ℕ) : EReal := f (o + r) (p + c)

/-- A product over no term, plus the first piece. -/
theorem partial_first (k s t : ℕ) (f g : ℕ → ℕ → EReal) (r c : ℕ) :
    0 + prod k (shift s 0 f) (shift 0 t g) r c = prod k (shift s 0 f) (shift 0 t g) r c := zero_add _

theorem prod_zero (f g : ℕ → ℕ → EReal) (r c : ℕ) : prod 0 f g r c = 0 := Finset.sum_range_zero _

/-- A product over `o + k` terms, in two pieces. -/
theorem partial_step (o k s t : ℕ) (f g : ℕ → ℕ → EReal) (r c : ℕ) :
    prod o (shift s 0 f) (shift 0 t g) r c + prod k (shift s o f) (shift o t g) r c = prod (o + k) (shift s 0 f) (shift 0 t g) r c := by
  unfold prod shift
  rw [Finset.sum_range_add]
  simp only [Nat.zero_add]

namespace Holds

theorem congr {v : FVec Ideal ⟨2, ![m, n]⟩ φ} {f g : ℕ → ℕ → EReal} (h : Holds v f)
    (e : ∀ r c, r < m → c < n → f r c = g r c) : Holds v g := fun i => by
  rw [h i, e _ _ (i 0).isLt (i 1).isLt]

theorem at_ix2 {v : FVec Ideal ⟨2, ![m, n]⟩ φ} {f : ℕ → ℕ → EReal} (h : Holds v f) (r : Fin m) (c : Fin n) :
    v (ix2 r c) = f r.val c.val := h (ix2 r c)

/-- A block of zeros. -/
theorem zeros : Holds (broadcast ⟨2, ![m, n]⟩ (Scalar.ofBits (F := Ideal) .f32 0x00000000#32)) fun _ _ => 0 := fun _ => Ideal.ofBits_zero_f32

theorem add {x y : FVec Ideal ⟨2, ![m, n]⟩ φ} {f g : ℕ → ℕ → EReal} (hx : Holds x f) (hy : Holds y g) :
    Holds (addf x y) fun r c => f r c + g r c := fun i => by
  show x i + y i = _
  rw [hx i, hy i]

theorem cast {x : FVec Ideal ⟨2, ![m, n]⟩ φ} {f : ℕ → ℕ → EReal} {h : (⟨2, ![m, n]⟩ : Shape).ShapeCasts ⟨2, ![m, n]⟩}
    (hx : Holds x f) : Holds (shapeCast ⟨2, ![m, n]⟩ x h) f := fun i => by
  rw [shapeCast_apply x h i i rfl]; exact hx i

/-- A block of a larger array, whose element `y` sits at `e y`. -/
theorem block {X : FVec Ideal ⟨2, ![M, N]⟩ φ} {f : ℕ → ℕ → EReal} (hX : Holds X f) (o p : ℕ)
    {v : FVec Ideal ⟨2, ![m, n]⟩ φ} (e : (⟨2, ![m, n]⟩ : Shape).Idx → (⟨2, ![M, N]⟩ : Shape).Idx) (hv : ∀ y, v y = X (e y))
    (h0 : ∀ y, (e y 0).val = o + (y 0).val) (h1 : ∀ y, (e y 1).val = p + (y 1).val) : Holds v (shift o p f) := fun y => by
  rw [hv y, hX, h0, h1]; rfl

theorem term_sum {F : Fin k → EReal} {g : ℕ → EReal} (h : ∀ q : Fin k, F q = g q.val) : ∑ q, F q = ∑ q ∈ Finset.range k, g q := by
  rw [Finset.sum_range]; exact Finset.sum_congr rfl fun q _ => h q

/-- `A · B`, into a zero block. -/
theorem dot {x : FVec Ideal ⟨2, ![m, k]⟩ φ} {y : FVec Ideal ⟨2, ![k, n]⟩ ψ} {f g : ℕ → ℕ → EReal}
    (d : DotDims ⟨2, ![m, k]⟩ ⟨2, ![k, n]⟩ ⟨2, ![m, n]⟩) (hd : d = DotDims.plain m k n) {p : Option ContractPrecision}
    (hx : Holds x f) (hy : Holds y g) :
    Holds (matmul d p x y (constant (⟨2, ![m, n]⟩ : Shape) .f32 0x00000000#32)) (prod k f g) := fun i => by
  subst hd
  obtain ⟨r, c, rfl⟩ : ∃ (r : Fin m) (c : Fin n), i = ix2 r c := ⟨⟨_, (i 0).isLt⟩, ⟨_, (i 1).isLt⟩, Shape.idx_ext₂ rfl rfl⟩
  show FloatOps.matmul _ _ _ _ _ _ = _
  rw [Ideal.matmul_plain_apply]
  show Ideal.ofBits .f32 0x00000000#32 + _ = _
  rw [Ideal.ofBits_zero_f32, zero_add]
  exact term_sum fun q => by rw [hx.at_ix2, hy.at_ix2]; rfl

/-- `A · Bᵀ`, into a zero block. -/
theorem dotT {x : FVec Ideal ⟨2, ![m, k]⟩ φ} {y : FVec Ideal ⟨2, ![n, k]⟩ ψ} {f g : ℕ → ℕ → EReal}
    (d : DotDims ⟨2, ![m, k]⟩ ⟨2, ![n, k]⟩ ⟨2, ![m, n]⟩) (hd : d = DotDims.transposedRhs m k n) {p : Option ContractPrecision}
    (hx : Holds x f) (hy : Holds y g) :
    Holds (matmul d p x y (constant (⟨2, ![m, n]⟩ : Shape) .f32 0x00000000#32)) (prod k f (swapped g)) := fun i => by
  subst hd
  obtain ⟨r, c, rfl⟩ : ∃ (r : Fin m) (c : Fin n), i = ix2 r c := ⟨⟨_, (i 0).isLt⟩, ⟨_, (i 1).isLt⟩, Shape.idx_ext₂ rfl rfl⟩
  show FloatOps.matmul _ _ _ _ _ _ = _
  rw [Ideal.matmul_transposedRhs_apply]
  show Ideal.ofBits .f32 0x00000000#32 + _ = _
  rw [Ideal.ofBits_zero_f32, zero_add]
  exact term_sum fun q => by rw [hx.at_ix2, hy.at_ix2]; rfl

/-- `Aᵀ · B`, into a zero block, given what its dimension numbers read. -/
theorem tdot {x : FVec Ideal ⟨2, ![k, m]⟩ φ} {y : FVec Ideal ⟨2, ![k, n]⟩ ψ} {f g : ℕ → ℕ → EReal}
    (d : DotDims ⟨2, ![k, m]⟩ ⟨2, ![k, n]⟩ ⟨2, ![m, n]⟩) {p : Option ContractPrecision}
    (hr : d.contr.rank = 1) (hs : d.contr.size ⟨0, by rw [hr]; exact Nat.one_pos⟩ = k)
    (l0 : ∀ j q, (d.lhsIdx j q 0).val = (q ⟨0, by rw [hr]; exact Nat.one_pos⟩).val) (l1 : ∀ j q, (d.lhsIdx j q 1).val = (j 0).val)
    (r0 : ∀ j q, (d.rhsIdx j q 0).val = (q ⟨0, by rw [hr]; exact Nat.one_pos⟩).val) (r1 : ∀ j q, (d.rhsIdx j q 1).val = (j 1).val)
    (hx : Holds x f) (hy : Holds y g) :
    Holds (matmul d p x y (constant (⟨2, ![m, n]⟩ : Shape) .f32 0x00000000#32)) (prod k (swapped f) g) := fun i => by
  show FloatOps.matmul _ _ _ _ _ _ = _
  rw [Ideal.matmul_constant_zero_apply, ← Equiv.sum_comp (contrEquiv1 d k hr hs).symm]
  refine term_sum fun q => ?_
  have hk := contrEquiv1_symm_val d k hr hs q
  rw [hx, hy, l0, l1, r0, r1, hk]
  rfl

end Holds

/-- `Holds` of a block that is one slot of a three-axis array. -/
def HoldsSlot (v : FVec Ideal ⟨3, ![1, m, n]⟩ φ) (f : ℕ → ℕ → EReal) : Prop :=
  ∀ i : (⟨3, ![1, m, n]⟩ : Shape).Idx, v i = f (i 1).val (i 2).val

theorem Holds.toSlot {x : FVec Ideal ⟨2, ![m, n]⟩ φ} {f : ℕ → ℕ → EReal} {h : (⟨2, ![m, n]⟩ : Shape).ShapeCasts ⟨3, ![1, m, n]⟩}
    (hx : Holds x f) : HoldsSlot (shapeCast ⟨3, ![1, m, n]⟩ x h) f := fun i => by
  have b0 : (i 0).val < 1 := (i 0).isLt
  refine (shapeCast_apply x h i (ix2 (⟨(i 1).val, (i 1).isLt⟩ : Fin m) (⟨(i 2).val, (i 2).isLt⟩ : Fin n)) ?_).trans (hx _)
  rewrite [Shape.rowMajor_val_two, Shape.rowMajor_val_three]
  show (i 1).val * n + (i 2).val = ((i 0).val * m + (i 1).val) * n + (i 2).val
  rw [show (i 0).val = 0 by omega, Nat.zero_mul, Nat.zero_add]

theorem HoldsSlot.fromSlot {x : FVec Ideal ⟨3, ![1, m, n]⟩ φ} {f : ℕ → ℕ → EReal} {h : (⟨3, ![1, m, n]⟩ : Shape).ShapeCasts ⟨2, ![m, n]⟩}
    (hx : HoldsSlot x f) : Holds (shapeCast ⟨2, ![m, n]⟩ x h) f := fun i => by
  refine (shapeCast_apply x h i (ix3 (⟨0, Nat.one_pos⟩ : Fin 1) (⟨(i 0).val, (i 0).isLt⟩ : Fin m) (⟨(i 1).val, (i 1).isLt⟩ : Fin n)) ?_).trans (hx _)
  rewrite [Shape.rowMajor_val_two, Shape.rowMajor_val_three]
  show (0 * m + (i 0).val) * n + (i 1).val = (i 0).val * n + (i 1).val
  rw [Nat.zero_mul, Nat.zero_add]

theorem HoldsSlot.congr {v : FVec Ideal ⟨3, ![1, m, n]⟩ φ} {f g : ℕ → ℕ → EReal} (h : HoldsSlot v f)
    (e : ∀ r c, r < m → c < n → f r c = g r c) : HoldsSlot v g := fun i => by
  rw [h i, e _ _ (i 1).isLt (i 2).isLt]

/-! ## What a body leaves in a buffer that it stores whole -/

section Stored

variable {Val : EltTy → Type} {S : Shape} {e : EltTy} {sig : RefSig} {κ : Kind} {sp : Space}

/-- Read back, what was stored last. -/
theorem reread [∀ e, Nonempty (Val e)] (v : View sig κ sp S e) {off : Fin S.rank → ℕ} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon', View.canon_cons_unit_zero h]
  exact View.ld_unit_zero h inb w

/-- Read whole, what the buffer holds. -/
theorem read_whole (a : Memref sig κ sp S e) (ha : a.IsWhole) {off : Fin S.rank → ℕ} (h : off = fun _ => 0) (inb : ∀ a, off a + S.size a ≤ S.size a)
    (w : S.Idx → Val e) : View.readAt Val a.view (Rect.unit off S.size inb).toLoadRect (ha.unread w) = w :=
  (funext fun x => ha.readAt_unread (Val := Val) w (Rect.unit off S.size inb).toLoadRect x).trans (View.ld_unit_zero h inb w)

end Stored

theorem zeros2 : (![0, 0] : Fin 2 → ℕ) = fun _ => 0 := funext fun a => by match a with | 0 => rfl | 1 => rfl

theorem zeros3 : (![0, 0, 0] : Fin 3 → ℕ) = fun _ => 0 := funext fun a => by match a with | 0 => rfl | 1 => rfl | 2 => rfl

end Products
-- ==== Proof.Slabs.lean ====
module

public import proofs.«01_k».proof.Proof.Products
public import Idealize.ShloMosaic.Lib.IdealHost

@[expose] public section

/-!
# Blocks that are stored slab by slab

A body that loads some rows of a block, computes, and stores the same rows of its result, one slab of rows after the
other.
-/

set_option maxRecDepth 16384

namespace Products

open Idealize.ShloMosaic
open Idealize.ShloMosaic.ValueIdx
open scoped BigOperators

variable {m n k M N : ℕ} {φ ψ : FTy}

theorem prod_shift (k o p : ℕ) (f g : ℕ → ℕ → EReal) : prod k (shift o 0 f) (shift 0 p g) = shift o p (prod k f g) := by
  funext r c
  unfold prod shift
  simp only [Nat.zero_add]

theorem prod_shift_swapped (k o p : ℕ) (f g : ℕ → ℕ → EReal) : prod k (shift o 0 f) (swapped (shift p 0 g)) = shift o p (prod k f (swapped g)) := by
  funext r c
  unfold prod shift swapped
  simp only [Nat.zero_add]

theorem prod_rows (k o : ℕ) (f g : ℕ → ℕ → EReal) : prod k (shift o 0 f) g = shift o 0 (prod k f g) := by
  funext r c
  unfold prod shift
  simp only [Nat.zero_add]

namespace Holds

/-- A rectangle of a block, loaded. -/
theorem load {X : FVec Ideal ⟨2, ![M, N]⟩ φ} {f : ℕ → ℕ → EReal} (hX : Holds X f) (o p : ℕ)
    (inb : ∀ a, (![o, p] : Fin 2 → ℕ) a + (⟨2, ![m, n]⟩ : Shape).size a ≤ (⟨2, ![M, N]⟩ : Shape).size a) :
    Holds (m := m) (n := n) (φ := φ) (fun x => X ((Rect.unit (s := ⟨2, ![M, N]⟩) ![o, p] (⟨2, ![m, n]⟩ : Shape).size inb).idx x)) (shift o p f) :=
  block hX o p _ (fun _ => rfl) (fun y => by show o + 1 * (y 0).val = _; rw [Nat.one_mul]) (fun y => by show p + 1 * (y 1).val = _; rw [Nat.one_mul])

/-- A rectangle of a block, stored. -/
theorem stored {w : FVec Ideal ⟨2, ![m, n]⟩ φ} {f : ℕ → ℕ → EReal} (o p : ℕ) (hw : Holds w (shift o p f))
    (inb : ∀ a, (![o, p] : Fin 2 → ℕ) a + (⟨2, ![m, n]⟩ : Shape).size a ≤ (⟨2, ![M, N]⟩ : Shape).size a) (x : (⟨2, ![m, n]⟩ : Shape).Idx) :
    w x = f ((Rect.unit (s := ⟨2, ![M, N]⟩) ![o, p] (⟨2, ![m, n]⟩ : Shape).size inb).emb x 0).val ((Rect.unit (s := ⟨2, ![M, N]⟩) ![o, p] (⟨2, ![m, n]⟩ : Shape).size inb).emb x 1).val := by
  rw [hw x]
  show f (o + (x 0).val) (p + (x 1).val) = f (o + 1 * (x 0).val) (p + 1 * (x 1).val)
  rw [Nat.one_mul, Nat.one_mul]

theorem round {x : FVec Ideal ⟨2, ![m, n]⟩ .f32} {f : ℕ → ℕ → EReal} {h : FTy.bits .bf16 < FTy.bits .f32} (hx : Holds x f) : Holds (truncf .bf16 x h) f := fun i => hx i

theorem widen {x : FVec Ideal ⟨2, ![m, n]⟩ .bf16} {f : ℕ → ℕ → EReal} {h : FTy.bits .bf16 < FTy.bits .f32} (hx : Holds x f) : Holds (extf .f32 x h) f := fun i => hx i

theorem turn {x : FVec Ideal ⟨2, ![m, n]⟩ φ} {f : ℕ → ℕ → EReal} {h : (⟨2, ![m, n]⟩ : Shape).Transposes [1, 0] ⟨2, ![n, m]⟩} (hx : Holds x f) :
    Holds (transpose ⟨2, ![n, m]⟩ [1, 0] x h) (swapped f) := fun i =>
  (transpose_apply [1, 0] x h i (ix2 (⟨(i 1).val, (i 1).isLt⟩ : Fin m) (⟨(i 0).val, (i 0).isLt⟩ : Fin n)) fun b => match b with
    | ⟨0, _⟩ => rfl
    | ⟨1, _⟩ => rfl).trans (hx _)

theorem lands {v : FVec Ideal ⟨2, ![m, n]⟩ φ} {f : ℕ → ℕ → EReal} {o p : ℕ} (h : Holds v (shift o p f)) (y : (⟨2, ![m, n]⟩ : Shape).Idx)
    (i : (⟨2, ![M, N]⟩ : Shape).Idx) (e0 : (i 0).val = o + (y 0).val) (e1 : (i 1).val = p + (y 1).val) : v y = f (i 0).val (i 1).val := by
  rw [h y, e0, e1]; rfl

theorem mul {x y : FVec Ideal ⟨2, ![m, n]⟩ φ} {f g : ℕ → ℕ → EReal} (hx : Holds x f) (hy : Holds y g) :
    Holds (mulf x y) fun r c => f r c * g r c := fun i => by
  show x i * y i = _
  rw [hx i, hy i]

theorem sub {x y : FVec Ideal ⟨2, ![m, n]⟩ φ} {f g : ℕ → ℕ → EReal} (hx : Holds x f) (hy : Holds y g) :
    Holds (subf x y) fun r c => f r c - g r c := fun i => by
  show x i - y i = _
  rw [hx i, hy i]

/-- What is stored as four pieces that cover the block. -/
theorem four {r1 r2 r3 r4 : Rect (⟨2, ![M, N]⟩ : Shape)} {w1 : r1.shape.Idx → Elt Ideal .bf16} {w2 : r2.shape.Idx → Elt Ideal .bf16} {w3 : r3.shape.Idx → Elt Ideal .bf16}
    {w4 : r4.shape.Idx → Elt Ideal .bf16} {f : ℕ → ℕ → EReal}
    (hc : ∀ y, ∃ p ∈ ([⟨r1, w1⟩, ⟨r2, w2⟩, ⟨r3, w3⟩, ⟨r4, w4⟩] : List (View.Piece (Elt Ideal) (⟨2, ![M, N]⟩ : Shape) .bf16)), y ∈ p.1.set)
    (h1 : ∀ x, w1 x = f (r1.emb x 0).val (r1.emb x 1).val) (h2 : ∀ x, w2 x = f (r2.emb x 0).val (r2.emb x 1).val)
    (h3 : ∀ x, w3 x = f (r3.emb x 0).val (r3.emb x 1).val) (h4 : ∀ x, w4 x = f (r4.emb x 0).val (r4.emb x 1).val) :
    Holds (φ := .bf16) (View.canon ([⟨r1, w1⟩, ⟨r2, w2⟩, ⟨r3, w3⟩, ⟨r4, w4⟩] : List (View.Piece (Elt Ideal) (⟨2, ![M, N]⟩ : Shape) .bf16))) f := fun y =>
  View.canon_apply_of_pieces (fun i => f (i 0).val (i 1).val) _
    (List.forall_mem_cons.mpr ⟨h1, List.forall_mem_cons.mpr ⟨h2, List.forall_mem_cons.mpr ⟨h3, List.forall_mem_cons.mpr ⟨h4, fun _ h => absurd h List.not_mem_nil⟩⟩⟩⟩) y (hc y)

end Holds

/-! ## The gate -/

/-- The logistic function. -/
noncomputable def sig (g : EReal) : EReal := Ideal.div 1 (1 + Ideal.exp (-g))

/-- The logistic function of a block, as the kernels compute it. -/
theorem Holds.logistic {x : FVec Ideal ⟨2, ![m, n]⟩ .f32} {f : ℕ → ℕ → EReal} (hx : Holds x f) :
    Holds (divf (broadcast ⟨2, ![m, n]⟩ (Scalar.ofBits (F := Ideal) .f32 0x3F800000#32))
      (addf (broadcast ⟨2, ![m, n]⟩ (Scalar.ofBits (F := Ideal) .f32 0x3F800000#32)) (exp (subf (broadcast ⟨2, ![m, n]⟩ (Scalar.ofBits (F := Ideal) .f32 0x00000000#32)) x))))
      fun r c => sig (f r c) := fun i => by
  show Ideal.div (Ideal.ofBits .f32 0x3F800000#32) (Ideal.ofBits .f32 0x3F800000#32 + Ideal.exp (Ideal.ofBits .f32 0x00000000#32 - x i)) = _
  rw [Ideal.ofBits_one_f32, Ideal.ofBits_zero_f32, sub_eq_add_neg, zero_add, hx i]
  rfl

end Products
-- ==== Proof.GateAct.lean ====
module

public import proofs.«01_k».proof.Defs
public import proofs.«01_k».proof.Proof.Slabs
public import proofs.«01_k».proof.Proof.FiniteArgs
public import proofs.«01_k».proof.Proof.Gen.Pre_finite2
public import proofs.«01_k».proof.Proof.Gen.Kernel2Ideal.Value
public import proofs.«01_k».proof.Proof.Gen.Reference2Ideal.Run
public import proofs.«01_k».proof.Proof.Gen.Reference2Ideal.Read

@[expose] public section

/-!
# The gradients of the two branches of the SwiGLU

With `da = df · w_downᵀ` the kernel stores `da u s (1 + g (1 - s))` and `da g s`, where `s` is the logistic function of
the gate `g`. The derivative of `g s` is `s + g s (1 - s)`; that the first result is `da u` times it takes a product
distributed over a sum, and over the extended reals this holds because `da u` is a real number: the gate itself may be
infinite.
-/

set_option maxRecDepth 16384

noncomputable section

namespace GateAct

open Idealize.ShloMosaic Idealize.ShloMosaic.TcCoe Idealize.SL.Sem Products
open Cert.Kernel2Ideal Cert.Kernel2Ideal.Gen

/-- The gradient of the gate, from the gradient of the activation, the gate and the other branch, as the kernel computes it. -/
def gateGrad (d g u : ℕ → ℕ → EReal) (r c : ℕ) : EReal := d r c * u r c * sig (g r c) * (1 + g r c * (1 - sig (g r c)))

/-- The gradient of the other branch. -/
def upGrad (d g : ℕ → ℕ → EReal) (r c : ℕ) : EReal := d r c * g r c * sig (g r c)

/-! ## The derivative of the activation -/

theorem exp_top : Ideal.exp ⊤ = ⊤ := rfl
theorem exp_bot : Ideal.exp ⊥ = 0 := rfl
theorem exp_real (y : ℝ) : Ideal.exp (y : EReal) = (Real.exp y : EReal) := rfl

theorem sig_top : sig ⊤ = 1 := by
  simp [Products.sig, Ideal.div, exp_bot]

theorem sig_bot : sig ⊥ = 0 := by
  have e : (1 : EReal) + ⊤ = ⊤ := rfl
  simp [Products.sig, Ideal.div, exp_top, e]

theorem sig_real (y : ℝ) : ∃ s : ℝ, sig y = s := by
  have h : (1 + Real.exp (-y)) ≠ 0 := by positivity
  refine ⟨1 * (1 + Real.exp (-y))⁻¹, ?_⟩
  have e : (1 : EReal) + Ideal.exp (-(y : EReal)) = ((1 + Real.exp (-y) : ℝ) : EReal) := by
    rw [← EReal.coe_neg, EReal.coe_add, exp_real]; rfl
  unfold Products.sig Ideal.div
  rw [e, if_neg (fun h0 => h (EReal.coe_eq_zero.mp h0)), EReal.coe_mul, EReal.coe_inv]; rfl

/-- The kernel's product and the derivative's sum. -/
theorem derivative (x : ℝ) (g : EReal) :
    (x : EReal) * sig g * (1 + g * (1 - sig g)) = x * sig g + g * x * (sig g * (1 - sig g)) := by
  induction g with
  | bot => rw [sig_bot]; simp
  | top =>
    have e : (1 : EReal) - 1 = 0 := by rw [← EReal.coe_one, ← EReal.coe_sub, sub_self, EReal.coe_zero]
    rw [sig_top, e]; simp
  | coe y =>
    obtain ⟨s, hs⟩ := sig_real y
    rw [hs, ← EReal.coe_one]
    norm_cast
    ring

/-- A product of tables of real numbers is a table of real numbers. -/
theorem prod_real {k : ℕ} {f g : ℕ → ℕ → EReal} (hf : ∀ r c, ∃ x : ℝ, f r c = x) (hg : ∀ r c, ∃ x : ℝ, g r c = x) (r c : ℕ) :
    ∃ x : ℝ, prod k f g r c = x := by
  unfold prod
  refine Finset.sum_induction _ (fun v : EReal => ∃ x : ℝ, v = x) ?_ ⟨0, EReal.coe_zero.symm⟩ fun q _ => ?_
  · rintro _ _ ⟨a, rfl⟩ ⟨b, rfl⟩; exact ⟨a + b, (EReal.coe_add a b).symm⟩
  · obtain ⟨a, ha⟩ := hf r q
    obtain ⟨b, hb⟩ := hg q c
    exact ⟨a * b, by rw [ha, hb, EReal.coe_mul]⟩

/-- No entry is infinite. -/
def NoneInfinite {M N : ℕ} (X : FVec Ideal ⟨2, ![M, N]⟩ .bf16) : Prop := ∀ i, (X i : EReal) ≠ ⊤ ∧ (X i : EReal) ≠ ⊥

theorem table_real {M N : ℕ} {X : FVec Ideal ⟨2, ![M, N]⟩ .bf16} (h : NoneInfinite X) (r c : ℕ) :
    ∃ x : ℝ, table X r c = x := by
  unfold table
  split
  · exact ⟨_, (EReal.coe_toReal (h _).1 (h _).2).symm⟩
  · exact ⟨0, EReal.coe_zero.symm⟩

/-! ## One grid point -/

section Slab

variable {x : Vec Ideal S256x2048 .bf16} {w : Vec Ideal S512x2048 .bf16} {y z : Vec Ideal S256x512 .bf16} {o : ℕ} {d v g u : ℕ → ℕ → EReal}

theorem back (hx : Holds (m := 256) (n := 2048) (φ := .bf16) x (shift o 0 d)) (hw : Holds (m := 512) (n := 2048) (φ := .bf16) w v) :
    Holds (m := 256) (n := 512) (φ := .f32) (k0_pay3 x w) (shift o 0 (prod 2048 d (swapped v))) :=
  prod_rows 2048 o d (swapped v) ▸ Holds.dotT dot_S256x2048_S512x2048_S256x512_1_1_0_0_n_n rfl hx hw

theorem wide (hy : Holds (m := 256) (n := 512) (φ := .bf16) y (shift o 0 g)) : Holds (m := 256) (n := 512) (φ := .f32) (k0_pay4 y) (shift o 0 g) :=
  Holds.widen hy

theorem gate (hy : Holds (m := 256) (n := 512) (φ := .bf16) y (shift o 0 g)) :
    Holds (m := 256) (n := 512) (φ := .f32) (k0_pay5 y) fun r c => sig (shift o 0 g r c) :=
  (wide hy).logistic

theorem ones : Holds (m := 256) (n := 512) (φ := .f32) (broadcast S256x512 (Scalar.ofBits (F := Ideal) .f32 0x3F800000#32)) fun _ _ => 1 :=
  fun _ => Ideal.ofBits_one_f32

theorem toGate (hx : Holds (m := 256) (n := 2048) (φ := .bf16) x (shift o 0 d)) (hw : Holds (m := 512) (n := 2048) (φ := .bf16) w v)
    (hy : Holds (m := 256) (n := 512) (φ := .bf16) y (shift o 0 g)) (hz : Holds (m := 256) (n := 512) (φ := .bf16) z (shift o 0 u)) :
    Holds (m := 256) (n := 512) (φ := .bf16) (k0_pay6 x w y z) (shift o 0 (gateGrad (prod 2048 d (swapped v)) g u)) :=
  Holds.round ((((back hx hw).mul (wide hz)).mul (gate hy)).mul (ones.add ((wide hy).mul (ones.sub (gate hy)))))

theorem toUp (hx : Holds (m := 256) (n := 2048) (φ := .bf16) x (shift o 0 d)) (hw : Holds (m := 512) (n := 2048) (φ := .bf16) w v)
    (hy : Holds (m := 256) (n := 512) (φ := .bf16) y (shift o 0 g)) :
    Holds (m := 256) (n := 512) (φ := .bf16) (k0_pay7 x w y) (shift o 0 (upGrad (prod 2048 d (swapped v)) g)) :=
  Holds.round (((back hx hw).mul (wide hy)).mul (gate hy))

end Slab

section Block

variable {x0 : Vec Ideal S1024x2048 .bf16} {x1 : Vec Ideal S512x2048 .bf16} {x2 x3 : Vec Ideal S1024x512 .bf16} {d v g u : ℕ → ℕ → EReal}

theorem rows (h : Holds (m := 1024) (n := 2048) (φ := .bf16) x0 d) :
    Holds (m := 256) (n := 2048) (φ := .bf16) (View.ld x0 r0_0) (shift 0 0 d) ∧ Holds (m := 256) (n := 2048) (φ := .bf16) (View.ld x0 r0_3) (shift 256 0 d)
    ∧ Holds (m := 256) (n := 2048) (φ := .bf16) (View.ld x0 r0_5) (shift 512 0 d) ∧ Holds (m := 256) (n := 2048) (φ := .bf16) (View.ld x0 r0_7) (shift 768 0 d) :=
  ⟨h.load 0 0 _, h.load 256 0 _, h.load 512 0 _, h.load 768 0 _⟩

theorem narrow (h : Holds (m := 1024) (n := 512) (φ := .bf16) x2 g) :
    Holds (m := 256) (n := 512) (φ := .bf16) (View.ld x2 r0_2) (shift 0 0 g) ∧ Holds (m := 256) (n := 512) (φ := .bf16) (View.ld x2 r0_4) (shift 256 0 g)
    ∧ Holds (m := 256) (n := 512) (φ := .bf16) (View.ld x2 r0_6) (shift 512 0 g) ∧ Holds (m := 256) (n := 512) (φ := .bf16) (View.ld x2 r0_8) (shift 768 0 g) :=
  ⟨h.load 0 0 _, h.load 256 0 _, h.load 512 0 _, h.load 768 0 _⟩

theorem whole (h : Holds (m := 512) (n := 2048) (φ := .bf16) x1 v) : Holds (m := 512) (n := 2048) (φ := .bf16) (View.ld x1 r0_1) v := by
  have e : View.ld x1 r0_1 = x1 := View.ld_unit_zero (S := S512x2048) zeros2 _ x1
  rw [e]; exact h

theorem gate_block (h0 : Holds (m := 1024) (n := 2048) (φ := .bf16) x0 d) (h1 : Holds (m := 512) (n := 2048) (φ := .bf16) x1 v)
    (h2 : Holds (m := 1024) (n := 512) (φ := .bf16) x2 g) (h3 : Holds (m := 1024) (n := 512) (φ := .bf16) x3 u) :
    Holds (m := 1024) (n := 512) (φ := .bf16) (out0_4 x0 x1 x2 x3) (gateGrad (prod 2048 d (swapped v)) g u) := by
  obtain ⟨a, b, c, e⟩ := rows h0
  obtain ⟨a2, b2, c2, e2⟩ := narrow h2
  obtain ⟨a3, b3, c3, e3⟩ := narrow h3
  exact Holds.four (cover0_4 _ _ _ _) (Holds.stored 768 0 (toGate e (whole h1) e2 e3) _) (Holds.stored 512 0 (toGate c (whole h1) c2 c3) _)
    (Holds.stored 256 0 (toGate b (whole h1) b2 b3) _) (Holds.stored 0 0 (toGate a (whole h1) a2 a3) _)

theorem up_block (h0 : Holds (m := 1024) (n := 2048) (φ := .bf16) x0 d) (h1 : Holds (m := 512) (n := 2048) (φ := .bf16) x1 v)
    (h2 : Holds (m := 1024) (n := 512) (φ := .bf16) x2 g) :
    Holds (m := 1024) (n := 512) (φ := .bf16) (out0_5 x0 x1 x2 x3) (upGrad (prod 2048 d (swapped v)) g) := by
  obtain ⟨a, b, c, e⟩ := rows h0
  obtain ⟨a2, b2, c2, e2⟩ := narrow h2
  exact Holds.four (cover0_5 _ _ _ _) (Holds.stored 768 0 (toUp e (whole h1) e2) _) (Holds.stored 512 0 (toUp c (whole h1) c2) _)
    (Holds.stored 256 0 (toUp b (whole h1) b2) _) (Holds.stored 0 0 (toUp a (whole h1) a2) _)

end Block

/-! ## The launch -/

variable {m : (ℓ : Loc nD τ sig) → Buf (Elt Ideal) ℓ} {c : Dev nD}

theorem index0 : ∀ t : Fin cfg0.N, win0_0.index t = ![t.val / 11, 0] :=
  (by decide +kernel : ∀ t : Fin grid0.N, win0_0.index t = ![t.val / 11, 0])
theorem index1 : ∀ t : Fin cfg0.N, win0_1.index t = ![t.val % 11, 0] :=
  (by decide +kernel : ∀ t : Fin grid0.N, win0_1.index t = ![t.val % 11, 0])
theorem index2 : ∀ t : Fin cfg0.N, win0_2.index t = ![t.val / 11, t.val % 11] :=
  (by decide +kernel : ∀ t : Fin grid0.N, win0_2.index t = ![t.val / 11, t.val % 11])
theorem index3 : ∀ t : Fin cfg0.N, win0_3.index t = ![t.val / 11, t.val % 11] :=
  (by decide +kernel : ∀ t : Fin grid0.N, win0_3.index t = ![t.val / 11, t.val % 11])
theorem index4 : ∀ t : Fin cfg0.N, win0_4.index t = ![t.val / 11, t.val % 11] :=
  (by decide +kernel : ∀ t : Fin grid0.N, win0_4.index t = ![t.val / 11, t.val % 11])
theorem index5 : ∀ t : Fin cfg0.N, win0_5.index t = ![t.val / 11, t.val % 11] :=
  (by decide +kernel : ∀ t : Fin grid0.N, win0_5.index t = ![t.val / 11, t.val % 11])

/-- The arguments, as functions of natural coordinates. -/
def outGrad (m : (ℓ : Loc nD τ sig) → Buf (Elt Ideal) ℓ) (c : Dev nD) : ℕ → ℕ → EReal := table (m := 4096) (n := 2048) (φ := .bf16) (m ((c : Thread nD τ).loc main_arg0))
def wDown (m : (ℓ : Loc nD τ sig) → Buf (Elt Ideal) ℓ) (c : Dev nD) : ℕ → ℕ → EReal := table (m := 5632) (n := 2048) (φ := .bf16) (m ((c : Thread nD τ).loc main_arg1))
def gt (m : (ℓ : Loc nD τ sig) → Buf (Elt Ideal) ℓ) (c : Dev nD) : ℕ → ℕ → EReal := table (m := 4096) (n := 5632) (φ := .bf16) (m ((c : Thread nD τ).loc main_arg2))
def up (m : (ℓ : Loc nD τ sig) → Buf (Elt Ideal) ℓ) (c : Dev nD) : ℕ → ℕ → EReal := table (m := 4096) (n := 5632) (φ := .bf16) (m ((c : Thread nD τ).loc main_arg3))

theorem block0 (t : Fin cfg0.N) : Holds (m := 1024) (n := 2048) (φ := .bf16) (iblk m c 0 t) (shift (t.val / 11 * 1024) 0 (outGrad m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 512) (n := 2048) (φ := .bf16) (iblk m c 1 t) (shift (t.val % 11 * 512) 0 (wDown m c)) := by
  refine Holds.block (table_holds _) _ _ (fun y => (win0_1.rect t).emb y) (fun y => congrFun (V_main_arg1 m c) _) (fun y => ?_) (fun y => ?_)
  · rw [win0_1.rect_emb_val, index1]; rfl
  · rw [win0_1.rect_emb_val, index1]; rfl

theorem block2 (t : Fin cfg0.N) : Holds (m := 1024) (n := 512) (φ := .bf16) (iblk m c 2 t) (shift (t.val / 11 * 1024) (t.val % 11 * 512) (gt m c)) := by
  refine Holds.block (table_holds _) _ _ (fun y => (win0_2.rect t).emb y) (fun y => congrFun (V_main_arg2 m c) _) (fun y => ?_) (fun y => ?_)
  · rw [win0_2.rect_emb_val, index2]; rfl
  · rw [win0_2.rect_emb_val, index2]; rfl

theorem block3 (t : Fin cfg0.N) : Holds (m := 1024) (n := 512) (φ := .bf16) (iblk m c 3 t) (shift (t.val / 11 * 1024) (t.val % 11 * 512) (up m c)) := by
  refine Holds.block (table_holds _) _ _ (fun y => (win0_3.rect t).emb y) (fun y => congrFun (V_main_arg3 m c) _) (fun y => ?_) (fun y => ?_)
  · rw [win0_3.rect_emb_val, index3]; rfl
  · rw [win0_3.rect_emb_val, index3]; rfl

/-- The gradient of the activation. -/
def actGrad (m : (ℓ : Loc nD τ sig) → Buf (Elt Ideal) ℓ) (c : Dev nD) : ℕ → ℕ → EReal := prod 2048 (outGrad m c) (swapped (wDown m c))

theorem point4 (t : Fin cfg0.N) : Holds (m := 1024) (n := 512) (φ := .bf16) (out0_4 (iblk m c 0 t) (iblk m c 1 t) (iblk m c 2 t) (iblk m c 3 t))
    (shift (t.val / 11 * 1024) (t.val % 11 * 512) (gateGrad (actGrad m c) (gt m c) (up m c))) := by
  have h := gate_block (block0 (m := m) (c := c) t) (block1 (m := m) (c := c) t) (block2 (m := m) (c := c) t) (block3 (m := m) (c := c) t)
  rw [prod_shift_swapped] at h
  exact h

theorem point5 (t : Fin cfg0.N) : Holds (m := 1024) (n := 512) (φ := .bf16) (out0_5 (iblk m c 0 t) (iblk m c 1 t) (iblk m c 2 t) (iblk m c 3 t))
    (shift (t.val / 11 * 1024) (t.val % 11 * 512) (upGrad (actGrad m c) (gt m c))) := by
  have h := up_block (x3 := iblk m c 3 t) (block0 (m := m) (c := c) t) (block1 (m := m) (c := c) t) (block2 (m := m) (c := c) t)
  rw [prod_shift_swapped] at h
  exact h

/-- The result that is a table's entries. -/
def result (f : ℕ → ℕ → EReal) (i : S4096x5632.Idx) : EReal := f (i 0).val (i 1).val

/-- Each entry of a result lies in a point's block. -/
theorem reached (i : S4096x5632.Idx) : ∃ (t : Fin cfg0.N) (r : Fin 1024) (s : Fin 512),
    t.val / 11 * 1024 + r.val = (i 0).val ∧ t.val % 11 * 512 + s.val = (i 1).val := by
  have b0 : (i 0).val < 4096 := (i 0).isLt
  have b1 : (i 1).val < 5632 := (i 1).isLt
  have hn : (i 0).val / 1024 * 11 + (i 1).val / 512 < cfg0.N := lt_of_lt_of_eq (b := 44) (by omega) N_0.symm
  refine ⟨⟨_, hn⟩, ⟨(i 0).val % 1024, by omega⟩, ⟨(i 1).val % 512, by omega⟩, ?_, ?_⟩
  · show ((i 0).val / 1024 * 11 + (i 1).val / 512) / 11 * 1024 + (i 0).val % 1024 = (i 0).val
    omega
  · show ((i 0).val / 1024 * 11 + (i 1).val / 512) % 11 * 512 + (i 1).val % 512 = (i 1).val
    omega

theorem at4 (t : Fin cfg0.N) (y : S1024x512.Idx) :
    ((win0_4.rect t).emb y 0).val = t.val / 11 * 1024 + (y 0).val ∧ ((win0_4.rect t).emb y 1).val = t.val % 11 * 512 + (y 1).val :=
  ⟨by rw [win0_4.rect_emb_val, index4]; rfl, by rw [win0_4.rect_emb_val, index4]; rfl⟩

theorem at5 (t : Fin cfg0.N) (y : S1024x512.Idx) :
    ((win0_5.rect t).emb y 0).val = t.val / 11 * 1024 + (y 0).val ∧ ((win0_5.rect t).emb y 1).val = t.val % 11 * 512 + (y 1).val :=
  ⟨by rw [win0_5.rect_emb_val, index5]; rfl, by rw [win0_5.rect_emb_val, index5]; rfl⟩

theorem kernel_gate : (dats m 0 c).arrAt 4 cfg0.N = result (gateGrad (actGrad m c) (gt m c) (up m c)) := by
  refine (dats m 0 c).arrAt_eq_of_cover 4 (result (gateGrad (actGrad m c) (gt m c) (up m c))) (fun t hf => funext fun y => ?_) fun i => ?_
  · exact (congrFun (Value.flushed4 m c t) y).trans ((point4 (m := m) (c := c) t).lands y ((win0_4.rect t).emb y) (at4 t y).1 (at4 t y).2)
  · obtain ⟨t, r, s, e0, e1⟩ := reached i
    exact ⟨t, flush0_4 _, Finset.mem_map.mpr ⟨ValueIdx.ix2 r s, Finset.mem_univ _, Shape.idx_ext₂ ((at4 t _).1.trans e0) ((at4 t _).2.trans e1)⟩⟩

theorem kernel_up : (dats m 0 c).arrAt 5 cfg0.N = result (upGrad (actGrad m c) (gt m c)) := by
  refine (dats m 0 c).arrAt_eq_of_cover 5 (result (upGrad (actGrad m c) (gt m c))) (fun t hf => funext fun y => ?_) fun i => ?_
  · exact (congrFun (Value.flushed5 m c t) y).trans ((point5 (m := m) (c := c) t).lands y ((win0_5.rect t).emb y) (at5 t y).1 (at5 t y).2)
  · obtain ⟨t, r, s, e0, e1⟩ := reached i
    exact ⟨t, flush0_5 _, Finset.mem_map.mpr ⟨ValueIdx.ix2 r s, Finset.mem_univ _, Shape.idx_ext₂ ((at5 t _).1.trans e0) ((at5 t _).2.trans e1)⟩⟩

/-! ## The reference -/

section Reference

open Cert.Reference2Ideal.Read

variable (x0 : FVec Ideal ⟨2, ![4096, 2048]⟩ .bf16) (x1 : FVec Ideal ⟨2, ![5632, 2048]⟩ .bf16) (x2 x3 : FVec Ideal ⟨2, ![4096, 5632]⟩ .bf16)

theorem reference_back : Holds (m := 4096) (n := 5632) (φ := .f32) (val_main_v7 (F := Ideal) x0 x1) (prod 2048 (table x0) (swapped (table x1))) := fun i =>
  (val_main_v7_apply x0 x1 i).trans (Holds.term_sum fun q => congrArg₂ (fun x y : EReal => x * y) (table_holds x0 _) (table_holds x1 _))

theorem reference_sig (i : S4096x5632.Idx) : val_main_v4_2 (F := Ideal) x2 i = sig (x2 i) := by
  rw [val_main_v4_2_apply (F := Ideal), val_main_call0_v4_apply (F := Ideal), val_main_call0_v3_apply (F := Ideal), val_main_call0_v2_apply (F := Ideal)]
  show Ideal.div (Ideal.ofBits .f32 0x3F800000#32) (Ideal.ofBits .f32 0x3F800000#32 + Ideal.exp (-(x2 i))) = _
  rw [Ideal.ofBits_one_f32]
  rfl

theorem reference_slope (i : S4096x5632.Idx) : val_main_v4_1 (F := Ideal) x2 i = sig (x2 i) * (1 - sig (x2 i)) := by
  rw [val_main_v4_1_apply (F := Ideal), val_main_call0_v7_apply (F := Ideal), val_main_call0_v6_apply (F := Ideal)]
  show val_main_v4_2 (F := Ideal) x2 i * (Ideal.ofBits .f32 0x3F800000#32 - val_main_v4_2 (F := Ideal) x2 i) = _
  rw [Ideal.ofBits_one_f32, reference_sig]

theorem reference_gate (h0 : NoneInfinite x0) (h1 : NoneInfinite x1)
    (h3 : NoneInfinite x3) : Holds (m := 4096) (n := 5632) (φ := .f32) (val_main_v10 (F := Ideal) x0 x1 x2 x3)
    (gateGrad (prod 2048 (table x0) (swapped (table x1))) (table x2) (table x3)) := fun i => by
  obtain ⟨a, ha⟩ := prod_real (k := 2048) (table_real h0) (g := swapped (table x1)) (fun r c => table_real h1 c r) (i 0).val (i 1).val
  obtain ⟨b, hb⟩ := table_real h3 (i 0).val (i 1).val
  show val_main_v7 (F := Ideal) x0 x1 i * x3 i * val_main_v4_2 (F := Ideal) x2 i + x2 i * (val_main_v7 (F := Ideal) x0 x1 i * x3 i) * val_main_v4_1 (F := Ideal) x2 i = _
  rw [reference_slope, reference_sig, reference_back x0 x1 i, table_holds x3 i, table_holds x2 i]
  unfold gateGrad
  rw [ha, hb, ← EReal.coe_mul]
  exact (derivative _ _).symm

theorem reference_up : Holds (m := 4096) (n := 5632) (φ := .f32) (val_main_v8 (F := Ideal) x0 x1 x2)
    (upGrad (prod 2048 (table x0) (swapped (table x1))) (table x2)) := fun i => by
  show x2 i * val_main_v4_2 (F := Ideal) x2 i * val_main_v7 (F := Ideal) x0 x1 i = _
  rw [reference_sig, reference_back x0 x1 i, table_holds x2 i]
  unfold upGrad
  rw [mul_comm, ← mul_assoc]

end Reference

/-- The precondition says that these arguments are finite. -/
theorem finite (h : Cert.Pre_Kernel2Ideal_finite2 m) (c : Dev nD) :
    NoneInfinite (M := 4096) (N := 2048) (m ((c : Thread nD τ).loc main_arg0)) ∧ NoneInfinite (M := 5632) (N := 2048) (m ((c : Thread nD τ).loc main_arg1))
    ∧ NoneInfinite (M := 4096) (N := 5632) (m ((c : Thread nD τ).loc main_arg3)) := by
  obtain ⟨h0, h1, h3⟩ := h c
  exact ⟨SsdBwd.finite_of_lt _ _ h0, SsdBwd.finite_of_lt _ _ h1, SsdBwd.finite_of_lt _ _ h3⟩

/-- `Cert.algebraic_Kernel2Ideal_Reference2Ideal_pre_finite2` (Defs.lean). -/
theorem algebraic : Cert.algebraic_Kernel2Ideal_Reference2Ideal_pre_finite2 := by
  intro m ρ m' ρ' hpre hagree
  refine ⟨fun c => result (gateGrad (actGrad m c) (gt m c) (up m c)), fun c => result (upGrad (actGrad m c) (gt m c)), ?_, ?_⟩
  · refine (θ_run Cert.Kernel2Ideal.defs _ _).mono (fun r h c => ?_) (Cert.Kernel2Ideal.Value.run_blocks (F := Ideal) m ρ)
    obtain ⟨h1, h2, k⟩ := h c
    exact ⟨h1.trans kernel_gate, h2.trans kernel_up, k⟩
  · refine (θ_run Cert.Reference2Ideal.defs _ _).mono (fun r h c => ?_) (Cert.Reference2Ideal.Value.run (F := Ideal) m' ρ')
    obtain ⟨h1, h2, k⟩ := h c
    obtain ⟨g0, g1, g2, g3⟩ := hagree c
    obtain ⟨f0, f1, f3⟩ := finite hpre c
    rw [g0, g1, g2, g3] at h1
    rw [g0, g1, g2] at h2
    exact ⟨h1.trans (funext fun i => (congrFun (Cert.Reference2Ideal.Read.val_main_v11_eq _ _ _ _) i).trans (reference_gate _ _ _ _ f0 f1 f3 i)),
      h2.trans (funext fun i => (congrFun (Cert.Reference2Ideal.Read.val_main_v12_eq _ _ _) i).trans (reference_up _ _ _ i)), k⟩

/-- The reference leaves its arguments, and it declares no semaphore. -/
theorem reference_frame : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

end GateAct

end
-- ==== Proof.HiddenGrad.lean ====
module

public import proofs.«01_k».proof.Defs
public import proofs.«01_k».proof.Proof.Products
public import proofs.«01_k».proof.Proof.Gen.Kernel3Ideal.Value
public import proofs.«01_k».proof.Proof.Gen.Reference3Ideal.Run
public import proofs.«01_k».proof.Proof.Gen.Reference3Ideal.Read

@[expose] public section

/-!
# The gradient of the feed-forward network's input

`dgt · w_gateᵀ + dup · w_upᵀ`, by blocks of 1024 × 1024 entries and 1408 terms at a time: at each of a block's four grid
points the kernel adds both products' next terms into the block.
-/

set_option maxRecDepth 16384

noncomputable section

namespace HiddenGrad

open Idealize.ShloMosaic Idealize.ShloMosaic.TcCoe Idealize.SL.Sem Products
open Cert.Kernel3Ideal Cert.Kernel3Ideal.Gen

/-! ## One grid point -/

section Point

variable (c : Dev nD) (i : grid0.Coords) (arg3 : Memref sig .tc .vmem S1024x1408 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S1024x1024 .f32) (harg7 : arg7.IsWhole)
  (x0 x1 x2 x3 : Vec Ideal S1024x1408 .bf16)

theorem first_eq (hc0 : cond0_0 i) :
    out0_A_4 c i arg3 harg3 arg4 harg4 arg5 harg5 arg6 harg6 arg7 harg7 hc0 x0 x1 x2 x3 = k0_pay3 (k0_pay2 (k0_pay1 (F := Ideal)) x0 x1) x2 x3 := by
  unfold out0_A_4 kernelRun0_A
  dsimp only
  rw [View.read_writes_junk_eq_canon]
  simp only [kernelRun0_A.sl.v10, kernelRun0_A.sl.H4_2, kernelRun0_A.sl.v3, kernelRun0_A.sl.H4_1, View.canon_cons_unit_zero (S := S1024x1024) zeros2, reread (S := S1024x1024) _ zeros2, read_whole (S := S1024x1024) _ _ zeros2, read_whole (S := S1024x1408) _ _ zeros2]

theorem later_eq (hc0 : ¬cond0_0 i) (xo : Vec Ideal S1024x1024 .f32) :
    out0_B_4 c i arg3 harg3 arg4 harg4 arg5 harg5 arg6 harg6 arg7 harg7 hc0 x0 x1 x2 x3 xo = k0_pay3 (k0_pay2 xo x0 x1) x2 x3 := by
  unfold out0_B_4 kernelRun0_B
  dsimp only
  rw [View.read_writes_junk_eq_canon]
  simp only [kernelRun0_B.sl.v10, kernelRun0_B.sl.H4_1, View.canon_cons_unit_zero (S := S1024x1024) zeros2, reread (S := S1024x1024) _ zeros2, read_whole (S := S1024x1024) _ _ zeros2, read_whole (S := S1024x1408) _ _ zeros2]

end Point

/-- What a block holds after `o` terms of both products. -/
def partials (o s t : ℕ) (a b a' b' : ℕ → ℕ → EReal) (r q : ℕ) : EReal :=
  prod o (shift s 0 a) (shift 0 t (swapped b)) r q + prod o (shift s 0 a') (shift 0 t (swapped b')) r q

theorem step_holds {acc : FVec Ideal S1024x1024 .f32} {x0 x1 x2 x3 : FVec Ideal S1024x1408 .bf16} {a b a' b' : ℕ → ℕ → EReal} {o s t : ℕ}
    (hacc : Holds acc (partials o s t a b a' b')) (h0 : Holds x0 (shift s o a)) (h1 : Holds x1 (shift t o b)) (h2 : Holds x2 (shift s o a')) (h3 : Holds x3 (shift t o b')) :
    Holds (k0_pay3 (F := Ideal) (k0_pay2 (F := Ideal) acc x0 x1) x2 x3) (partials (o + 1408) s t a b a' b') := by
  have e : Holds (k0_pay3 (F := Ideal) (k0_pay2 (F := Ideal) acc x0 x1) x2 x3) _ :=
    Holds.add (Holds.cast (Holds.add (Holds.cast hacc) (Holds.dotT dot_S1024x1408_S1024x1408_S1024x1024_1_1_0_0_n_n rfl h0 h1)))
      (Holds.dotT dot_S1024x1408_S1024x1408_S1024x1024_1_1_0_0_n_n rfl h2 h3)
  refine e.congr fun r q _ _ => ?_
  unfold partials
  rw [← partial_step, ← partial_step]
  exact (add_assoc _ _ _).trans (add_add_add_comm _ _ _ _)

theorem zero_holds (s t : ℕ) (a b a' b' : ℕ → ℕ → EReal) : Holds (k0_pay1 (F := Ideal)) (partials 0 s t a b a' b') := fun i => by
  show Ideal.ofBits .f32 0x00000000#32 = _
  rw [Ideal.ofBits_zero_f32]
  unfold partials
  rw [prod_zero, prod_zero, zero_add]

/-! ## The blocks that a grid point reads -/

variable {m : (ℓ : Loc nD τ sig) → Buf (Elt Ideal) ℓ} {c : Dev nD}

theorem index0 : ∀ t : Fin cfg0.N, win0_0.index t = ![t.val / 8, t.val % 4] :=
  (by decide +kernel : ∀ t : Fin grid0.N, win0_0.index t = ![t.val / 8, t.val % 4])
theorem index1 : ∀ t : Fin cfg0.N, win0_1.index t = ![t.val / 4 % 2, t.val % 4] :=
  (by decide +kernel : ∀ t : Fin grid0.N, win0_1.index t = ![t.val / 4 % 2, t.val % 4])
theorem index2 : ∀ t : Fin cfg0.N, win0_2.index t = ![t.val / 8, t.val % 4] :=
  (by decide +kernel : ∀ t : Fin grid0.N, win0_2.index t = ![t.val / 8, t.val % 4])
theorem index3 : ∀ t : Fin cfg0.N, win0_3.index t = ![t.val / 4 % 2, t.val % 4] :=
  (by decide +kernel : ∀ t : Fin grid0.N, win0_3.index t = ![t.val / 4 % 2, t.val % 4])
theorem index4 : ∀ t : Fin cfg0.N, win0_4.index t = ![t.val / 8, t.val / 4 % 2] :=
  (by decide +kernel : ∀ t : Fin grid0.N, win0_4.index t = ![t.val / 8, t.val / 4 % 2])

/-- The four arguments, as functions of natural coordinates. -/
def dgt (m : (ℓ : Loc nD τ sig) → Buf (Elt Ideal) ℓ) (c : Dev nD) : ℕ → ℕ → EReal := table (m := 4096) (n := 5632) (φ := .bf16) (m ((c : Thread nD τ).loc main_arg0))
def wGate (m : (ℓ : Loc nD τ sig) → Buf (Elt Ideal) ℓ) (c : Dev nD) : ℕ → ℕ → EReal := table (m := 2048) (n := 5632) (φ := .bf16) (m ((c : Thread nD τ).loc main_arg1))
def dup (m : (ℓ : Loc nD τ sig) → Buf (Elt Ideal) ℓ) (c : Dev nD) : ℕ → ℕ → EReal := table (m := 4096) (n := 5632) (φ := .bf16) (m ((c : Thread nD τ).loc main_arg2))
def wUp (m : (ℓ : Loc nD τ sig) → Buf (Elt Ideal) ℓ) (c : Dev nD) : ℕ → ℕ → EReal := table (m := 2048) (n := 5632) (φ := .bf16) (m ((c : Thread nD τ).loc main_arg3))

theorem block0 (t : Fin cfg0.N) : Holds (m := 1024) (n := 1408) (φ := .bf16) (iblk m c 0 t) (shift (t.val / 8 * 1024) (t.val % 4 * 1408) (dgt m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 1024) (n := 1408) (φ := .bf16) (iblk m c 1 t) (shift (t.val / 4 % 2 * 1024) (t.val % 4 * 1408) (wGate m c)) := by
  refine Holds.block (table_holds _) _ _ (fun y => (win0_1.rect t).emb y) (fun y => congrFun (V_main_arg1 m c) _) (fun y => ?_) (fun y => ?_)
  · rw [win0_1.rect_emb_val, index1]; rfl
  · rw [win0_1.rect_emb_val, index1]; rfl

theorem block2 (t : Fin cfg0.N) : Holds (m := 1024) (n := 1408) (φ := .bf16) (iblk m c 2 t) (shift (t.val / 8 * 1024) (t.val % 4 * 1408) (dup m c)) := by
  refine Holds.block (table_holds _) _ _ (fun y => (win0_2.rect t).emb y) (fun y => congrFun (V_main_arg2 m c) _) (fun y => ?_) (fun y => ?_)
  · rw [win0_2.rect_emb_val, index2]; rfl
  · rw [win0_2.rect_emb_val, index2]; rfl

theorem block3 (t : Fin cfg0.N) : Holds (m := 1024) (n := 1408) (φ := .bf16) (iblk m c 3 t) (shift (t.val / 4 % 2 * 1024) (t.val % 4 * 1408) (wUp m c)) := by
  refine Holds.block (table_holds _) _ _ (fun y => (win0_3.rect t).emb y) (fun y => congrFun (V_main_arg3 m c) _) (fun y => ?_) (fun y => ?_)
  · rw [win0_3.rect_emb_val, index3]; rfl
  · rw [win0_3.rect_emb_val, index3]; rfl

/-! ## The grid -/

theorem after_point : ∀ (n : ℕ) (hn : n < cfg0.N),
    Holds (m := 1024) (n := 1024) (φ := .f32) (outsAt0 m c n hn) (partials (n % 4 * 1408 + 1408) (n / 8 * 1024) (n / 4 % 2 * 1024) (dgt m c) (wGate m c) (dup m c) (wUp m c))
  | n, hn => by
    by_cases h0 : n % 4 = 0
    · rw [(outsAt0_A m c ⟨n, hn⟩ h0).trans (first_eq ..), h0]
      have z := zero_holds (n / 8 * 1024) (n / 4 % 2 * 1024) (dgt m c) (wGate m c) (dup m c) (wUp m c)
      have b0 := block0 (m := m) (c := c) ⟨n, hn⟩
      have b1 := block1 (m := m) (c := c) ⟨n, hn⟩
      have b2 := block2 (m := m) (c := c) ⟨n, hn⟩
      have b3 := block3 (m := m) (c := c) ⟨n, hn⟩
      simp only [h0, Nat.zero_mul] at b0 b1 b2 b3 ⊢
      exact step_holds z b0 b1 b2 b3
    · have hp : n - 1 < cfg0.N := Nat.lt_of_le_of_lt (Nat.sub_le _ _) hn
      have z := after_point (n - 1) hp
      rw [show (n - 1) % 4 * 1408 + 1408 = n % 4 * 1408 by omega, show (n - 1) / 8 = n / 8 by omega, show (n - 1) / 4 = n / 4 by omega] at z
      rw [(outsAt0_B m c ⟨n, hn⟩ h0).trans (later_eq ..)]
      exact step_holds z (block0 ⟨n, hn⟩) (block1 ⟨n, hn⟩) (block2 ⟨n, hn⟩) (block3 ⟨n, hn⟩)
termination_by n => n
decreasing_by omega

/-- The result: both products over all 5632 terms. -/
def result (m : (ℓ : Loc nD τ sig) → Buf (Elt Ideal) ℓ) (c : Dev nD) (i : S4096x2048.Idx) : EReal :=
  prod 5632 (dgt m c) (swapped (wGate m c)) (i 0).val (i 1).val + prod 5632 (dup m c) (swapped (wUp m c)) (i 0).val (i 1).val

theorem kernel_is : (dats m 0 c).arrAt 4 cfg0.N = result m c := by
  refine (dats m 0 c).arrAt_eq_of_cover 4 (result m c) (fun t hf => funext fun y => ?_) fun i => ?_
  · have h3 : t.val % 4 = 3 := (flush0_4 t).mp hf
    refine (congrFun (Value.flushed4 m c t) y).trans ((after_point (m := m) (c := c) t.val t.isLt y).trans ?_)
    show _ = result m c ((win0_4.rect t).emb y)
    have e0 : ((win0_4.rect t).emb y 0).val = t.val / 8 * 1024 + (y 0).val := by rw [win0_4.rect_emb_val, index4]; rfl
    have e1 : ((win0_4.rect t).emb y 1).val = t.val / 4 % 2 * 1024 + (y 1).val := by rw [win0_4.rect_emb_val, index4]; rfl
    unfold result
    rw [e0, e1, h3]
    unfold partials prod shift
    simp only [Nat.zero_add]
  · have b0 : (i 0).val < 4096 := (i 0).isLt
    have b1 : (i 1).val < 2048 := (i 1).isLt
    have hn : (i 0).val / 1024 * 8 + (i 1).val / 1024 * 4 + 3 < cfg0.N := lt_of_lt_of_eq (b := 32) (by omega) N_0.symm
    refine ⟨⟨_, hn⟩, (flush0_4 _).mpr (by show ((i 0).val / 1024 * 8 + (i 1).val / 1024 * 4 + 3) % 4 = 3; omega), ?_⟩
    refine Finset.mem_map.mpr ⟨ValueIdx.ix2 (⟨(i 0).val % 1024, by omega⟩ : Fin 1024) (⟨(i 1).val % 1024, by omega⟩ : Fin 1024), Finset.mem_univ _, ?_⟩
    show (win0_4.rect ⟨_, hn⟩).emb _ = i
    funext a
    match a with
    | 0 =>
      refine Fin.ext ?_
      rw [win0_4.rect_emb_val, index4]
      show ((i 0).val / 1024 * 8 + (i 1).val / 1024 * 4 + 3) / 8 * 1024 + (i 0).val % 1024 = (i 0).val
      omega
    | 1 =>
      refine Fin.ext ?_
      rw [win0_4.rect_emb_val, index4]
      show ((i 0).val / 1024 * 8 + (i 1).val / 1024 * 4 + 3) / 4 % 2 * 1024 + (i 1).val % 1024 = (i 1).val
      omega

/-! ## The reference -/

theorem reference_is (x0 x2 : FVec Ideal ⟨2, ![4096, 5632]⟩ .bf16) (x1 x3 : FVec Ideal ⟨2, ![2048, 5632]⟩ .bf16) (i : S4096x2048.Idx) :
    Cert.Reference3Ideal.Read.val_main_v9 (F := Ideal) x0 x1 x2 x3 i
      = prod 5632 (table x0) (swapped (table x1)) (i 0).val (i 1).val + prod 5632 (table x2) (swapped (table x3)) (i 0).val (i 1).val := by
  rw [add_comm]
  refine congrArg₂ (fun x y : EReal => x + y) ((Cert.Reference3Ideal.Read.val_main_v7_apply x2 x3 i).trans (Holds.term_sum fun q => ?_))
    ((Cert.Reference3Ideal.Read.val_main_v8_apply x0 x1 i).trans (Holds.term_sum fun q => ?_))
  · exact congrArg₂ (fun x y : EReal => x * y) (table_holds x2 _) (table_holds x3 _)
  · exact congrArg₂ (fun x y : EReal => x * y) (table_holds x0 _) (table_holds x1 _)

/-- `Cert.algebraic_Kernel3Ideal_Reference3Ideal` (Defs.lean). -/
theorem algebraic : Cert.algebraic_Kernel3Ideal_Reference3Ideal := by
  intro m ρ m' ρ' _ hagree
  refine ⟨fun c => result m c, ?_, ?_⟩
  · refine (θ_run Cert.Kernel3Ideal.defs _ _).mono (fun r h c => ?_) (Cert.Kernel3Ideal.Value.run_blocks (F := Ideal) m ρ)
    obtain ⟨h1, k⟩ := h c
    exact ⟨h1.trans kernel_is, k⟩
  · refine (θ_run Cert.Reference3Ideal.defs _ _).mono (fun r h c => ?_) (Cert.Reference3Ideal.Value.run (F := Ideal) m' ρ')
    obtain ⟨h1, k⟩ := h c
    refine ⟨h1.trans (funext fun i => ?_), k⟩
    obtain ⟨g0, g1, g2, g3⟩ := hagree c
    refine (congrFun (Cert.Reference3Ideal.Read.val_main_v9_eq _ _ _ _) i).trans ((reference_is _ _ _ _ i).trans ?_)
    rw [g0, g1, g2, g3]
    rfl

/-- The reference leaves its arguments, and it declares no semaphore. -/
theorem reference_frame : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

end HiddenGrad

end
-- ==== Proof.GateGrad.lean ====
module

public import proofs.«01_k».proof.Defs
public import proofs.«01_k».proof.Proof.Products
public import proofs.«01_k».proof.Proof.Gen.Kernel4Ideal.Value
public import proofs.«01_k».proof.Proof.Gen.Reference4Ideal.Run
public import proofs.«01_k».proof.Proof.Gen.Reference4Ideal.Read

@[expose] public section

/-!
# The gradient of the gate projection's weight

`h2ᵀ · dgt`, where the hidden state comes transposed from the forward pass, by blocks of 1024 × 1408 entries and half
the rows at a time. The result is kept as four slots of 1408 columns each, one for each column of blocks. A block's
second grid point also rounds it into the second result.
-/

set_option maxRecDepth 16384

noncomputable section

namespace GateGrad

open Idealize.ShloMosaic Idealize.ShloMosaic.TcCoe Idealize.SL.Sem Products
open Cert.Kernel4Ideal Cert.Kernel4Ideal.Gen

/-! ## One grid point -/

section Point

variable (c : Dev nD) (i : grid0.Coords) (arg3 : Memref sig .tc .vmem S1024x2048 .bf16) (harg3 : arg3.IsWhole) (arg4 : Memref sig .tc .vmem S2048x1408 .bf16) (harg4 : arg4.IsWhole) (arg5 : Memref sig .tc .vmem S1x1024x1408 .f32) (harg5 : arg5.IsWhole) (arg6 : Memref sig .tc .vmem S1x1024x1408 .bf16) (harg6 : arg6.IsWhole)
  (x0 : Vec Ideal S1024x2048 .bf16) (x1 : Vec Ideal S2048x1408 .bf16)

theorem first_eq (hc0 : cond0_0 i) (hc1 : ¬cond0_1 i) :
    out0_A_2 c i arg3 harg3 arg4 harg4 arg5 harg5 arg6 harg6 hc0 hc1 x0 x1 = k0_pay2 (k0_pay1 (F := Ideal)) x0 x1 := by
  unfold out0_A_2 kernelRun0_A
  dsimp only
  rw [View.read_writes_junk_eq_canon]
  simp only [kernelRun0_A.sl.v3, kernelRun0_A.sl.H2_1, View.canon_cons_unit_zero (S := S1x1024x1408) zeros3, reread (S := S1x1024x1408) _ zeros3, read_whole (S := S1x1024x1408) _ _ zeros3, read_whole (S := S1024x2048) _ _ zeros2, read_whole (S := S2048x1408) _ _ zeros2]

theorem last_eq (hc0 : ¬cond0_0 i) (hc1 : cond0_1 i) (xo : Vec Ideal S1x1024x1408 .f32) :
    out0_B_2 c i arg3 harg3 arg4 harg4 arg5 harg5 arg6 harg6 hc0 hc1 x0 x1 xo = k0_pay2 xo x0 x1 := by
  unfold out0_B_2 kernelRun0_B
  dsimp only
  rw [View.read_writes_junk_eq_canon]
  simp only [kernelRun0_B.sl.H2_1, View.canon_cons_unit_zero (S := S1x1024x1408) zeros3, reread (S := S1x1024x1408) _ zeros3, read_whole (S := S1x1024x1408) _ _ zeros3, read_whole (S := S1024x2048) _ _ zeros2, read_whole (S := S2048x1408) _ _ zeros2]

theorem rounded_eq (hc0 : ¬cond0_0 i) (hc1 : cond0_1 i) (xo : Vec Ideal S1x1024x1408 .f32) :
    out0_B_3 c i arg3 harg3 arg4 harg4 arg5 harg5 arg6 harg6 hc0 hc1 x0 x1 xo = k0_pay3 (k0_pay2 xo x0 x1) := by
  unfold out0_B_3 kernelRun0_B
  dsimp only
  rw [View.read_writes_junk_eq_canon]
  simp only [kernelRun0_B.sl.v15, kernelRun0_B.sl.H2_1, View.canon_cons_unit_zero (S := S1x1024x1408) zeros3, reread (S := S1x1024x1408) _ zeros3, read_whole (S := S1x1024x1408) _ _ zeros3, read_whole (S := S1024x2048) _ _ zeros2, read_whole (S := S2048x1408) _ _ zeros2]

end Point

theorem step_holds {acc : FVec Ideal S1x1024x1408 .f32} {x0 : FVec Ideal S1024x2048 .bf16} {x1 : FVec Ideal S2048x1408 .bf16} {f a b : ℕ → ℕ → EReal}
    (hacc : HoldsSlot acc f) (h0 : Holds x0 a) (h1 : Holds x1 b) : HoldsSlot (k0_pay2 (F := Ideal) acc x0 x1) fun r q => f r q + prod 2048 a b r q :=
  Holds.toSlot (Holds.add hacc.fromSlot (Holds.dot dot_S1024x2048_S2048x1408_S1024x1408_1_0_0_1_n_n rfl h0 h1))

theorem zero_holds : HoldsSlot (k0_pay1 (F := Ideal)) fun _ _ => 0 := Holds.toSlot Holds.zeros

theorem rounded_holds {x : FVec Ideal S1x1024x1408 .f32} {f : ℕ → ℕ → EReal} (h : HoldsSlot x f) : HoldsSlot (k0_pay3 (F := Ideal) x) f :=
  Holds.toSlot (φ := .bf16) fun i => h.fromSlot i

/-! ## The grid -/

variable {m : (ℓ : Loc nD τ sig) → Buf (Elt Ideal) ℓ} {c : Dev nD}

theorem index0 : ∀ t : Fin cfg0.N, win0_0.index t = ![t.val / 8, t.val % 2] :=
  (by decide +kernel : ∀ t : Fin grid0.N, win0_0.index t = ![t.val / 8, t.val % 2])
theorem index1 : ∀ t : Fin cfg0.N, win0_1.index t = ![t.val % 2, t.val / 2 % 4] :=
  (by decide +kernel : ∀ t : Fin grid0.N, win0_1.index t = ![t.val % 2, t.val / 2 % 4])
theorem index2 : ∀ t : Fin cfg0.N, win0_2.index t = ![t.val / 2 % 4, t.val / 8, 0] :=
  (by decide +kernel : ∀ t : Fin grid0.N, win0_2.index t = ![t.val / 2 % 4, t.val / 8, 0])
theorem index3 : ∀ t : Fin cfg0.N, win0_3.index t = ![t.val / 2 % 4, t.val / 8, 0] :=
  (by decide +kernel : ∀ t : Fin grid0.N, win0_3.index t = ![t.val / 2 % 4, t.val / 8, 0])

/-- The two arguments, as functions of natural coordinates. -/
def hidden (m : (ℓ : Loc nD τ sig) → Buf (Elt Ideal) ℓ) (c : Dev nD) : ℕ → ℕ → EReal := table (m := 2048) (n := 4096) (φ := .bf16) (m ((c : Thread nD τ).loc main_arg0))
def dgt (m : (ℓ : Loc nD τ sig) → Buf (Elt Ideal) ℓ) (c : Dev nD) : ℕ → ℕ → EReal := table (m := 4096) (n := 5632) (φ := .bf16) (m ((c : Thread nD τ).loc main_arg1))

theorem block0 (t : Fin cfg0.N) : Holds (m := 1024) (n := 2048) (φ := .bf16) (iblk m c 0 t) (shift (t.val / 8 * 1024) (t.val % 2 * 2048) (hidden m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 2048) (n := 1408) (φ := .bf16) (iblk m c 1 t) (shift (t.val % 2 * 2048) (t.val / 2 % 4 * 1408) (dgt m c)) := by
  refine Holds.block (table_holds _) _ _ (fun y => (win0_1.rect t).emb y) (fun y => congrFun (V_main_arg1 m c) _) (fun y => ?_) (fun y => ?_)
  · rw [win0_1.rect_emb_val, index1]; rfl
  · rw [win0_1.rect_emb_val, index1]; rfl

/-- The product over all 4096 rows, as a block's second grid point leaves it. -/
def block (t : ℕ) (m : (ℓ : Loc nD τ sig) → Buf (Elt Ideal) ℓ) (c : Dev nD) : ℕ → ℕ → EReal :=
  prod 4096 (shift (t / 8 * 1024) 0 (hidden m c)) (shift 0 (t / 2 % 4 * 1408) (dgt m c))

theorem first_point (t : Fin cfg0.N) (h0 : t.val % 2 = 0) : HoldsSlot (m := 1024) (n := 1408) (φ := .f32) (outsAt0 m c t.val t.isLt).1
    (prod 2048 (shift (t.val / 8 * 1024) 0 (hidden m c)) (shift 0 (t.val / 2 % 4 * 1408) (dgt m c))) := by
  have b0 := block0 (m := m) (c := c) t
  have b1 := block1 (m := m) (c := c) t
  rw [h0, Nat.zero_mul] at b0 b1
  have e := outsAt0_A m c t h0 (by omega)
  rw [first_eq] at e
  rw [e]
  exact (step_holds zero_holds b0 b1).congr fun r q _ _ => partial_first ..

theorem last_acc (t : Fin cfg0.N) (h1 : t.val % 2 = 1) {xo : FVec Ideal S1x1024x1408 .f32}
    (hxo : HoldsSlot xo (prod 2048 (shift (t.val / 8 * 1024) 0 (hidden m c)) (shift 0 (t.val / 2 % 4 * 1408) (dgt m c)))) :
    HoldsSlot (m := 1024) (n := 1408) (φ := .f32) (k0_pay2 (F := Ideal) xo (iblk m c 0 t) (iblk m c 1 t)) (block t.val m c) := by
  have b0 := block0 (m := m) (c := c) t
  have b1 := block1 (m := m) (c := c) t
  rw [h1, Nat.one_mul] at b0 b1
  exact (step_holds hxo b0 b1).congr fun r q _ _ => partial_step 2048 2048 _ _ _ _ r q

theorem last_point (t : Fin cfg0.N) (h1 : t.val % 2 = 1) :
    HoldsSlot (m := 1024) (n := 1408) (φ := .f32) (outsAt0 m c t.val t.isLt).1 (block t.val m c) ∧ HoldsSlot (m := 1024) (n := 1408) (φ := .bf16) (outsAt0 m c t.val t.isLt).2 (block t.val m c) := by
  have hp : t.val - 1 < cfg0.N := Nat.lt_of_le_of_lt (Nat.sub_le _ _) t.isLt
  have z := first_point (m := m) (c := c) ⟨t.val - 1, hp⟩ (by show (t.val - 1) % 2 = 0; omega)
  dsimp only at z
  rw [show (t.val - 1) / 8 = t.val / 8 by omega, show (t.val - 1) / 2 = t.val / 2 by omega] at z
  have a := last_acc t h1 z
  have e := outsAt0_B m c t (by omega) h1
  rw [last_eq, rounded_eq] at e
  rw [e]
  dsimp only
  exact ⟨a, rounded_holds a⟩

/-- The result: slot `s` holds columns `1408 s` and following. -/
def result (m : (ℓ : Loc nD τ sig) → Buf (Elt Ideal) ℓ) (c : Dev nD) (i : S4x2048x1408.Idx) : EReal :=
  prod 4096 (hidden m c) (dgt m c) (i 1).val ((i 0).val * 1408 + (i 2).val)

theorem block_eq (t : ℕ) (i : S4x2048x1408.Idx) (y : S1x1024x1408.Idx) (e0 : (i 0).val = t / 2 % 4 * 1 + (y 0).val) (e1 : (i 1).val = t / 8 * 1024 + (y 1).val)
    (e2 : (i 2).val = 0 * 1408 + (y 2).val) : block t m c (y 1).val (y 2).val = result m c i := by
  have b0 : (y 0).val < 1 := (y 0).isLt
  unfold result block prod shift
  rw [e1, e2, show (i 0).val = t / 2 % 4 by omega]
  simp only [Nat.zero_add, Nat.zero_mul]

/-- The last grid point of the block that an entry lies in. -/
theorem covered (i : S4x2048x1408.Idx) : ∃ (t : Fin cfg0.N) (y : S1x1024x1408.Idx),
    t.val % 2 = 1 ∧ (i 0).val = t.val / 2 % 4 * 1 + (y 0).val ∧ (i 1).val = t.val / 8 * 1024 + (y 1).val ∧ (i 2).val = 0 * 1408 + (y 2).val := by
  have b0 : (i 0).val < 4 := (i 0).isLt
  have b1 : (i 1).val < 2048 := (i 1).isLt
  have b2 : (i 2).val < 1408 := (i 2).isLt
  refine ⟨⟨(i 1).val / 1024 * 8 + (i 0).val * 2 + 1, lt_of_lt_of_eq (b := 16) (by omega) N_0.symm⟩,
    ValueIdx.ix3 (⟨0, Nat.one_pos⟩ : Fin 1) (⟨(i 1).val % 1024, by omega⟩ : Fin 1024) (⟨(i 2).val, b2⟩ : Fin 1408), ?_, ?_, ?_, ?_⟩
  · show ((i 1).val / 1024 * 8 + (i 0).val * 2 + 1) % 2 = 1
    omega
  · show (i 0).val = ((i 1).val / 1024 * 8 + (i 0).val * 2 + 1) / 2 % 4 * 1 + 0
    omega
  · show (i 1).val = ((i 1).val / 1024 * 8 + (i 0).val * 2 + 1) / 8 * 1024 + (i 1).val % 1024
    omega
  · show (i 2).val = 0 * 1408 + (i 2).val
    omega

theorem kernel_is : (dats m 0 c).arrAt 2 cfg0.N = result m c := by
  refine (dats m 0 c).arrAt_eq_of_cover 2 (result m c) (fun t hf => funext fun y => ?_) fun i => ?_
  · refine (congrFun (Value.flushed2 m c t) y).trans (((last_point (m := m) (c := c) t ((flush0_2 t).mp hf)).1 y).trans ?_)
    refine block_eq t.val ((win0_2.rect t).emb y) y ?_ ?_ ?_
    · rw [win0_2.rect_emb_val, index2]; rfl
    · rw [win0_2.rect_emb_val, index2]; rfl
    · rw [win0_2.rect_emb_val, index2]; rfl
  · obtain ⟨t, y, h, e0, e1, e2⟩ := covered i
    refine ⟨t, (flush0_2 t).mpr h, Finset.mem_map.mpr ⟨y, Finset.mem_univ _, ?_⟩⟩
    show (win0_2.rect t).emb y = i
    refine funext fun a => Fin.ext ((win0_2.rect_emb_val ..).trans ?_)
    rw [index2]
    match a with
    | 0 => exact e0.symm
    | 1 => exact e1.symm
    | 2 => exact e2.symm

theorem kernel_rounded_is : (dats m 0 c).arrAt 3 cfg0.N = result m c := by
  refine (dats m 0 c).arrAt_eq_of_cover 3 (result m c) (fun t hf => funext fun y => ?_) fun i => ?_
  · refine (congrFun (Value.flushed3 m c t) y).trans (((last_point (m := m) (c := c) t ((flush0_3 t).mp hf)).2 y).trans ?_)
    refine block_eq t.val ((win0_3.rect t).emb y) y ?_ ?_ ?_
    · rw [win0_3.rect_emb_val, index3]; rfl
    · rw [win0_3.rect_emb_val, index3]; rfl
    · rw [win0_3.rect_emb_val, index3]; rfl
  · obtain ⟨t, y, h, e0, e1, e2⟩ := covered i
    refine ⟨t, (flush0_3 t).mpr h, Finset.mem_map.mpr ⟨y, Finset.mem_univ _, ?_⟩⟩
    show (win0_3.rect t).emb y = i
    refine funext fun a => Fin.ext ((win0_3.rect_emb_val ..).trans ?_)
    rw [index3]
    match a with
    | 0 => exact e0.symm
    | 1 => exact e1.symm
    | 2 => exact e2.symm

/-! ## The reference -/

theorem reference_is (x0 : FVec Ideal ⟨2, ![2048, 4096]⟩ .bf16) (x1 : FVec Ideal ⟨2, ![4096, 5632]⟩ .bf16) (i : S4x2048x1408.Idx) :
    Cert.Reference4Ideal.Read.val_main_v8 (F := Ideal) x0 x1 i = prod 4096 (table x0) (table x1) (i 1).val ((i 0).val * 1408 + (i 2).val) := by
  have b0 : (i 0).val < 4 := (i 0).isLt
  have b2 : (i 2).val < 1408 := (i 2).isLt
  rw [show (i 1).val = (((i 1).val * 4 + (i 0).val) * 1408 + (i 2).val) / 5632 by omega,
    show (i 0).val * 1408 + (i 2).val = (((i 1).val * 4 + (i 0).val) * 1408 + (i 2).val) % 5632 by omega]
  refine (Cert.Reference4Ideal.Read.val_main_v8_apply (F := Ideal) x0 x1 i).trans ((Cert.Reference4Ideal.Read.val_main_v7_apply (F := Ideal) x0 x1 _).trans
    ((Cert.Reference4Ideal.Read.val_main_v6_apply (F := Ideal) x0 x1 _).trans ((Cert.Reference4Ideal.Read.val_main_v5_apply x0 x1 _).trans (Holds.term_sum fun q => ?_))))
  rw [mul_comm]
  exact congrArg₂ (fun x y : EReal => x * y) ((Cert.Reference4Ideal.Read.val_main_v3_apply (F := Ideal) x0 _).trans (table_holds x0 _)) (table_holds x1 _)

/-- `Cert.algebraic_Kernel4Ideal_Reference4Ideal` (Defs.lean). -/
theorem algebraic : Cert.algebraic_Kernel4Ideal_Reference4Ideal := by
  intro m ρ m' ρ' _ hagree
  refine ⟨fun c => result m c, fun c => result m c, ?_, ?_⟩
  · refine (θ_run Cert.Kernel4Ideal.defs _ _).mono (fun r h c => ?_) (Cert.Kernel4Ideal.Value.run_blocks (F := Ideal) m ρ)
    obtain ⟨h1, h2, k⟩ := h c
    exact ⟨h1.trans kernel_is, h2.trans kernel_rounded_is, k⟩
  · refine (θ_run Cert.Reference4Ideal.defs _ _).mono (fun r h c => ?_) (Cert.Reference4Ideal.Value.run (F := Ideal) m' ρ')
    obtain ⟨h1, h2, k⟩ := h c
    obtain ⟨g0, g1⟩ := hagree c
    have e (i : S4x2048x1408.Idx) := reference_is (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) i
    rw [g0, g1] at e h1 h2
    refine ⟨h1.trans (funext fun i => ?_), h2.trans (funext fun i => ?_), k⟩
    · exact (congrFun (Cert.Reference4Ideal.Read.val_main_v8_eq _ _) i).trans (e i)
    · exact (congrFun (Cert.Reference4Ideal.Read.val_main_v9_eq _ _) i).trans (e i)

/-- The reference leaves its arguments, and it declares no semaphore. -/
theorem reference_frame : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

end GateGrad

end
-- ==== Proof.DownGrad.lean ====
module

public import proofs.«01_k».proof.Defs
public import proofs.«01_k».proof.Proof.Products
public import proofs.«01_k».proof.Proof.Gen.Kernel5Ideal.Value
public import proofs.«01_k».proof.Proof.Gen.Reference5Ideal.Run
public import proofs.«01_k».proof.Proof.Gen.Reference5Ideal.Read

@[expose] public section

/-!
# The gradient of the down projection's weight

`actᵀ · df`, the transposed activation being what the forward pass left, by blocks of 1408 × 1024 entries and half the
rows at a time. A block's second grid point also rounds it into the second result.
-/

set_option maxRecDepth 16384

noncomputable section

namespace DownGrad

open Idealize.ShloMosaic Idealize.ShloMosaic.TcCoe Idealize.SL.Sem Products
open Cert.Kernel5Ideal Cert.Kernel5Ideal.Gen

/-! ## One grid point -/

section Point

variable (c : Dev nD) (i : grid0.Coords) (arg3 : Memref sig .tc .vmem S1408x2048 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .bf16) (harg6 : arg6.IsWhole)
  (x0 : Vec Ideal S1408x2048 .bf16) (x1 : Vec Ideal S2048x1024 .bf16)

theorem first_eq (hc0 : cond0_0 i) (hc1 : ¬cond0_1 i) :
    out0_A_2 c i arg3 harg3 arg4 harg4 arg5 harg5 arg6 harg6 hc0 hc1 x0 x1 = k0_pay2 (k0_pay1 (F := Ideal)) x0 x1 := by
  unfold out0_A_2 kernelRun0_A
  dsimp only
  rw [View.read_writes_junk_eq_canon]
  simp only [kernelRun0_A.sl.v3, kernelRun0_A.sl.H2_1, View.canon_cons_unit_zero (S := S1408x1024) zeros2, reread (S := S1408x1024) _ zeros2, read_whole (S := S1408x1024) _ _ zeros2, read_whole (S := S1408x2048) _ _ zeros2, read_whole (S := S2048x1024) _ _ zeros2]

theorem last_eq (hc0 : ¬cond0_0 i) (hc1 : cond0_1 i) (xo : Vec Ideal S1408x1024 .f32) :
    out0_B_2 c i arg3 harg3 arg4 harg4 arg5 harg5 arg6 harg6 hc0 hc1 x0 x1 xo = k0_pay2 xo x0 x1 := by
  unfold out0_B_2 kernelRun0_B
  dsimp only
  rw [View.read_writes_junk_eq_canon]
  simp only [kernelRun0_B.sl.H2_1, View.canon_cons_unit_zero (S := S1408x1024) zeros2, reread (S := S1408x1024) _ zeros2, read_whole (S := S1408x1024) _ _ zeros2, read_whole (S := S1408x2048) _ _ zeros2, read_whole (S := S2048x1024) _ _ zeros2]

theorem rounded_eq (hc0 : ¬cond0_0 i) (hc1 : cond0_1 i) (xo : Vec Ideal S1408x1024 .f32) :
    out0_B_3 c i arg3 harg3 arg4 harg4 arg5 harg5 arg6 harg6 hc0 hc1 x0 x1 xo = k0_pay3 (k0_pay2 xo x0 x1) := by
  unfold out0_B_3 kernelRun0_B
  dsimp only
  rw [View.read_writes_junk_eq_canon]
  simp only [kernelRun0_B.sl.v13, kernelRun0_B.sl.H2_1, View.canon_cons_unit_zero (S := S1408x1024) zeros2, reread (S := S1408x1024) _ zeros2, read_whole (S := S1408x1024) _ _ zeros2, read_whole (S := S1408x2048) _ _ zeros2, read_whole (S := S2048x1024) _ _ zeros2]

end Point

theorem step_holds {acc : FVec Ideal S1408x1024 .f32} {x0 : FVec Ideal S1408x2048 .bf16} {x1 : FVec Ideal S2048x1024 .bf16} {f a b : ℕ → ℕ → EReal}
    (hacc : Holds acc f) (h0 : Holds x0 a) (h1 : Holds x1 b) : Holds (k0_pay2 (F := Ideal) acc x0 x1) fun r q => f r q + prod 2048 a b r q :=
  Holds.add (Holds.cast hacc) (Holds.dot dot_S1408x2048_S2048x1024_S1408x1024_1_0_0_1_n_n rfl h0 h1)

theorem zero_holds : Holds (k0_pay1 (F := Ideal)) fun _ _ => 0 := Holds.zeros

theorem rounded_holds {x : FVec Ideal S1408x1024 .f32} {f : ℕ → ℕ → EReal} (h : Holds x f) : Holds (k0_pay3 (F := Ideal) x) f := Holds.cast h

/-! ## The grid -/

variable {m : (ℓ : Loc nD τ sig) → Buf (Elt Ideal) ℓ} {c : Dev nD}

theorem index0 : ∀ t : Fin cfg0.N, win0_0.index t = ![t.val / 4, t.val % 2] :=
  (by decide +kernel : ∀ t : Fin grid0.N, win0_0.index t = ![t.val / 4, t.val % 2])
theorem index1 : ∀ t : Fin cfg0.N, win0_1.index t = ![t.val % 2, t.val / 2 % 2] :=
  (by decide +kernel : ∀ t : Fin grid0.N, win0_1.index t = ![t.val % 2, t.val / 2 % 2])
theorem index2 : ∀ t : Fin cfg0.N, win0_2.index t = ![t.val / 4, t.val / 2 % 2] :=
  (by decide +kernel : ∀ t : Fin grid0.N, win0_2.index t = ![t.val / 4, t.val / 2 % 2])
theorem index3 : ∀ t : Fin cfg0.N, win0_3.index t = ![t.val / 4, t.val / 2 % 2] :=
  (by decide +kernel : ∀ t : Fin grid0.N, win0_3.index t = ![t.val / 4, t.val / 2 % 2])

/-- The two arguments, as functions of natural coordinates. -/
def actT (m : (ℓ : Loc nD τ sig) → Buf (Elt Ideal) ℓ) (c : Dev nD) : ℕ → ℕ → EReal := table (m := 5632) (n := 4096) (φ := .bf16) (m ((c : Thread nD τ).loc main_arg0))
def df (m : (ℓ : Loc nD τ sig) → Buf (Elt Ideal) ℓ) (c : Dev nD) : ℕ → ℕ → EReal := table (m := 4096) (n := 2048) (φ := .bf16) (m ((c : Thread nD τ).loc main_arg1))

theorem block0 (t : Fin cfg0.N) : Holds (m := 1408) (n := 2048) (φ := .bf16) (iblk m c 0 t) (shift (t.val / 4 * 1408) (t.val % 2 * 2048) (actT m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 2048) (n := 1024) (φ := .bf16) (iblk m c 1 t) (shift (t.val % 2 * 2048) (t.val / 2 % 2 * 1024) (df m c)) := by
  refine Holds.block (table_holds _) _ _ (fun y => (win0_1.rect t).emb y) (fun y => congrFun (V_main_arg1 m c) _) (fun y => ?_) (fun y => ?_)
  · rw [win0_1.rect_emb_val, index1]; rfl
  · rw [win0_1.rect_emb_val, index1]; rfl

/-- The product over all 4096 rows, as a block's second grid point leaves it. -/
def block (t : ℕ) (m : (ℓ : Loc nD τ sig) → Buf (Elt Ideal) ℓ) (c : Dev nD) : ℕ → ℕ → EReal :=
  prod 4096 (shift (t / 4 * 1408) 0 (actT m c)) (shift 0 (t / 2 % 2 * 1024) (df m c))

theorem first_point (t : Fin cfg0.N) (h0 : t.val % 2 = 0) : Holds (m := 1408) (n := 1024) (φ := .f32) (outsAt0 m c t.val t.isLt).1
    (prod 2048 (shift (t.val / 4 * 1408) 0 (actT m c)) (shift 0 (t.val / 2 % 2 * 1024) (df m c))) := by
  have b0 := block0 (m := m) (c := c) t
  have b1 := block1 (m := m) (c := c) t
  rw [h0, Nat.zero_mul] at b0 b1
  have e := outsAt0_A m c t h0 (by omega)
  rw [first_eq] at e
  rw [e]
  exact (step_holds zero_holds b0 b1).congr fun r q _ _ => partial_first ..

theorem last_acc (t : Fin cfg0.N) (h1 : t.val % 2 = 1) {xo : FVec Ideal S1408x1024 .f32}
    (hxo : Holds xo (prod 2048 (shift (t.val / 4 * 1408) 0 (actT m c)) (shift 0 (t.val / 2 % 2 * 1024) (df m c)))) :
    Holds (m := 1408) (n := 1024) (φ := .f32) (k0_pay2 (F := Ideal) xo (iblk m c 0 t) (iblk m c 1 t)) (block t.val m c) := by
  have b0 := block0 (m := m) (c := c) t
  have b1 := block1 (m := m) (c := c) t
  rw [h1, Nat.one_mul] at b0 b1
  exact (step_holds hxo b0 b1).congr fun r q _ _ => partial_step 2048 2048 _ _ _ _ r q

theorem last_point (t : Fin cfg0.N) (h1 : t.val % 2 = 1) :
    Holds (m := 1408) (n := 1024) (φ := .f32) (outsAt0 m c t.val t.isLt).1 (block t.val m c) ∧ Holds (m := 1408) (n := 1024) (φ := .bf16) (outsAt0 m c t.val t.isLt).2 (block t.val m c) := by
  have hp : t.val - 1 < cfg0.N := Nat.lt_of_le_of_lt (Nat.sub_le _ _) t.isLt
  have z := first_point (m := m) (c := c) ⟨t.val - 1, hp⟩ (by show (t.val - 1) % 2 = 0; omega)
  dsimp only at z
  rw [show (t.val - 1) / 4 = t.val / 4 by omega, show (t.val - 1) / 2 = t.val / 2 by omega] at z
  have a := last_acc t h1 z
  have e := outsAt0_B m c t (by omega) h1
  rw [last_eq, rounded_eq] at e
  rw [e]
  exact ⟨a, rounded_holds a⟩

/-- The result. -/
def result (m : (ℓ : Loc nD τ sig) → Buf (Elt Ideal) ℓ) (c : Dev nD) (i : S5632x2048.Idx) : EReal := prod 4096 (actT m c) (df m c) (i 0).val (i 1).val

theorem block_eq (t : ℕ) (i : S5632x2048.Idx) (y : S1408x1024.Idx) (e0 : (i 0).val = t / 4 * 1408 + (y 0).val) (e1 : (i 1).val = t / 2 % 2 * 1024 + (y 1).val) :
    block t m c (y 0).val (y 1).val = result m c i := by
  unfold result block prod shift
  rw [e0, e1]
  simp only [Nat.zero_add]

/-- The last grid point of the block that an entry lies in. -/
theorem covered (i : S5632x2048.Idx) : ∃ (t : Fin cfg0.N) (y : S1408x1024.Idx), t.val % 2 = 1 ∧ (i 0).val = t.val / 4 * 1408 + (y 0).val ∧ (i 1).val = t.val / 2 % 2 * 1024 + (y 1).val := by
  have b0 : (i 0).val < 5632 := (i 0).isLt
  have b1 : (i 1).val < 2048 := (i 1).isLt
  refine ⟨⟨(i 0).val / 1408 * 4 + (i 1).val / 1024 * 2 + 1, lt_of_lt_of_eq (b := 16) (by omega) N_0.symm⟩,
    ValueIdx.ix2 (⟨(i 0).val % 1408, by omega⟩ : Fin 1408) (⟨(i 1).val % 1024, by omega⟩ : Fin 1024), ?_, ?_, ?_⟩
  · show ((i 0).val / 1408 * 4 + (i 1).val / 1024 * 2 + 1) % 2 = 1
    omega
  · show (i 0).val = ((i 0).val / 1408 * 4 + (i 1).val / 1024 * 2 + 1) / 4 * 1408 + (i 0).val % 1408
    omega
  · show (i 1).val = ((i 0).val / 1408 * 4 + (i 1).val / 1024 * 2 + 1) / 2 % 2 * 1024 + (i 1).val % 1024
    omega

theorem kernel_is : (dats m 0 c).arrAt 2 cfg0.N = result m c := by
  refine (dats m 0 c).arrAt_eq_of_cover 2 (result m c) (fun t hf => funext fun y => ?_) fun i => ?_
  · refine (congrFun (Value.flushed2 m c t) y).trans (((last_point (m := m) (c := c) t ((flush0_2 t).mp hf)).1 y).trans ?_)
    refine block_eq t.val ((win0_2.rect t).emb y) y ?_ ?_
    · rw [win0_2.rect_emb_val, index2]; rfl
    · rw [win0_2.rect_emb_val, index2]; rfl
  · obtain ⟨t, y, h, e0, e1⟩ := covered i
    refine ⟨t, (flush0_2 t).mpr h, Finset.mem_map.mpr ⟨y, Finset.mem_univ _, ?_⟩⟩
    show (win0_2.rect t).emb y = i
    refine Shape.idx_ext₂ ?_ ?_
    · rw [win0_2.rect_emb_val, index2]; exact e0.symm
    · rw [win0_2.rect_emb_val, index2]; exact e1.symm

theorem kernel_rounded_is : (dats m 0 c).arrAt 3 cfg0.N = result m c := by
  refine (dats m 0 c).arrAt_eq_of_cover 3 (result m c) (fun t hf => funext fun y => ?_) fun i => ?_
  · refine (congrFun (Value.flushed3 m c t) y).trans (((last_point (m := m) (c := c) t ((flush0_3 t).mp hf)).2 y).trans ?_)
    refine block_eq t.val ((win0_3.rect t).emb y) y ?_ ?_
    · rw [win0_3.rect_emb_val, index3]; rfl
    · rw [win0_3.rect_emb_val, index3]; rfl
  · obtain ⟨t, y, h, e0, e1⟩ := covered i
    refine ⟨t, (flush0_3 t).mpr h, Finset.mem_map.mpr ⟨y, Finset.mem_univ _, ?_⟩⟩
    show (win0_3.rect t).emb y = i
    refine Shape.idx_ext₂ ?_ ?_
    · rw [win0_3.rect_emb_val, index3]; exact e0.symm
    · rw [win0_3.rect_emb_val, index3]; exact e1.symm

/-! ## The reference -/

theorem reference_is (x0 : FVec Ideal ⟨2, ![5632, 4096]⟩ .bf16) (x1 : FVec Ideal ⟨2, ![4096, 2048]⟩ .bf16) (i : S5632x2048.Idx) :
    Cert.Reference5Ideal.Read.val_main_v6 (F := Ideal) x0 x1 i = prod 4096 (table x0) (table x1) (i 0).val (i 1).val := by
  refine (Cert.Reference5Ideal.Read.val_main_v6_apply (F := Ideal) x0 x1 i).trans ((Cert.Reference5Ideal.Read.val_main_v5_apply x0 x1 _).trans (Holds.term_sum fun q => ?_))
  rw [mul_comm]
  exact congrArg₂ (fun x y : EReal => x * y) ((Cert.Reference5Ideal.Read.val_main_v3_apply (F := Ideal) x0 _).trans (table_holds x0 _)) (table_holds x1 _)

/-- `Cert.algebraic_Kernel5Ideal_Reference5Ideal` (Defs.lean). -/
theorem algebraic : Cert.algebraic_Kernel5Ideal_Reference5Ideal := by
  intro m ρ m' ρ' _ hagree
  refine ⟨fun c => result m c, fun c => result m c, ?_, ?_⟩
  · refine (θ_run Cert.Kernel5Ideal.defs _ _).mono (fun r h c => ?_) (Cert.Kernel5Ideal.Value.run_blocks (F := Ideal) m ρ)
    obtain ⟨h1, h2, k⟩ := h c
    exact ⟨h1.trans kernel_is, h2.trans kernel_rounded_is, k⟩
  · refine (θ_run Cert.Reference5Ideal.defs _ _).mono (fun r h c => ?_) (Cert.Reference5Ideal.Value.run (F := Ideal) m' ρ')
    obtain ⟨h1, h2, k⟩ := h c
    obtain ⟨g0, g1⟩ := hagree c
    have e (i : S5632x2048.Idx) := reference_is (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1)) i
    rw [g0, g1] at e h1 h2
    refine ⟨h1.trans (funext fun i => ?_), h2.trans (funext fun i => ?_), k⟩
    · exact (congrFun (Cert.Reference5Ideal.Read.val_main_v6_eq _ _) i).trans (e i)
    · exact (congrFun (Cert.Reference5Ideal.Read.val_main_v7_eq _ _) i).trans (e i)

/-- The reference leaves its arguments, and it declares no semaphore. -/
theorem reference_frame : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

end DownGrad

end
-- ==== Proof.FeedForward.lean ====
module

public import proofs.«01_k».proof.Defs
public import proofs.«01_k».proof.Proof.Slabs
public import proofs.«01_k».proof.Proof.Gen.Kernel6Ideal.Value
public import proofs.«01_k».proof.Proof.Gen.Reference6Ideal.Run
public import proofs.«01_k».proof.Proof.Gen.Reference6Ideal.Read

@[expose] public section

/-!
# The SwiGLU

The two branches `h2 · w_gate` and `h2 · w_up`, the activation `silu(gate) * up`, and the activation transposed, by
blocks of 1024 × 512 entries, each in four slabs of 256 rows.
-/

set_option maxRecDepth 16384

noncomputable section

namespace FeedForward

open Idealize.ShloMosaic Idealize.ShloMosaic.TcCoe Idealize.SL.Sem Products
open Cert.Kernel6Ideal Cert.Kernel6Ideal.Gen

/-- The activation of two branches. -/
def act (g u : ℕ → ℕ → EReal) (r c : ℕ) : EReal := g r c * sig (g r c) * u r c

/-! ## One grid point -/

section Slab

variable {x : Vec Ideal S256x2048 .bf16} {w v : Vec Ideal S2048x512 .bf16} {o : ℕ} {f g u : ℕ → ℕ → EReal}

theorem branch (hx : Holds (m := 256) (n := 2048) (φ := .bf16) x (shift o 0 f)) (hw : Holds (m := 2048) (n := 512) (φ := .bf16) w g) :
    Holds (m := 256) (n := 512) (φ := .f32) (k0_pay1 x w) (shift o 0 (prod 2048 f g)) :=
  prod_rows 2048 o f g ▸ Holds.dot dot_S256x2048_S2048x512_S256x512_1_0_0_1_n_n rfl hx hw

theorem gated (hx : Holds (m := 256) (n := 2048) (φ := .bf16) x (shift o 0 f)) (hw : Holds (m := 2048) (n := 512) (φ := .bf16) w g)
    (hv : Holds (m := 2048) (n := 512) (φ := .bf16) v u) :
    Holds (m := 256) (n := 512) (φ := .bf16) (k0_pay5 x w v) (shift o 0 (act (prod 2048 f g) (prod 2048 f u))) :=
  Holds.round (((branch hx hw).mul (branch hx hw).logistic).mul (branch hx hv))

theorem turned (hx : Holds (m := 256) (n := 2048) (φ := .bf16) x (shift o 0 f)) (hw : Holds (m := 2048) (n := 512) (φ := .bf16) w g)
    (hv : Holds (m := 2048) (n := 512) (φ := .bf16) v u) :
    Holds (m := 512) (n := 256) (φ := .bf16) (k0_pay6 x w v) (shift 0 o (swapped (act (prod 2048 f g) (prod 2048 f u)))) :=
  (gated hx hw hv).turn

end Slab

section Block

variable {x0 : Vec Ideal S1024x2048 .bf16} {x1 x2 : Vec Ideal S2048x512 .bf16} {f g u : ℕ → ℕ → EReal}

theorem rows (h : Holds (m := 1024) (n := 2048) (φ := .bf16) x0 f) :
    Holds (m := 256) (n := 2048) (φ := .bf16) (View.ld x0 r0_0) (shift 0 0 f) ∧ Holds (m := 256) (n := 2048) (φ := .bf16) (View.ld x0 r0_4) (shift 256 0 f)
    ∧ Holds (m := 256) (n := 2048) (φ := .bf16) (View.ld x0 r0_7) (shift 512 0 f) ∧ Holds (m := 256) (n := 2048) (φ := .bf16) (View.ld x0 r0_10) (shift 768 0 f) :=
  ⟨h.load 0 0 _, h.load 256 0 _, h.load 512 0 _, h.load 768 0 _⟩

theorem whole (h : Holds (m := 2048) (n := 512) (φ := .bf16) x1 g) : Holds (m := 2048) (n := 512) (φ := .bf16) (View.ld x1 r0_1) g := by
  have e : View.ld x1 r0_1 = x1 := View.ld_unit_zero (S := S2048x512) zeros2 _ x1
  rw [e]; exact h

theorem gate_block (h0 : Holds (m := 1024) (n := 2048) (φ := .bf16) x0 f) (h1 : Holds (m := 2048) (n := 512) (φ := .bf16) x1 g) :
    Holds (m := 1024) (n := 512) (φ := .bf16) (out0_3 x0 x1 x2) (prod 2048 f g) := by
  obtain ⟨a, b, c, d⟩ := rows h0
  exact Holds.four (cover0_3 _ _ _ _) (Holds.stored 768 0 (Holds.round (branch d (whole h1))) _) (Holds.stored 512 0 (Holds.round (branch c (whole h1))) _)
    (Holds.stored 256 0 (Holds.round (branch b (whole h1))) _) (Holds.stored 0 0 (Holds.round (branch a (whole h1))) _)

theorem up_block (h0 : Holds (m := 1024) (n := 2048) (φ := .bf16) x0 f) (h2 : Holds (m := 2048) (n := 512) (φ := .bf16) x2 u) :
    Holds (m := 1024) (n := 512) (φ := .bf16) (out0_4 x0 x1 x2) (prod 2048 f u) := by
  obtain ⟨a, b, c, d⟩ := rows h0
  exact Holds.four (cover0_4 _ _ _ _) (Holds.stored 768 0 (Holds.round (branch d (whole h2))) _) (Holds.stored 512 0 (Holds.round (branch c (whole h2))) _)
    (Holds.stored 256 0 (Holds.round (branch b (whole h2))) _) (Holds.stored 0 0 (Holds.round (branch a (whole h2))) _)

theorem act_block (h0 : Holds (m := 1024) (n := 2048) (φ := .bf16) x0 f) (h1 : Holds (m := 2048) (n := 512) (φ := .bf16) x1 g)
    (h2 : Holds (m := 2048) (n := 512) (φ := .bf16) x2 u) :
    Holds (m := 1024) (n := 512) (φ := .bf16) (out0_5 x0 x1 x2) (act (prod 2048 f g) (prod 2048 f u)) := by
  obtain ⟨a, b, c, d⟩ := rows h0
  exact Holds.four (cover0_5 _ _ _ _) (Holds.stored 768 0 (gated d (whole h1) (whole h2)) _) (Holds.stored 512 0 (gated c (whole h1) (whole h2)) _)
    (Holds.stored 256 0 (gated b (whole h1) (whole h2)) _) (Holds.stored 0 0 (gated a (whole h1) (whole h2)) _)

theorem turned_block (h0 : Holds (m := 1024) (n := 2048) (φ := .bf16) x0 f) (h1 : Holds (m := 2048) (n := 512) (φ := .bf16) x1 g)
    (h2 : Holds (m := 2048) (n := 512) (φ := .bf16) x2 u) :
    Holds (m := 512) (n := 1024) (φ := .bf16) (out0_6 x0 x1 x2) (swapped (act (prod 2048 f g) (prod 2048 f u))) := by
  obtain ⟨a, b, c, d⟩ := rows h0
  exact Holds.four (cover0_6 _ _ _ _) (Holds.stored 0 768 (turned d (whole h1) (whole h2)) _) (Holds.stored 0 512 (turned c (whole h1) (whole h2)) _)
    (Holds.stored 0 256 (turned b (whole h1) (whole h2)) _) (Holds.stored 0 0 (turned a (whole h1) (whole h2)) _)

end Block

/-! ## The launch -/

variable {m : (ℓ : Loc nD τ sig) → Buf (Elt Ideal) ℓ} {c : Dev nD}

theorem index0 : ∀ t : Fin cfg0.N, win0_0.index t = ![t.val / 11, 0] :=
  (by decide +kernel : ∀ t : Fin grid0.N, win0_0.index t = ![t.val / 11, 0])
theorem index1 : ∀ t : Fin cfg0.N, win0_1.index t = ![0, t.val % 11] :=
  (by decide +kernel : ∀ t : Fin grid0.N, win0_1.index t = ![0, t.val % 11])
theorem index2 : ∀ t : Fin cfg0.N, win0_2.index t = ![0, t.val % 11] :=
  (by decide +kernel : ∀ t : Fin grid0.N, win0_2.index t = ![0, t.val % 11])
theorem index3 : ∀ t : Fin cfg0.N, win0_3.index t = ![t.val / 11, t.val % 11] :=
  (by decide +kernel : ∀ t : Fin grid0.N, win0_3.index t = ![t.val / 11, t.val % 11])
theorem index4 : ∀ t : Fin cfg0.N, win0_4.index t = ![t.val / 11, t.val % 11] :=
  (by decide +kernel : ∀ t : Fin grid0.N, win0_4.index t = ![t.val / 11, t.val % 11])
theorem index5 : ∀ t : Fin cfg0.N, win0_5.index t = ![t.val / 11, t.val % 11] :=
  (by decide +kernel : ∀ t : Fin grid0.N, win0_5.index t = ![t.val / 11, t.val % 11])
theorem index6 : ∀ t : Fin cfg0.N, win0_6.index t = ![t.val % 11, t.val / 11] :=
  (by decide +kernel : ∀ t : Fin grid0.N, win0_6.index t = ![t.val % 11, t.val / 11])

/-- The arguments, as functions of natural coordinates. -/
def hidden (m : (ℓ : Loc nD τ sig) → Buf (Elt Ideal) ℓ) (c : Dev nD) : ℕ → ℕ → EReal := table (m := 4096) (n := 2048) (φ := .bf16) (m ((c : Thread nD τ).loc main_arg0))
def wGate (m : (ℓ : Loc nD τ sig) → Buf (Elt Ideal) ℓ) (c : Dev nD) : ℕ → ℕ → EReal := table (m := 2048) (n := 5632) (φ := .bf16) (m ((c : Thread nD τ).loc main_arg1))
def wUp (m : (ℓ : Loc nD τ sig) → Buf (Elt Ideal) ℓ) (c : Dev nD) : ℕ → ℕ → EReal := table (m := 2048) (n := 5632) (φ := .bf16) (m ((c : Thread nD τ).loc main_arg2))

theorem block0 (t : Fin cfg0.N) : Holds (m := 1024) (n := 2048) (φ := .bf16) (iblk m c 0 t) (shift (t.val / 11 * 1024) 0 (hidden m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 2048) (n := 512) (φ := .bf16) (iblk m c 1 t) (shift 0 (t.val % 11 * 512) (wGate m c)) := by
  refine Holds.block (table_holds _) _ _ (fun y => (win0_1.rect t).emb y) (fun y => congrFun (V_main_arg1 m c) _) (fun y => ?_) (fun y => ?_)
  · rw [win0_1.rect_emb_val, index1]; rfl
  · rw [win0_1.rect_emb_val, index1]; rfl

theorem block2 (t : Fin cfg0.N) : Holds (m := 2048) (n := 512) (φ := .bf16) (iblk m c 2 t) (shift 0 (t.val % 11 * 512) (wUp m c)) := by
  refine Holds.block (table_holds _) _ _ (fun y => (win0_2.rect t).emb y) (fun y => congrFun (V_main_arg2 m c) _) (fun y => ?_) (fun y => ?_)
  · rw [win0_2.rect_emb_val, index2]; rfl
  · rw [win0_2.rect_emb_val, index2]; rfl

/-- The two branches and the activation. -/
def gate (m : (ℓ : Loc nD τ sig) → Buf (Elt Ideal) ℓ) (c : Dev nD) : ℕ → ℕ → EReal := prod 2048 (hidden m c) (wGate m c)
def up (m : (ℓ : Loc nD τ sig) → Buf (Elt Ideal) ℓ) (c : Dev nD) : ℕ → ℕ → EReal := prod 2048 (hidden m c) (wUp m c)

theorem point3 (t : Fin cfg0.N) : Holds (m := 1024) (n := 512) (φ := .bf16) (out0_3 (iblk m c 0 t) (iblk m c 1 t) (iblk m c 2 t))
    (shift (t.val / 11 * 1024) (t.val % 11 * 512) (gate m c)) := by
  have h := gate_block (x2 := iblk m c 2 t) (block0 (m := m) (c := c) t) (block1 (m := m) (c := c) t)
  rw [prod_shift] at h
  exact h

theorem point4 (t : Fin cfg0.N) : Holds (m := 1024) (n := 512) (φ := .bf16) (out0_4 (iblk m c 0 t) (iblk m c 1 t) (iblk m c 2 t))
    (shift (t.val / 11 * 1024) (t.val % 11 * 512) (up m c)) := by
  have h := up_block (x1 := iblk m c 1 t) (block0 (m := m) (c := c) t) (block2 (m := m) (c := c) t)
  rw [prod_shift] at h
  exact h

theorem point5 (t : Fin cfg0.N) : Holds (m := 1024) (n := 512) (φ := .bf16) (out0_5 (iblk m c 0 t) (iblk m c 1 t) (iblk m c 2 t))
    (shift (t.val / 11 * 1024) (t.val % 11 * 512) (act (gate m c) (up m c))) := by
  have h := act_block (block0 (m := m) (c := c) t) (block1 (m := m) (c := c) t) (block2 (m := m) (c := c) t)
  rw [prod_shift, prod_shift] at h
  exact h

theorem point6 (t : Fin cfg0.N) : Holds (m := 512) (n := 1024) (φ := .bf16) (out0_6 (iblk m c 0 t) (iblk m c 1 t) (iblk m c 2 t))
    (shift (t.val % 11 * 512) (t.val / 11 * 1024) (swapped (act (gate m c) (up m c)))) := by
  have h := turned_block (block0 (m := m) (c := c) t) (block1 (m := m) (c := c) t) (block2 (m := m) (c := c) t)
  rw [prod_shift, prod_shift] at h
  exact h

/-- The result that is a table's entries. -/
def result (f : ℕ → ℕ → EReal) (i : S4096x5632.Idx) : EReal := f (i 0).val (i 1).val
def turnedResult (f : ℕ → ℕ → EReal) (i : S5632x4096.Idx) : EReal := f (i 0).val (i 1).val

/-- Each entry of a result lies in a point's block. -/
theorem reached (i : S4096x5632.Idx) : ∃ (t : Fin cfg0.N) (r : Fin 1024) (s : Fin 512),
    t.val / 11 * 1024 + r.val = (i 0).val ∧ t.val % 11 * 512 + s.val = (i 1).val := by
  have b0 : (i 0).val < 4096 := (i 0).isLt
  have b1 : (i 1).val < 5632 := (i 1).isLt
  have hn : (i 0).val / 1024 * 11 + (i 1).val / 512 < cfg0.N := lt_of_lt_of_eq (b := 44) (by omega) N_0.symm
  refine ⟨⟨_, hn⟩, ⟨(i 0).val % 1024, by omega⟩, ⟨(i 1).val % 512, by omega⟩, ?_, ?_⟩
  · show ((i 0).val / 1024 * 11 + (i 1).val / 512) / 11 * 1024 + (i 0).val % 1024 = (i 0).val
    omega
  · show ((i 0).val / 1024 * 11 + (i 1).val / 512) % 11 * 512 + (i 1).val % 512 = (i 1).val
    omega

theorem at3 (t : Fin cfg0.N) (y : S1024x512.Idx) :
    ((win0_3.rect t).emb y 0).val = t.val / 11 * 1024 + (y 0).val ∧ ((win0_3.rect t).emb y 1).val = t.val % 11 * 512 + (y 1).val :=
  ⟨by rw [win0_3.rect_emb_val, index3]; rfl, by rw [win0_3.rect_emb_val, index3]; rfl⟩

theorem at4 (t : Fin cfg0.N) (y : S1024x512.Idx) :
    ((win0_4.rect t).emb y 0).val = t.val / 11 * 1024 + (y 0).val ∧ ((win0_4.rect t).emb y 1).val = t.val % 11 * 512 + (y 1).val :=
  ⟨by rw [win0_4.rect_emb_val, index4]; rfl, by rw [win0_4.rect_emb_val, index4]; rfl⟩

theorem at5 (t : Fin cfg0.N) (y : S1024x512.Idx) :
    ((win0_5.rect t).emb y 0).val = t.val / 11 * 1024 + (y 0).val ∧ ((win0_5.rect t).emb y 1).val = t.val % 11 * 512 + (y 1).val :=
  ⟨by rw [win0_5.rect_emb_val, index5]; rfl, by rw [win0_5.rect_emb_val, index5]; rfl⟩

theorem at6 (t : Fin cfg0.N) (y : S512x1024.Idx) :
    ((win0_6.rect t).emb y 0).val = t.val % 11 * 512 + (y 0).val ∧ ((win0_6.rect t).emb y 1).val = t.val / 11 * 1024 + (y 1).val :=
  ⟨by rw [win0_6.rect_emb_val, index6]; rfl, by rw [win0_6.rect_emb_val, index6]; rfl⟩

theorem kernel_gate : (dats m 0 c).arrAt 3 cfg0.N = result (gate m c) := by
  refine (dats m 0 c).arrAt_eq_of_cover 3 (result (gate m c)) (fun t hf => funext fun y => ?_) fun i => ?_
  · exact (congrFun (Value.flushed3 m c t) y).trans ((point3 (m := m) (c := c) t).lands y ((win0_3.rect t).emb y) (at3 t y).1 (at3 t y).2)
  · obtain ⟨t, r, s, e0, e1⟩ := reached i
    exact ⟨t, flush0_3 _, Finset.mem_map.mpr ⟨ValueIdx.ix2 r s, Finset.mem_univ _, Shape.idx_ext₂ ((at3 t _).1.trans e0) ((at3 t _).2.trans e1)⟩⟩

theorem kernel_up : (dats m 0 c).arrAt 4 cfg0.N = result (up m c) := by
  refine (dats m 0 c).arrAt_eq_of_cover 4 (result (up m c)) (fun t hf => funext fun y => ?_) fun i => ?_
  · exact (congrFun (Value.flushed4 m c t) y).trans ((point4 (m := m) (c := c) t).lands y ((win0_4.rect t).emb y) (at4 t y).1 (at4 t y).2)
  · obtain ⟨t, r, s, e0, e1⟩ := reached i
    exact ⟨t, flush0_4 _, Finset.mem_map.mpr ⟨ValueIdx.ix2 r s, Finset.mem_univ _, Shape.idx_ext₂ ((at4 t _).1.trans e0) ((at4 t _).2.trans e1)⟩⟩

theorem kernel_act : (dats m 0 c).arrAt 5 cfg0.N = result (act (gate m c) (up m c)) := by
  refine (dats m 0 c).arrAt_eq_of_cover 5 (result (act (gate m c) (up m c))) (fun t hf => funext fun y => ?_) fun i => ?_
  · exact (congrFun (Value.flushed5 m c t) y).trans ((point5 (m := m) (c := c) t).lands y ((win0_5.rect t).emb y) (at5 t y).1 (at5 t y).2)
  · obtain ⟨t, r, s, e0, e1⟩ := reached i
    exact ⟨t, flush0_5 _, Finset.mem_map.mpr ⟨ValueIdx.ix2 r s, Finset.mem_univ _, Shape.idx_ext₂ ((at5 t _).1.trans e0) ((at5 t _).2.trans e1)⟩⟩

theorem kernel_turned : (dats m 0 c).arrAt 6 cfg0.N = turnedResult (swapped (act (gate m c) (up m c))) := by
  refine (dats m 0 c).arrAt_eq_of_cover 6 (turnedResult (swapped (act (gate m c) (up m c)))) (fun t hf => funext fun y => ?_) fun i => ?_
  · exact (congrFun (Value.flushed6 m c t) y).trans ((point6 (m := m) (c := c) t).lands y ((win0_6.rect t).emb y) (at6 t y).1 (at6 t y).2)
  · obtain ⟨t, r, s, e0, e1⟩ := reached (ValueIdx.ix2 (⟨(i 1).val, (i 1).isLt⟩ : Fin 4096) (⟨(i 0).val, (i 0).isLt⟩ : Fin 5632))
    exact ⟨t, flush0_6 _, Finset.mem_map.mpr ⟨ValueIdx.ix2 s r, Finset.mem_univ _, Shape.idx_ext₂ ((at6 t _).1.trans e1) ((at6 t _).2.trans e0)⟩⟩

/-! ## The reference -/

section Reference

open Cert.Reference6Ideal.Read

variable (x0 : FVec Ideal ⟨2, ![4096, 2048]⟩ .bf16) (x1 x2 : FVec Ideal ⟨2, ![2048, 5632]⟩ .bf16)

theorem reference_gate : Holds (m := 4096) (n := 5632) (φ := .f32) (val_main_v3 (F := Ideal) x0 x1) (prod 2048 (table x0) (table x1)) := fun i =>
  (val_main_v3_apply x0 x1 i).trans (Holds.term_sum fun q => congrArg₂ (fun x y : EReal => x * y) (table_holds x0 _) (table_holds x1 _))

theorem reference_up : Holds (m := 4096) (n := 5632) (φ := .f32) (val_main_v4 (F := Ideal) x0 x2) (prod 2048 (table x0) (table x2)) := fun i =>
  (val_main_v4_apply x0 x2 i).trans (Holds.term_sum fun q => congrArg₂ (fun x y : EReal => x * y) (table_holds x0 _) (table_holds x2 _))

theorem reference_sig (i : S4096x5632.Idx) : val_main_call0_v5 (F := Ideal) x0 x1 i = sig (val_main_v3 (F := Ideal) x0 x1 i) := by
  rw [val_main_call0_v5_apply (F := Ideal), val_main_call0_v4_apply (F := Ideal), val_main_call0_v3_apply (F := Ideal), val_main_call0_v2_apply (F := Ideal)]
  show Ideal.div (Ideal.ofBits .f32 0x3F800000#32) (Ideal.ofBits .f32 0x3F800000#32 + Ideal.exp (-(val_main_v3 (F := Ideal) x0 x1 i))) = _
  rw [Ideal.ofBits_one_f32]
  rfl

theorem reference_act : Holds (m := 4096) (n := 5632) (φ := .f32) (val_main_v6 (F := Ideal) x0 x1 x2)
    (act (prod 2048 (table x0) (table x1)) (prod 2048 (table x0) (table x2))) := fun i => by
  show val_main_v3 (F := Ideal) x0 x1 i * val_main_call0_v5 (F := Ideal) x0 x1 i * val_main_v4 (F := Ideal) x0 x2 i = _
  rw [reference_sig, reference_gate x0 x1 i, reference_up x0 x2 i]
  rfl

theorem reference_turned (i : S5632x4096.Idx) : val_main_v11 (F := Ideal) x0 x1 x2 i
    = swapped (act (prod 2048 (table x0) (table x1)) (prod 2048 (table x0) (table x2))) (i 0).val (i 1).val :=
  (val_main_v10_apply (F := Ideal) x0 x1 x2 i).trans (reference_act x0 x1 x2 _)

end Reference

/-- `Cert.algebraic_Kernel6Ideal_Reference6Ideal` (Defs.lean). -/
theorem algebraic : Cert.algebraic_Kernel6Ideal_Reference6Ideal := by
  intro m ρ m' ρ' _ hagree
  refine ⟨fun c => result (gate m c), fun c => result (up m c), fun c => result (act (gate m c) (up m c)), fun c => turnedResult (swapped (act (gate m c) (up m c))), ?_, ?_⟩
  · refine (θ_run Cert.Kernel6Ideal.defs _ _).mono (fun r h c => ?_) (Cert.Kernel6Ideal.Value.run_blocks (F := Ideal) m ρ)
    obtain ⟨h1, h2, h3, h4, k⟩ := h c
    exact ⟨h1.trans kernel_gate, h2.trans kernel_up, h3.trans kernel_act, h4.trans kernel_turned, k⟩
  · refine (θ_run Cert.Reference6Ideal.defs _ _).mono (fun r h c => ?_) (Cert.Reference6Ideal.Value.run (F := Ideal) m' ρ')
    obtain ⟨h1, h2, h3, h4, k⟩ := h c
    obtain ⟨g0, g1, g2⟩ := hagree c
    rw [g0, g1] at h1
    rw [g0, g2] at h2
    rw [g0, g1, g2] at h3 h4
    exact ⟨h1.trans (funext fun i => (congrFun (Cert.Reference6Ideal.Read.val_main_v7_eq _ _) i).trans (reference_gate _ _ i)),
      h2.trans (funext fun i => (congrFun (Cert.Reference6Ideal.Read.val_main_v8_eq _ _) i).trans (reference_up _ _ i)),
      h3.trans (funext fun i => (congrFun (Cert.Reference6Ideal.Read.val_main_v9_eq _ _ _) i).trans (reference_act _ _ _ i)),
      h4.trans (funext fun i => (congrFun (Cert.Reference6Ideal.Read.val_main_v11_eq _ _ _) i).trans (reference_turned _ _ _ i)), k⟩

/-- The reference leaves its arguments, and it declares no semaphore. -/
theorem reference_frame : Cert.quiescent_Reference6Ideal := fun m ρ _ =>
  (θ_run Cert.Reference6Ideal.defs _ _).mono (fun r h => ⟨fun c => (h c).2.2.2.2, Idealize.ShloMosaic.sem_eq_zero_of_no_sems (by decide) r.2⟩)
    (Cert.Reference6Ideal.Value.run (F := Ideal) m ρ)

end FeedForward

end
-- ==== Proof.Projection.lean ====
module

public import proofs.«01_k».proof.Defs
public import proofs.«01_k».proof.Proof.Products
public import proofs.«01_k».proof.Proof.Gen.Kernel7Ideal.Value
public import proofs.«01_k».proof.Proof.Gen.Reference7Ideal.Run
public import proofs.«01_k».proof.Proof.Gen.Reference7Ideal.Read

@[expose] public section

/-!
# The mixer's input projection

The first 5120 of the 5136 columns of `h · w_in`, the weight coming transposed, by blocks of 1024 × 1024 entries, each
over the whole width at once.
-/

set_option maxRecDepth 16384

noncomputable section

namespace Projection

open Idealize.ShloMosaic Idealize.ShloMosaic.TcCoe Idealize.SL.Sem Products
open Cert.Kernel7Ideal Cert.Kernel7Ideal.Gen

theorem out_eq (c : Dev nD) (i : grid0.Coords) (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (x0 x1 : Vec Ideal S1024x2048 .bf16) :
    out0_A_2 c i arg3 harg3 arg4 harg4 arg5 harg5 x0 x1 = k0_pay1 x0 x1 := by
  unfold out0_A_2 kernelRun0_A
  dsimp only
  rw [View.read_writes_junk_eq_canon]
  simp only [View.canon_cons_unit_zero (S := S1024x1024) zeros2, read_whole (S := S1024x2048) _ _ zeros2]

variable {m : (ℓ : Loc nD τ sig) → Buf (Elt Ideal) ℓ} {c : Dev nD}

theorem index0 : ∀ t : Fin cfg0.N, win0_0.index t = ![t.val / 5, 0] :=
  (by decide +kernel : ∀ t : Fin grid0.N, win0_0.index t = ![t.val / 5, 0])
theorem index1 : ∀ t : Fin cfg0.N, win0_1.index t = ![t.val % 5, 0] :=
  (by decide +kernel : ∀ t : Fin grid0.N, win0_1.index t = ![t.val % 5, 0])
theorem index2 : ∀ t : Fin cfg0.N, win0_2.index t = ![t.val / 5, t.val % 5] :=
  (by decide +kernel : ∀ t : Fin grid0.N, win0_2.index t = ![t.val / 5, t.val % 5])

/-- The two arguments, as functions of natural coordinates. -/
def hidden (m : (ℓ : Loc nD τ sig) → Buf (Elt Ideal) ℓ) (c : Dev nD) : ℕ → ℕ → EReal := table (m := 4096) (n := 2048) (φ := .bf16) (m ((c : Thread nD τ).loc main_arg0))
def wInT (m : (ℓ : Loc nD τ sig) → Buf (Elt Ideal) ℓ) (c : Dev nD) : ℕ → ℕ → EReal := table (m := 5136) (n := 2048) (φ := .bf16) (m ((c : Thread nD τ).loc main_arg1))

theorem block0 (t : Fin cfg0.N) : Holds (m := 1024) (n := 2048) (φ := .bf16) (iblk m c 0 t) (shift (t.val / 5 * 1024) (0 * 2048) (hidden m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 1024) (n := 2048) (φ := .bf16) (X0_1 m c t) (shift (t.val % 5 * 1024) (0 * 2048) (wInT m c)) := by
  refine Holds.block (table_holds _) _ _ (fun y => (win0_1.rect t).emb fun a => ⟨(y a).val, (win0_1.moved_iff _ y).mp (moved0_1 t y) a⟩) (fun y => ?_) (fun y => ?_) (fun y => ?_)
  · unfold X0_1 Pipeline.Window.fill
    rw [dif_pos (moved0_1 t y)]
    exact congrFun (V_main_arg1 m c) _
  · rw [win0_1.rect_emb_val, index1]; rfl
  · rw [win0_1.rect_emb_val, index1]; rfl

theorem point (t : Fin cfg0.N) : Holds (m := 1024) (n := 1024) (φ := .f32) (outsAt0 m c t)
    (prod 2048 (shift (t.val / 5 * 1024) (0 * 2048) (hidden m c)) (swapped (shift (t.val % 5 * 1024) (0 * 2048) (wInT m c)))) := by
  unfold outsAt0
  rw [out_eq]
  exact Holds.dotT dot_S1024x2048_S1024x2048_S1024x1024_1_1_0_0_n_n rfl (block0 t) (block1 t)

/-- The result. -/
def result (m : (ℓ : Loc nD τ sig) → Buf (Elt Ideal) ℓ) (c : Dev nD) (i : S4096x5120.Idx) : EReal := prod 2048 (hidden m c) (swapped (wInT m c)) (i 0).val (i 1).val

theorem kernel_is : (dats m 0 c).arrAt 2 cfg0.N = result m c := by
  refine (dats m 0 c).arrAt_eq_of_cover 2 (result m c) (fun t hf => funext fun y => ?_) fun i => ?_
  · refine (congrFun (Value.flushed2 m c t) y).trans ((point (m := m) (c := c) t y).trans ?_)
    show _ = result m c ((win0_2.rect t).emb y)
    have e0 : ((win0_2.rect t).emb y 0).val = t.val / 5 * 1024 + (y 0).val := by rw [win0_2.rect_emb_val, index2]; rfl
    have e1 : ((win0_2.rect t).emb y 1).val = t.val % 5 * 1024 + (y 1).val := by rw [win0_2.rect_emb_val, index2]; rfl
    unfold result
    rw [e0, e1]
    unfold prod swapped shift
    simp only [Nat.zero_mul, Nat.zero_add]
  · have b0 : (i 0).val < 4096 := (i 0).isLt
    have b1 : (i 1).val < 5120 := (i 1).isLt
    have hn : (i 0).val / 1024 * 5 + (i 1).val / 1024 < cfg0.N := lt_of_lt_of_eq (b := 20) (by omega) N_0.symm
    refine ⟨⟨_, hn⟩, flush0_2 _, ?_⟩
    refine Finset.mem_map.mpr ⟨ValueIdx.ix2 (⟨(i 0).val % 1024, by omega⟩ : Fin 1024) (⟨(i 1).val % 1024, by omega⟩ : Fin 1024), Finset.mem_univ _, ?_⟩
    show (win0_2.rect ⟨_, hn⟩).emb _ = i
    refine Shape.idx_ext₂ ?_ ?_
    · rw [win0_2.rect_emb_val, index2]
      show ((i 0).val / 1024 * 5 + (i 1).val / 1024) / 5 * 1024 + (i 0).val % 1024 = (i 0).val
      omega
    · rw [win0_2.rect_emb_val, index2]
      show ((i 0).val / 1024 * 5 + (i 1).val / 1024) % 5 * 1024 + (i 1).val % 1024 = (i 1).val
      omega

/-! ## The reference -/

theorem reference_is (x0 : FVec Ideal ⟨2, ![4096, 2048]⟩ .bf16) (x1 : FVec Ideal ⟨2, ![5136, 2048]⟩ .bf16) (i : S4096x5120.Idx) :
    Cert.Reference7Ideal.Read.val_main_v4 (F := Ideal) x0 x1 i = prod 2048 (table x0) (swapped (table x1)) (i 0).val (i 1).val := by
  refine (Cert.Reference7Ideal.Read.val_main_v4_apply (F := Ideal) x0 x1 i).trans ((Cert.Reference7Ideal.Read.val_main_v3_apply x0 x1 _).trans (Holds.term_sum fun q => ?_))
  exact congrArg₂ (fun x y : EReal => x * y) (table_holds x0 _) ((Cert.Reference7Ideal.Read.val_main_v2_apply (F := Ideal) x1 _).trans (table_holds x1 _))

/-- `Cert.algebraic_Kernel7Ideal_Reference7Ideal` (Defs.lean). -/
theorem algebraic : Cert.algebraic_Kernel7Ideal_Reference7Ideal := by
  intro m ρ m' ρ' _ hagree
  refine ⟨fun c => result m c, ?_, ?_⟩
  · refine (θ_run Cert.Kernel7Ideal.defs _ _).mono (fun r h c => ?_) (Cert.Kernel7Ideal.Value.run_blocks (F := Ideal) m ρ)
    obtain ⟨h1, k⟩ := h c
    exact ⟨h1.trans kernel_is, k⟩
  · refine (θ_run Cert.Reference7Ideal.defs _ _).mono (fun r h c => ?_) (Cert.Reference7Ideal.Value.run (F := Ideal) m' ρ')
    obtain ⟨h1, k⟩ := h c
    obtain ⟨g0, g1⟩ := hagree c
    have e (i : S4096x5120.Idx) := reference_is (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1)) i
    rw [g0, g1] at e h1
    exact ⟨h1.trans (funext fun i => (congrFun (Cert.Reference7Ideal.Read.val_main_v4_eq _ _) i).trans (e i)), k⟩

/-- The reference leaves its arguments, and it declares no semaphore. -/
theorem reference_frame : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

end Projection

end
-- ==== Proof.OutGrad.lean ====
module

public import proofs.«01_k».proof.Defs
public import proofs.«01_k».proof.Proof.Products
public import proofs.«01_k».proof.Proof.Gen.Kernel8Ideal.Value
public import proofs.«01_k».proof.Proof.Gen.Reference8Ideal.Run
public import proofs.«01_k».proof.Proof.Gen.Reference8Ideal.Read

@[expose] public section

/-!
# The gradient of the output projection's weight

`uyᵀ · dmix`, by blocks of 1024 × 1024 entries and half the rows at a time. A block's second grid point also rounds it into the second result.
-/

set_option maxRecDepth 16384

noncomputable section

namespace OutGrad

open Idealize.ShloMosaic Idealize.ShloMosaic.TcCoe Idealize.SL.Sem Products
open Cert.Kernel8Ideal Cert.Kernel8Ideal.Gen

/-! ## One grid point -/

section Point

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole)
  (x0 : Vec Ideal S2048x1024 .bf16) (x1 : Vec Ideal S2048x1024 .bf16)

theorem first_eq (hc0 : cond0_0 i) (hc1 : ¬cond0_1 i) :
    out0_A_2 c i arg3 harg3 arg4 harg4 arg5 harg5 arg6 harg6 hc0 hc1 x0 x1 = k0_pay2 (k0_pay1 (F := Ideal)) x0 x1 := by
  unfold out0_A_2 kernelRun0_A
  dsimp only
  rw [View.read_writes_junk_eq_canon]
  simp only [kernelRun0_A.sl.v3, kernelRun0_A.sl.H2_1, View.canon_cons_unit_zero (S := S1024x1024) zeros2, reread (S := S1024x1024) _ zeros2, read_whole (S := S1024x1024) _ _ zeros2, read_whole (S := S2048x1024) _ _ zeros2, read_whole (S := S2048x1024) _ _ zeros2]

theorem last_eq (hc0 : ¬cond0_0 i) (hc1 : cond0_1 i) (xo : Vec Ideal S1024x1024 .f32) :
    out0_B_2 c i arg3 harg3 arg4 harg4 arg5 harg5 arg6 harg6 hc0 hc1 x0 x1 xo = k0_pay2 xo x0 x1 := by
  unfold out0_B_2 kernelRun0_B
  dsimp only
  rw [View.read_writes_junk_eq_canon]
  simp only [kernelRun0_B.sl.H2_1, View.canon_cons_unit_zero (S := S1024x1024) zeros2, reread (S := S1024x1024) _ zeros2, read_whole (S := S1024x1024) _ _ zeros2, read_whole (S := S2048x1024) _ _ zeros2, read_whole (S := S2048x1024) _ _ zeros2]

theorem rounded_eq (hc0 : ¬cond0_0 i) (hc1 : cond0_1 i) (xo : Vec Ideal S1024x1024 .f32) :
    out0_B_3 c i arg3 harg3 arg4 harg4 arg5 harg5 arg6 harg6 hc0 hc1 x0 x1 xo = k0_pay3 (k0_pay2 xo x0 x1) := by
  unfold out0_B_3 kernelRun0_B
  dsimp only
  rw [View.read_writes_junk_eq_canon]
  simp only [kernelRun0_B.sl.v13, kernelRun0_B.sl.H2_1, View.canon_cons_unit_zero (S := S1024x1024) zeros2, reread (S := S1024x1024) _ zeros2, read_whole (S := S1024x1024) _ _ zeros2, read_whole (S := S2048x1024) _ _ zeros2, read_whole (S := S2048x1024) _ _ zeros2]

end Point

theorem lhs_kept (j : S1024x1024.Idx) (q : dot_S2048x1024_S2048x1024_S1024x1024_0_0_1_1_n_n.contr.Idx) :
    (dot_S2048x1024_S2048x1024_S1024x1024_0_0_1_1_n_n.lhsIdx j q 1).val = (j 0).val := by
  unfold DotDims.lhsIdx
  rw [dif_neg (by decide), dif_pos (by decide)]
  rfl

theorem rhs_kept (j : S1024x1024.Idx) (q : dot_S2048x1024_S2048x1024_S1024x1024_0_0_1_1_n_n.contr.Idx) :
    (dot_S2048x1024_S2048x1024_S1024x1024_0_0_1_1_n_n.rhsIdx j q 1).val = (j 1).val := by
  unfold DotDims.rhsIdx
  rw [dif_neg (by decide), dif_pos (by decide)]
  rfl

theorem step_holds {acc : FVec Ideal S1024x1024 .f32} {x0 x1 : FVec Ideal S2048x1024 .bf16} {f a b : ℕ → ℕ → EReal}
    (hacc : Holds acc f) (h0 : Holds x0 a) (h1 : Holds x1 b) : Holds (k0_pay2 (F := Ideal) acc x0 x1) fun r q => f r q + prod 2048 (swapped a) b r q :=
  Holds.add (Holds.cast hacc) (Holds.tdot dot_S2048x1024_S2048x1024_S1024x1024_0_0_1_1_n_n rfl rfl
    (fun j q => DotDims.lhsIdx_val_of_single _ rfl j q) lhs_kept (fun j q => DotDims.rhsIdx_val_of_single _ rfl j q) rhs_kept h0 h1)

theorem zero_holds : Holds (k0_pay1 (F := Ideal)) fun _ _ => 0 := Holds.zeros

theorem rounded_holds {x : FVec Ideal S1024x1024 .f32} {f : ℕ → ℕ → EReal} (h : Holds x f) : Holds (k0_pay3 (F := Ideal) x) f := Holds.cast h

/-! ## The grid -/

variable {m : (ℓ : Loc nD τ sig) → Buf (Elt Ideal) ℓ} {c : Dev nD}

theorem index0 : ∀ t : Fin cfg0.N, win0_0.index t = ![t.val % 2, t.val / 4] :=
  (by decide +kernel : ∀ t : Fin grid0.N, win0_0.index t = ![t.val % 2, t.val / 4])
theorem index1 : ∀ t : Fin cfg0.N, win0_1.index t = ![t.val % 2, t.val / 2 % 2] :=
  (by decide +kernel : ∀ t : Fin grid0.N, win0_1.index t = ![t.val % 2, t.val / 2 % 2])
theorem index2 : ∀ t : Fin cfg0.N, win0_2.index t = ![t.val / 4, t.val / 2 % 2] :=
  (by decide +kernel : ∀ t : Fin grid0.N, win0_2.index t = ![t.val / 4, t.val / 2 % 2])
theorem index3 : ∀ t : Fin cfg0.N, win0_3.index t = ![t.val / 4, t.val / 2 % 2] :=
  (by decide +kernel : ∀ t : Fin grid0.N, win0_3.index t = ![t.val / 4, t.val / 2 % 2])

/-- The two arguments, as functions of natural coordinates. -/
def uy (m : (ℓ : Loc nD τ sig) → Buf (Elt Ideal) ℓ) (c : Dev nD) : ℕ → ℕ → EReal := table (m := 4096) (n := 2048) (φ := .bf16) (m ((c : Thread nD τ).loc main_arg0))
def dmix (m : (ℓ : Loc nD τ sig) → Buf (Elt Ideal) ℓ) (c : Dev nD) : ℕ → ℕ → EReal := table (m := 4096) (n := 2048) (φ := .bf16) (m ((c : Thread nD τ).loc main_arg1))

/-- The first of them transposed. -/
def uyT (m : (ℓ : Loc nD τ sig) → Buf (Elt Ideal) ℓ) (c : Dev nD) : ℕ → ℕ → EReal := swapped (uy m c)

theorem rows (o p : ℕ) : swapped (shift o p (uy m c)) = shift p o (uyT m c) := rfl

theorem block0 (t : Fin cfg0.N) : Holds (m := 2048) (n := 1024) (φ := .bf16) (iblk m c 0 t) (shift (t.val % 2 * 2048) (t.val / 4 * 1024) (uy m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 2048) (n := 1024) (φ := .bf16) (iblk m c 1 t) (shift (t.val % 2 * 2048) (t.val / 2 % 2 * 1024) (dmix m c)) := by
  refine Holds.block (table_holds _) _ _ (fun y => (win0_1.rect t).emb y) (fun y => congrFun (V_main_arg1 m c) _) (fun y => ?_) (fun y => ?_)
  · rw [win0_1.rect_emb_val, index1]; rfl
  · rw [win0_1.rect_emb_val, index1]; rfl

/-- The product over all 4096 rows, as a block's second grid point leaves it. -/
def block (t : ℕ) (m : (ℓ : Loc nD τ sig) → Buf (Elt Ideal) ℓ) (c : Dev nD) : ℕ → ℕ → EReal :=
  prod 4096 (shift (t / 4 * 1024) 0 (uyT m c)) (shift 0 (t / 2 % 2 * 1024) (dmix m c))

theorem first_point (t : Fin cfg0.N) (h0 : t.val % 2 = 0) : Holds (m := 1024) (n := 1024) (φ := .f32) (outsAt0 m c t.val t.isLt).1
    (prod 2048 (shift (t.val / 4 * 1024) 0 (uyT m c)) (shift 0 (t.val / 2 % 2 * 1024) (dmix m c))) := by
  have b0 := block0 (m := m) (c := c) t
  have b1 := block1 (m := m) (c := c) t
  rw [h0, Nat.zero_mul] at b0 b1
  have e := outsAt0_A m c t h0 (by omega)
  rw [first_eq] at e
  rw [e]
  have s := step_holds zero_holds b0 b1
  rw [rows] at s
  exact s.congr fun r q _ _ => partial_first ..

theorem last_acc (t : Fin cfg0.N) (h1 : t.val % 2 = 1) {xo : FVec Ideal S1024x1024 .f32}
    (hxo : Holds xo (prod 2048 (shift (t.val / 4 * 1024) 0 (uyT m c)) (shift 0 (t.val / 2 % 2 * 1024) (dmix m c)))) :
    Holds (m := 1024) (n := 1024) (φ := .f32) (k0_pay2 (F := Ideal) xo (iblk m c 0 t) (iblk m c 1 t)) (block t.val m c) := by
  have b0 := block0 (m := m) (c := c) t
  have b1 := block1 (m := m) (c := c) t
  rw [h1, Nat.one_mul] at b0 b1
  have s := step_holds hxo b0 b1
  rw [rows] at s
  exact s.congr fun r q _ _ => partial_step 2048 2048 _ _ _ _ r q

theorem last_point (t : Fin cfg0.N) (h1 : t.val % 2 = 1) :
    Holds (m := 1024) (n := 1024) (φ := .f32) (outsAt0 m c t.val t.isLt).1 (block t.val m c) ∧ Holds (m := 1024) (n := 1024) (φ := .bf16) (outsAt0 m c t.val t.isLt).2 (block t.val m c) := by
  have hp : t.val - 1 < cfg0.N := Nat.lt_of_le_of_lt (Nat.sub_le _ _) t.isLt
  have z := first_point (m := m) (c := c) ⟨t.val - 1, hp⟩ (by show (t.val - 1) % 2 = 0; omega)
  dsimp only at z
  rw [show (t.val - 1) / 4 = t.val / 4 by omega, show (t.val - 1) / 2 = t.val / 2 by omega] at z
  have a := last_acc t h1 z
  have e := outsAt0_B m c t (by omega) h1
  rw [last_eq, rounded_eq] at e
  rw [e]
  exact ⟨a, rounded_holds a⟩

/-- The result. -/
def result (m : (ℓ : Loc nD τ sig) → Buf (Elt Ideal) ℓ) (c : Dev nD) (i : S2048x2048.Idx) : EReal := prod 4096 (uyT m c) (dmix m c) (i 0).val (i 1).val

theorem block_eq (t : ℕ) (i : S2048x2048.Idx) (y : S1024x1024.Idx) (e0 : (i 0).val = t / 4 * 1024 + (y 0).val) (e1 : (i 1).val = t / 2 % 2 * 1024 + (y 1).val) :
    block t m c (y 0).val (y 1).val = result m c i := by
  unfold result block prod shift
  rw [e0, e1]
  simp only [Nat.zero_add]

/-- The last grid point of the block that an entry lies in. -/
theorem covered (i : S2048x2048.Idx) : ∃ (t : Fin cfg0.N) (y : S1024x1024.Idx), t.val % 2 = 1 ∧ (i 0).val = t.val / 4 * 1024 + (y 0).val ∧ (i 1).val = t.val / 2 % 2 * 1024 + (y 1).val := by
  have b0 : (i 0).val < 2048 := (i 0).isLt
  have b1 : (i 1).val < 2048 := (i 1).isLt
  refine ⟨⟨(i 0).val / 1024 * 4 + (i 1).val / 1024 * 2 + 1, lt_of_lt_of_eq (b := 8) (by omega) N_0.symm⟩,
    ValueIdx.ix2 (⟨(i 0).val % 1024, by omega⟩ : Fin 1024) (⟨(i 1).val % 1024, by omega⟩ : Fin 1024), ?_, ?_, ?_⟩
  · show ((i 0).val / 1024 * 4 + (i 1).val / 1024 * 2 + 1) % 2 = 1
    omega
  · show (i 0).val = ((i 0).val / 1024 * 4 + (i 1).val / 1024 * 2 + 1) / 4 * 1024 + (i 0).val % 1024
    omega
  · show (i 1).val = ((i 0).val / 1024 * 4 + (i 1).val / 1024 * 2 + 1) / 2 % 2 * 1024 + (i 1).val % 1024
    omega

theorem kernel_is : (dats m 0 c).arrAt 2 cfg0.N = result m c := by
  refine (dats m 0 c).arrAt_eq_of_cover 2 (result m c) (fun t hf => funext fun y => ?_) fun i => ?_
  · refine (congrFun (Value.flushed2 m c t) y).trans (((last_point (m := m) (c := c) t ((flush0_2 t).mp hf)).1 y).trans ?_)
    refine block_eq t.val ((win0_2.rect t).emb y) y ?_ ?_
    · rw [win0_2.rect_emb_val, index2]; rfl
    · rw [win0_2.rect_emb_val, index2]; rfl
  · obtain ⟨t, y, h, e0, e1⟩ := covered i
    refine ⟨t, (flush0_2 t).mpr h, Finset.mem_map.mpr ⟨y, Finset.mem_univ _, ?_⟩⟩
    show (win0_2.rect t).emb y = i
    refine Shape.idx_ext₂ ?_ ?_
    · rw [win0_2.rect_emb_val, index2]; exact e0.symm
    · rw [win0_2.rect_emb_val, index2]; exact e1.symm

theorem kernel_rounded_is : (dats m 0 c).arrAt 3 cfg0.N = result m c := by
  refine (dats m 0 c).arrAt_eq_of_cover 3 (result m c) (fun t hf => funext fun y => ?_) fun i => ?_
  · refine (congrFun (Value.flushed3 m c t) y).trans (((last_point (m := m) (c := c) t ((flush0_3 t).mp hf)).2 y).trans ?_)
    refine block_eq t.val ((win0_3.rect t).emb y) y ?_ ?_
    · rw [win0_3.rect_emb_val, index3]; rfl
    · rw [win0_3.rect_emb_val, index3]; rfl
  · obtain ⟨t, y, h, e0, e1⟩ := covered i
    refine ⟨t, (flush0_3 t).mpr h, Finset.mem_map.mpr ⟨y, Finset.mem_univ _, ?_⟩⟩
    show (win0_3.rect t).emb y = i
    refine Shape.idx_ext₂ ?_ ?_
    · rw [win0_3.rect_emb_val, index3]; exact e0.symm
    · rw [win0_3.rect_emb_val, index3]; exact e1.symm

/-! ## The reference -/

theorem reference_is (x0 x1 : FVec Ideal ⟨2, ![4096, 2048]⟩ .bf16) (i : S2048x2048.Idx) :
    Cert.Reference8Ideal.Read.val_main_v5 (F := Ideal) x0 x1 i = prod 4096 (swapped (table x0)) (table x1) (i 0).val (i 1).val := by
  refine (Cert.Reference8Ideal.Read.val_main_v5_apply (F := Ideal) x0 x1 i).trans ((Cert.Reference8Ideal.Read.val_main_v4_apply x0 x1 _).trans (Holds.term_sum fun q => ?_))
  rw [mul_comm]
  exact congrArg₂ (fun x y : EReal => x * y) (table_holds x0 _) (table_holds x1 _)

/-- `Cert.algebraic_Kernel8Ideal_Reference8Ideal` (Defs.lean). -/
theorem algebraic : Cert.algebraic_Kernel8Ideal_Reference8Ideal := by
  intro m ρ m' ρ' _ hagree
  refine ⟨fun c => result m c, fun c => result m c, ?_, ?_⟩
  · refine (θ_run Cert.Kernel8Ideal.defs _ _).mono (fun r h c => ?_) (Cert.Kernel8Ideal.Value.run_blocks (F := Ideal) m ρ)
    obtain ⟨h1, h2, k⟩ := h c
    exact ⟨h1.trans kernel_is, h2.trans kernel_rounded_is, k⟩
  · refine (θ_run Cert.Reference8Ideal.defs _ _).mono (fun r h c => ?_) (Cert.Reference8Ideal.Value.run (F := Ideal) m' ρ')
    obtain ⟨h1, h2, k⟩ := h c
    obtain ⟨g0, g1⟩ := hagree c
    have e (i : S2048x2048.Idx) := reference_is (m' ((c.tc : Thread Cert.Reference8Ideal.nD Cert.Reference8Ideal.τ).loc Cert.Reference8Ideal.main_arg0))
      (m' ((c.tc : Thread Cert.Reference8Ideal.nD Cert.Reference8Ideal.τ).loc Cert.Reference8Ideal.main_arg1)) i
    rw [g0, g1] at e h1 h2
    refine ⟨h1.trans (funext fun i => ?_), h2.trans (funext fun i => ?_), k⟩
    · exact (congrFun (Cert.Reference8Ideal.Read.val_main_v5_eq _ _) i).trans (e i)
    · exact (congrFun (Cert.Reference8Ideal.Read.val_main_v6_eq _ _) i).trans (e i)

/-- The reference leaves its arguments, and it declares no semaphore. -/
theorem reference_frame : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

end OutGrad

end
-- ==== Proof.MixerGrad.lean ====
module

public import proofs.«01_k».proof.Defs
public import proofs.«01_k».proof.Proof.Products
public import proofs.«01_k».proof.Proof.Gen.Kernel9Ideal.Value
public import proofs.«01_k».proof.Proof.Gen.Reference9Ideal.Run
public import proofs.«01_k».proof.Proof.Gen.Reference9Ideal.Read

@[expose] public section

/-!
# The gradient of the mixer's output before its output projection

`dmix · w_outᵀ`, by blocks of 1024 × 1024 entries, each over the whole width at once.
-/

set_option maxRecDepth 16384

noncomputable section

namespace MixerGrad

open Idealize.ShloMosaic Idealize.ShloMosaic.TcCoe Idealize.SL.Sem Products
open Cert.Kernel9Ideal Cert.Kernel9Ideal.Gen

theorem out_eq (x0 x1 : Vec Ideal S1024x2048 .bf16) : out0_2 x0 x1 = k0_pay1 x0 x1 := by
  unfold out0_2
  rw [View.canon_cons_unit_zero (S := S1024x1024) zeros2, View.ld_unit_zero (S := S1024x2048) zeros2, View.ld_unit_zero (S := S1024x2048) zeros2]

variable {m : (ℓ : Loc nD τ sig) → Buf (Elt Ideal) ℓ} {c : Dev nD}

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![t.val % 2, 0] :=
  (by decide +kernel : ∀ t : Fin grid0.N, win0_1.index t = ![t.val % 2, 0])
theorem index2 : ∀ t : Fin cfg0.N, win0_2.index t = ![t.val / 2, t.val % 2] :=
  (by decide +kernel : ∀ t : Fin grid0.N, win0_2.index t = ![t.val / 2, t.val % 2])

/-- The two arguments, as functions of natural coordinates. -/
def dmix (m : (ℓ : Loc nD τ sig) → Buf (Elt Ideal) ℓ) (c : Dev nD) : ℕ → ℕ → EReal := table (m := 4096) (n := 2048) (φ := .bf16) (m ((c : Thread nD τ).loc main_arg0))
def wOut (m : (ℓ : Loc nD τ sig) → Buf (Elt Ideal) ℓ) (c : Dev nD) : ℕ → ℕ → EReal := table (m := 2048) (n := 2048) (φ := .bf16) (m ((c : Thread nD τ).loc main_arg1))

theorem block0 (t : Fin cfg0.N) : Holds (m := 1024) (n := 2048) (φ := .bf16) (iblk m c 0 t) (shift (t.val / 2 * 1024) (0 * 2048) (dmix m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 1024) (n := 2048) (φ := .bf16) (iblk m c 1 t) (shift (t.val % 2 * 1024) (0 * 2048) (wOut m c)) := by
  refine Holds.block (table_holds _) _ _ (fun y => (win0_1.rect t).emb y) (fun y => congrFun (V_main_arg1 m c) _) (fun y => ?_) (fun y => ?_)
  · rw [win0_1.rect_emb_val, index1]; rfl
  · rw [win0_1.rect_emb_val, index1]; rfl

theorem point (t : Fin cfg0.N) : Holds (m := 1024) (n := 1024) (φ := .f32) (out0_2 (iblk m c 0 t) (iblk m c 1 t))
    (prod 2048 (shift (t.val / 2 * 1024) (0 * 2048) (dmix m c)) (swapped (shift (t.val % 2 * 1024) (0 * 2048) (wOut m c)))) := by
  rw [out_eq]
  exact Holds.dotT dot_S1024x2048_S1024x2048_S1024x1024_1_1_0_0_n_n rfl (block0 t) (block1 t)

/-- The result. -/
def result (m : (ℓ : Loc nD τ sig) → Buf (Elt Ideal) ℓ) (c : Dev nD) (i : S4096x2048.Idx) : EReal := prod 2048 (dmix m c) (swapped (wOut m c)) (i 0).val (i 1).val

theorem kernel_is : (dats m 0 c).arrAt 2 cfg0.N = result m c := by
  refine (dats m 0 c).arrAt_eq_of_cover 2 (result m c) (fun t hf => funext fun y => ?_) fun i => ?_
  · refine (congrFun (Value.flushed2 m c t) y).trans ((point (m := m) (c := c) t y).trans ?_)
    show _ = result m c ((win0_2.rect t).emb y)
    have e0 : ((win0_2.rect t).emb y 0).val = t.val / 2 * 1024 + (y 0).val := by rw [win0_2.rect_emb_val, index2]; rfl
    have e1 : ((win0_2.rect t).emb y 1).val = t.val % 2 * 1024 + (y 1).val := by rw [win0_2.rect_emb_val, index2]; rfl
    unfold result
    rw [e0, e1]
    unfold prod swapped shift
    simp only [Nat.zero_mul, Nat.zero_add]
  · have b0 : (i 0).val < 4096 := (i 0).isLt
    have b1 : (i 1).val < 2048 := (i 1).isLt
    have hn : (i 0).val / 1024 * 2 + (i 1).val / 1024 < cfg0.N := lt_of_lt_of_eq (b := 8) (by omega) N_0.symm
    refine ⟨⟨_, hn⟩, flush0_2 _, ?_⟩
    refine Finset.mem_map.mpr ⟨ValueIdx.ix2 (⟨(i 0).val % 1024, by omega⟩ : Fin 1024) (⟨(i 1).val % 1024, by omega⟩ : Fin 1024), Finset.mem_univ _, ?_⟩
    show (win0_2.rect ⟨_, hn⟩).emb _ = i
    refine Shape.idx_ext₂ ?_ ?_
    · rw [win0_2.rect_emb_val, index2]
      show ((i 0).val / 1024 * 2 + (i 1).val / 1024) / 2 * 1024 + (i 0).val % 1024 = (i 0).val
      omega
    · rw [win0_2.rect_emb_val, index2]
      show ((i 0).val / 1024 * 2 + (i 1).val / 1024) % 2 * 1024 + (i 1).val % 1024 = (i 1).val
      omega

/-! ## The reference -/

theorem reference_is (x0 : FVec Ideal ⟨2, ![4096, 2048]⟩ .bf16) (x1 : FVec Ideal ⟨2, ![2048, 2048]⟩ .bf16) (i : S4096x2048.Idx) :
    Cert.Reference9Ideal.Read.val_main_v4 (F := Ideal) x0 x1 i = prod 2048 (table x0) (swapped (table x1)) (i 0).val (i 1).val := by
  refine (Cert.Reference9Ideal.Read.val_main_v4_apply x0 x1 i).trans (Holds.term_sum fun q => ?_)
  exact congrArg₂ (fun x y : EReal => x * y) (table_holds x0 _) (table_holds x1 _)

/-- `Cert.algebraic_Kernel9Ideal_Reference9Ideal` (Defs.lean). -/
theorem algebraic : Cert.algebraic_Kernel9Ideal_Reference9Ideal := by
  intro m ρ m' ρ' _ hagree
  refine ⟨fun c => result m c, ?_, ?_⟩
  · refine (θ_run Cert.Kernel9Ideal.defs _ _).mono (fun r h c => ?_) (Cert.Kernel9Ideal.Value.run_blocks (F := Ideal) m ρ)
    obtain ⟨h1, k⟩ := h c
    exact ⟨h1.trans kernel_is, k⟩
  · refine (θ_run Cert.Reference9Ideal.defs _ _).mono (fun r h c => ?_) (Cert.Reference9Ideal.Value.run (F := Ideal) m' ρ')
    obtain ⟨h1, k⟩ := h c
    obtain ⟨g0, g1⟩ := hagree c
    have e (i : S4096x2048.Idx) := reference_is (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1)) i
    rw [g0, g1] at e h1
    exact ⟨h1.trans (funext fun i => (congrFun (Cert.Reference9Ideal.Read.val_main_v4_eq _ _) i).trans (e i)), k⟩

/-- The reference leaves its arguments, and it declares no semaphore. -/
theorem reference_frame : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

end MixerGrad

end
-- ==== Proof.MixerOut.lean ====
module

public import proofs.«01_k».proof.Defs
public import proofs.«01_k».proof.Proof.Products
public import proofs.«01_k».proof.Proof.Gen.Kernel10Ideal.Value
public import proofs.«01_k».proof.Proof.Gen.Reference10Ideal.Run
public import proofs.«01_k».proof.Proof.Gen.Reference10Ideal.Read

@[expose] public section

/-!
# The mixer's output projection

`uy · w_out`, by blocks of 1024 × 1024 entries, each over the whole width at once.
-/

set_option maxRecDepth 16384

noncomputable section

namespace MixerOut

open Idealize.ShloMosaic Idealize.ShloMosaic.TcCoe Idealize.SL.Sem Products
open Cert.Kernel10Ideal Cert.Kernel10Ideal.Gen

theorem out_eq (x0 : Vec Ideal S1024x2048 .bf16) (x1 : Vec Ideal S2048x1024 .bf16) : out0_2 x0 x1 = k0_pay1 x0 x1 := by
  unfold out0_2
  rw [View.canon_cons_unit_zero (S := S1024x1024) zeros2, View.ld_unit_zero (S := S1024x2048) zeros2, View.ld_unit_zero (S := S2048x1024) zeros2]

variable {m : (ℓ : Loc nD τ sig) → Buf (Elt Ideal) ℓ} {c : Dev nD}

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![0, t.val % 2] :=
  (by decide +kernel : ∀ t : Fin grid0.N, win0_1.index t = ![0, t.val % 2])
theorem index2 : ∀ t : Fin cfg0.N, win0_2.index t = ![t.val / 2, t.val % 2] :=
  (by decide +kernel : ∀ t : Fin grid0.N, win0_2.index t = ![t.val / 2, t.val % 2])

/-- The two arguments, as functions of natural coordinates. -/
def uy (m : (ℓ : Loc nD τ sig) → Buf (Elt Ideal) ℓ) (c : Dev nD) : ℕ → ℕ → EReal := table (m := 4096) (n := 2048) (φ := .bf16) (m ((c : Thread nD τ).loc main_arg0))
def wOut (m : (ℓ : Loc nD τ sig) → Buf (Elt Ideal) ℓ) (c : Dev nD) : ℕ → ℕ → EReal := table (m := 2048) (n := 2048) (φ := .bf16) (m ((c : Thread nD τ).loc main_arg1))

theorem block0 (t : Fin cfg0.N) : Holds (m := 1024) (n := 2048) (φ := .bf16) (iblk m c 0 t) (shift (t.val / 2 * 1024) (0 * 2048) (uy m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 2048) (n := 1024) (φ := .bf16) (iblk m c 1 t) (shift (0 * 2048) (t.val % 2 * 1024) (wOut m c)) := by
  refine Holds.block (table_holds _) _ _ (fun y => (win0_1.rect t).emb y) (fun y => congrFun (V_main_arg1 m c) _) (fun y => ?_) (fun y => ?_)
  · rw [win0_1.rect_emb_val, index1]; rfl
  · rw [win0_1.rect_emb_val, index1]; rfl

theorem point (t : Fin cfg0.N) : Holds (m := 1024) (n := 1024) (φ := .f32) (out0_2 (iblk m c 0 t) (iblk m c 1 t))
    (prod 2048 (shift (t.val / 2 * 1024) (0 * 2048) (uy m c)) (shift (0 * 2048) (t.val % 2 * 1024) (wOut m c))) := by
  rw [out_eq]
  exact Holds.dot dot_S1024x2048_S2048x1024_S1024x1024_1_0_0_1_n_n rfl (block0 t) (block1 t)

/-- The result. -/
def result (m : (ℓ : Loc nD τ sig) → Buf (Elt Ideal) ℓ) (c : Dev nD) (i : S4096x2048.Idx) : EReal := prod 2048 (uy m c) (wOut m c) (i 0).val (i 1).val

theorem kernel_is : (dats m 0 c).arrAt 2 cfg0.N = result m c := by
  refine (dats m 0 c).arrAt_eq_of_cover 2 (result m c) (fun t hf => funext fun y => ?_) fun i => ?_
  · refine (congrFun (Value.flushed2 m c t) y).trans ((point (m := m) (c := c) t y).trans ?_)
    show _ = result m c ((win0_2.rect t).emb y)
    have e0 : ((win0_2.rect t).emb y 0).val = t.val / 2 * 1024 + (y 0).val := by rw [win0_2.rect_emb_val, index2]; rfl
    have e1 : ((win0_2.rect t).emb y 1).val = t.val % 2 * 1024 + (y 1).val := by rw [win0_2.rect_emb_val, index2]; rfl
    unfold result
    rw [e0, e1]
    unfold prod shift
    simp only [Nat.zero_mul, Nat.zero_add]
  · have b0 : (i 0).val < 4096 := (i 0).isLt
    have b1 : (i 1).val < 2048 := (i 1).isLt
    have hn : (i 0).val / 1024 * 2 + (i 1).val / 1024 < cfg0.N := lt_of_lt_of_eq (b := 8) (by omega) N_0.symm
    refine ⟨⟨_, hn⟩, flush0_2 _, ?_⟩
    refine Finset.mem_map.mpr ⟨ValueIdx.ix2 (⟨(i 0).val % 1024, by omega⟩ : Fin 1024) (⟨(i 1).val % 1024, by omega⟩ : Fin 1024), Finset.mem_univ _, ?_⟩
    show (win0_2.rect ⟨_, hn⟩).emb _ = i
    refine Shape.idx_ext₂ ?_ ?_
    · rw [win0_2.rect_emb_val, index2]
      show ((i 0).val / 1024 * 2 + (i 1).val / 1024) / 2 * 1024 + (i 0).val % 1024 = (i 0).val
      omega
    · rw [win0_2.rect_emb_val, index2]
      show ((i 0).val / 1024 * 2 + (i 1).val / 1024) % 2 * 1024 + (i 1).val % 1024 = (i 1).val
      omega

/-! ## The reference -/

theorem reference_is (x0 : FVec Ideal ⟨2, ![4096, 2048]⟩ .bf16) (x1 : FVec Ideal ⟨2, ![2048, 2048]⟩ .bf16) (i : S4096x2048.Idx) :
    Cert.Reference10Ideal.Read.val_main_v2 (F := Ideal) x0 x1 i = prod 2048 (table x0) (table x1) (i 0).val (i 1).val := by
  refine (Cert.Reference10Ideal.Read.val_main_v2_apply x0 x1 i).trans (Holds.term_sum fun q => ?_)
  exact congrArg₂ (fun x y : EReal => x * y) (table_holds x0 _) (table_holds x1 _)

/-- `Cert.algebraic_Kernel10Ideal_Reference10Ideal` (Defs.lean). -/
theorem algebraic : Cert.algebraic_Kernel10Ideal_Reference10Ideal := by
  intro m ρ m' ρ' _ hagree
  refine ⟨fun c => result m c, ?_, ?_⟩
  · refine (θ_run Cert.Kernel10Ideal.defs _ _).mono (fun r h c => ?_) (Cert.Kernel10Ideal.Value.run_blocks (F := Ideal) m ρ)
    obtain ⟨h1, k⟩ := h c
    exact ⟨h1.trans kernel_is, k⟩
  · refine (θ_run Cert.Reference10Ideal.defs _ _).mono (fun r h c => ?_) (Cert.Reference10Ideal.Value.run (F := Ideal) m' ρ')
    obtain ⟨h1, k⟩ := h c
    obtain ⟨g0, g1⟩ := hagree c
    have e (i : S4096x2048.Idx) := reference_is (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1)) i
    rw [g0, g1] at e h1
    exact ⟨h1.trans (funext fun i => (congrFun (Cert.Reference10Ideal.Read.val_main_v2_eq _ _) i).trans (e i)), k⟩

/-- The reference leaves its arguments, and it declares no semaphore. -/
theorem reference_frame : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

end MixerOut

end
-- ==== Proof.SmallUpdate.lean ====
module

public import proofs.«01_k».proof.Defs
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read

@[expose] public section

/-!
# The optimiser's step on the small weights

The weights lie in one array of rows of 128, which is the only block. The body is pointwise, so the launch leaves three
functions of the arguments, entry by entry: the step, the new first moment and the new second moment. The reference
writes the same operations.
-/

noncomputable section

namespace SmallUpdate

open Idealize.ShloMosaic Idealize.ShloMosaic.TcCoe Idealize.SL.Sem
open Cert.Kernel11Ideal Cert.Kernel11Ideal.Gen

/-- The step. -/
theorem step_agrees (w g u v : FVec Ideal S192x128 .f32) : Value.G4 (F := Ideal) w g u v = Cert.Reference11Ideal.Read.val_main_v23 (F := Ideal) w g u v :=
  funext fun _ => rfl

/-- The new first moment. -/
theorem first_agrees (g u : FVec Ideal S192x128 .f32) : Value.G5 (F := Ideal) g u = Cert.Reference11Ideal.Read.val_main_v4 (F := Ideal) g u :=
  funext fun _ => rfl

/-- The new second moment. -/
theorem second_agrees (g v : FVec Ideal S192x128 .f32) : Value.G6 (F := Ideal) g v = Cert.Reference11Ideal.Read.val_main_v10 (F := Ideal) g v :=
  funext fun _ => rfl

/-- `Cert.algebraic_Kernel11Ideal_Reference11Ideal` (Defs.lean). -/
theorem algebraic : Cert.algebraic_Kernel11Ideal_Reference11Ideal := by
  intro m ρ m' ρ' _ hagree
  refine ⟨fun c => Value.G4 (F := Ideal) (m ((c : Thread nD τ).loc main_arg0)) (m ((c : Thread nD τ).loc main_arg1)) (m ((c : Thread nD τ).loc main_arg2)) (m ((c : Thread nD τ).loc main_arg3)),
    fun c => Value.G5 (F := Ideal) (m ((c : Thread nD τ).loc main_arg1)) (m ((c : Thread nD τ).loc main_arg2)),
    fun c => Value.G6 (F := Ideal) (m ((c : Thread nD τ).loc main_arg1)) (m ((c : Thread nD τ).loc main_arg3)), Value.run (F := Ideal) m ρ, ?_⟩
  refine (θ_run Cert.Reference11Ideal.defs _ _).mono (fun r h c => ?_) (Cert.Reference11Ideal.Value.run (F := Ideal) m' ρ')
  obtain ⟨h1, h2, h3, kept⟩ := h c
  obtain ⟨g0, g1, g2, g3⟩ := hagree c
  rw [g0, g1, g2, g3] at h1
  rw [g1, g2] at h2
  rw [g1, g3] at h3
  exact ⟨h1.trans ((Cert.Reference11Ideal.Read.val_main_v23_eq _ _ _ _).trans (step_agrees _ _ _ _).symm),
    h2.trans ((Cert.Reference11Ideal.Read.val_main_v4_eq _ _).trans (first_agrees _ _).symm),
    h3.trans ((Cert.Reference11Ideal.Read.val_main_v10_eq _ _).trans (second_agrees _ _).symm), kept⟩

/-- The reference leaves its arguments, and it declares no semaphore. -/
theorem reference_frame : Cert.quiescent_Reference11Ideal := fun m ρ _ =>
  (θ_run Cert.Reference11Ideal.defs _ _).mono (fun r h => ⟨fun c => (h c).2.2.2, Idealize.ShloMosaic.sem_eq_zero_of_no_sems (by decide) r.2⟩)
    (Cert.Reference11Ideal.Value.run (F := Ideal) m ρ)

end SmallUpdate

end
-- ==== Proof.Halves.lean ====
module

public import proofs.«01_k».proof.Proof.Products

@[expose] public section

/-!
# A step of the optimiser on a gradient that comes in two halves

Two cores hold half of a weight's gradient each. `rows` and `columns` put the halves together in the order that a core's
position gives, `newFirst`, `newSecond` and `step` are AdamW on one entry, and the rest is what the launches and their
references need of the word that holds the position: which block of a half a grid point is given, that this block lies
inside the half whatever the word is, and what the references' choice between the two orders leaves.
-/

set_option maxRecDepth 16384

noncomputable section

namespace Halves

open Idealize.ShloMosaic Products
open Idealize.ShloMosaic.ValueIdx

/-! ## AdamW on one entry -/

/-- The first moment after a step with the gradient `g`. -/
def newFirst (g u : Ideal .f32) : Ideal .f32 :=
  FloatOps.addf (FloatOps.mulf (FloatOps.ofBits .f32 0x3F666666#32) u) (FloatOps.mulf (FloatOps.ofBits .f32 0x3DCCCCCD#32) g)

/-- The second moment after a step with the gradient `g`. -/
def newSecond (g v : Ideal .f32) : Ideal .f32 :=
  FloatOps.addf (FloatOps.mulf (FloatOps.ofBits .f32 0x3F7FBE77#32) v) (FloatOps.mulf (FloatOps.ofBits .f32 0x3A83126F#32) (FloatOps.mulf g g))

/-- What the step adds to the weight `w`. -/
def step (w g u v : Ideal .f32) : Ideal .f32 :=
  FloatOps.mulf (FloatOps.ofBits .f32 0xBA83126F#32)
    (FloatOps.addf
      (FloatOps.divf (FloatOps.divf (newFirst g u) (FloatOps.ofBits .f32 0x3F26BD02#32))
        (FloatOps.addf (FloatOps.sqrt (FloatOps.divf (newSecond g v) (FloatOps.ofBits .f32 0x3C231ACC#32))) (FloatOps.ofBits .f32 0x322BCC77#32)))
      (FloatOps.mulf (FloatOps.ofBits .f32 0x3C23D70A#32) w))

section Holds

variable {m n : ℕ} {w g u v x : FVec Ideal ⟨2, ![m, n]⟩ .f32} {fw fg fu fv : ℕ → ℕ → EReal}

theorem _root_.Products.Holds.first (hg : Holds g fg) (hu : Holds u fu) (e : ∀ i, x i = newFirst (g i) (u i)) : Holds x fun r q => newFirst (fg r q) (fu r q) :=
  fun i => by rw [e i, hg i, hu i]

theorem _root_.Products.Holds.second (hg : Holds g fg) (hv : Holds v fv) (e : ∀ i, x i = newSecond (g i) (v i)) : Holds x fun r q => newSecond (fg r q) (fv r q) :=
  fun i => by rw [e i, hg i, hv i]

theorem _root_.Products.Holds.step (hw : Holds w fw) (hg : Holds g fg) (hu : Holds u fu) (hv : Holds v fv) (e : ∀ i, x i = step (w i) (g i) (u i) (v i)) :
    Holds x fun r q => step (fw r q) (fg r q) (fu r q) (fv r q) :=
  fun i => by rw [e i, hw i, hg i, hu i, hv i]

end Holds

/-! ## Two halves as one table -/

/-- Halves of `n` rows each: `a` is the half at position `k`, `b` the other one. -/
def rows (n k : ℕ) (a b : ℕ → ℕ → EReal) (r q : ℕ) : EReal := if r / n = k then a (r % n) q else b (r % n) q

/-- Halves of `n` columns each. -/
def columns (n k : ℕ) (a b : ℕ → ℕ → EReal) (r q : ℕ) : EReal := if q / n = k then a r (q % n) else b r (q % n)

section Joined

variable {n k N : ℕ} {φ : FTy}

/-- Two halves one below the other. -/
theorem below {a b : FVec Ideal ⟨2, ![n, k]⟩ φ} (hN : n + n = N) (h : Shape.Concatenates [⟨2, ![n, k]⟩, ⟨2, ![n, k]⟩] ⟨2, ![N, k]⟩ 0) :
    Holds (concatenate ⟨2, ![N, k]⟩ 0 [⟨⟨2, ![n, k]⟩, a⟩, ⟨⟨2, ![n, k]⟩, b⟩] h) (rows n 0 (table a) (table b)) := fun j => by
  have b0 : (j 0).val < N := (j 0).isLt
  have b1 : (j 1).val < k := (j 1).isLt
  unfold rows
  by_cases c : (j 0).val < n
  · rw [if_pos (Nat.div_eq_of_lt c), Nat.mod_eq_of_lt c]
    refine (concatenate_pair_apply_left 0 a b h j rfl (ix2 ⟨(j 0).val, c⟩ ⟨(j 1).val, b1⟩) fun d => ?_).trans (table_holds a _)
    match d with
    | 0 => rfl
    | 1 => rfl
  · have e : (j 0).val / n = 1 := (Nat.div_eq_iff (by omega)).mpr (by omega)
    have f : (j 0).val % n = (j 0).val - n := by rw [Nat.mod_eq_sub_div_mul, e, Nat.one_mul]
    rw [if_neg (by omega), f]
    refine (concatenate_pair_apply_right 0 a b h j rfl rfl (ix2 ⟨(j 0).val - n, by omega⟩ ⟨(j 1).val, b1⟩) (fun d hd => ?_) ?_).trans (table_holds b _)
    · match d, hd with
      | 0, hd => exact absurd rfl hd
      | 1, _ => rfl
    · show (j 0).val - n + n = (j 0).val
      omega

/-- Two halves side by side. -/
theorem beside {a b : FVec Ideal ⟨2, ![k, n]⟩ φ} (hN : n + n = N) (h : Shape.Concatenates [⟨2, ![k, n]⟩, ⟨2, ![k, n]⟩] ⟨2, ![k, N]⟩ 1) :
    Holds (concatenate ⟨2, ![k, N]⟩ 1 [⟨⟨2, ![k, n]⟩, a⟩, ⟨⟨2, ![k, n]⟩, b⟩] h) (columns n 0 (table a) (table b)) := fun j => by
  have b0 : (j 0).val < k := (j 0).isLt
  have b1 : (j 1).val < N := (j 1).isLt
  unfold columns
  by_cases c : (j 1).val < n
  · rw [if_pos (Nat.div_eq_of_lt c), Nat.mod_eq_of_lt c]
    refine (concatenate_pair_apply_left 1 a b h j rfl (ix2 ⟨(j 0).val, b0⟩ ⟨(j 1).val, c⟩) fun d => ?_).trans (table_holds a _)
    match d with
    | 0 => rfl
    | 1 => rfl
  · have e : (j 1).val / n = 1 := (Nat.div_eq_iff (by omega)).mpr (by omega)
    have f : (j 1).val % n = (j 1).val - n := by rw [Nat.mod_eq_sub_div_mul, e, Nat.one_mul]
    rw [if_neg (by omega), f]
    refine (concatenate_pair_apply_right 1 a b h j rfl rfl (ix2 ⟨(j 0).val, b0⟩ ⟨(j 1).val - n, by omega⟩) (fun d hd => ?_) ?_).trans (table_holds b _)
    · match d, hd with
      | 0, _ => rfl
      | 1, hd => exact absurd rfl hd
    · show (j 1).val - n + n = (j 1).val
      omega

end Joined

/-- Putting the halves the other way round is having the other position. -/
theorem rows_swap {n N : ℕ} (hN : n + n = N) (a b : ℕ → ℕ → EReal) (r q : ℕ) (hr : r < N) : rows n 0 b a r q = rows n 1 a b r q := by
  unfold rows
  by_cases c : r < n
  · rw [Nat.div_eq_of_lt c]; rfl
  · rw [show r / n = 1 from (Nat.div_eq_iff (by omega)).mpr (by omega)]; rfl

theorem columns_swap {n N : ℕ} (hN : n + n = N) (a b : ℕ → ℕ → EReal) (r q : ℕ) (hq : q < N) : columns n 0 b a r q = columns n 1 a b r q := by
  unfold columns
  by_cases c : q < n
  · rw [Nat.div_eq_of_lt c]; rfl
  · rw [show q / n = 1 from (Nat.div_eq_iff (by omega)).mpr (by omega)]; rfl

/-- Where entry `y` of block `x` of `b` entries sits. -/
theorem place {e x y b o : ℕ} (h : e = x * b + y) (hx : x = o) : e = o * b + y := hx ▸ h

/-! ## The word that holds the position -/

/-- The first word of two, as the references read it. -/
theorem first_word (x : IVec ⟨1, ![2]⟩ 32) (hs : (⟨1, ![2]⟩ : Shape).Slices ![0] ⟨1, ![1]⟩) (hc : (⟨1, ![1]⟩ : Shape).ShapeCasts ⟨0, ![]⟩)
    (i : (⟨0, ![]⟩ : Shape).Idx) (j : (⟨1, ![2]⟩ : Shape).Idx) (hj : (j 0).val = 0) :
    shapeCast ⟨0, ![]⟩ (extractStridedSlice ⟨1, ![1]⟩ ![0] x hs) hc i = x j := by
  refine (shapeCast_apply _ hc i (ix1 (0 : Fin 1)) ?_).trans (extractStridedSlice_apply ![0] x hs _ j fun d => ?_)
  · have p : ((⟨1, ![1]⟩ : Shape).rowMajor (ix1 (0 : Fin 1))).val < 1 := Fin.isLt _
    have q : ((⟨0, ![]⟩ : Shape).rowMajor i).val < 1 := Fin.isLt _
    omega
  · match d with
    | 0 => exact hj

/-- What the precondition says of the word. -/
theorem position {w : BitVec 32} (h : IntOp.ori (IntOp.cmpi .eq w 0#32) (IntOp.cmpi .eq w 1#32) = 1#1) : ∃ k : ℕ, k < 2 ∧ w = BitVec.ofNat 32 k := by
  by_cases h0 : w = 0#32
  · exact ⟨0, by omega, h0⟩
  by_cases h1 : w = 1#32
  · exact ⟨1, by omega, h1⟩
  · exfalso
    have e0 : IntOp.cmpi .eq w 0#32 = 0#1 := congrArg BitVec.ofBool (beq_eq_false_iff_ne.mpr h0)
    have e1 : IntOp.cmpi .eq w 1#32 = 0#1 := congrArg BitVec.ofBool (beq_eq_false_iff_ne.mpr h1)
    rw [e0, e1] at h
    exact absurd h (by decide)

theorem position_of {x : IVec ⟨1, ![2]⟩ 32} {hs : (⟨1, ![2]⟩ : Shape).Slices ![0] ⟨1, ![1]⟩} {hc : (⟨1, ![1]⟩ : Shape).ShapeCasts ⟨0, ![]⟩} {i : (⟨0, ![]⟩ : Shape).Idx}
    (h : IntOp.ori (IntOp.cmpi .eq (shapeCast ⟨0, ![]⟩ (extractStridedSlice ⟨1, ![1]⟩ ![0] x hs) hc i) 0#32)
      (IntOp.cmpi .eq (shapeCast ⟨0, ![]⟩ (extractStridedSlice ⟨1, ![1]⟩ ![0] x hs) hc i) 1#32) = 1#1)
    (j : (⟨1, ![2]⟩ : Shape).Idx) (hj : (j 0).val = 0) : ∃ k : ℕ, k < 2 ∧ x j = BitVec.ofNat 32 k := by
  rw [first_word x hs hc i j hj] at h
  exact position h

/-- Which block of a half row `i` of the grid is given, at its point `j`: the block `j` where the half's position `w` is
    `i`, else the first or the last one. -/
def given (i w j z : BitVec 32) : ℕ :=
  (Scalar.addi 0#32 (Scalar.select (Scalar.cmpi .eq i w) j (Scalar.select (Scalar.cmpi .slt i w) 0#32 z))).toNat

theorem given_lt (i w : BitVec 32) {j z : BitVec 32} {n : ℕ} (hj : j.toNat < n) (hz : z.toNat < n) : given i w j z < n := by
  have e (x : BitVec 32) : Scalar.addi 0#32 x = x := BitVec.zero_add x
  unfold given
  rw [e]
  unfold Scalar.select
  split
  · exact hj
  · split
    · exact Nat.lt_of_le_of_lt (Nat.zero_le _) hz
    · exact hz

theorem given_own {i w : BitVec 32} (h : i = w) (j z : BitVec 32) : given i w j z = j.toNat := by
  have e (x : BitVec 32) : Scalar.addi 0#32 x = x := BitVec.zero_add x
  subst h
  unfold given
  rw [e, show Scalar.cmpi .eq i i = 1#1 by simp [Scalar.cmpi, IntOp.cmpi]]
  rfl

/-- The other position. -/
theorem other {k i : ℕ} (hk : k < 2) (hi : i < 2) (h : i ≠ k) : BitVec.ofNat 32 i = Scalar.subi 1#32 (BitVec.ofNat 32 k) := by
  obtain ⟨rfl, rfl⟩ | ⟨rfl, rfl⟩ : (k = 0 ∧ i = 1) ∨ (k = 1 ∧ i = 0) := by omega
  · decide
  · decide

/-- A grid point takes the block of the half whose position is its row. -/
theorem _root_.Products.Holds.chosen {m n k i : ℕ} {w v : BitVec 32} (hw : w = BitVec.ofNat 32 k) (hv : v = BitVec.ofNat 32 i) (hk : k < 2) (hi : i < 2)
    {x y : FVec Ideal ⟨2, ![m, n]⟩ .f32} {f g : ℕ → ℕ → EReal} (hx : i = k → Holds x f) (hy : i ≠ k → Holds y g) :
    Holds (Scalar.select (Scalar.cmpi .eq v w) x y) fun r q => if i = k then f r q else g r q := fun z => by
  subst hw hv
  show _ = if i = k then f (z 0).val (z 1).val else g (z 0).val (z 1).val
  by_cases h : i = k
  · subst h
    rw [if_pos rfl, show Scalar.cmpi .eq (BitVec.ofNat 32 i) (BitVec.ofNat 32 i) = 1#1 by simp [Scalar.cmpi, IntOp.cmpi]]
    exact hx rfl z
  · rw [if_neg h]
    obtain ⟨rfl, rfl⟩ | ⟨rfl, rfl⟩ : (k = 0 ∧ i = 1) ∨ (k = 1 ∧ i = 0) := by omega
    · exact hy h z
    · exact hy h z

section Order

variable {n N K : ℕ} {φ : FTy}

/-- The references' condition, broadcast: whether the position is 0. -/
theorem order_bit {S : Shape} {k : ℕ} (hk : k < 2) (c : IVec ⟨0, ![]⟩ 32) (hc : ∀ i, c i = BitVec.ofNat 32 k)
    (h : (⟨0, ![]⟩ : Shape).BroadcastsInDim S ![]) (i : S.Idx) :
    broadcastInDim S ![] h (cmpi .eq c (constantI ⟨0, ![]⟩ 32 0#32)) i = if k = 0 then 1#1 else 0#1 := by
  refine (broadcastInDim_apply ![] h _ i (fun a => a.elim0 : (⟨0, ![]⟩ : Shape).Idx) fun a => a.elim0).trans ?_
  show IntOp.cmpi .eq (c _) 0#32 = _
  rw [hc]
  obtain rfl | rfl : k = 0 ∨ k = 1 := by omega
  · rfl
  · rfl

/-- The references' choice between the two orders, by rows, -/
theorem order_rows {a b : FVec Ideal ⟨2, ![n, K]⟩ φ} (hN : n + n = N) (h h' : Shape.Concatenates [⟨2, ![n, K]⟩, ⟨2, ![n, K]⟩] ⟨2, ![N, K]⟩ 0)
    {k : ℕ} (hk : k < 2) (c : IVec ⟨2, ![N, K]⟩ 1) (hc : ∀ i, c i = if k = 0 then 1#1 else 0#1) :
    Holds (select c (concatenate ⟨2, ![N, K]⟩ 0 [⟨⟨2, ![n, K]⟩, a⟩, ⟨⟨2, ![n, K]⟩, b⟩] h) (concatenate ⟨2, ![N, K]⟩ 0 [⟨⟨2, ![n, K]⟩, b⟩, ⟨⟨2, ![n, K]⟩, a⟩] h'))
      (rows n k (table a) (table b)) := fun i => by
  show Scalar.select (c i) _ _ = _
  rw [hc]
  obtain rfl | rfl : k = 0 ∨ k = 1 := by omega
  · exact below hN h i
  · exact (below hN h' i).trans (rows_swap hN _ _ _ _ (i 0).isLt)

/-- and by columns. -/
theorem order_columns {a b : FVec Ideal ⟨2, ![K, n]⟩ φ} (hN : n + n = N) (h h' : Shape.Concatenates [⟨2, ![K, n]⟩, ⟨2, ![K, n]⟩] ⟨2, ![K, N]⟩ 1)
    {k : ℕ} (hk : k < 2) (c : IVec ⟨2, ![K, N]⟩ 1) (hc : ∀ i, c i = if k = 0 then 1#1 else 0#1) :
    Holds (select c (concatenate ⟨2, ![K, N]⟩ 1 [⟨⟨2, ![K, n]⟩, a⟩, ⟨⟨2, ![K, n]⟩, b⟩] h) (concatenate ⟨2, ![K, N]⟩ 1 [⟨⟨2, ![K, n]⟩, b⟩, ⟨⟨2, ![K, n]⟩, a⟩] h'))
      (columns n k (table a) (table b)) := fun i => by
  show Scalar.select (c i) _ _ = _
  rw [hc]
  obtain rfl | rfl : k = 0 ∨ k = 1 := by omega
  · exact beside hN h i
  · exact (beside hN h' i).trans (columns_swap hN _ _ _ _ (i 1).isLt)

end Order

end Halves

end
-- ==== Proof.DownUpdate.lean ====
module

public import proofs.«01_k».proof.Defs
public import proofs.«01_k».proof.Proof.Halves
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Pre_core12

@[expose] public section

/-!
# The optimiser's step on the down projection's weight

The gradient comes as this core's half of the rows and the other core's. The grid has two rows of four points, and a
point of row `i` takes its block of 176 gradient rows from the half at position `i`: the position is read from memory.
-/

set_option maxRecDepth 16384

noncomputable section

namespace DownUpdate

open Idealize.ShloMosaic Idealize.ShloMosaic.TcCoe Idealize.SL.Sem Products Halves

/-! ## The frames -/

/-- The blocks lie inside the halves whatever the position is. -/
theorem kernel_ok {F : FTy → Type} [FloatOps F] (m : (ℓ : Loc Cert.Kernel12.nD Cert.Kernel12.τ Cert.Kernel12.sig) → Buf (Elt F) ℓ) : Cert.Kernel12.Gen.Ok m := by
  refine ⟨fun i => ⟨fun a => ?_, .inl rfl⟩, fun i => ⟨fun a => ?_, .inl rfl⟩⟩
  all_goals
    have b : (BitVec.ofNat 32 (i 1).val).toNat < 4 := Nat.lt_of_le_of_lt (Nat.mod_le _ _) (i 1).isLt
    match a with
    | 0 => exact (Nat.mul_le_mul_right 176 (given_lt _ _ b ((by decide : (3#32).toNat < 4))) : _ ≤ 4 * 176)
    | 1 => exact Nat.le_refl 2048

theorem ok {F : FTy → Type} [FloatOps F] (m : (ℓ : Loc Cert.Kernel12Ideal.nD Cert.Kernel12Ideal.τ Cert.Kernel12Ideal.sig) → Buf (Elt F) ℓ) : Cert.Kernel12Ideal.Gen.Ok m :=
  kernel_ok m

theorem kernel_frame : Cert.quiescent_Kernel12 := fun m ρ _ => Cert.Kernel12.Gen.frame m ρ (kernel_ok m)
theorem ideal_frame : Cert.quiescent_Kernel12Ideal := fun m ρ _ => Cert.Kernel12Ideal.Gen.frame m ρ (ok m)

open Cert.Kernel12Ideal Cert.Kernel12Ideal.Gen

/-! ## One grid point -/

section Point

variable (c : Dev nD) (i : grid0.Coords) (arg3 : Memref sig .tc .vmem S176x2048 .f32) (harg3 : arg3.IsWhole) (arg4 : Memref sig .tc .vmem S176x2048 .f32) (harg4 : arg4.IsWhole) (arg5 : Memref sig .tc .vmem S176x2048 .f32) (harg5 : arg5.IsWhole) (arg6 : Memref sig .tc .vmem S176x2048 .f32) (harg6 : arg6.IsWhole) (arg7 : Memref sig .tc .vmem S176x2048 .f32) (harg7 : arg7.IsWhole) (arg8 : Memref sig .tc .vmem S176x2048 .f32) (harg8 : arg8.IsWhole) (arg9 : Memref sig .tc .vmem S176x2048 .f32) (harg9 : arg9.IsWhole) (arg10 : Memref sig .tc .vmem S176x2048 .f32) (harg10 : arg10.IsWhole) (arg11 : Memref sig .tc .vmem S176x2048 .f32) (harg11 : arg11.IsWhole)
  (x0 x1 x2 x3 x4 : Vec Ideal S176x2048 .f32) (xt : IVec S2 32)

/-- The word that holds the position. -/
def word (xt : IVec S2 32) : BitVec 32 := xt ((Rect.unit (s := S2) ![0] S1.size inb_S2_S1_0).emb (Shape.Idx.first (numel1_S1.symm ▸ Nat.one_pos)))

theorem word_eq : kernelRun0_A.sl.r (F := Ideal) c xt = word xt := by
  unfold kernelRun0_A.sl.r
  rfl

theorem grad_eq : out0_A_5 c i arg3 harg3 arg4 harg4 arg5 harg5 arg6 harg6 arg7 harg7 arg8 harg8 arg9 harg9 arg10 harg10 arg11 harg11 x0 x1 x2 x3 x4 xt = k0_pay1 (F := Ideal) i (word xt) x1 x2 := by
  unfold out0_A_5 kernelRun0_A
  dsimp only
  rw [View.read_writes_junk_eq_canon]
  simp only [View.canon_cons_unit_zero (S := S176x2048) zeros2, word_eq, read_whole (S := S176x2048) _ _ zeros2]

theorem step_eq : out0_A_6 c i arg3 harg3 arg4 harg4 arg5 harg5 arg6 harg6 arg7 harg7 arg8 harg8 arg9 harg9 arg10 harg10 arg11 harg11 x0 x1 x2 x3 x4 xt = k0_pay4 (F := Ideal) i (word xt) x1 x2 x0 x3 x4 := by
  unfold out0_A_6 kernelRun0_A
  dsimp only
  rw [View.read_writes_junk_eq_canon]
  simp only [View.canon_cons_unit_zero (S := S176x2048) zeros2, kernelRun0_A.sl.r_3, word_eq, read_whole (S := S176x2048) _ _ zeros2]

theorem first_eq : out0_A_7 c i arg3 harg3 arg4 harg4 arg5 harg5 arg6 harg6 arg7 harg7 arg8 harg8 arg9 harg9 arg10 harg10 arg11 harg11 x0 x1 x2 x3 x4 xt = k0_pay2 (F := Ideal) i (word xt) x1 x2 x3 := by
  unfold out0_A_7 kernelRun0_A
  dsimp only
  rw [View.read_writes_junk_eq_canon]
  simp only [View.canon_cons_unit_zero (S := S176x2048) zeros2, kernelRun0_A.sl.r_1, word_eq, read_whole (S := S176x2048) _ _ zeros2]

theorem second_eq : out0_A_8 c i arg3 harg3 arg4 harg4 arg5 harg5 arg6 harg6 arg7 harg7 arg8 harg8 arg9 harg9 arg10 harg10 arg11 harg11 x0 x1 x2 x3 x4 xt = k0_pay3 (F := Ideal) i (word xt) x1 x2 x4 := by
  unfold out0_A_8 kernelRun0_A
  dsimp only
  rw [View.read_writes_junk_eq_canon]
  simp only [View.canon_cons_unit_zero (S := S176x2048) zeros2, kernelRun0_A.sl.r_2, word_eq, read_whole (S := S176x2048) _ _ zeros2]

end Point

/-! ## The grid -/

variable {m : (ℓ : Loc nD τ sig) → Buf (Elt Ideal) ℓ} {hO : Ok m} {c : Dev nD} {k : ℕ}

/-- The arguments, as functions of natural coordinates. -/
def weight (m : (ℓ : Loc nD τ sig) → Buf (Elt Ideal) ℓ) (c : Dev nD) : ℕ → ℕ → EReal := table (m := 1408) (n := 2048) (φ := .f32) (m ((c : Thread nD τ).loc main_arg1))
def mine (m : (ℓ : Loc nD τ sig) → Buf (Elt Ideal) ℓ) (c : Dev nD) : ℕ → ℕ → EReal := table (m := 704) (n := 2048) (φ := .f32) (m ((c : Thread nD τ).loc main_arg2))
def theirs (m : (ℓ : Loc nD τ sig) → Buf (Elt Ideal) ℓ) (c : Dev nD) : ℕ → ℕ → EReal := table (m := 704) (n := 2048) (φ := .f32) (m ((c : Thread nD τ).loc main_arg3))
def moment (m : (ℓ : Loc nD τ sig) → Buf (Elt Ideal) ℓ) (c : Dev nD) : ℕ → ℕ → EReal := table (m := 1408) (n := 2048) (φ := .f32) (m ((c : Thread nD τ).loc main_arg4))
def square (m : (ℓ : Loc nD τ sig) → Buf (Elt Ideal) ℓ) (c : Dev nD) : ℕ → ℕ → EReal := table (m := 1408) (n := 2048) (φ := .f32) (m ((c : Thread nD τ).loc main_arg5))

/-- The four results when this core's position is `k`. -/
def grad (k : ℕ) (m : (ℓ : Loc nD τ sig) → Buf (Elt Ideal) ℓ) (c : Dev nD) : ℕ → ℕ → EReal := rows 704 k (mine m c) (theirs m c)
def delta (k : ℕ) (m : (ℓ : Loc nD τ sig) → Buf (Elt Ideal) ℓ) (c : Dev nD) (r q : ℕ) : EReal := step (weight m c r q) (grad k m c r q) (moment m c r q) (square m c r q)
def first (k : ℕ) (m : (ℓ : Loc nD τ sig) → Buf (Elt Ideal) ℓ) (c : Dev nD) (r q : ℕ) : EReal := newFirst (grad k m c r q) (moment m c r q)
def second (k : ℕ) (m : (ℓ : Loc nD τ sig) → Buf (Elt Ideal) ℓ) (c : Dev nD) (r q : ℕ) : EReal := newSecond (grad k m c r q) (square m c r q)

theorem coords : ∀ t : Fin grid0.N, (grid0.coords t 0).val = t.val / 4 ∧ (grid0.coords t 1).val = t.val % 4 ∧ t.val < 8 := by decide +kernel

theorem index0 (t : Fin (cfgM m hO).N) : ((cfgM m hO).win 0).index t = ![t.val, 0] :=
  (by decide +kernel : ∀ t : Fin grid0.N, cc0_transform_0 (grid0.coords t) = ![t.val, 0]) t

/-- Where an entry of the block sits, of the weight and of every window of the same shape. -/
theorem row_of (t : Fin (cfgM m hO).N) (y : S176x2048.Idx) : ((((cfgM m hO).win 0).rect t).emb y (0 : Fin 2)).val = t.val * 176 + (y 0).val :=
  place (((cfgM m hO).win 0).rect_emb_val t y (0 : Fin 2)) (congrFun (index0 t) (0 : Fin 2))
theorem column_of (t : Fin (cfgM m hO).N) (y : S176x2048.Idx) : ((((cfgM m hO).win 0).rect t).emb y (1 : Fin 2)).val = 0 * 2048 + (y 1).val :=
  place (((cfgM m hO).win 0).rect_emb_val t y (1 : Fin 2)) (congrFun (index0 t) (1 : Fin 2))

/-- The block of a half at a grid point of its own row. -/
theorem half_index (t : Fin grid0.N) {w : BitVec 32} (h : BitVec.ofNat 32 (grid0.coords t 0).val = w) :
    ![given (BitVec.ofNat 32 (grid0.coords t 0).val) w (BitVec.ofNat 32 (grid0.coords t 1).val) 3#32, 0] = ![t.val % 4, 0] := by
  rw [given_own h, (coords t).2.1, BitVec.toNat_ofNat, Nat.mod_eq_of_lt (by omega : t.val % 4 < 2 ^ 32)]

theorem index1 (hw : word (tbl m 0) = BitVec.ofNat 32 k) (t : Fin (cfgM m hO).N) (h : t.val / 4 = k) : ((cfgM m hO).win 1).index t = ![t.val % 4, 0] :=
  half_index t (w := word (tbl m 0)) (by rw [hw, (coords t).1, h])
theorem index2 (hw : word (tbl m 0) = BitVec.ofNat 32 k) (hk : k < 2) (t : Fin (cfgM m hO).N) (h : t.val / 4 ≠ k) : ((cfgM m hO).win 2).index t = ![t.val % 4, 0] :=
  half_index t (w := Scalar.subi 1#32 (word (tbl m 0))) (by rw [hw, (coords t).1]; exact other hk (by have := (coords t).2.2; omega) h)

theorem block0 (t : Fin (cfgM m hO).N) : Holds (m := 176) (n := 2048) (φ := .f32) (iblk m hO c 0 t) (shift (t.val * 176) 0 (weight m c)) :=
  Holds.block (table_holds _) _ _ (fun y => (((cfgM m hO).win 0).rect t).emb y) (fun y => congrFun (V_main_arg1 m c) _) (row_of t) (column_of t)

theorem block1 (hw : word (tbl m 0) = BitVec.ofNat 32 k) (t : Fin (cfgM m hO).N) (h : t.val / 4 = k) : Holds (m := 176) (n := 2048) (φ := .f32) (iblk m hO c 1 t) (shift (t.val % 4 * 176) 0 (mine m c)) := by
  refine Holds.block (table_holds _) _ _ (fun y => (((cfgM m hO).win 1).rect t).emb y) (fun y => congrFun (V_main_arg2 m c) _) (fun y => ?_) (fun y => ?_)
  · exact place (((cfgM m hO).win 1).rect_emb_val t y (0 : Fin 2)) (congrFun (index1 hw t h) (0 : Fin 2))
  · exact place (((cfgM m hO).win 1).rect_emb_val t y (1 : Fin 2)) (congrFun (index1 hw t h) (1 : Fin 2))

theorem block2 (hw : word (tbl m 0) = BitVec.ofNat 32 k) (hk : k < 2) (t : Fin (cfgM m hO).N) (h : t.val / 4 ≠ k) : Holds (m := 176) (n := 2048) (φ := .f32) (iblk m hO c 2 t) (shift (t.val % 4 * 176) 0 (theirs m c)) := by
  refine Holds.block (table_holds _) _ _ (fun y => (((cfgM m hO).win 2).rect t).emb y) (fun y => congrFun (V_main_arg3 m c) _) (fun y => ?_) (fun y => ?_)
  · exact place (((cfgM m hO).win 2).rect_emb_val t y (0 : Fin 2)) (congrFun (index2 hw hk t h) (0 : Fin 2))
  · exact place (((cfgM m hO).win 2).rect_emb_val t y (1 : Fin 2)) (congrFun (index2 hw hk t h) (1 : Fin 2))

theorem block3 (t : Fin (cfgM m hO).N) : Holds (m := 176) (n := 2048) (φ := .f32) (iblk m hO c 3 t) (shift (t.val * 176) 0 (moment m c)) :=
  Holds.block (table_holds _) _ _ (fun y => (((cfgM m hO).win 3).rect t).emb y) (fun y => congrFun (V_main_arg4 m c) _) (row_of t) (column_of t)

theorem block4 (t : Fin (cfgM m hO).N) : Holds (m := 176) (n := 2048) (φ := .f32) (iblk m hO c 4 t) (shift (t.val * 176) 0 (square m c)) :=
  Holds.block (table_holds _) _ _ (fun y => (((cfgM m hO).win 4).rect t).emb y) (fun y => congrFun (V_main_arg5 m c) _) (row_of t) (column_of t)

/-- The gradient rows of a grid point. -/
theorem gradient (hw : word (tbl m 0) = BitVec.ofNat 32 k) (hk : k < 2) (t : Fin (cfgM m hO).N) :
    Holds (m := 176) (n := 2048) (φ := .f32) (k0_pay1 (F := Ideal) (grid0.coords t) (word (tbl m 0)) (iblk m hO c 1 t) (iblk m hO c 2 t)) (shift (t.val * 176) 0 (grad k m c)) := by
  have d := coords t
  refine (Holds.chosen hw (congrArg (BitVec.ofNat 32) d.1) hk (by omega) (block1 hw t) (block2 hw hk t)).congr fun r q hr _ => ?_
  have e : (t.val * 176 + r) / 704 = t.val / 4 := by omega
  have f : (t.val * 176 + r) % 704 = t.val % 4 * 176 + r := by omega
  unfold shift grad rows
  rw [e, f]

theorem outs (t : Fin (cfgM m hO).N) : outsAt0 m hO c t
    = (k0_pay1 (F := Ideal) (grid0.coords t) (word (tbl m 0)) (iblk m hO c 1 t) (iblk m hO c 2 t),
      k0_pay4 (F := Ideal) (grid0.coords t) (word (tbl m 0)) (iblk m hO c 1 t) (iblk m hO c 2 t) (iblk m hO c 0 t) (iblk m hO c 3 t) (iblk m hO c 4 t),
      k0_pay2 (F := Ideal) (grid0.coords t) (word (tbl m 0)) (iblk m hO c 1 t) (iblk m hO c 2 t) (iblk m hO c 3 t),
      k0_pay3 (F := Ideal) (grid0.coords t) (word (tbl m 0)) (iblk m hO c 1 t) (iblk m hO c 2 t) (iblk m hO c 4 t)) := by
  unfold outsAt0
  exact congrArg₂ Prod.mk (grad_eq ..) (congrArg₂ Prod.mk (step_eq ..) (congrArg₂ Prod.mk (first_eq ..) (second_eq ..)))

/-- What a grid point leaves in the blocks of the four results. -/
theorem point (hw : word (tbl m 0) = BitVec.ofNat 32 k) (hk : k < 2) (t : Fin (cfgM m hO).N) :
    Holds (m := 176) (n := 2048) (φ := .f32) (outsAt0 m hO c t).1 (shift (t.val * 176) 0 (grad k m c))
    ∧ Holds (m := 176) (n := 2048) (φ := .f32) (outsAt0 m hO c t).2.1 (shift (t.val * 176) 0 (delta k m c))
    ∧ Holds (m := 176) (n := 2048) (φ := .f32) (outsAt0 m hO c t).2.2.1 (shift (t.val * 176) 0 (first k m c))
    ∧ Holds (m := 176) (n := 2048) (φ := .f32) (outsAt0 m hO c t).2.2.2 (shift (t.val * 176) 0 (second k m c)) := by
  have g := gradient (hO := hO) (c := c) hw hk t
  have w := block0 (m := m) (hO := hO) (c := c) t
  have u := block3 (m := m) (hO := hO) (c := c) t
  have v := block4 (m := m) (hO := hO) (c := c) t
  rw [outs]
  exact ⟨g, Holds.step w g u v fun _ => rfl, Holds.first g u fun _ => rfl, Holds.second g v fun _ => rfl⟩

/-! ## The four results -/

section Results

variable (hw : word (tbl m 0) = BitVec.ofNat 32 k) (hk : k < 2)

/-- The grid point and the entry of its block that an entry of a result is. -/
theorem covered (i : S1408x2048.Idx) : ∃ (t : Fin (cfgM m hO).N) (y : S176x2048.Idx), (((cfgM m hO).win 0).rect t).emb y = i := by
  have b0 : (i 0).val < 1408 := (i 0).isLt
  have b1 : (i 1).val < 2048 := (i 1).isLt
  let t : Fin (cfgM m hO).N := ⟨(i 0).val / 176, lt_of_lt_of_eq (b := 8) (by omega) N_0.symm⟩
  let y : S176x2048.Idx := ValueIdx.ix2 (⟨(i 0).val % 176, by omega⟩ : Fin 176) (⟨(i 1).val, b1⟩ : Fin 2048)
  have e0 : (i 0).val / 176 * 176 + (i 0).val % 176 = (i 0).val := Nat.div_add_mod' _ _
  exact ⟨t, y, Shape.idx_ext₂ ((row_of t y).trans e0) ((column_of t y).trans (Nat.zero_add _))⟩

include hw hk

theorem kernel_grad : (dats m hO 0 c).arrAt 5 (cfgM m hO).N = fun i : S1408x2048.Idx => grad k m c (i 0).val (i 1).val := by
  refine (dats m hO 0 c).arrAt_eq_of_cover 5 _ (fun t _ => funext fun y => ?_) fun i => ?_
  · exact (congrFun (congrArg (((cfgM m hO).win 5).cut (grid0.coords t)) (after0_5 m hO c t)) y).trans
      (((point hw hk t).1 y).trans (congrArg₂ (grad k m c) (row_of t y).symm (column_of t y).symm))
  · obtain ⟨t, y, e⟩ := covered (hO := hO) i
    exact ⟨t, flush0_5 _ t, Finset.mem_map.mpr ⟨y, Finset.mem_univ _, e⟩⟩

theorem kernel_delta : (dats m hO 0 c).arrAt 6 (cfgM m hO).N = fun i : S1408x2048.Idx => delta k m c (i 0).val (i 1).val := by
  refine (dats m hO 0 c).arrAt_eq_of_cover 6 _ (fun t _ => funext fun y => ?_) fun i => ?_
  · exact (congrFun (congrArg (((cfgM m hO).win 6).cut (grid0.coords t)) (after0_6 m hO c t)) y).trans
      (((point hw hk t).2.1 y).trans (congrArg₂ (delta k m c) (row_of t y).symm (column_of t y).symm))
  · obtain ⟨t, y, e⟩ := covered (hO := hO) i
    exact ⟨t, flush0_6 _ t, Finset.mem_map.mpr ⟨y, Finset.mem_univ _, e⟩⟩

theorem kernel_first : (dats m hO 0 c).arrAt 7 (cfgM m hO).N = fun i : S1408x2048.Idx => first k m c (i 0).val (i 1).val := by
  refine (dats m hO 0 c).arrAt_eq_of_cover 7 _ (fun t _ => funext fun y => ?_) fun i => ?_
  · exact (congrFun (congrArg (((cfgM m hO).win 7).cut (grid0.coords t)) (after0_7 m hO c t)) y).trans
      (((point hw hk t).2.2.1 y).trans (congrArg₂ (first k m c) (row_of t y).symm (column_of t y).symm))
  · obtain ⟨t, y, e⟩ := covered (hO := hO) i
    exact ⟨t, flush0_7 _ t, Finset.mem_map.mpr ⟨y, Finset.mem_univ _, e⟩⟩

theorem kernel_second : (dats m hO 0 c).arrAt 8 (cfgM m hO).N = fun i : S1408x2048.Idx => second k m c (i 0).val (i 1).val := by
  refine (dats m hO 0 c).arrAt_eq_of_cover 8 _ (fun t _ => funext fun y => ?_) fun i => ?_
  · exact (congrFun (congrArg (((cfgM m hO).win 8).cut (grid0.coords t)) (after0_8 m hO c t)) y).trans
      (((point hw hk t).2.2.2 y).trans (congrArg₂ (second k m c) (row_of t y).symm (column_of t y).symm))
  · obtain ⟨t, y, e⟩ := covered (hO := hO) i
    exact ⟨t, flush0_8 _ t, Finset.mem_map.mpr ⟨y, Finset.mem_univ _, e⟩⟩

end Results

/-! ## The reference -/

section Reference

variable {x0 : IVec ⟨1, ![2]⟩ 32} {x1 : FVec Ideal ⟨2, ![1408, 2048]⟩ .f32} {x2 x3 : FVec Ideal ⟨2, ![704, 2048]⟩ .f32} {x4 x5 : FVec Ideal ⟨2, ![1408, 2048]⟩ .f32}
  (hw : word x0 = BitVec.ofNat 32 k) (hk : k < 2)

include hw hk

theorem reference_grad : Holds (m := 1408) (n := 2048) (φ := .f32) (Cert.Reference12Ideal.Read.val_main_v5 (F := Ideal) x0 x2 x3) (rows 704 k (table x2) (table x3)) :=
  order_rows (n := 704) (N := 1408) (K := 2048) rfl _ _ hk _
    (order_bit hk (Cert.Reference12Ideal.Read.val_main_v1 (F := Ideal) x0) (fun i => (first_word x0 _ _ i _ rfl).trans hw) Cert.Reference12Ideal.Gen.facts.bcast_S_S1408x2048)

theorem reference_delta : Holds (m := 1408) (n := 2048) (φ := .f32) (Cert.Reference12Ideal.Read.val_main_v29 (F := Ideal) x0 x1 x2 x3 x4 x5)
    fun r q => step (table x1 r q) (rows 704 k (table x2) (table x3) r q) (table x4 r q) (table x5 r q) :=
  Holds.step (table_holds x1) (reference_grad hw hk) (table_holds x4) (table_holds x5) fun _ => rfl

theorem reference_first : Holds (m := 1408) (n := 2048) (φ := .f32) (Cert.Reference12Ideal.Read.val_main_v10 (F := Ideal) x0 x2 x3 x4)
    fun r q => newFirst (rows 704 k (table x2) (table x3) r q) (table x4 r q) :=
  Holds.first (reference_grad hw hk) (table_holds x4) fun _ => rfl

theorem reference_second : Holds (m := 1408) (n := 2048) (φ := .f32) (Cert.Reference12Ideal.Read.val_main_v16 (F := Ideal) x0 x2 x3 x5)
    fun r q => newSecond (rows 704 k (table x2) (table x3) r q) (table x5 r q) :=
  Holds.second (reference_grad hw hk) (table_holds x5) fun _ => rfl

end Reference

/-- `Cert.algebraic_Kernel12Ideal_Reference12Ideal_pre_core12` (Defs.lean). -/
theorem algebraic : Cert.algebraic_Kernel12Ideal_Reference12Ideal_pre_core12 := by
  intro m ρ m' ρ' hpre hagree
  obtain ⟨k, hk, hw⟩ : ∃ k : ℕ, k < 2 ∧ word (tbl m 0) = BitVec.ofNat 32 k := position_of (congrFun (hpre 0) (fun a => a.elim0 : (⟨0, ![]⟩ : Shape).Idx)) _ rfl
  refine ⟨fun c i => grad k m c (i 0).val (i 1).val, fun c i => delta k m c (i 0).val (i 1).val, fun c i => first k m c (i 0).val (i 1).val,
    fun c i => second k m c (i 0).val (i 1).val, ?_, ?_⟩
  · refine (θ_run Cert.Kernel12Ideal.defs _ _).mono (fun r h c => ?_) (θ_run_and (run_main m ρ (ok m)) (unchanged m ρ (ok m)))
    exact ⟨((h.1 c).1 5).trans (kernel_grad hw hk), ((h.1 c).1 6).trans (kernel_delta hw hk), ((h.1 c).1 7).trans (kernel_first hw hk),
      ((h.1 c).1 8).trans (kernel_second hw hk), h.2 c⟩
  · refine (θ_run Cert.Reference12Ideal.defs _ _).mono (fun r h c => ?_) (Cert.Reference12Ideal.Value.run (F := Ideal) m' ρ')
    obtain ⟨h1, h2, h3, h4, kept⟩ := h c
    obtain ⟨g0, g1, g2, g3, g4, g5⟩ := hagree c
    obtain rfl : c = 0 := Subsingleton.elim _ _
    rw [g0, g2, g3] at h1
    rw [g0, g1, g2, g3, g4, g5] at h2
    rw [g0, g2, g3, g4] at h3
    rw [g0, g2, g3, g5] at h4
    exact ⟨h1.trans ((Cert.Reference12Ideal.Read.val_main_v5_eq _ _ _).trans (funext (reference_grad hw hk))),
      h2.trans ((Cert.Reference12Ideal.Read.val_main_v29_eq _ _ _ _ _ _).trans (funext (reference_delta hw hk))),
      h3.trans ((Cert.Reference12Ideal.Read.val_main_v10_eq _ _ _ _).trans (funext (reference_first hw hk))),
      h4.trans ((Cert.Reference12Ideal.Read.val_main_v16_eq _ _ _ _).trans (funext (reference_second hw hk))), kept⟩

/-- The reference leaves its arguments, and it declares no semaphore. -/
theorem reference_frame : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

end DownUpdate

end
-- ==== Proof.GateUpdate.lean ====
module

public import proofs.«01_k».proof.Defs
public import proofs.«01_k».proof.Proof.Halves
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Pre_core13

@[expose] public section

/-!
# The optimiser's step on the gate projection's weight

The gradient comes as this core's half of the rows and the other core's. The grid has two rows of four points, and a
point of row `i` takes its block of 256 gradient rows from the half at position `i`: the position is read from memory.
-/

set_option maxRecDepth 16384

noncomputable section

namespace GateUpdate

open Idealize.ShloMosaic Idealize.ShloMosaic.TcCoe Idealize.SL.Sem Products Halves

/-! ## The frames -/

/-- The blocks lie inside the halves whatever the position is. -/
theorem kernel_ok {F : FTy → Type} [FloatOps F] (m : (ℓ : Loc Cert.Kernel13.nD Cert.Kernel13.τ Cert.Kernel13.sig) → Buf (Elt F) ℓ) : Cert.Kernel13.Gen.Ok m := by
  refine ⟨fun i => ⟨fun a => ?_, .inl rfl⟩, fun i => ⟨fun a => ?_, .inl rfl⟩⟩
  all_goals
    have b : (BitVec.ofNat 32 (i 1).val).toNat < 4 := Nat.lt_of_le_of_lt (Nat.mod_le _ _) (i 1).isLt
    match a with
    | 0 => exact (Nat.mul_le_mul_right 256 (given_lt _ _ b ((by decide : (3#32).toNat < 4))) : _ ≤ 4 * 256)
    | 1 => exact Nat.le_refl 1408

theorem ok {F : FTy → Type} [FloatOps F] (m : (ℓ : Loc Cert.Kernel13Ideal.nD Cert.Kernel13Ideal.τ Cert.Kernel13Ideal.sig) → Buf (Elt F) ℓ) : Cert.Kernel13Ideal.Gen.Ok m :=
  kernel_ok m

theorem kernel_frame : Cert.quiescent_Kernel13 := fun m ρ _ => Cert.Kernel13.Gen.frame m ρ (kernel_ok m)
theorem ideal_frame : Cert.quiescent_Kernel13Ideal := fun m ρ _ => Cert.Kernel13Ideal.Gen.frame m ρ (ok m)

open Cert.Kernel13Ideal Cert.Kernel13Ideal.Gen

/-! ## One grid point -/

section Point

variable (c : Dev nD) (i : grid0.Coords) (arg3 : Memref sig .tc .vmem S256x1408 .f32) (harg3 : arg3.IsWhole) (arg4 : Memref sig .tc .vmem S256x1408 .f32) (harg4 : arg4.IsWhole) (arg5 : Memref sig .tc .vmem S256x1408 .f32) (harg5 : arg5.IsWhole) (arg6 : Memref sig .tc .vmem S256x1408 .f32) (harg6 : arg6.IsWhole) (arg7 : Memref sig .tc .vmem S256x1408 .f32) (harg7 : arg7.IsWhole) (arg8 : Memref sig .tc .vmem S256x1408 .f32) (harg8 : arg8.IsWhole) (arg9 : Memref sig .tc .vmem S256x1408 .f32) (harg9 : arg9.IsWhole) (arg10 : Memref sig .tc .vmem S256x1408 .f32) (harg10 : arg10.IsWhole) (arg11 : Memref sig .tc .vmem S256x1408 .f32) (harg11 : arg11.IsWhole)
  (x0 x1 x2 x3 x4 : Vec Ideal S256x1408 .f32) (xt : IVec S2 32)

/-- The word that holds the position. -/
def word (xt : IVec S2 32) : BitVec 32 := xt ((Rect.unit (s := S2) ![0] S1.size inb_S2_S1_0).emb (Shape.Idx.first (numel1_S1.symm ▸ Nat.one_pos)))

theorem word_eq : kernelRun0_A.sl.r (F := Ideal) c xt = word xt := by
  unfold kernelRun0_A.sl.r
  rfl

theorem grad_eq : out0_A_5 c i arg3 harg3 arg4 harg4 arg5 harg5 arg6 harg6 arg7 harg7 arg8 harg8 arg9 harg9 arg10 harg10 arg11 harg11 x0 x1 x2 x3 x4 xt = k0_pay1 (F := Ideal) i (word xt) x1 x2 := by
  unfold out0_A_5 kernelRun0_A
  dsimp only
  rw [View.read_writes_junk_eq_canon]
  simp only [View.canon_cons_unit_zero (S := S256x1408) zeros2, word_eq, read_whole (S := S256x1408) _ _ zeros2]

theorem step_eq : out0_A_6 c i arg3 harg3 arg4 harg4 arg5 harg5 arg6 harg6 arg7 harg7 arg8 harg8 arg9 harg9 arg10 harg10 arg11 harg11 x0 x1 x2 x3 x4 xt = k0_pay4 (F := Ideal) i (word xt) x1 x2 x0 x3 x4 := by
  unfold out0_A_6 kernelRun0_A
  dsimp only
  rw [View.read_writes_junk_eq_canon]
  simp only [View.canon_cons_unit_zero (S := S256x1408) zeros2, kernelRun0_A.sl.r_3, word_eq, read_whole (S := S256x1408) _ _ zeros2]

theorem first_eq : out0_A_7 c i arg3 harg3 arg4 harg4 arg5 harg5 arg6 harg6 arg7 harg7 arg8 harg8 arg9 harg9 arg10 harg10 arg11 harg11 x0 x1 x2 x3 x4 xt = k0_pay2 (F := Ideal) i (word xt) x1 x2 x3 := by
  unfold out0_A_7 kernelRun0_A
  dsimp only
  rw [View.read_writes_junk_eq_canon]
  simp only [View.canon_cons_unit_zero (S := S256x1408) zeros2, kernelRun0_A.sl.r_1, word_eq, read_whole (S := S256x1408) _ _ zeros2]

theorem second_eq : out0_A_8 c i arg3 harg3 arg4 harg4 arg5 harg5 arg6 harg6 arg7 harg7 arg8 harg8 arg9 harg9 arg10 harg10 arg11 harg11 x0 x1 x2 x3 x4 xt = k0_pay3 (F := Ideal) i (word xt) x1 x2 x4 := by
  unfold out0_A_8 kernelRun0_A
  dsimp only
  rw [View.read_writes_junk_eq_canon]
  simp only [View.canon_cons_unit_zero (S := S256x1408) zeros2, kernelRun0_A.sl.r_2, word_eq, read_whole (S := S256x1408) _ _ zeros2]

end Point

/-! ## The grid -/

variable {m : (ℓ : Loc nD τ sig) → Buf (Elt Ideal) ℓ} {hO : Ok m} {c : Dev nD} {k : ℕ}

/-- The arguments, as functions of natural coordinates. -/
def weight (m : (ℓ : Loc nD τ sig) → Buf (Elt Ideal) ℓ) (c : Dev nD) : ℕ → ℕ → EReal := table (m := 2048) (n := 1408) (φ := .f32) (m ((c : Thread nD τ).loc main_arg1))
def mine (m : (ℓ : Loc nD τ sig) → Buf (Elt Ideal) ℓ) (c : Dev nD) : ℕ → ℕ → EReal := table (m := 1024) (n := 1408) (φ := .f32) (m ((c : Thread nD τ).loc main_arg2))
def theirs (m : (ℓ : Loc nD τ sig) → Buf (Elt Ideal) ℓ) (c : Dev nD) : ℕ → ℕ → EReal := table (m := 1024) (n := 1408) (φ := .f32) (m ((c : Thread nD τ).loc main_arg3))
def moment (m : (ℓ : Loc nD τ sig) → Buf (Elt Ideal) ℓ) (c : Dev nD) : ℕ → ℕ → EReal := table (m := 2048) (n := 1408) (φ := .f32) (m ((c : Thread nD τ).loc main_arg4))
def square (m : (ℓ : Loc nD τ sig) → Buf (Elt Ideal) ℓ) (c : Dev nD) : ℕ → ℕ → EReal := table (m := 2048) (n := 1408) (φ := .f32) (m ((c : Thread nD τ).loc main_arg5))

/-- The four results when this core's position is `k`. -/
def grad (k : ℕ) (m : (ℓ : Loc nD τ sig) → Buf (Elt Ideal) ℓ) (c : Dev nD) : ℕ → ℕ → EReal := rows 1024 k (mine m c) (theirs m c)
def delta (k : ℕ) (m : (ℓ : Loc nD τ sig) → Buf (Elt Ideal) ℓ) (c : Dev nD) (r q : ℕ) : EReal := step (weight m c r q) (grad k m c r q) (moment m c r q) (square m c r q)
def first (k : ℕ) (m : (ℓ : Loc nD τ sig) → Buf (Elt Ideal) ℓ) (c : Dev nD) (r q : ℕ) : EReal := newFirst (grad k m c r q) (moment m c r q)
def second (k : ℕ) (m : (ℓ : Loc nD τ sig) → Buf (Elt Ideal) ℓ) (c : Dev nD) (r q : ℕ) : EReal := newSecond (grad k m c r q) (square m c r q)

theorem coords : ∀ t : Fin grid0.N, (grid0.coords t 0).val = t.val / 4 ∧ (grid0.coords t 1).val = t.val % 4 ∧ t.val < 8 := by decide +kernel

theorem index0 (t : Fin (cfgM m hO).N) : ((cfgM m hO).win 0).index t = ![t.val, 0] :=
  (by decide +kernel : ∀ t : Fin grid0.N, cc0_transform_0 (grid0.coords t) = ![t.val, 0]) t

/-- Where an entry of the block sits, of the weight and of every window of the same shape. -/
theorem row_of (t : Fin (cfgM m hO).N) (y : S256x1408.Idx) : ((((cfgM m hO).win 0).rect t).emb y (0 : Fin 2)).val = t.val * 256 + (y 0).val :=
  place (((cfgM m hO).win 0).rect_emb_val t y (0 : Fin 2)) (congrFun (index0 t) (0 : Fin 2))
theorem column_of (t : Fin (cfgM m hO).N) (y : S256x1408.Idx) : ((((cfgM m hO).win 0).rect t).emb y (1 : Fin 2)).val = 0 * 1408 + (y 1).val :=
  place (((cfgM m hO).win 0).rect_emb_val t y (1 : Fin 2)) (congrFun (index0 t) (1 : Fin 2))

/-- The block of a half at a grid point of its own row. -/
theorem half_index (t : Fin grid0.N) {w : BitVec 32} (h : BitVec.ofNat 32 (grid0.coords t 0).val = w) :
    ![given (BitVec.ofNat 32 (grid0.coords t 0).val) w (BitVec.ofNat 32 (grid0.coords t 1).val) 3#32, 0] = ![t.val % 4, 0] := by
  rw [given_own h, (coords t).2.1, BitVec.toNat_ofNat, Nat.mod_eq_of_lt (by omega : t.val % 4 < 2 ^ 32)]

theorem index1 (hw : word (tbl m 0) = BitVec.ofNat 32 k) (t : Fin (cfgM m hO).N) (h : t.val / 4 = k) : ((cfgM m hO).win 1).index t = ![t.val % 4, 0] :=
  half_index t (w := word (tbl m 0)) (by rw [hw, (coords t).1, h])
theorem index2 (hw : word (tbl m 0) = BitVec.ofNat 32 k) (hk : k < 2) (t : Fin (cfgM m hO).N) (h : t.val / 4 ≠ k) : ((cfgM m hO).win 2).index t = ![t.val % 4, 0] :=
  half_index t (w := Scalar.subi 1#32 (word (tbl m 0))) (by rw [hw, (coords t).1]; exact other hk (by have := (coords t).2.2; omega) h)

theorem block0 (t : Fin (cfgM m hO).N) : Holds (m := 256) (n := 1408) (φ := .f32) (iblk m hO c 0 t) (shift (t.val * 256) 0 (weight m c)) :=
  Holds.block (table_holds _) _ _ (fun y => (((cfgM m hO).win 0).rect t).emb y) (fun y => congrFun (V_main_arg1 m c) _) (row_of t) (column_of t)

theorem block1 (hw : word (tbl m 0) = BitVec.ofNat 32 k) (t : Fin (cfgM m hO).N) (h : t.val / 4 = k) : Holds (m := 256) (n := 1408) (φ := .f32) (iblk m hO c 1 t) (shift (t.val % 4 * 256) 0 (mine m c)) := by
  refine Holds.block (table_holds _) _ _ (fun y => (((cfgM m hO).win 1).rect t).emb y) (fun y => congrFun (V_main_arg2 m c) _) (fun y => ?_) (fun y => ?_)
  · exact place (((cfgM m hO).win 1).rect_emb_val t y (0 : Fin 2)) (congrFun (index1 hw t h) (0 : Fin 2))
  · exact place (((cfgM m hO).win 1).rect_emb_val t y (1 : Fin 2)) (congrFun (index1 hw t h) (1 : Fin 2))

theorem block2 (hw : word (tbl m 0) = BitVec.ofNat 32 k) (hk : k < 2) (t : Fin (cfgM m hO).N) (h : t.val / 4 ≠ k) : Holds (m := 256) (n := 1408) (φ := .f32) (iblk m hO c 2 t) (shift (t.val % 4 * 256) 0 (theirs m c)) := by
  refine Holds.block (table_holds _) _ _ (fun y => (((cfgM m hO).win 2).rect t).emb y) (fun y => congrFun (V_main_arg3 m c) _) (fun y => ?_) (fun y => ?_)
  · exact place (((cfgM m hO).win 2).rect_emb_val t y (0 : Fin 2)) (congrFun (index2 hw hk t h) (0 : Fin 2))
  · exact place (((cfgM m hO).win 2).rect_emb_val t y (1 : Fin 2)) (congrFun (index2 hw hk t h) (1 : Fin 2))

theorem block3 (t : Fin (cfgM m hO).N) : Holds (m := 256) (n := 1408) (φ := .f32) (iblk m hO c 3 t) (shift (t.val * 256) 0 (moment m c)) :=
  Holds.block (table_holds _) _ _ (fun y => (((cfgM m hO).win 3).rect t).emb y) (fun y => congrFun (V_main_arg4 m c) _) (row_of t) (column_of t)

theorem block4 (t : Fin (cfgM m hO).N) : Holds (m := 256) (n := 1408) (φ := .f32) (iblk m hO c 4 t) (shift (t.val * 256) 0 (square m c)) :=
  Holds.block (table_holds _) _ _ (fun y => (((cfgM m hO).win 4).rect t).emb y) (fun y => congrFun (V_main_arg5 m c) _) (row_of t) (column_of t)

/-- The gradient rows of a grid point. -/
theorem gradient (hw : word (tbl m 0) = BitVec.ofNat 32 k) (hk : k < 2) (t : Fin (cfgM m hO).N) :
    Holds (m := 256) (n := 1408) (φ := .f32) (k0_pay1 (F := Ideal) (grid0.coords t) (word (tbl m 0)) (iblk m hO c 1 t) (iblk m hO c 2 t)) (shift (t.val * 256) 0 (grad k m c)) := by
  have d := coords t
  refine (Holds.chosen hw (congrArg (BitVec.ofNat 32) d.1) hk (by omega) (block1 hw t) (block2 hw hk t)).congr fun r q hr _ => ?_
  have e : (t.val * 256 + r) / 1024 = t.val / 4 := by omega
  have f : (t.val * 256 + r) % 1024 = t.val % 4 * 256 + r := by omega
  unfold shift grad rows
  rw [e, f]

theorem outs (t : Fin (cfgM m hO).N) : outsAt0 m hO c t
    = (k0_pay1 (F := Ideal) (grid0.coords t) (word (tbl m 0)) (iblk m hO c 1 t) (iblk m hO c 2 t),
      k0_pay4 (F := Ideal) (grid0.coords t) (word (tbl m 0)) (iblk m hO c 1 t) (iblk m hO c 2 t) (iblk m hO c 0 t) (iblk m hO c 3 t) (iblk m hO c 4 t),
      k0_pay2 (F := Ideal) (grid0.coords t) (word (tbl m 0)) (iblk m hO c 1 t) (iblk m hO c 2 t) (iblk m hO c 3 t),
      k0_pay3 (F := Ideal) (grid0.coords t) (word (tbl m 0)) (iblk m hO c 1 t) (iblk m hO c 2 t) (iblk m hO c 4 t)) := by
  unfold outsAt0
  exact congrArg₂ Prod.mk (grad_eq ..) (congrArg₂ Prod.mk (step_eq ..) (congrArg₂ Prod.mk (first_eq ..) (second_eq ..)))

/-- What a grid point leaves in the blocks of the four results. -/
theorem point (hw : word (tbl m 0) = BitVec.ofNat 32 k) (hk : k < 2) (t : Fin (cfgM m hO).N) :
    Holds (m := 256) (n := 1408) (φ := .f32) (outsAt0 m hO c t).1 (shift (t.val * 256) 0 (grad k m c))
    ∧ Holds (m := 256) (n := 1408) (φ := .f32) (outsAt0 m hO c t).2.1 (shift (t.val * 256) 0 (delta k m c))
    ∧ Holds (m := 256) (n := 1408) (φ := .f32) (outsAt0 m hO c t).2.2.1 (shift (t.val * 256) 0 (first k m c))
    ∧ Holds (m := 256) (n := 1408) (φ := .f32) (outsAt0 m hO c t).2.2.2 (shift (t.val * 256) 0 (second k m c)) := by
  have g := gradient (hO := hO) (c := c) hw hk t
  have w := block0 (m := m) (hO := hO) (c := c) t
  have u := block3 (m := m) (hO := hO) (c := c) t
  have v := block4 (m := m) (hO := hO) (c := c) t
  rw [outs]
  exact ⟨g, Holds.step w g u v fun _ => rfl, Holds.first g u fun _ => rfl, Holds.second g v fun _ => rfl⟩

/-! ## The four results -/

section Results

variable (hw : word (tbl m 0) = BitVec.ofNat 32 k) (hk : k < 2)

/-- The grid point and the entry of its block that an entry of a result is. -/
theorem covered (i : S2048x1408.Idx) : ∃ (t : Fin (cfgM m hO).N) (y : S256x1408.Idx), (((cfgM m hO).win 0).rect t).emb y = i := by
  have b0 : (i 0).val < 2048 := (i 0).isLt
  have b1 : (i 1).val < 1408 := (i 1).isLt
  let t : Fin (cfgM m hO).N := ⟨(i 0).val / 256, lt_of_lt_of_eq (b := 8) (by omega) N_0.symm⟩
  let y : S256x1408.Idx := ValueIdx.ix2 (⟨(i 0).val % 256, by omega⟩ : Fin 256) (⟨(i 1).val, b1⟩ : Fin 1408)
  have e0 : (i 0).val / 256 * 256 + (i 0).val % 256 = (i 0).val := Nat.div_add_mod' _ _
  exact ⟨t, y, Shape.idx_ext₂ ((row_of t y).trans e0) ((column_of t y).trans (Nat.zero_add _))⟩

include hw hk

theorem kernel_grad : (dats m hO 0 c).arrAt 5 (cfgM m hO).N = fun i : S2048x1408.Idx => grad k m c (i 0).val (i 1).val := by
  refine (dats m hO 0 c).arrAt_eq_of_cover 5 _ (fun t _ => funext fun y => ?_) fun i => ?_
  · exact (congrFun (congrArg (((cfgM m hO).win 5).cut (grid0.coords t)) (after0_5 m hO c t)) y).trans
      (((point hw hk t).1 y).trans (congrArg₂ (grad k m c) (row_of t y).symm (column_of t y).symm))
  · obtain ⟨t, y, e⟩ := covered (hO := hO) i
    exact ⟨t, flush0_5 _ t, Finset.mem_map.mpr ⟨y, Finset.mem_univ _, e⟩⟩

theorem kernel_delta : (dats m hO 0 c).arrAt 6 (cfgM m hO).N = fun i : S2048x1408.Idx => delta k m c (i 0).val (i 1).val := by
  refine (dats m hO 0 c).arrAt_eq_of_cover 6 _ (fun t _ => funext fun y => ?_) fun i => ?_
  · exact (congrFun (congrArg (((cfgM m hO).win 6).cut (grid0.coords t)) (after0_6 m hO c t)) y).trans
      (((point hw hk t).2.1 y).trans (congrArg₂ (delta k m c) (row_of t y).symm (column_of t y).symm))
  · obtain ⟨t, y, e⟩ := covered (hO := hO) i
    exact ⟨t, flush0_6 _ t, Finset.mem_map.mpr ⟨y, Finset.mem_univ _, e⟩⟩

theorem kernel_first : (dats m hO 0 c).arrAt 7 (cfgM m hO).N = fun i : S2048x1408.Idx => first k m c (i 0).val (i 1).val := by
  refine (dats m hO 0 c).arrAt_eq_of_cover 7 _ (fun t _ => funext fun y => ?_) fun i => ?_
  · exact (congrFun (congrArg (((cfgM m hO).win 7).cut (grid0.coords t)) (after0_7 m hO c t)) y).trans
      (((point hw hk t).2.2.1 y).trans (congrArg₂ (first k m c) (row_of t y).symm (column_of t y).symm))
  · obtain ⟨t, y, e⟩ := covered (hO := hO) i
    exact ⟨t, flush0_7 _ t, Finset.mem_map.mpr ⟨y, Finset.mem_univ _, e⟩⟩

theorem kernel_second : (dats m hO 0 c).arrAt 8 (cfgM m hO).N = fun i : S2048x1408.Idx => second k m c (i 0).val (i 1).val := by
  refine (dats m hO 0 c).arrAt_eq_of_cover 8 _ (fun t _ => funext fun y => ?_) fun i => ?_
  · exact (congrFun (congrArg (((cfgM m hO).win 8).cut (grid0.coords t)) (after0_8 m hO c t)) y).trans
      (((point hw hk t).2.2.2 y).trans (congrArg₂ (second k m c) (row_of t y).symm (column_of t y).symm))
  · obtain ⟨t, y, e⟩ := covered (hO := hO) i
    exact ⟨t, flush0_8 _ t, Finset.mem_map.mpr ⟨y, Finset.mem_univ _, e⟩⟩

end Results

/-! ## The reference -/

section Reference

variable {x0 : IVec ⟨1, ![2]⟩ 32} {x1 : FVec Ideal ⟨2, ![2048, 1408]⟩ .f32} {x2 x3 : FVec Ideal ⟨2, ![1024, 1408]⟩ .f32} {x4 x5 : FVec Ideal ⟨2, ![2048, 1408]⟩ .f32}
  (hw : word x0 = BitVec.ofNat 32 k) (hk : k < 2)

include hw hk

theorem reference_grad : Holds (m := 2048) (n := 1408) (φ := .f32) (Cert.Reference13Ideal.Read.val_main_v5 (F := Ideal) x0 x2 x3) (rows 1024 k (table x2) (table x3)) :=
  order_rows (n := 1024) (N := 2048) (K := 1408) rfl _ _ hk _
    (order_bit hk (Cert.Reference13Ideal.Read.val_main_v1 (F := Ideal) x0) (fun i => (first_word x0 _ _ i _ rfl).trans hw) Cert.Reference13Ideal.Gen.facts.bcast_S_S2048x1408)

theorem reference_delta : Holds (m := 2048) (n := 1408) (φ := .f32) (Cert.Reference13Ideal.Read.val_main_v29 (F := Ideal) x0 x1 x2 x3 x4 x5)
    fun r q => step (table x1 r q) (rows 1024 k (table x2) (table x3) r q) (table x4 r q) (table x5 r q) :=
  Holds.step (table_holds x1) (reference_grad hw hk) (table_holds x4) (table_holds x5) fun _ => rfl

theorem reference_first : Holds (m := 2048) (n := 1408) (φ := .f32) (Cert.Reference13Ideal.Read.val_main_v10 (F := Ideal) x0 x2 x3 x4)
    fun r q => newFirst (rows 1024 k (table x2) (table x3) r q) (table x4 r q) :=
  Holds.first (reference_grad hw hk) (table_holds x4) fun _ => rfl

theorem reference_second : Holds (m := 2048) (n := 1408) (φ := .f32) (Cert.Reference13Ideal.Read.val_main_v16 (F := Ideal) x0 x2 x3 x5)
    fun r q => newSecond (rows 1024 k (table x2) (table x3) r q) (table x5 r q) :=
  Holds.second (reference_grad hw hk) (table_holds x5) fun _ => rfl

end Reference

/-- `Cert.algebraic_Kernel13Ideal_Reference13Ideal_pre_core13` (Defs.lean). -/
theorem algebraic : Cert.algebraic_Kernel13Ideal_Reference13Ideal_pre_core13 := by
  intro m ρ m' ρ' hpre hagree
  obtain ⟨k, hk, hw⟩ : ∃ k : ℕ, k < 2 ∧ word (tbl m 0) = BitVec.ofNat 32 k := position_of (congrFun (hpre 0) (fun a => a.elim0 : (⟨0, ![]⟩ : Shape).Idx)) _ rfl
  refine ⟨fun c i => grad k m c (i 0).val (i 1).val, fun c i => delta k m c (i 0).val (i 1).val, fun c i => first k m c (i 0).val (i 1).val,
    fun c i => second k m c (i 0).val (i 1).val, ?_, ?_⟩
  · refine (θ_run Cert.Kernel13Ideal.defs _ _).mono (fun r h c => ?_) (θ_run_and (run_main m ρ (ok m)) (unchanged m ρ (ok m)))
    exact ⟨((h.1 c).1 5).trans (kernel_grad hw hk), ((h.1 c).1 6).trans (kernel_delta hw hk), ((h.1 c).1 7).trans (kernel_first hw hk),
      ((h.1 c).1 8).trans (kernel_second hw hk), h.2 c⟩
  · refine (θ_run Cert.Reference13Ideal.defs _ _).mono (fun r h c => ?_) (Cert.Reference13Ideal.Value.run (F := Ideal) m' ρ')
    obtain ⟨h1, h2, h3, h4, kept⟩ := h c
    obtain ⟨g0, g1, g2, g3, g4, g5⟩ := hagree c
    obtain rfl : c = 0 := Subsingleton.elim _ _
    rw [g0, g2, g3] at h1
    rw [g0, g1, g2, g3, g4, g5] at h2
    rw [g0, g2, g3, g4] at h3
    rw [g0, g2, g3, g5] at h4
    exact ⟨h1.trans ((Cert.Reference13Ideal.Read.val_main_v5_eq _ _ _).trans (funext (reference_grad hw hk))),
      h2.trans ((Cert.Reference13Ideal.Read.val_main_v29_eq _ _ _ _ _ _).trans (funext (reference_delta hw hk))),
      h3.trans ((Cert.Reference13Ideal.Read.val_main_v10_eq _ _ _ _).trans (funext (reference_first hw hk))),
      h4.trans ((Cert.Reference13Ideal.Read.val_main_v16_eq _ _ _ _).trans (funext (reference_second hw hk))), kept⟩

/-- The reference leaves its arguments, and it declares no semaphore. -/
theorem reference_frame : Cert.quiescent_Reference13Ideal := fun m ρ _ =>
  (θ_run Cert.Reference13Ideal.defs _ _).mono (fun r h => ⟨fun c => (h c).2.2.2.2, Idealize.ShloMosaic.sem_eq_zero_of_no_sems (by decide) r.2⟩)
    (Cert.Reference13Ideal.Value.run (F := Ideal) m ρ)

end GateUpdate

end
-- ==== Proof.OutUpdate.lean ====
module

public import proofs.«01_k».proof.Defs
public import proofs.«01_k».proof.Proof.Halves
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Pre_core14

@[expose] public section

/-!
# The optimiser's step on the output projection's weight

The gradient comes as this core's half of the rows and the other core's. The grid has two points, and
point `i` takes its block of 256 gradient rows, which is the whole half at position `i`: the position is read from memory.
-/

set_option maxRecDepth 16384

noncomputable section

namespace OutUpdate

open Idealize.ShloMosaic Idealize.ShloMosaic.TcCoe Idealize.SL.Sem Products Halves

/-! ## The frames -/

/-- The blocks lie inside the halves whatever the position is. -/
theorem kernel_ok {F : FTy → Type} [FloatOps F] (m : (ℓ : Loc Cert.Kernel14.nD Cert.Kernel14.τ Cert.Kernel14.sig) → Buf (Elt F) ℓ) : Cert.Kernel14.Gen.Ok m := by
  refine ⟨fun i => ⟨fun a => ?_, .inl rfl⟩, fun i => ⟨fun a => ?_, .inl rfl⟩⟩
  all_goals
    have b : (BitVec.ofNat 32 (i 1).val).toNat < 1 := Nat.lt_of_le_of_lt (Nat.mod_le _ _) (i 1).isLt
    match a with
    | 0 => exact (Nat.mul_le_mul_right 256 (given_lt _ _ b ((by decide : (0#32).toNat < 1))) : _ ≤ 1 * 256)
    | 1 => exact Nat.le_refl 2048

theorem ok {F : FTy → Type} [FloatOps F] (m : (ℓ : Loc Cert.Kernel14Ideal.nD Cert.Kernel14Ideal.τ Cert.Kernel14Ideal.sig) → Buf (Elt F) ℓ) : Cert.Kernel14Ideal.Gen.Ok m :=
  kernel_ok m

theorem kernel_frame : Cert.quiescent_Kernel14 := fun m ρ _ => Cert.Kernel14.Gen.frame m ρ (kernel_ok m)
theorem ideal_frame : Cert.quiescent_Kernel14Ideal := fun m ρ _ => Cert.Kernel14Ideal.Gen.frame m ρ (ok m)

open Cert.Kernel14Ideal Cert.Kernel14Ideal.Gen

/-! ## One grid point -/

section Point

variable (c : Dev nD) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole)
  (x0 x1 x2 x3 x4 : Vec Ideal S256x2048 .f32) (xt : IVec S2 32)

/-- The word that holds the position. -/
def word (xt : IVec S2 32) : BitVec 32 := xt ((Rect.unit (s := S2) ![0] S1.size inb_S2_S1_0).emb (Shape.Idx.first (numel1_S1.symm ▸ Nat.one_pos)))

theorem word_eq : kernelRun0_A.sl.r (F := Ideal) c xt = word xt := by
  unfold kernelRun0_A.sl.r
  rfl

theorem grad_eq : out0_A_5 c i arg3 harg3 arg4 harg4 arg5 harg5 arg6 harg6 arg7 harg7 arg8 harg8 arg9 harg9 arg10 harg10 arg11 harg11 x0 x1 x2 x3 x4 xt = k0_pay1 (F := Ideal) i (word xt) x1 x2 := by
  unfold out0_A_5 kernelRun0_A
  dsimp only
  rw [View.read_writes_junk_eq_canon]
  simp only [View.canon_cons_unit_zero (S := S256x2048) zeros2, word_eq, read_whole (S := S256x2048) _ _ zeros2]

theorem step_eq : out0_A_6 c i arg3 harg3 arg4 harg4 arg5 harg5 arg6 harg6 arg7 harg7 arg8 harg8 arg9 harg9 arg10 harg10 arg11 harg11 x0 x1 x2 x3 x4 xt = k0_pay4 (F := Ideal) i (word xt) x1 x2 x0 x3 x4 := by
  unfold out0_A_6 kernelRun0_A
  dsimp only
  rw [View.read_writes_junk_eq_canon]
  simp only [View.canon_cons_unit_zero (S := S256x2048) zeros2, kernelRun0_A.sl.r_3, word_eq, read_whole (S := S256x2048) _ _ zeros2]

theorem first_eq : out0_A_7 c i arg3 harg3 arg4 harg4 arg5 harg5 arg6 harg6 arg7 harg7 arg8 harg8 arg9 harg9 arg10 harg10 arg11 harg11 x0 x1 x2 x3 x4 xt = k0_pay2 (F := Ideal) i (word xt) x1 x2 x3 := by
  unfold out0_A_7 kernelRun0_A
  dsimp only
  rw [View.read_writes_junk_eq_canon]
  simp only [View.canon_cons_unit_zero (S := S256x2048) zeros2, kernelRun0_A.sl.r_1, word_eq, read_whole (S := S256x2048) _ _ zeros2]

theorem second_eq : out0_A_8 c i arg3 harg3 arg4 harg4 arg5 harg5 arg6 harg6 arg7 harg7 arg8 harg8 arg9 harg9 arg10 harg10 arg11 harg11 x0 x1 x2 x3 x4 xt = k0_pay3 (F := Ideal) i (word xt) x1 x2 x4 := by
  unfold out0_A_8 kernelRun0_A
  dsimp only
  rw [View.read_writes_junk_eq_canon]
  simp only [View.canon_cons_unit_zero (S := S256x2048) zeros2, kernelRun0_A.sl.r_2, word_eq, read_whole (S := S256x2048) _ _ zeros2]

end Point

/-! ## The grid -/

variable {m : (ℓ : Loc nD τ sig) → Buf (Elt Ideal) ℓ} {hO : Ok m} {c : Dev nD} {k : ℕ}

/-- The arguments, as functions of natural coordinates. -/
def weight (m : (ℓ : Loc nD τ sig) → Buf (Elt Ideal) ℓ) (c : Dev nD) : ℕ → ℕ → EReal := table (m := 512) (n := 2048) (φ := .f32) (m ((c : Thread nD τ).loc main_arg1))
def mine (m : (ℓ : Loc nD τ sig) → Buf (Elt Ideal) ℓ) (c : Dev nD) : ℕ → ℕ → EReal := table (m := 256) (n := 2048) (φ := .f32) (m ((c : Thread nD τ).loc main_arg2))
def theirs (m : (ℓ : Loc nD τ sig) → Buf (Elt Ideal) ℓ) (c : Dev nD) : ℕ → ℕ → EReal := table (m := 256) (n := 2048) (φ := .f32) (m ((c : Thread nD τ).loc main_arg3))
def moment (m : (ℓ : Loc nD τ sig) → Buf (Elt Ideal) ℓ) (c : Dev nD) : ℕ → ℕ → EReal := table (m := 512) (n := 2048) (φ := .f32) (m ((c : Thread nD τ).loc main_arg4))
def square (m : (ℓ : Loc nD τ sig) → Buf (Elt Ideal) ℓ) (c : Dev nD) : ℕ → ℕ → EReal := table (m := 512) (n := 2048) (φ := .f32) (m ((c : Thread nD τ).loc main_arg5))

/-- The four results when this core's position is `k`. -/
def grad (k : ℕ) (m : (ℓ : Loc nD τ sig) → Buf (Elt Ideal) ℓ) (c : Dev nD) : ℕ → ℕ → EReal := rows 256 k (mine m c) (theirs m c)
def delta (k : ℕ) (m : (ℓ : Loc nD τ sig) → Buf (Elt Ideal) ℓ) (c : Dev nD) (r q : ℕ) : EReal := step (weight m c r q) (grad k m c r q) (moment m c r q) (square m c r q)
def first (k : ℕ) (m : (ℓ : Loc nD τ sig) → Buf (Elt Ideal) ℓ) (c : Dev nD) (r q : ℕ) : EReal := newFirst (grad k m c r q) (moment m c r q)
def second (k : ℕ) (m : (ℓ : Loc nD τ sig) → Buf (Elt Ideal) ℓ) (c : Dev nD) (r q : ℕ) : EReal := newSecond (grad k m c r q) (square m c r q)

theorem coords : ∀ t : Fin grid0.N, (grid0.coords t 0).val = t.val ∧ (grid0.coords t 1).val = 0 ∧ t.val < 2 := by decide +kernel

theorem index0 (t : Fin (cfgM m hO).N) : ((cfgM m hO).win 0).index t = ![t.val, 0] :=
  (by decide +kernel : ∀ t : Fin grid0.N, cc0_transform_0 (grid0.coords t) = ![t.val, 0]) t

/-- Where an entry of the block sits, of the weight and of every window of the same shape. -/
theorem row_of (t : Fin (cfgM m hO).N) (y : S256x2048.Idx) : ((((cfgM m hO).win 0).rect t).emb y (0 : Fin 2)).val = t.val * 256 + (y 0).val :=
  place (((cfgM m hO).win 0).rect_emb_val t y (0 : Fin 2)) (congrFun (index0 t) (0 : Fin 2))
theorem column_of (t : Fin (cfgM m hO).N) (y : S256x2048.Idx) : ((((cfgM m hO).win 0).rect t).emb y (1 : Fin 2)).val = 0 * 2048 + (y 1).val :=
  place (((cfgM m hO).win 0).rect_emb_val t y (1 : Fin 2)) (congrFun (index0 t) (1 : Fin 2))

/-- The block of a half at its own grid point. -/
theorem half_index (t : Fin grid0.N) {w : BitVec 32} (h : BitVec.ofNat 32 (grid0.coords t 0).val = w) :
    ![given (BitVec.ofNat 32 (grid0.coords t 0).val) w (BitVec.ofNat 32 (grid0.coords t 1).val) 0#32, 0] = ![0, 0] := by
  rw [given_own h, (coords t).2.1, BitVec.toNat_ofNat, Nat.mod_eq_of_lt (by decide : 0 < 2 ^ 32)]

theorem index1 (hw : word (tbl m 0) = BitVec.ofNat 32 k) (t : Fin (cfgM m hO).N) (h : t.val = k) : ((cfgM m hO).win 1).index t = ![0, 0] :=
  half_index t (w := word (tbl m 0)) (by rw [hw, (coords t).1, h])
theorem index2 (hw : word (tbl m 0) = BitVec.ofNat 32 k) (hk : k < 2) (t : Fin (cfgM m hO).N) (h : t.val ≠ k) : ((cfgM m hO).win 2).index t = ![0, 0] :=
  half_index t (w := Scalar.subi 1#32 (word (tbl m 0))) (by rw [hw, (coords t).1]; exact other hk (by have := (coords t).2.2; omega) h)

theorem block0 (t : Fin (cfgM m hO).N) : Holds (m := 256) (n := 2048) (φ := .f32) (iblk m hO c 0 t) (shift (t.val * 256) 0 (weight m c)) :=
  Holds.block (table_holds _) _ _ (fun y => (((cfgM m hO).win 0).rect t).emb y) (fun y => congrFun (V_main_arg1 m c) _) (row_of t) (column_of t)

theorem block1 (hw : word (tbl m 0) = BitVec.ofNat 32 k) (t : Fin (cfgM m hO).N) (h : t.val = k) : Holds (m := 256) (n := 2048) (φ := .f32) (iblk m hO c 1 t) (shift 0 0 (mine m c)) := by
  refine Holds.block (table_holds _) _ _ (fun y => (((cfgM m hO).win 1).rect t).emb y) (fun y => congrFun (V_main_arg2 m c) _) (fun y => ?_) (fun y => ?_)
  · exact place (((cfgM m hO).win 1).rect_emb_val t y (0 : Fin 2)) (congrFun (index1 hw t h) (0 : Fin 2))
  · exact place (((cfgM m hO).win 1).rect_emb_val t y (1 : Fin 2)) (congrFun (index1 hw t h) (1 : Fin 2))

theorem block2 (hw : word (tbl m 0) = BitVec.ofNat 32 k) (hk : k < 2) (t : Fin (cfgM m hO).N) (h : t.val ≠ k) : Holds (m := 256) (n := 2048) (φ := .f32) (iblk m hO c 2 t) (shift 0 0 (theirs m c)) := by
  refine Holds.block (table_holds _) _ _ (fun y => (((cfgM m hO).win 2).rect t).emb y) (fun y => congrFun (V_main_arg3 m c) _) (fun y => ?_) (fun y => ?_)
  · exact place (((cfgM m hO).win 2).rect_emb_val t y (0 : Fin 2)) (congrFun (index2 hw hk t h) (0 : Fin 2))
  · exact place (((cfgM m hO).win 2).rect_emb_val t y (1 : Fin 2)) (congrFun (index2 hw hk t h) (1 : Fin 2))

theorem block3 (t : Fin (cfgM m hO).N) : Holds (m := 256) (n := 2048) (φ := .f32) (iblk m hO c 3 t) (shift (t.val * 256) 0 (moment m c)) :=
  Holds.block (table_holds _) _ _ (fun y => (((cfgM m hO).win 3).rect t).emb y) (fun y => congrFun (V_main_arg4 m c) _) (row_of t) (column_of t)

theorem block4 (t : Fin (cfgM m hO).N) : Holds (m := 256) (n := 2048) (φ := .f32) (iblk m hO c 4 t) (shift (t.val * 256) 0 (square m c)) :=
  Holds.block (table_holds _) _ _ (fun y => (((cfgM m hO).win 4).rect t).emb y) (fun y => congrFun (V_main_arg5 m c) _) (row_of t) (column_of t)

/-- The gradient rows of a grid point. -/
theorem gradient (hw : word (tbl m 0) = BitVec.ofNat 32 k) (hk : k < 2) (t : Fin (cfgM m hO).N) :
    Holds (m := 256) (n := 2048) (φ := .f32) (k0_pay1 (F := Ideal) (grid0.coords t) (word (tbl m 0)) (iblk m hO c 1 t) (iblk m hO c 2 t)) (shift (t.val * 256) 0 (grad k m c)) := by
  have d := coords t
  refine (Holds.chosen hw (congrArg (BitVec.ofNat 32) d.1) hk (by omega) (block1 hw t) (block2 hw hk t)).congr fun r q hr _ => ?_
  have e : (t.val * 256 + r) / 256 = t.val := by omega
  have f : (t.val * 256 + r) % 256 = 0 + r := by omega
  unfold shift grad rows
  rw [e, f]

theorem outs (t : Fin (cfgM m hO).N) : outsAt0 m hO c t
    = (k0_pay1 (F := Ideal) (grid0.coords t) (word (tbl m 0)) (iblk m hO c 1 t) (iblk m hO c 2 t),
      k0_pay4 (F := Ideal) (grid0.coords t) (word (tbl m 0)) (iblk m hO c 1 t) (iblk m hO c 2 t) (iblk m hO c 0 t) (iblk m hO c 3 t) (iblk m hO c 4 t),
      k0_pay2 (F := Ideal) (grid0.coords t) (word (tbl m 0)) (iblk m hO c 1 t) (iblk m hO c 2 t) (iblk m hO c 3 t),
      k0_pay3 (F := Ideal) (grid0.coords t) (word (tbl m 0)) (iblk m hO c 1 t) (iblk m hO c 2 t) (iblk m hO c 4 t)) := by
  unfold outsAt0
  exact congrArg₂ Prod.mk (grad_eq ..) (congrArg₂ Prod.mk (step_eq ..) (congrArg₂ Prod.mk (first_eq ..) (second_eq ..)))

/-- What a grid point leaves in the blocks of the four results. -/
theorem point (hw : word (tbl m 0) = BitVec.ofNat 32 k) (hk : k < 2) (t : Fin (cfgM m hO).N) :
    Holds (m := 256) (n := 2048) (φ := .f32) (outsAt0 m hO c t).1 (shift (t.val * 256) 0 (grad k m c))
    ∧ Holds (m := 256) (n := 2048) (φ := .f32) (outsAt0 m hO c t).2.1 (shift (t.val * 256) 0 (delta k m c))
    ∧ Holds (m := 256) (n := 2048) (φ := .f32) (outsAt0 m hO c t).2.2.1 (shift (t.val * 256) 0 (first k m c))
    ∧ Holds (m := 256) (n := 2048) (φ := .f32) (outsAt0 m hO c t).2.2.2 (shift (t.val * 256) 0 (second k m c)) := by
  have g := gradient (hO := hO) (c := c) hw hk t
  have w := block0 (m := m) (hO := hO) (c := c) t
  have u := block3 (m := m) (hO := hO) (c := c) t
  have v := block4 (m := m) (hO := hO) (c := c) t
  rw [outs]
  exact ⟨g, Holds.step w g u v fun _ => rfl, Holds.first g u fun _ => rfl, Holds.second g v fun _ => rfl⟩

/-! ## The four results -/

section Results

variable (hw : word (tbl m 0) = BitVec.ofNat 32 k) (hk : k < 2)

/-- The grid point and the entry of its block that an entry of a result is. -/
theorem covered (i : S512x2048.Idx) : ∃ (t : Fin (cfgM m hO).N) (y : S256x2048.Idx), (((cfgM m hO).win 0).rect t).emb y = i := by
  have b0 : (i 0).val < 512 := (i 0).isLt
  have b1 : (i 1).val < 2048 := (i 1).isLt
  let t : Fin (cfgM m hO).N := ⟨(i 0).val / 256, lt_of_lt_of_eq (b := 2) (by omega) N_0.symm⟩
  let y : S256x2048.Idx := ValueIdx.ix2 (⟨(i 0).val % 256, by omega⟩ : Fin 256) (⟨(i 1).val, b1⟩ : Fin 2048)
  have e0 : (i 0).val / 256 * 256 + (i 0).val % 256 = (i 0).val := Nat.div_add_mod' _ _
  exact ⟨t, y, Shape.idx_ext₂ ((row_of t y).trans e0) ((column_of t y).trans (Nat.zero_add _))⟩

include hw hk

theorem kernel_grad : (dats m hO 0 c).arrAt 5 (cfgM m hO).N = fun i : S512x2048.Idx => grad k m c (i 0).val (i 1).val := by
  refine (dats m hO 0 c).arrAt_eq_of_cover 5 _ (fun t _ => funext fun y => ?_) fun i => ?_
  · exact (congrFun (congrArg (((cfgM m hO).win 5).cut (grid0.coords t)) (after0_5 m hO c t)) y).trans
      (((point hw hk t).1 y).trans (congrArg₂ (grad k m c) (row_of t y).symm (column_of t y).symm))
  · obtain ⟨t, y, e⟩ := covered (hO := hO) i
    exact ⟨t, flush0_5 _ t, Finset.mem_map.mpr ⟨y, Finset.mem_univ _, e⟩⟩

theorem kernel_delta : (dats m hO 0 c).arrAt 6 (cfgM m hO).N = fun i : S512x2048.Idx => delta k m c (i 0).val (i 1).val := by
  refine (dats m hO 0 c).arrAt_eq_of_cover 6 _ (fun t _ => funext fun y => ?_) fun i => ?_
  · exact (congrFun (congrArg (((cfgM m hO).win 6).cut (grid0.coords t)) (after0_6 m hO c t)) y).trans
      (((point hw hk t).2.1 y).trans (congrArg₂ (delta k m c) (row_of t y).symm (column_of t y).symm))
  · obtain ⟨t, y, e⟩ := covered (hO := hO) i
    exact ⟨t, flush0_6 _ t, Finset.mem_map.mpr ⟨y, Finset.mem_univ _, e⟩⟩

theorem kernel_first : (dats m hO 0 c).arrAt 7 (cfgM m hO).N = fun i : S512x2048.Idx => first k m c (i 0).val (i 1).val := by
  refine (dats m hO 0 c).arrAt_eq_of_cover 7 _ (fun t _ => funext fun y => ?_) fun i => ?_
  · exact (congrFun (congrArg (((cfgM m hO).win 7).cut (grid0.coords t)) (after0_7 m hO c t)) y).trans
      (((point hw hk t).2.2.1 y).trans (congrArg₂ (first k m c) (row_of t y).symm (column_of t y).symm))
  · obtain ⟨t, y, e⟩ := covered (hO := hO) i
    exact ⟨t, flush0_7 _ t, Finset.mem_map.mpr ⟨y, Finset.mem_univ _, e⟩⟩

theorem kernel_second : (dats m hO 0 c).arrAt 8 (cfgM m hO).N = fun i : S512x2048.Idx => second k m c (i 0).val (i 1).val := by
  refine (dats m hO 0 c).arrAt_eq_of_cover 8 _ (fun t _ => funext fun y => ?_) fun i => ?_
  · exact (congrFun (congrArg (((cfgM m hO).win 8).cut (grid0.coords t)) (after0_8 m hO c t)) y).trans
      (((point hw hk t).2.2.2 y).trans (congrArg₂ (second k m c) (row_of t y).symm (column_of t y).symm))
  · obtain ⟨t, y, e⟩ := covered (hO := hO) i
    exact ⟨t, flush0_8 _ t, Finset.mem_map.mpr ⟨y, Finset.mem_univ _, e⟩⟩

end Results

/-! ## The reference -/

section Reference

variable {x0 : IVec ⟨1, ![2]⟩ 32} {x1 : FVec Ideal ⟨2, ![512, 2048]⟩ .f32} {x2 x3 : FVec Ideal ⟨2, ![256, 2048]⟩ .f32} {x4 x5 : FVec Ideal ⟨2, ![512, 2048]⟩ .f32}
  (hw : word x0 = BitVec.ofNat 32 k) (hk : k < 2)

include hw hk

theorem reference_grad : Holds (m := 512) (n := 2048) (φ := .f32) (Cert.Reference14Ideal.Read.val_main_v5 (F := Ideal) x0 x2 x3) (rows 256 k (table x2) (table x3)) :=
  order_rows (n := 256) (N := 512) (K := 2048) rfl _ _ hk _
    (order_bit hk (Cert.Reference14Ideal.Read.val_main_v1 (F := Ideal) x0) (fun i => (first_word x0 _ _ i _ rfl).trans hw) Cert.Reference14Ideal.Gen.facts.bcast_S_S512x2048)

theorem reference_delta : Holds (m := 512) (n := 2048) (φ := .f32) (Cert.Reference14Ideal.Read.val_main_v29 (F := Ideal) x0 x1 x2 x3 x4 x5)
    fun r q => step (table x1 r q) (rows 256 k (table x2) (table x3) r q) (table x4 r q) (table x5 r q) :=
  Holds.step (table_holds x1) (reference_grad hw hk) (table_holds x4) (table_holds x5) fun _ => rfl

theorem reference_first : Holds (m := 512) (n := 2048) (φ := .f32) (Cert.Reference14Ideal.Read.val_main_v10 (F := Ideal) x0 x2 x3 x4)
    fun r q => newFirst (rows 256 k (table x2) (table x3) r q) (table x4 r q) :=
  Holds.first (reference_grad hw hk) (table_holds x4) fun _ => rfl

theorem reference_second : Holds (m := 512) (n := 2048) (φ := .f32) (Cert.Reference14Ideal.Read.val_main_v16 (F := Ideal) x0 x2 x3 x5)
    fun r q => newSecond (rows 256 k (table x2) (table x3) r q) (table x5 r q) :=
  Holds.second (reference_grad hw hk) (table_holds x5) fun _ => rfl

end Reference

/-- `Cert.algebraic_Kernel14Ideal_Reference14Ideal_pre_core14` (Defs.lean). -/
theorem algebraic : Cert.algebraic_Kernel14Ideal_Reference14Ideal_pre_core14 := by
  intro m ρ m' ρ' hpre hagree
  obtain ⟨k, hk, hw⟩ : ∃ k : ℕ, k < 2 ∧ word (tbl m 0) = BitVec.ofNat 32 k := position_of (congrFun (hpre 0) (fun a => a.elim0 : (⟨0, ![]⟩ : Shape).Idx)) _ rfl
  refine ⟨fun c i => grad k m c (i 0).val (i 1).val, fun c i => delta k m c (i 0).val (i 1).val, fun c i => first k m c (i 0).val (i 1).val,
    fun c i => second k m c (i 0).val (i 1).val, ?_, ?_⟩
  · refine (θ_run Cert.Kernel14Ideal.defs _ _).mono (fun r h c => ?_) (θ_run_and (run_main m ρ (ok m)) (unchanged m ρ (ok m)))
    exact ⟨((h.1 c).1 5).trans (kernel_grad hw hk), ((h.1 c).1 6).trans (kernel_delta hw hk), ((h.1 c).1 7).trans (kernel_first hw hk),
      ((h.1 c).1 8).trans (kernel_second hw hk), h.2 c⟩
  · refine (θ_run Cert.Reference14Ideal.defs _ _).mono (fun r h c => ?_) (Cert.Reference14Ideal.Value.run (F := Ideal) m' ρ')
    obtain ⟨h1, h2, h3, h4, kept⟩ := h c
    obtain ⟨g0, g1, g2, g3, g4, g5⟩ := hagree c
    obtain rfl : c = 0 := Subsingleton.elim _ _
    rw [g0, g2, g3] at h1
    rw [g0, g1, g2, g3, g4, g5] at h2
    rw [g0, g2, g3, g4] at h3
    rw [g0, g2, g3, g5] at h4
    exact ⟨h1.trans ((Cert.Reference14Ideal.Read.val_main_v5_eq _ _ _).trans (funext (reference_grad hw hk))),
      h2.trans ((Cert.Reference14Ideal.Read.val_main_v29_eq _ _ _ _ _ _).trans (funext (reference_delta hw hk))),
      h3.trans ((Cert.Reference14Ideal.Read.val_main_v10_eq _ _ _ _).trans (funext (reference_first hw hk))),
      h4.trans ((Cert.Reference14Ideal.Read.val_main_v16_eq _ _ _ _).trans (funext (reference_second hw hk))), kept⟩

/-- The reference leaves its arguments, and it declares no semaphore. -/
theorem reference_frame : Cert.quiescent_Reference14Ideal := fun m ρ _ =>
  (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

end OutUpdate

end
-- ==== Proof.InUpdate.lean ====
module

public import proofs.«01_k».proof.Defs
public import proofs.«01_k».proof.Proof.Halves
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Pre_core15

@[expose] public section

/-!
# The optimiser's step on the input projection's weight

The weight lies transposed, and the gradient comes as this core's half of the columns and the other core's. The grid has
two rows of four points, and a point of row `i` takes its block of 256 gradient columns from the half at position `i`:
the position is read from memory.
-/

set_option maxRecDepth 16384

noncomputable section

namespace InUpdate

open Idealize.ShloMosaic Idealize.ShloMosaic.TcCoe Idealize.SL.Sem Products Halves

/-! ## The frames -/

/-- The blocks lie inside the halves whatever the position is. -/
theorem kernel_ok {F : FTy → Type} [FloatOps F] (m : (ℓ : Loc Cert.Kernel15.nD Cert.Kernel15.τ Cert.Kernel15.sig) → Buf (Elt F) ℓ) : Cert.Kernel15.Gen.Ok m := by
  refine ⟨fun i => ⟨fun a => ?_, .inl rfl⟩, fun i => ⟨fun a => ?_, .inl rfl⟩⟩
  all_goals
    have b : (BitVec.ofNat 32 (i 1).val).toNat < 4 := Nat.lt_of_le_of_lt (Nat.mod_le _ _) (i 1).isLt
    match a with
    | 0 => exact Nat.le_refl 1284
    | 1 => exact (Nat.mul_le_mul_right 256 (given_lt _ _ b ((by decide : (3#32).toNat < 4))) : _ ≤ 4 * 256)

theorem ok {F : FTy → Type} [FloatOps F] (m : (ℓ : Loc Cert.Kernel15Ideal.nD Cert.Kernel15Ideal.τ Cert.Kernel15Ideal.sig) → Buf (Elt F) ℓ) : Cert.Kernel15Ideal.Gen.Ok m :=
  kernel_ok m

theorem kernel_frame : Cert.quiescent_Kernel15 := fun m ρ _ => Cert.Kernel15.Gen.frame m ρ (kernel_ok m)
theorem ideal_frame : Cert.quiescent_Kernel15Ideal := fun m ρ _ => Cert.Kernel15Ideal.Gen.frame m ρ (ok m)

open Cert.Kernel15Ideal Cert.Kernel15Ideal.Gen

/-! ## One grid point -/

section Point

variable (c : Dev nD) (i : grid0.Coords) (arg3 : Memref sig .tc .vmem S1284x256 .f32) (harg3 : arg3.IsWhole) (arg4 : Memref sig .tc .vmem S1284x256 .f32) (harg4 : arg4.IsWhole) (arg5 : Memref sig .tc .vmem S1284x256 .f32) (harg5 : arg5.IsWhole) (arg6 : Memref sig .tc .vmem S1284x256 .f32) (harg6 : arg6.IsWhole) (arg7 : Memref sig .tc .vmem S1284x256 .f32) (harg7 : arg7.IsWhole) (arg8 : Memref sig .tc .vmem S1284x256 .f32) (harg8 : arg8.IsWhole) (arg9 : Memref sig .tc .vmem S1284x256 .f32) (harg9 : arg9.IsWhole) (arg10 : Memref sig .tc .vmem S1284x256 .f32) (harg10 : arg10.IsWhole) (arg11 : Memref sig .tc .vmem S1284x256 .f32) (harg11 : arg11.IsWhole)
  (x0 x1 x2 x3 x4 : Vec Ideal S1284x256 .f32) (xt : IVec S2 32)

/-- The word that holds the position. -/
def word (xt : IVec S2 32) : BitVec 32 := xt ((Rect.unit (s := S2) ![0] S1.size inb_S2_S1_0).emb (Shape.Idx.first (numel1_S1.symm ▸ Nat.one_pos)))

theorem word_eq : kernelRun0_A.sl.r (F := Ideal) c xt = word xt := by
  unfold kernelRun0_A.sl.r
  rfl

theorem grad_eq : out0_A_5 c i arg3 harg3 arg4 harg4 arg5 harg5 arg6 harg6 arg7 harg7 arg8 harg8 arg9 harg9 arg10 harg10 arg11 harg11 x0 x1 x2 x3 x4 xt = k0_pay1 (F := Ideal) i (word xt) x1 x2 := by
  unfold out0_A_5 kernelRun0_A
  dsimp only
  rw [View.read_writes_junk_eq_canon]
  simp only [View.canon_cons_unit_zero (S := S1284x256) zeros2, word_eq, read_whole (S := S1284x256) _ _ zeros2]

theorem step_eq : out0_A_6 c i arg3 harg3 arg4 harg4 arg5 harg5 arg6 harg6 arg7 harg7 arg8 harg8 arg9 harg9 arg10 harg10 arg11 harg11 x0 x1 x2 x3 x4 xt = k0_pay4 (F := Ideal) i (word xt) x1 x2 x0 x3 x4 := by
  unfold out0_A_6 kernelRun0_A
  dsimp only
  rw [View.read_writes_junk_eq_canon]
  simp only [View.canon_cons_unit_zero (S := S1284x256) zeros2, kernelRun0_A.sl.r_3, word_eq, read_whole (S := S1284x256) _ _ zeros2]

theorem first_eq : out0_A_7 c i arg3 harg3 arg4 harg4 arg5 harg5 arg6 harg6 arg7 harg7 arg8 harg8 arg9 harg9 arg10 harg10 arg11 harg11 x0 x1 x2 x3 x4 xt = k0_pay2 (F := Ideal) i (word xt) x1 x2 x3 := by
  unfold out0_A_7 kernelRun0_A
  dsimp only
  rw [View.read_writes_junk_eq_canon]
  simp only [View.canon_cons_unit_zero (S := S1284x256) zeros2, kernelRun0_A.sl.r_1, word_eq, read_whole (S := S1284x256) _ _ zeros2]

theorem second_eq : out0_A_8 c i arg3 harg3 arg4 harg4 arg5 harg5 arg6 harg6 arg7 harg7 arg8 harg8 arg9 harg9 arg10 harg10 arg11 harg11 x0 x1 x2 x3 x4 xt = k0_pay3 (F := Ideal) i (word xt) x1 x2 x4 := by
  unfold out0_A_8 kernelRun0_A
  dsimp only
  rw [View.read_writes_junk_eq_canon]
  simp only [View.canon_cons_unit_zero (S := S1284x256) zeros2, kernelRun0_A.sl.r_2, word_eq, read_whole (S := S1284x256) _ _ zeros2]

end Point

/-! ## The grid -/

variable {m : (ℓ : Loc nD τ sig) → Buf (Elt Ideal) ℓ} {hO : Ok m} {c : Dev nD} {k : ℕ}

/-- The arguments, as functions of natural coordinates. -/
def weight (m : (ℓ : Loc nD τ sig) → Buf (Elt Ideal) ℓ) (c : Dev nD) : ℕ → ℕ → EReal := table (m := 1284) (n := 2048) (φ := .f32) (m ((c : Thread nD τ).loc main_arg1))
def mine (m : (ℓ : Loc nD τ sig) → Buf (Elt Ideal) ℓ) (c : Dev nD) : ℕ → ℕ → EReal := table (m := 1284) (n := 1024) (φ := .f32) (m ((c : Thread nD τ).loc main_arg2))
def theirs (m : (ℓ : Loc nD τ sig) → Buf (Elt Ideal) ℓ) (c : Dev nD) : ℕ → ℕ → EReal := table (m := 1284) (n := 1024) (φ := .f32) (m ((c : Thread nD τ).loc main_arg3))
def moment (m : (ℓ : Loc nD τ sig) → Buf (Elt Ideal) ℓ) (c : Dev nD) : ℕ → ℕ → EReal := table (m := 1284) (n := 2048) (φ := .f32) (m ((c : Thread nD τ).loc main_arg4))
def square (m : (ℓ : Loc nD τ sig) → Buf (Elt Ideal) ℓ) (c : Dev nD) : ℕ → ℕ → EReal := table (m := 1284) (n := 2048) (φ := .f32) (m ((c : Thread nD τ).loc main_arg5))

/-- The four results when this core's position is `k`. -/
def grad (k : ℕ) (m : (ℓ : Loc nD τ sig) → Buf (Elt Ideal) ℓ) (c : Dev nD) : ℕ → ℕ → EReal := columns 1024 k (mine m c) (theirs m c)
def delta (k : ℕ) (m : (ℓ : Loc nD τ sig) → Buf (Elt Ideal) ℓ) (c : Dev nD) (r q : ℕ) : EReal := step (weight m c r q) (grad k m c r q) (moment m c r q) (square m c r q)
def first (k : ℕ) (m : (ℓ : Loc nD τ sig) → Buf (Elt Ideal) ℓ) (c : Dev nD) (r q : ℕ) : EReal := newFirst (grad k m c r q) (moment m c r q)
def second (k : ℕ) (m : (ℓ : Loc nD τ sig) → Buf (Elt Ideal) ℓ) (c : Dev nD) (r q : ℕ) : EReal := newSecond (grad k m c r q) (square m c r q)

theorem coords : ∀ t : Fin grid0.N, (grid0.coords t 0).val = t.val / 4 ∧ (grid0.coords t 1).val = t.val % 4 ∧ t.val < 8 := by decide +kernel

theorem index0 (t : Fin (cfgM m hO).N) : ((cfgM m hO).win 0).index t = ![0, t.val] :=
  (by decide +kernel : ∀ t : Fin grid0.N, cc0_transform_0 (grid0.coords t) = ![0, t.val]) t

/-- Where an entry of the block sits, of the weight and of every window of the same shape. -/
theorem row_of (t : Fin (cfgM m hO).N) (y : S1284x256.Idx) : ((((cfgM m hO).win 0).rect t).emb y (0 : Fin 2)).val = 0 * 1284 + (y 0).val :=
  place (((cfgM m hO).win 0).rect_emb_val t y (0 : Fin 2)) (congrFun (index0 t) (0 : Fin 2))
theorem column_of (t : Fin (cfgM m hO).N) (y : S1284x256.Idx) : ((((cfgM m hO).win 0).rect t).emb y (1 : Fin 2)).val = t.val * 256 + (y 1).val :=
  place (((cfgM m hO).win 0).rect_emb_val t y (1 : Fin 2)) (congrFun (index0 t) (1 : Fin 2))

/-- The block of a half at a grid point of its own row. -/
theorem half_index (t : Fin grid0.N) {w : BitVec 32} (h : BitVec.ofNat 32 (grid0.coords t 0).val = w) :
    ![0, given (BitVec.ofNat 32 (grid0.coords t 0).val) w (BitVec.ofNat 32 (grid0.coords t 1).val) 3#32] = ![0, t.val % 4] := by
  rw [given_own h, (coords t).2.1, BitVec.toNat_ofNat, Nat.mod_eq_of_lt (by omega : t.val % 4 < 2 ^ 32)]

theorem index1 (hw : word (tbl m 0) = BitVec.ofNat 32 k) (t : Fin (cfgM m hO).N) (h : t.val / 4 = k) : ((cfgM m hO).win 1).index t = ![0, t.val % 4] :=
  half_index t (w := word (tbl m 0)) (by rw [hw, (coords t).1, h])
theorem index2 (hw : word (tbl m 0) = BitVec.ofNat 32 k) (hk : k < 2) (t : Fin (cfgM m hO).N) (h : t.val / 4 ≠ k) : ((cfgM m hO).win 2).index t = ![0, t.val % 4] :=
  half_index t (w := Scalar.subi 1#32 (word (tbl m 0))) (by rw [hw, (coords t).1]; exact other hk (by have := (coords t).2.2; omega) h)

theorem block0 (t : Fin (cfgM m hO).N) : Holds (m := 1284) (n := 256) (φ := .f32) (iblk m hO c 0 t) (shift 0 (t.val * 256) (weight m c)) :=
  Holds.block (table_holds _) _ _ (fun y => (((cfgM m hO).win 0).rect t).emb y) (fun y => congrFun (V_main_arg1 m c) _) (row_of t) (column_of t)

theorem block1 (hw : word (tbl m 0) = BitVec.ofNat 32 k) (t : Fin (cfgM m hO).N) (h : t.val / 4 = k) : Holds (m := 1284) (n := 256) (φ := .f32) (iblk m hO c 1 t) (shift 0 (t.val % 4 * 256) (mine m c)) := by
  refine Holds.block (table_holds _) _ _ (fun y => (((cfgM m hO).win 1).rect t).emb y) (fun y => congrFun (V_main_arg2 m c) _) (fun y => ?_) (fun y => ?_)
  · exact place (((cfgM m hO).win 1).rect_emb_val t y (0 : Fin 2)) (congrFun (index1 hw t h) (0 : Fin 2))
  · exact place (((cfgM m hO).win 1).rect_emb_val t y (1 : Fin 2)) (congrFun (index1 hw t h) (1 : Fin 2))

theorem block2 (hw : word (tbl m 0) = BitVec.ofNat 32 k) (hk : k < 2) (t : Fin (cfgM m hO).N) (h : t.val / 4 ≠ k) : Holds (m := 1284) (n := 256) (φ := .f32) (iblk m hO c 2 t) (shift 0 (t.val % 4 * 256) (theirs m c)) := by
  refine Holds.block (table_holds _) _ _ (fun y => (((cfgM m hO).win 2).rect t).emb y) (fun y => congrFun (V_main_arg3 m c) _) (fun y => ?_) (fun y => ?_)
  · exact place (((cfgM m hO).win 2).rect_emb_val t y (0 : Fin 2)) (congrFun (index2 hw hk t h) (0 : Fin 2))
  · exact place (((cfgM m hO).win 2).rect_emb_val t y (1 : Fin 2)) (congrFun (index2 hw hk t h) (1 : Fin 2))

theorem block3 (t : Fin (cfgM m hO).N) : Holds (m := 1284) (n := 256) (φ := .f32) (iblk m hO c 3 t) (shift 0 (t.val * 256) (moment m c)) :=
  Holds.block (table_holds _) _ _ (fun y => (((cfgM m hO).win 3).rect t).emb y) (fun y => congrFun (V_main_arg4 m c) _) (row_of t) (column_of t)

theorem block4 (t : Fin (cfgM m hO).N) : Holds (m := 1284) (n := 256) (φ := .f32) (iblk m hO c 4 t) (shift 0 (t.val * 256) (square m c)) :=
  Holds.block (table_holds _) _ _ (fun y => (((cfgM m hO).win 4).rect t).emb y) (fun y => congrFun (V_main_arg5 m c) _) (row_of t) (column_of t)

/-- The gradient columns of a grid point. -/
theorem gradient (hw : word (tbl m 0) = BitVec.ofNat 32 k) (hk : k < 2) (t : Fin (cfgM m hO).N) :
    Holds (m := 1284) (n := 256) (φ := .f32) (k0_pay1 (F := Ideal) (grid0.coords t) (word (tbl m 0)) (iblk m hO c 1 t) (iblk m hO c 2 t)) (shift 0 (t.val * 256) (grad k m c)) := by
  have d := coords t
  refine (Holds.chosen hw (congrArg (BitVec.ofNat 32) d.1) hk (by omega) (block1 hw t) (block2 hw hk t)).congr fun r q _ hq => ?_
  have e : (t.val * 256 + q) / 1024 = t.val / 4 := by omega
  have f : (t.val * 256 + q) % 1024 = t.val % 4 * 256 + q := by omega
  unfold shift grad columns
  rw [e, f]

theorem outs (t : Fin (cfgM m hO).N) : outsAt0 m hO c t
    = (k0_pay1 (F := Ideal) (grid0.coords t) (word (tbl m 0)) (iblk m hO c 1 t) (iblk m hO c 2 t),
      k0_pay4 (F := Ideal) (grid0.coords t) (word (tbl m 0)) (iblk m hO c 1 t) (iblk m hO c 2 t) (iblk m hO c 0 t) (iblk m hO c 3 t) (iblk m hO c 4 t),
      k0_pay2 (F := Ideal) (grid0.coords t) (word (tbl m 0)) (iblk m hO c 1 t) (iblk m hO c 2 t) (iblk m hO c 3 t),
      k0_pay3 (F := Ideal) (grid0.coords t) (word (tbl m 0)) (iblk m hO c 1 t) (iblk m hO c 2 t) (iblk m hO c 4 t)) := by
  unfold outsAt0
  exact congrArg₂ Prod.mk (grad_eq ..) (congrArg₂ Prod.mk (step_eq ..) (congrArg₂ Prod.mk (first_eq ..) (second_eq ..)))

/-- What a grid point leaves in the blocks of the four results. -/
theorem point (hw : word (tbl m 0) = BitVec.ofNat 32 k) (hk : k < 2) (t : Fin (cfgM m hO).N) :
    Holds (m := 1284) (n := 256) (φ := .f32) (outsAt0 m hO c t).1 (shift 0 (t.val * 256) (grad k m c))
    ∧ Holds (m := 1284) (n := 256) (φ := .f32) (outsAt0 m hO c t).2.1 (shift 0 (t.val * 256) (delta k m c))
    ∧ Holds (m := 1284) (n := 256) (φ := .f32) (outsAt0 m hO c t).2.2.1 (shift 0 (t.val * 256) (first k m c))
    ∧ Holds (m := 1284) (n := 256) (φ := .f32) (outsAt0 m hO c t).2.2.2 (shift 0 (t.val * 256) (second k m c)) := by
  have g := gradient (hO := hO) (c := c) hw hk t
  have w := block0 (m := m) (hO := hO) (c := c) t
  have u := block3 (m := m) (hO := hO) (c := c) t
  have v := block4 (m := m) (hO := hO) (c := c) t
  rw [outs]
  exact ⟨g, Holds.step w g u v fun _ => rfl, Holds.first g u fun _ => rfl, Holds.second g v fun _ => rfl⟩

/-! ## The four results -/

section Results

variable (hw : word (tbl m 0) = BitVec.ofNat 32 k) (hk : k < 2)

/-- The grid point and the entry of its block that an entry of a result is. -/
theorem covered (i : S1284x2048.Idx) : ∃ (t : Fin (cfgM m hO).N) (y : S1284x256.Idx), (((cfgM m hO).win 0).rect t).emb y = i := by
  have b0 : (i 0).val < 1284 := (i 0).isLt
  have b1 : (i 1).val < 2048 := (i 1).isLt
  let t : Fin (cfgM m hO).N := ⟨(i 1).val / 256, lt_of_lt_of_eq (b := 8) (by omega) N_0.symm⟩
  let y : S1284x256.Idx := ValueIdx.ix2 (⟨(i 0).val, b0⟩ : Fin 1284) (⟨(i 1).val % 256, by omega⟩ : Fin 256)
  have e1 : (i 1).val / 256 * 256 + (i 1).val % 256 = (i 1).val := Nat.div_add_mod' _ _
  exact ⟨t, y, Shape.idx_ext₂ ((row_of t y).trans (Nat.zero_add _)) ((column_of t y).trans e1)⟩

include hw hk

theorem kernel_grad : (dats m hO 0 c).arrAt 5 (cfgM m hO).N = fun i : S1284x2048.Idx => grad k m c (i 0).val (i 1).val := by
  refine (dats m hO 0 c).arrAt_eq_of_cover 5 _ (fun t _ => funext fun y => ?_) fun i => ?_
  · exact (congrFun (congrArg (((cfgM m hO).win 5).cut (grid0.coords t)) (after0_5 m hO c t)) y).trans
      (((point hw hk t).1 y).trans (congrArg₂ (grad k m c) (row_of t y).symm (column_of t y).symm))
  · obtain ⟨t, y, e⟩ := covered (hO := hO) i
    exact ⟨t, flush0_5 _ t, Finset.mem_map.mpr ⟨y, Finset.mem_univ _, e⟩⟩

theorem kernel_delta : (dats m hO 0 c).arrAt 6 (cfgM m hO).N = fun i : S1284x2048.Idx => delta k m c (i 0).val (i 1).val := by
  refine (dats m hO 0 c).arrAt_eq_of_cover 6 _ (fun t _ => funext fun y => ?_) fun i => ?_
  · exact (congrFun (congrArg (((cfgM m hO).win 6).cut (grid0.coords t)) (after0_6 m hO c t)) y).trans
      (((point hw hk t).2.1 y).trans (congrArg₂ (delta k m c) (row_of t y).symm (column_of t y).symm))
  · obtain ⟨t, y, e⟩ := covered (hO := hO) i
    exact ⟨t, flush0_6 _ t, Finset.mem_map.mpr ⟨y, Finset.mem_univ _, e⟩⟩

theorem kernel_first : (dats m hO 0 c).arrAt 7 (cfgM m hO).N = fun i : S1284x2048.Idx => first k m c (i 0).val (i 1).val := by
  refine (dats m hO 0 c).arrAt_eq_of_cover 7 _ (fun t _ => funext fun y => ?_) fun i => ?_
  · exact (congrFun (congrArg (((cfgM m hO).win 7).cut (grid0.coords t)) (after0_7 m hO c t)) y).trans
      (((point hw hk t).2.2.1 y).trans (congrArg₂ (first k m c) (row_of t y).symm (column_of t y).symm))
  · obtain ⟨t, y, e⟩ := covered (hO := hO) i
    exact ⟨t, flush0_7 _ t, Finset.mem_map.mpr ⟨y, Finset.mem_univ _, e⟩⟩

theorem kernel_second : (dats m hO 0 c).arrAt 8 (cfgM m hO).N = fun i : S1284x2048.Idx => second k m c (i 0).val (i 1).val := by
  refine (dats m hO 0 c).arrAt_eq_of_cover 8 _ (fun t _ => funext fun y => ?_) fun i => ?_
  · exact (congrFun (congrArg (((cfgM m hO).win 8).cut (grid0.coords t)) (after0_8 m hO c t)) y).trans
      (((point hw hk t).2.2.2 y).trans (congrArg₂ (second k m c) (row_of t y).symm (column_of t y).symm))
  · obtain ⟨t, y, e⟩ := covered (hO := hO) i
    exact ⟨t, flush0_8 _ t, Finset.mem_map.mpr ⟨y, Finset.mem_univ _, e⟩⟩

end Results

/-! ## The reference -/

section Reference

variable {x0 : IVec ⟨1, ![2]⟩ 32} {x1 : FVec Ideal ⟨2, ![1284, 2048]⟩ .f32} {x2 x3 : FVec Ideal ⟨2, ![1284, 1024]⟩ .f32} {x4 x5 : FVec Ideal ⟨2, ![1284, 2048]⟩ .f32}
  (hw : word x0 = BitVec.ofNat 32 k) (hk : k < 2)

include hw hk

theorem reference_grad : Holds (m := 1284) (n := 2048) (φ := .f32) (Cert.Reference15Ideal.Read.val_main_v5 (F := Ideal) x0 x2 x3) (columns 1024 k (table x2) (table x3)) :=
  order_columns (n := 1024) (N := 2048) (K := 1284) rfl _ _ hk _
    (order_bit hk (Cert.Reference15Ideal.Read.val_main_v1 (F := Ideal) x0) (fun i => (first_word x0 _ _ i _ rfl).trans hw) Cert.Reference15Ideal.Gen.facts.bcast_S_S1284x2048)

theorem reference_delta : Holds (m := 1284) (n := 2048) (φ := .f32) (Cert.Reference15Ideal.Read.val_main_v29 (F := Ideal) x0 x1 x2 x3 x4 x5)
    fun r q => step (table x1 r q) (columns 1024 k (table x2) (table x3) r q) (table x4 r q) (table x5 r q) :=
  Holds.step (table_holds x1) (reference_grad hw hk) (table_holds x4) (table_holds x5) fun _ => rfl

theorem reference_first : Holds (m := 1284) (n := 2048) (φ := .f32) (Cert.Reference15Ideal.Read.val_main_v10 (F := Ideal) x0 x2 x3 x4)
    fun r q => newFirst (columns 1024 k (table x2) (table x3) r q) (table x4 r q) :=
  Holds.first (reference_grad hw hk) (table_holds x4) fun _ => rfl

theorem reference_second : Holds (m := 1284) (n := 2048) (φ := .f32) (Cert.Reference15Ideal.Read.val_main_v16 (F := Ideal) x0 x2 x3 x5)
    fun r q => newSecond (columns 1024 k (table x2) (table x3) r q) (table x5 r q) :=
  Holds.second (reference_grad hw hk) (table_holds x5) fun _ => rfl

end Reference

/-- `Cert.algebraic_Kernel15Ideal_Reference15Ideal_pre_core15` (Defs.lean). -/
theorem algebraic : Cert.algebraic_Kernel15Ideal_Reference15Ideal_pre_core15 := by
  intro m ρ m' ρ' hpre hagree
  obtain ⟨k, hk, hw⟩ : ∃ k : ℕ, k < 2 ∧ word (tbl m 0) = BitVec.ofNat 32 k := position_of (congrFun (hpre 0) (fun a => a.elim0 : (⟨0, ![]⟩ : Shape).Idx)) _ rfl
  refine ⟨fun c i => grad k m c (i 0).val (i 1).val, fun c i => delta k m c (i 0).val (i 1).val, fun c i => first k m c (i 0).val (i 1).val,
    fun c i => second k m c (i 0).val (i 1).val, ?_, ?_⟩
  · refine (θ_run Cert.Kernel15Ideal.defs _ _).mono (fun r h c => ?_) (θ_run_and (run_main m ρ (ok m)) (unchanged m ρ (ok m)))
    exact ⟨((h.1 c).1 5).trans (kernel_grad hw hk), ((h.1 c).1 6).trans (kernel_delta hw hk), ((h.1 c).1 7).trans (kernel_first hw hk),
      ((h.1 c).1 8).trans (kernel_second hw hk), h.2 c⟩
  · refine (θ_run Cert.Reference15Ideal.defs _ _).mono (fun r h c => ?_) (Cert.Reference15Ideal.Value.run (F := Ideal) m' ρ')
    obtain ⟨h1, h2, h3, h4, kept⟩ := h c
    obtain ⟨g0, g1, g2, g3, g4, g5⟩ := hagree c
    obtain rfl : c = 0 := Subsingleton.elim _ _
    rw [g0, g2, g3] at h1
    rw [g0, g1, g2, g3, g4, g5] at h2
    rw [g0, g2, g3, g4] at h3
    rw [g0, g2, g3, g5] at h4
    exact ⟨h1.trans ((Cert.Reference15Ideal.Read.val_main_v5_eq _ _ _).trans (funext (reference_grad hw hk))),
      h2.trans ((Cert.Reference15Ideal.Read.val_main_v29_eq _ _ _ _ _ _).trans (funext (reference_delta hw hk))),
      h3.trans ((Cert.Reference15Ideal.Read.val_main_v10_eq _ _ _ _).trans (funext (reference_first hw hk))),
      h4.trans ((Cert.Reference15Ideal.Read.val_main_v16_eq _ _ _ _).trans (funext (reference_second hw hk))), kept⟩

/-- The reference leaves its arguments, and it declares no semaphore. -/
theorem reference_frame : Cert.quiescent_Reference15Ideal := fun m ρ _ =>
  (θ_run Cert.Reference15Ideal.defs _ _).mono (fun r h => ⟨fun c => (h c).2.2.2.2, Idealize.ShloMosaic.sem_eq_zero_of_no_sems (by decide) r.2⟩)
    (Cert.Reference15Ideal.Value.run (F := Ideal) m ρ)

end InUpdate

end
-- ==== Proof.NormRows.lean ====
module

public import proofs.«01_k».proof.Proof.Products

@[expose] public section

/-!
# One row of the root-mean-square normalisation's backward pass

The kernel takes a row's gradient in closed form, `ρ · (w − x̂ · mean (w · x̂))` with `x̂ = x · ρ`, where the reference's
derivative sends it back through the square root, the mean and the square. Both are over the extended reals and need no
finite row: a row of infinite square sum has `ρ = 0`, and both sides are then zero; any other row has finite entries `x`,
and its `ρ` is a positive real number, which distributes over sums.
-/

noncomputable section

namespace NormRows

open Idealize.ShloMosaic
open scoped BigOperators

/-- The constants of the row, as the programs print them. -/
def width : EReal := Ideal.ofBits .f32 0x45000000#32
def eps : EReal := Ideal.ofBits .f32 0x358637BD#32
def negHalf : EReal := Ideal.ofBits .f32 0xBF000000#32

/-- The mean square plus the small constant, and one over its root. -/
def square (x : ℕ → EReal) : EReal := Ideal.div (∑ q ∈ Finset.range 2048, x q * x q) width + eps
def root (x : ℕ → EReal) : EReal := Ideal.rsqrt (square x)

/-- The kernel's form of a row's gradient. -/
def closed (x w : ℕ → EReal) (c : ℕ) : EReal :=
  root x * (w c - (x c * root x) * Ideal.div (∑ q ∈ Finset.range 2048, w q * (x q * root x)) width)

/-- The reference's derivative with respect to the row's square. -/
def pull (x w : ℕ → EReal) : EReal :=
  Ideal.div ((∑ q ∈ Finset.range 2048, x q * w q) * (negHalf * Ideal.div (root x) (square x))) width

theorem width_is : width = ((2048 : ℝ) : EReal) := by
  unfold width
  simp [Ideal.ofBits, Ideal.ieee]
  rw [← EReal.coe_mul]; norm_num

theorem negHalf_is : negHalf = ((-(1 / 2) : ℝ) : EReal) := by
  unfold negHalf
  simp [Ideal.ofBits, Ideal.ieee]
  norm_num
  rw [← EReal.coe_mul]; norm_num

theorem eps_is : ∃ e : ℝ, 0 < e ∧ eps = (e : EReal) := by
  unfold eps
  refine ⟨8796093 * (2 ^ 43)⁻¹, by positivity, ?_⟩
  simp [Ideal.ofBits, Ideal.ieee]

theorem div_width (y : EReal) : Ideal.div y width = y * ((2048⁻¹ : ℝ) : EReal) := by
  rw [width_is, Ideal.div, if_neg (by norm_num), ← EReal.coe_inv]

theorem square_nonneg (a : EReal) : 0 ≤ a * a := by
  rcases le_total 0 a with h | h
  · exact mul_nonneg h h
  · have e : a * a = -a * -a := by rw [neg_mul, mul_neg, neg_neg]
    rw [e]
    have : 0 ≤ -a := EReal.neg_nonneg.2 h
    exact mul_nonneg this this

theorem double (u : EReal) : u + u = ((2 : ℝ) : EReal) * u := by
  induction u with
  | bot => rw [EReal.coe_mul_bot_of_pos (by norm_num)]; rfl
  | top => rw [EReal.coe_mul_top_of_pos (by norm_num)]; rfl
  | coe r => rw [← EReal.coe_mul, ← EReal.coe_add, two_mul]

/-- A nonnegative real factor out of a sum. -/
theorem sum_scaled {r : ℝ} (h : 0 ≤ r) (n : ℕ) (f : ℕ → EReal) :
    ∑ q ∈ Finset.range n, f q * (r : EReal) = (∑ q ∈ Finset.range n, f q) * (r : EReal) := by
  induction n with
  | zero => rw [Finset.sum_range_zero, Finset.sum_range_zero, zero_mul]
  | succ n ih =>
    rw [Finset.sum_range_succ, Finset.sum_range_succ, ih,
      EReal.right_distrib_of_nonneg_of_ne_top (EReal.coe_nonneg.2 h) (EReal.coe_ne_top r)]

theorem finite_row (x w : ℕ → EReal) (c : ℕ) {a : ℝ} (ha : 0 < a) (hs : square x = (a : EReal)) :
    closed x w c = w c * root x + x c * pull x w + pull x w * x c := by
  have hr : root x = (((Real.sqrt a)⁻¹ : ℝ) : EReal) := by
    unfold root
    rw [hs]
    show (if _ < 0 then _ else if _ = 0 then _ else _) = _
    rw [if_neg (not_lt.2 ha.le), if_neg ha.ne']
  have h0 : 0 < (Real.sqrt a)⁻¹ := inv_pos.2 (Real.sqrt_pos.2 ha)
  have h2 : (Real.sqrt a)⁻¹ * (Real.sqrt a)⁻¹ = a⁻¹ := by rw [← mul_inv, Real.mul_self_sqrt ha.le]
  unfold closed pull
  rw [hs, hr, div_width, div_width, negHalf_is]
  generalize (Real.sqrt a)⁻¹ = r at h0 h2
  have e : Ideal.div (r : EReal) (a : EReal) = ((r * a⁻¹ : ℝ) : EReal) := by
    rw [Ideal.div, if_neg (by exact_mod_cast ha.ne'), ← EReal.coe_inv, ← EReal.coe_mul]
  have s : ∑ q ∈ Finset.range 2048, w q * (x q * (r : EReal)) = (∑ q ∈ Finset.range 2048, x q * w q) * (r : EReal) := by
    rw [← sum_scaled h0.le]
    exact Finset.sum_congr rfl fun q _ => by rw [← mul_assoc, mul_comm (w q)]
  rw [e, s]
  generalize (∑ q ∈ Finset.range 2048, x q * w q) = T
  rw [sub_eq_add_neg, EReal.left_distrib_of_nonneg_of_ne_top (EReal.coe_nonneg.2 h0.le) (EReal.coe_ne_top r), add_assoc,
    mul_comm (r : EReal) (w c)]
  refine congrArg (w c * (r : EReal) + ·) ?_
  rw [mul_comm (T * _ * _) (x c), double, ← neg_mul, ← neg_mul]
  have l : (r : EReal) * (-x c * (r : EReal) * (T * (r : EReal) * ((2048⁻¹ : ℝ) : EReal))) = -(x c * T * ((r * r * r * 2048⁻¹ : ℝ) : EReal)) := by
    rw [EReal.coe_mul, EReal.coe_mul, EReal.coe_mul]
    simp only [neg_mul, mul_neg]
    exact congrArg Neg.neg (by ac_rfl)
  have k : ((2 : ℝ) : EReal) * (x c * (T * (((-(1 / 2) : ℝ) : EReal) * ((r * a⁻¹ : ℝ) : EReal)) * ((2048⁻¹ : ℝ) : EReal)))
      = x c * T * ((2 * (-(1 / 2) * (r * a⁻¹)) * 2048⁻¹ : ℝ) : EReal) := by
    rw [EReal.coe_mul (2 * _), EReal.coe_mul 2, EReal.coe_mul (-(1 / 2))]
    ac_rfl
  rw [l, k, ← mul_neg, ← EReal.coe_neg]
  refine congrArg (fun z : ℝ => x c * T * (z : EReal)) ?_
  rw [h2]
  ring

/-- The two forms agree, whatever the row. -/
theorem row_grad (x w : ℕ → EReal) (c : ℕ) : closed x w c = w c * root x + x c * pull x w + pull x w * x c := by
  obtain ⟨e, he, hE⟩ := eps_is
  have hn : 0 ≤ ∑ q ∈ Finset.range 2048, x q * x q := Finset.sum_nonneg fun q _ => square_nonneg _
  have hq : square x = (∑ q ∈ Finset.range 2048, x q * x q) * ((2048⁻¹ : ℝ) : EReal) + (e : EReal) := by
    unfold square
    rw [div_width, hE]
  generalize (∑ q ∈ Finset.range 2048, x q * x q) = S at hn hq
  induction S with
  | bot => exact absurd hn (by simp)
  | coe s =>
    have hs : 0 ≤ s := EReal.coe_nonneg.1 hn
    rw [← EReal.coe_mul, ← EReal.coe_add] at hq
    exact finite_row x w c (by positivity) hq
  | top =>
    rw [EReal.top_mul_coe_of_pos (by norm_num), EReal.top_add_coe] at hq
    have hr : root x = 0 := by unfold root; rw [hq]; rfl
    have hp : pull x w = 0 := by
      unfold pull
      rw [hr, hq, div_width, Ideal.div, if_neg (by simp), zero_mul, mul_zero, mul_zero, zero_mul]
    unfold closed
    rw [hr, hp]
    simp only [zero_mul, mul_zero, add_zero]

/-! ## Blocks of rows -/

open Idealize.ShloMosaic.ValueIdx Products

variable {m n : ℕ} {φ : FTy}

theorem holds_mulf {x y : FVec Ideal ⟨2, ![m, n]⟩ φ} {f g : ℕ → ℕ → EReal} (hx : Holds x f) (hy : Holds y g) :
    Holds (mulf x y) fun r c => f r c * g r c := fun i => by
  show x i * y i = _
  rw [hx i, hy i]

theorem holds_subf {x y : FVec Ideal ⟨2, ![m, n]⟩ φ} {f g : ℕ → ℕ → EReal} (hx : Holds x f) (hy : Holds y g) :
    Holds (subf x y) fun r c => f r c - g r c := fun i => by
  show x i - y i = _
  rw [hx i, hy i]

theorem holds_divf {x y : FVec Ideal ⟨2, ![m, n]⟩ φ} {f g : ℕ → ℕ → EReal} (hx : Holds x f) (hy : Holds y g) :
    Holds (divf x y) fun r c => Ideal.div (f r c) (g r c) := fun i => by
  show Ideal.div (x i) (y i) = _
  rw [hx i, hy i]

theorem holds_rsqrt {x : FVec Ideal ⟨2, ![m, n]⟩ φ} {f : ℕ → ℕ → EReal} (hx : Holds x f) :
    Holds (rsqrt x) fun r c => Ideal.rsqrt (f r c) := fun i => by
  show Ideal.rsqrt (x i) = _
  rw [hx i]

theorem holds_width : Holds (broadcast ⟨2, ![m, n]⟩ (Scalar.ofBits (F := Ideal) .f32 0x45000000#32)) fun _ _ => width := fun _ => rfl

theorem holds_eps : Holds (broadcast ⟨2, ![m, n]⟩ (Scalar.ofBits (F := Ideal) .f32 0x358637BD#32)) fun _ _ => eps := fun _ => rfl

/-- A column spread over the columns of a block. -/
theorem holds_spreadCol {x : FVec Ideal ⟨2, ![m, 1]⟩ φ} {f : ℕ → ℕ → EReal} (h : (⟨2, ![m, 1]⟩ : Shape).Broadcasts ⟨2, ![m, n]⟩)
    (hm : m ≠ 1) (hx : Holds x f) : Holds (broadcastTo ⟨2, ![m, n]⟩ x h) fun r _ => f r 0 := fun i => by
  rw [broadcastTo_apply x h i (ix2 ⟨(i 0).val, (i 0).isLt⟩ 0) fun a => match a with
    | ⟨0, _⟩ => (if_neg hm).symm
    | ⟨1, _⟩ => (if_pos rfl).symm]
  exact hx _

/-- A row spread over the rows of a block. -/
theorem holds_spreadRow {x : FVec Ideal ⟨2, ![1, n]⟩ φ} {f : ℕ → ℕ → EReal} (h : (⟨2, ![1, n]⟩ : Shape).Broadcasts ⟨2, ![m, n]⟩)
    (hn : n ≠ 1) (hx : Holds x f) : Holds (broadcastTo ⟨2, ![m, n]⟩ x h) fun _ c => f 0 c := fun i => by
  rw [broadcastTo_apply x h i (ix2 0 ⟨(i 1).val, (i 1).isLt⟩) fun a => match a with
    | ⟨0, _⟩ => (if_pos rfl).symm
    | ⟨1, _⟩ => (if_neg hn).symm]
  exact hx _

/-- The sums of the rows, as a column. -/
theorem holds_rowSums {x : FVec Ideal ⟨2, ![m, n]⟩ φ} {f : ℕ → ℕ → EReal} {acc : BitVec φ.bits}
    (h : (⟨2, ![m, n]⟩ : Shape).Reduces [1] ⟨1, ![m]⟩) (hφ : FKind.Formats φ) (hacc : acc = FKind.add.neutral φ hφ)
    (h' : (⟨1, ![m]⟩ : Shape).ShapeCasts ⟨2, ![m, 1]⟩) (hx : Holds x f) :
    Holds (shapeCast ⟨2, ![m, 1]⟩ (multiReduction .add [1] ⟨1, ![m]⟩ x acc h hφ hacc) h') fun r _ => ∑ c ∈ Finset.range n, f r c := fun i => by
  rw [shapeCast_apply _ h' i (ix1 ⟨(i 0).val, (i 0).isLt⟩) (by
    have := (i 1).isLt
    have h1 : (i 1).val = 0 := by change (i 1).val < 1 at this; omega
    rw [Shape.rowMajor_val_one, Shape.rowMajor_val_two, h1]; simp; rfl), Ideal.multiReduction_add_single]
  exact Holds.term_sum fun c => hx _

/-- The sums of the columns, as a row. -/
theorem holds_colSums {x : FVec Ideal ⟨2, ![m, n]⟩ φ} {f : ℕ → ℕ → EReal} {acc : BitVec φ.bits}
    (h : (⟨2, ![m, n]⟩ : Shape).Reduces [0] ⟨1, ![n]⟩) (hφ : FKind.Formats φ) (hacc : acc = FKind.add.neutral φ hφ)
    (h' : (⟨1, ![n]⟩ : Shape).ShapeCasts ⟨2, ![1, n]⟩) (hx : Holds x f) :
    Holds (shapeCast ⟨2, ![1, n]⟩ (multiReduction .add [0] ⟨1, ![n]⟩ x acc h hφ hacc) h') fun _ c => ∑ r ∈ Finset.range m, f r c := fun i => by
  rw [shapeCast_apply _ h' i (ix1 ⟨(i 1).val, (i 1).isLt⟩) (by
    have := (i 0).isLt
    have h1 : (i 0).val = 0 := by change (i 0).val < 1 at this; omega
    rw [Shape.rowMajor_val_one, Shape.rowMajor_val_two, h1]; simp; rfl), Ideal.multiReduction_add_single]
  exact Holds.term_sum fun r => hx _

end NormRows

end
-- ==== Proof.HiddenNorm.lean ====
module

public import proofs.«01_k».proof.Defs
public import proofs.«01_k».proof.Proof.NormRows
public import proofs.«01_k».proof.Proof.Gen.Kernel16Ideal.Value
public import proofs.«01_k».proof.Proof.Gen.Reference16Ideal.Run
public import proofs.«01_k».proof.Proof.Gen.Reference16Ideal.Read

@[expose] public section

/-!
# The gradient of the mixer's input

`dh = ddt · w_dtᵀ + dproj · w_inᵀ`, then back through the root-mean-square normalisation, plus the residual's gradient.
The kernel takes 512 rows at a time and adds up `dh` in four pieces of 1280 columns each, on top of the small product.
A block's last grid point writes its rows of the result, and adds the rows' share of the weight's gradient to the second
result, which it keeps from the first grid point to the last.
-/

set_option maxRecDepth 16384

noncomputable section

namespace HiddenNorm

open Idealize.ShloMosaic Idealize.ShloMosaic.TcCoe Idealize.SL.Sem Products NormRows
open Cert.Kernel16Ideal Cert.Kernel16Ideal.Gen
open scoped BigOperators

/-! ## One grid point -/

section Point

variable (c : Dev nD) (i : grid0.Coords) (arg2 : Memref sig .tc .vmem S512x1280 .bf16) (harg2 : arg2.IsWhole) (arg3 : Memref sig .tc .vmem S1280x2048 .bf16) (harg3 : arg3.IsWhole) (arg4 : Memref sig .tc .vmem S512x128 .bf16) (harg4 : arg4.IsWhole) (arg5 : Memref sig .tc .vmem S128x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole)
  (x0 : Vec Ideal S512x1280 .bf16) (x1 : Vec Ideal S1280x2048 .bf16) (x2 : Vec Ideal S512x128 .bf16) (x3 : Vec Ideal S128x2048 .bf16) (x4 x5 : Vec Ideal S512x2048 .f32) (x6 : Vec Ideal S1x2048 .f32)

theorem first_weight_eq (hc0 : cond0_0 i) (hc1 : cond0_1 i) (hc2 : ¬cond0_2 i) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 = k0_pay1 (F := Ideal) := by
  unfold out0_A_8 kernelRun0_A
  dsimp only
  rw [View.read_writes_junk_eq_canon]
  simp only [View.canon_cons_unit_zero (S := S1x2048) zeros2]

theorem first_acc_eq (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 = k0_pay3 (k0_pay2 x2 x3) x0 x1 := by
  unfold sout0_A_0 kernelRun0_A
  dsimp only
  rw [View.read_writes_junk_eq_canon]
  simp only [kernelRun0_A.sl.v8, kernelRun0_A.sl.HS0_1, View.canon_cons_unit_zero (S := S512x2048) zeros2, reread (S := S512x2048) _ zeros2, read_whole (S := S512x1280) _ _ zeros2, read_whole (S := S1280x2048) _ _ zeros2, read_whole (S := S512x128) _ _ zeros2, read_whole (S := S128x2048) _ _ zeros2]

theorem new_acc_eq (hc0 : ¬cond0_0 i) (hc1 : cond0_1 i) (hc2 : ¬cond0_2 i) :
    sout0_D_0 c i arg2 harg2 arg3 harg3 arg4 harg4 arg5 harg5 arg6 harg6 arg7 harg7 arg8 harg8 arg9 harg9 arg10 harg10 arg11 harg11 hc0 hc1 hc2 x0 x1 x2 x3 x4 x5 x6 = k0_pay3 (k0_pay2 x2 x3) x0 x1 := by
  unfold sout0_D_0 kernelRun0_D
  dsimp only
  rw [View.read_writes_junk_eq_canon]
  simp only [kernelRun0_D.sl.v8, kernelRun0_D.sl.HS0_1, View.canon_cons_unit_zero (S := S512x2048) zeros2, reread (S := S512x2048) _ zeros2, read_whole (S := S512x1280) _ _ zeros2, read_whole (S := S1280x2048) _ _ zeros2, read_whole (S := S512x128) _ _ zeros2, read_whole (S := S128x2048) _ _ zeros2]

theorem next_acc_eq (hc0 : ¬cond0_0 i) (hc1 : ¬cond0_1 i) (hc2 : ¬cond0_2 i) (xs : Vec Ideal S512x2048 .f32) :
    sout0_B_0 c i arg2 harg2 arg3 harg3 arg4 harg4 arg5 harg5 arg6 harg6 arg7 harg7 arg8 harg8 arg9 harg9 arg10 harg10 arg11 harg11 hc0 hc1 hc2 x0 x1 x2 x3 x4 x5 x6 xs = k0_pay3 xs x0 x1 := by
  unfold sout0_B_0 kernelRun0_B
  dsimp only
  rw [View.read_writes_junk_eq_canon]
  simp only [View.canon_cons_unit_zero (S := S512x2048) zeros2, read_whole (S := S512x2048) _ _ zeros2, read_whole (S := S512x1280) _ _ zeros2, read_whole (S := S1280x2048) _ _ zeros2]

theorem last_acc_eq (hc0 : ¬cond0_0 i) (hc1 : ¬cond0_1 i) (hc2 : cond0_2 i) (xo : Vec Ideal S1x2048 .f32) (xs : Vec Ideal S512x2048 .f32) :
    sout0_C_0 c i arg2 harg2 arg3 harg3 arg4 harg4 arg5 harg5 arg6 harg6 arg7 harg7 arg8 harg8 arg9 harg9 arg10 harg10 arg11 harg11 hc0 hc1 hc2 x0 x1 x2 x3 x4 x5 x6 xo xs = k0_pay3 xs x0 x1 := by
  unfold sout0_C_0 kernelRun0_C
  dsimp only
  rw [View.read_writes_junk_eq_canon]
  simp only [kernelRun0_C.sl.HS0_1, View.canon_cons_unit_zero (S := S512x2048) zeros2, read_whole (S := S512x2048) _ _ zeros2, read_whole (S := S512x1280) _ _ zeros2, read_whole (S := S1280x2048) _ _ zeros2]

theorem last_rows_eq (hc0 : ¬cond0_0 i) (hc1 : ¬cond0_1 i) (hc2 : cond0_2 i) (xo : Vec Ideal S1x2048 .f32) (xs : Vec Ideal S512x2048 .f32) :
    out0_C_7 c i arg2 harg2 arg3 harg3 arg4 harg4 arg5 harg5 arg6 harg6 arg7 harg7 arg8 harg8 arg9 harg9 arg10 harg10 arg11 harg11 hc0 hc1 hc2 x0 x1 x2 x3 x4 x5 x6 xo xs = k0_pay6 (k0_pay3 xs x0 x1) x4 x5 x6 := by
  unfold out0_C_7 kernelRun0_C
  dsimp only
  rw [View.read_writes_junk_eq_canon]
  simp only [kernelRun0_C.sl.v19, kernelRun0_C.sl.HS0_1, View.canon_cons_unit_zero (S := S512x2048) zeros2, reread (S := S512x2048) _ zeros2, read_whole (S := S512x2048) _ _ zeros2, read_whole (S := S512x1280) _ _ zeros2, read_whole (S := S1280x2048) _ _ zeros2, read_whole (S := S1x2048) _ _ zeros2]

theorem last_weight_eq (hc0 : ¬cond0_0 i) (hc1 : ¬cond0_1 i) (hc2 : cond0_2 i) (xo : Vec Ideal S1x2048 .f32) (xs : Vec Ideal S512x2048 .f32) :
    out0_C_8 c i arg2 harg2 arg3 harg3 arg4 harg4 arg5 harg5 arg6 harg6 arg7 harg7 arg8 harg8 arg9 harg9 arg10 harg10 arg11 harg11 hc0 hc1 hc2 x0 x1 x2 x3 x4 x5 x6 xo xs = k0_pay7 (k0_pay3 xs x0 x1) x4 xo := by
  unfold out0_C_8 kernelRun0_C
  dsimp only
  rw [View.read_writes_junk_eq_canon]
  simp only [kernelRun0_C.sl.v19, kernelRun0_C.sl.HS0_1, View.canon_cons_unit_zero (S := S1x2048) zeros2, reread (S := S512x2048) _ zeros2, read_whole (S := S512x2048) _ _ zeros2, read_whole (S := S512x1280) _ _ zeros2, read_whole (S := S1280x2048) _ _ zeros2, read_whole (S := S1x2048) _ _ zeros2]

end Point

variable {f a b p x : ℕ → ℕ → EReal}

theorem small_holds {v : FVec Ideal S512x128 .bf16} {w : FVec Ideal S128x2048 .bf16} (hv : Holds v a) (hw : Holds w b) :
    Holds (k0_pay2 (F := Ideal) v w) (prod 128 a b) :=
  Holds.cast (Holds.dot dot_S512x128_S128x2048_S512x2048_1_0_0_1_n_n rfl hv hw)

theorem step_holds {acc : FVec Ideal S512x2048 .f32} {v : FVec Ideal S512x1280 .bf16} {w : FVec Ideal S1280x2048 .bf16} (hacc : Holds acc f) (hv : Holds v a) (hw : Holds w b) :
    Holds (k0_pay3 (F := Ideal) acc v w) fun r q => f r q + prod 1280 a b r q :=
  Holds.cast (Holds.add hacc (Holds.dot dot_S512x1280_S1280x2048_S512x2048_1_0_0_1_n_n rfl hv hw))

theorem zero_holds : Holds (k0_pay1 (F := Ideal)) fun _ _ => 0 := Holds.zeros

theorem root_holds {v : FVec Ideal S512x2048 .f32} (hv : Holds v x) : Holds (k0_pay4 (F := Ideal) v) fun r _ => root (x r) :=
  holds_rsqrt (Holds.add (holds_divf (holds_rowSums reduces_S512x2048_S512 (.inl rfl) rfl shapeCasts_S512_S512x1 (holds_mulf hv hv)) holds_width) holds_eps)

theorem hat_holds {v : FVec Ideal S512x2048 .f32} (hv : Holds v x) : Holds (k0_pay5 (F := Ideal) v) fun r q => x r q * root (x r) :=
  holds_mulf hv (holds_spreadCol (n := 2048) broadcasts_S512x1_S512x2048 (by norm_num) (root_holds hv))

theorem rows_holds {h v d : FVec Ideal S512x2048 .f32} {g : FVec Ideal S1x2048 .f32} (hh : Holds h f) (hv : Holds v x) (hd : Holds d a) (hg : Holds g b) :
    Holds (k0_pay6 (F := Ideal) h v d g) fun r q => closed (x r) (fun s => f r s * b 0 s) q + a r q := by
  have hw := holds_mulf hh (holds_spreadRow (m := 512) broadcasts_S1x2048_S512x2048 (by norm_num) hg)
  have hx := hat_holds hv
  have hm := holds_spreadCol (n := 2048) broadcasts_S512x1_S512x2048 (by norm_num)
    (holds_divf (holds_rowSums reduces_S512x2048_S512 (.inl rfl) rfl shapeCasts_S512_S512x1 (holds_mulf hw hx)) holds_width)
  exact Holds.add (holds_mulf (holds_spreadCol (n := 2048) broadcasts_S512x1_S512x2048 (by norm_num) (root_holds hv))
    (holds_subf hw (holds_mulf hx hm))) hd

theorem weight_holds {h v : FVec Ideal S512x2048 .f32} {g : FVec Ideal S1x2048 .f32} (hh : Holds h f) (hv : Holds v x) (hg : Holds g b) :
    Holds (k0_pay7 (F := Ideal) h v g) fun r q => b r q + ∑ s ∈ Finset.range 512, f s q * (x s q * root (x s)) :=
  Holds.add (Holds.cast hg) (holds_colSums reduces_S512x2048_S2048 (.inl rfl) rfl shapeCasts_S2048_S1x2048 (holds_mulf hh (hat_holds hv)))

/-! ## The grid -/

variable {m : (ℓ : Loc nD τ sig) → Buf (Elt Ideal) ℓ} {c : Dev nD}

theorem index0 : ∀ t : Fin cfg0.N, win0_0.index t = ![t.val / 4, t.val % 4] :=
  (by decide +kernel : ∀ t : Fin grid0.N, win0_0.index t = ![t.val / 4, t.val % 4])
theorem index1 : ∀ t : Fin cfg0.N, win0_1.index t = ![t.val % 4, 0] :=
  (by decide +kernel : ∀ t : Fin grid0.N, win0_1.index t = ![t.val % 4, 0])
theorem index2 : ∀ t : Fin cfg0.N, win0_2.index t = ![t.val / 4, 0] :=
  (by decide +kernel : ∀ t : Fin grid0.N, win0_2.index t = ![t.val / 4, 0])
theorem index3 : ∀ t : Fin cfg0.N, win0_3.index t = ![0, 0] :=
  (by decide +kernel : ∀ t : Fin grid0.N, win0_3.index t = ![0, 0])
theorem index4 : ∀ t : Fin cfg0.N, win0_4.index t = ![t.val / 4, 0] :=
  (by decide +kernel : ∀ t : Fin grid0.N, win0_4.index t = ![t.val / 4, 0])
theorem index5 : ∀ t : Fin cfg0.N, win0_5.index t = ![t.val / 4, 0] :=
  (by decide +kernel : ∀ t : Fin grid0.N, win0_5.index t = ![t.val / 4, 0])
theorem index6 : ∀ t : Fin cfg0.N, win0_6.index t = ![0, 0] :=
  (by decide +kernel : ∀ t : Fin grid0.N, win0_6.index t = ![0, 0])
theorem index7 : ∀ t : Fin cfg0.N, win0_7.index t = ![t.val / 4, 0] :=
  (by decide +kernel : ∀ t : Fin grid0.N, win0_7.index t = ![t.val / 4, 0])
theorem index8 : ∀ t : Fin cfg0.N, win0_8.index t = ![0, 0] :=
  (by decide +kernel : ∀ t : Fin grid0.N, win0_8.index t = ![0, 0])

/-- The arguments, as functions of natural coordinates. -/
def dproj (m : (ℓ : Loc nD τ sig) → Buf (Elt Ideal) ℓ) (c : Dev nD) : ℕ → ℕ → EReal := table (m := 4096) (n := 5120) (φ := .bf16) (m ((c : Thread nD τ).loc main_arg0))
def winT (m : (ℓ : Loc nD τ sig) → Buf (Elt Ideal) ℓ) (c : Dev nD) : ℕ → ℕ → EReal := table (m := 5136) (n := 2048) (φ := .bf16) (m ((c : Thread nD τ).loc main_arg1))
def ddt (m : (ℓ : Loc nD τ sig) → Buf (Elt Ideal) ℓ) (c : Dev nD) : ℕ → ℕ → EReal := table (m := 4096) (n := 128) (φ := .bf16) (m ((c : Thread nD τ).loc main_arg2))
def wdtT (m : (ℓ : Loc nD τ sig) → Buf (Elt Ideal) ℓ) (c : Dev nD) : ℕ → ℕ → EReal := table (m := 128) (n := 2048) (φ := .bf16) (m ((c : Thread nD τ).loc main_arg3))
def inp (m : (ℓ : Loc nD τ sig) → Buf (Elt Ideal) ℓ) (c : Dev nD) : ℕ → ℕ → EReal := table (m := 4096) (n := 2048) (φ := .f32) (m ((c : Thread nD τ).loc main_arg4))
def skip (m : (ℓ : Loc nD τ sig) → Buf (Elt Ideal) ℓ) (c : Dev nD) : ℕ → ℕ → EReal := table (m := 4096) (n := 2048) (φ := .f32) (m ((c : Thread nD τ).loc main_arg5))
def gain (m : (ℓ : Loc nD τ sig) → Buf (Elt Ideal) ℓ) (c : Dev nD) : ℕ → ℕ → EReal := table (m := 1) (n := 2048) (φ := .f32) (m ((c : Thread nD τ).loc main_arg6))

theorem block0 (t : Fin cfg0.N) : Holds (m := 512) (n := 1280) (φ := .bf16) (iblk m c 0 t) (shift (t.val / 4 * 512) (t.val % 4 * 1280) (dproj m c)) := by
  refine Holds.block (table_holds _) _ _ (fun y => (win0_0.rect t).emb y) (fun y => congrFun (V_main_arg0 m c) _) (fun y => ?_) (fun y => ?_)
  · rw [win0_0.rect_emb_val, index0]; rfl
  · rw [win0_0.rect_emb_val, index0]; rfl

theorem block1 (t : Fin cfg0.N) : Holds (m := 1280) (n := 2048) (φ := .bf16) (X0_1 m c t) (shift (t.val % 4 * 1280) 0 (winT m c)) := by
  refine Holds.block (table_holds _) _ _ (fun y => (win0_1.rect t).emb fun a => ⟨(y a).val, (win0_1.moved_iff _ y).mp (moved0_1 t y) a⟩) (fun y => ?_) (fun y => ?_) (fun y => ?_)
  · unfold X0_1 Pipeline.Window.fill
    rw [dif_pos (moved0_1 t y)]
    exact congrFun (V_main_arg1 m c) _
  · rw [win0_1.rect_emb_val, index1]; rfl
  · rw [win0_1.rect_emb_val, index1]; rfl

theorem block2 (t : Fin cfg0.N) : Holds (m := 512) (n := 128) (φ := .bf16) (iblk m c 2 t) (shift (t.val / 4 * 512) 0 (ddt m c)) := by
  refine Holds.block (table_holds _) _ _ (fun y => (win0_2.rect t).emb y) (fun y => congrFun (V_main_arg2 m c) _) (fun y => ?_) (fun y => ?_)
  · rw [win0_2.rect_emb_val, index2]; rfl
  · rw [win0_2.rect_emb_val, index2]; rfl

theorem block3 (t : Fin cfg0.N) : Holds (m := 128) (n := 2048) (φ := .bf16) (iblk m c 3 t) (shift 0 0 (wdtT m c)) := by
  refine Holds.block (table_holds _) _ _ (fun y => (win0_3.rect t).emb y) (fun y => congrFun (V_main_arg3 m c) _) (fun y => ?_) (fun y => ?_)
  · rw [win0_3.rect_emb_val, index3]; rfl
  · rw [win0_3.rect_emb_val, index3]; rfl

theorem block4 (t : Fin cfg0.N) : Holds (m := 512) (n := 2048) (φ := .f32) (iblk m c 4 t) (fun r => inp m c (t.val / 4 * 512 + r)) := by
  refine (Holds.block (table_holds _) (t.val / 4 * 512) 0 (fun y => (win0_4.rect t).emb y) (fun y => congrFun (V_main_arg4 m c) _) (fun y => ?_) (fun y => ?_)).congr fun r q _ _ => ?_
  · rw [win0_4.rect_emb_val, index4]; rfl
  · rw [win0_4.rect_emb_val, index4]; rfl
  · show inp m c _ (0 + q) = _
    rw [Nat.zero_add]

theorem block5 (t : Fin cfg0.N) : Holds (m := 512) (n := 2048) (φ := .f32) (iblk m c 5 t) (fun r => skip m c (t.val / 4 * 512 + r)) := by
  refine (Holds.block (table_holds _) (t.val / 4 * 512) 0 (fun y => (win0_5.rect t).emb y) (fun y => congrFun (V_main_arg5 m c) _) (fun y => ?_) (fun y => ?_)).congr fun r q _ _ => ?_
  · rw [win0_5.rect_emb_val, index5]; rfl
  · rw [win0_5.rect_emb_val, index5]; rfl
  · show skip m c _ (0 + q) = _
    rw [Nat.zero_add]

theorem block6 (t : Fin cfg0.N) : Holds (m := 1) (n := 2048) (φ := .f32) (iblk m c 6 t) (gain m c) := by
  refine (Holds.block (table_holds _) 0 0 (fun y => (win0_6.rect t).emb y) (fun y => congrFun (V_main_arg6 m c) _) (fun y => ?_) (fun y => ?_)).congr fun r q _ _ => ?_
  · rw [win0_6.rect_emb_val, index6]; rfl
  · rw [win0_6.rect_emb_val, index6]; rfl
  · show gain m c (0 + r) (0 + q) = _
    rw [Nat.zero_add, Nat.zero_add]

/-- What is added up of `dh` in the rows of grid point `t`, over the first `k` columns. -/
def part (o k : ℕ) (m : (ℓ : Loc nD τ sig) → Buf (Elt Ideal) ℓ) (c : Dev nD) (r q : ℕ) : EReal :=
  prod 128 (shift o 0 (ddt m c)) (shift 0 0 (wdtT m c)) r q + prod k (shift o 0 (dproj m c)) (shift 0 0 (winT m c)) r q

def dh (m : (ℓ : Loc nD τ sig) → Buf (Elt Ideal) ℓ) (c : Dev nD) (r q : ℕ) : EReal :=
  prod 128 (ddt m c) (wdtT m c) r q + prod 5120 (dproj m c) (winT m c) r q

theorem part_all (o r q : ℕ) : part o 5120 m c r q = dh m c (o + r) q := by
  unfold part dh prod shift
  simp only [Nat.zero_add]

theorem part_step (o k k' r q : ℕ) (h : k + 1280 = k') :
    part o k m c r q + prod 1280 (shift o k (dproj m c)) (shift k 0 (winT m c)) r q = part o k' m c r q := by
  subst h
  unfold part
  rw [add_assoc, partial_step]

/-- An entry of the weight's gradient, of one row. -/
def term (m : (ℓ : Loc nD τ sig) → Buf (Elt Ideal) ℓ) (c : Dev nD) (r q : ℕ) : EReal := dh m c r q * (inp m c r q * root (inp m c r))

/-- An entry of the first result. -/
def entry (m : (ℓ : Loc nD τ sig) → Buf (Elt Ideal) ℓ) (c : Dev nD) (r q : ℕ) : EReal :=
  closed (inp m c r) (fun s => dh m c r s * gain m c 0 s) q + skip m c r q

theorem acc_new (t : Fin cfg0.N) (h : t.val % 4 = 0) :
    Holds (m := 512) (n := 2048) (φ := .f32) (k0_pay3 (F := Ideal) (k0_pay2 (iblk m c 2 t) (iblk m c 3 t)) (iblk m c 0 t) (X0_1 m c t)) (part (t.val / 4 * 512) ((t.val % 4 + 1) * 1280) m c) := by
  have b0 := block0 (m := m) (c := c) t
  have b1 := block1 (m := m) (c := c) t
  rw [h] at b0 b1 ⊢
  exact step_holds (small_holds (block2 t) (block3 t)) b0 b1

theorem acc_next (t : Fin cfg0.N) {xs : FVec Ideal S512x2048 .f32} (h : Holds xs (part (t.val / 4 * 512) (t.val % 4 * 1280) m c)) :
    Holds (m := 512) (n := 2048) (φ := .f32) (k0_pay3 (F := Ideal) xs (iblk m c 0 t) (X0_1 m c t)) (part (t.val / 4 * 512) ((t.val % 4 + 1) * 1280) m c) :=
  (step_holds h (block0 t) (block1 t)).congr fun r q _ _ => part_step _ _ _ r q (by omega)

/-- What the two kept buffers hold after grid point `t`. -/
def Kept (m : (ℓ : Loc nD τ sig) → Buf (Elt Ideal) ℓ) (c : Dev nD) (n : ℕ) (g : FVec Ideal S1x2048 .f32) (s : FVec Ideal S512x2048 .f32) : Prop :=
  Holds g (fun _ q => ∑ r ∈ Finset.range ((n + 1) / 4 * 512), term m c r q) ∧ Holds s (part (n / 4 * 512) ((n % 4 + 1) * 1280) m c)

theorem last_weight (t : Fin cfg0.N) (h : t.val % 4 = 3) {g : FVec Ideal S1x2048 .f32} {s : FVec Ideal S512x2048 .f32}
    (hg : Holds g fun _ q => ∑ r ∈ Finset.range (t.val / 4 * 512), term m c r q) (hs : Holds s (fun r => dh m c (t.val / 4 * 512 + r))) :
    Holds (m := 1) (n := 2048) (φ := .f32) (k0_pay7 (F := Ideal) s (iblk m c 4 t) g) fun _ q => ∑ r ∈ Finset.range ((t.val + 1) / 4 * 512), term m c r q :=
  (weight_holds hs (block4 t) hg).congr fun r q _ _ => by
    rw [show (t.val + 1) / 4 * 512 = t.val / 4 * 512 + 512 by omega, Finset.sum_range_add]
    rfl

theorem last_rows (t : Fin cfg0.N) {s : FVec Ideal S512x2048 .f32} (hs : Holds s (fun r => dh m c (t.val / 4 * 512 + r))) :
    Holds (m := 512) (n := 2048) (φ := .f32) (k0_pay6 (F := Ideal) s (iblk m c 4 t) (iblk m c 5 t) (iblk m c 6 t)) fun r => entry m c (t.val / 4 * 512 + r) :=
  rows_holds hs (block4 t) (block5 t) (block6 t)

theorem acc_all (t : Fin cfg0.N) (h : t.val % 4 = 3) {xs : FVec Ideal S512x2048 .f32} (hx : Holds xs (part (t.val / 4 * 512) (t.val % 4 * 1280) m c)) :
    Holds (m := 512) (n := 2048) (φ := .f32) (k0_pay3 (F := Ideal) xs (iblk m c 0 t) (X0_1 m c t)) (fun r => dh m c (t.val / 4 * 512 + r)) :=
  (acc_next t hx).congr fun r q _ _ => by rw [h]; exact part_all _ r q

theorem kept_before (t : Fin cfg0.N) (h : ¬t.val % 4 = 0) {g : FVec Ideal S1x2048 .f32} {s : FVec Ideal S512x2048 .f32} (k : Kept m c (t.val - 1) g s) :
    Holds g (fun _ q => ∑ r ∈ Finset.range (t.val / 4 * 512), term m c r q) ∧ Holds s (part (t.val / 4 * 512) (t.val % 4 * 1280) m c) := by
  unfold Kept at k
  rwa [show (t.val - 1 + 1) / 4 = t.val / 4 by omega, show (t.val - 1) / 4 = t.val / 4 by omega, show (t.val - 1) % 4 + 1 = t.val % 4 by omega] at k

theorem kept (n : ℕ) : ∀ hn : n < cfg0.N, Kept m c n (outsAt0 m c n hn).2.1 (outsAt0 m c n hn).2.2 := by
  induction n with
  | zero =>
    intro hn
    have e := outsAt0_A m c ⟨0, hn⟩ (Nat.zero_mod _) (Nat.zero_mod _) (by show ¬0 % 4 = 3; omega)
    rw [first_weight_eq, first_acc_eq] at e
    rw [e]
    exact ⟨zero_holds, acc_new ⟨0, hn⟩ (Nat.zero_mod _)⟩
  | succ n ih =>
    intro hn
    have k := ih (Nat.lt_of_succ_lt hn)
    have b := lt_of_lt_of_eq hn N_0
    by_cases h1 : (n + 1) % 4 = 0
    · have h0 : ¬(n + 1) % 32 = 0 := by omega
      have e := outsAt0_D m c ⟨n + 1, hn⟩ h0 h1 (by show ¬(n + 1) % 4 = 3; omega)
      rw [new_acc_eq] at e
      rw [e]
      refine ⟨k.1.congr fun r q _ _ => ?_, acc_new ⟨n + 1, hn⟩ h1⟩
      rw [show (n + 1 + 1) / 4 = (n + 1) / 4 by omega]
    · have h0 : ¬(n + 1) % 32 = 0 := by omega
      have kb := kept_before ⟨n + 1, hn⟩ h1 k
      by_cases h2 : (n + 1) % 4 = 3
      · have e := outsAt0_C m c ⟨n + 1, hn⟩ h0 h1 h2
        rw [last_rows_eq, last_weight_eq, last_acc_eq] at e
        rw [e]
        exact ⟨last_weight ⟨n + 1, hn⟩ h2 kb.1 (acc_all ⟨n + 1, hn⟩ h2 kb.2), acc_next ⟨n + 1, hn⟩ kb.2⟩
      · have e := outsAt0_B m c ⟨n + 1, hn⟩ h0 h1 h2
        rw [next_acc_eq] at e
        rw [e]
        refine ⟨kb.1.congr fun r q _ _ => ?_, acc_next ⟨n + 1, hn⟩ kb.2⟩
        show _ = ∑ r ∈ Finset.range ((n + 1 + 1) / 4 * 512), term m c r q
        rw [show (n + 1 + 1) / 4 = (n + 1) / 4 by omega]

theorem written (t : Fin cfg0.N) (h2 : t.val % 4 = 3) :
    Holds (m := 512) (n := 2048) (φ := .f32) (outsAt0 m c t.val t.isLt).1 fun r => entry m c (t.val / 4 * 512 + r) := by
  have kb := kept_before t (by omega) (kept (m := m) (c := c) (t.val - 1) (Nat.lt_of_le_of_lt (Nat.sub_le _ _) t.isLt))
  have e := outsAt0_C m c t (by omega) (by omega) h2
  rw [last_rows_eq, last_weight_eq, last_acc_eq] at e
  rw [e]
  exact last_rows t (acc_all t h2 kb.2)

/-- The two results. -/
def result (m : (ℓ : Loc nD τ sig) → Buf (Elt Ideal) ℓ) (c : Dev nD) (i : S4096x2048.Idx) : EReal := entry m c (i 0).val (i 1).val
def weight (m : (ℓ : Loc nD τ sig) → Buf (Elt Ideal) ℓ) (c : Dev nD) (i : S1x2048.Idx) : EReal := ∑ r ∈ Finset.range 4096, term m c r (i 1).val

theorem kernel_is : (dats m 0 c).arrAt 7 cfg0.N = result m c := by
  refine (dats m 0 c).arrAt_eq_of_cover 7 (result m c) (fun t hf => funext fun y => ?_) fun i => ?_
  · refine (congrFun (Value.flushed7 m c t) y).trans ((written (m := m) (c := c) t ((flush0_7 t).mp hf) y).trans ?_)
    refine congrArg₂ (entry m c) ?_ ?_
    · show _ = ((win0_7.rect t).emb y 0).val
      rw [win0_7.rect_emb_val, index7]; rfl
    · show _ = ((win0_7.rect t).emb y 1).val
      rw [win0_7.rect_emb_val, index7]; exact (Nat.zero_add _).symm
  · have b0 : (i 0).val < 4096 := (i 0).isLt
    have b1 : (i 1).val < 2048 := (i 1).isLt
    have ht : (i 0).val / 512 * 4 + 3 < cfg0.N := lt_of_lt_of_eq (b := 32) (by omega) N_0.symm
    refine ⟨⟨(i 0).val / 512 * 4 + 3, ht⟩, (flush0_7 _).mpr (by show ((i 0).val / 512 * 4 + 3) % 4 = 3; omega),
      Finset.mem_map.mpr ⟨ValueIdx.ix2 (⟨(i 0).val % 512, by omega⟩ : Fin 512) (⟨(i 1).val, b1⟩ : Fin 2048), Finset.mem_univ _, ?_⟩⟩
    show (win0_7.rect _).emb _ = i
    refine Shape.idx_ext₂ ?_ ?_
    · rw [win0_7.rect_emb_val, index7]
      show ((i 0).val / 512 * 4 + 3) / 4 * 512 + (i 0).val % 512 = (i 0).val
      omega
    · rw [win0_7.rect_emb_val, index7]; exact Nat.zero_add _

theorem kernel_weight_is : (dats m 0 c).arrAt 8 cfg0.N = weight m c := by
  refine (dats m 0 c).arrAt_eq_of_cover 8 (weight m c) (fun t hf => funext fun y => ?_) fun i => ?_
  · refine (congrFun (Value.flushed8 m c t) y).trans (((kept (m := m) (c := c) t.val t.isLt).1 y).trans ?_)
    have b := lt_of_lt_of_eq t.isLt N_0
    have h := (flush0_8 t).mp hf
    rw [show (t.val + 1) / 4 * 512 = 4096 by omega]
    refine Finset.sum_congr rfl fun r _ => congrArg (term m c r) ?_
    show _ = ((win0_8.rect t).emb y 1).val
    rw [win0_8.rect_emb_val, index8]; exact (Nat.zero_add _).symm
  · have ht : 31 < cfg0.N := lt_of_lt_of_eq (b := 32) (by omega) N_0.symm
    refine ⟨⟨31, ht⟩, (flush0_8 _).mpr rfl, Finset.mem_map.mpr ⟨i, Finset.mem_univ _, ?_⟩⟩
    show (win0_8.rect _).emb _ = i
    refine Shape.idx_ext₂ ?_ ?_
    · rw [win0_8.rect_emb_val, index8]; exact Nat.zero_add _
    · rw [win0_8.rect_emb_val, index8]; exact Nat.zero_add _

/-! ## The reference -/

section Reference

open Cert.Reference16Ideal.Read

variable (x0 : FVec Ideal ⟨2, ![4096, 5120]⟩ .bf16) (x1 : FVec Ideal ⟨2, ![5136, 2048]⟩ .bf16) (x2 : FVec Ideal ⟨2, ![4096, 128]⟩ .bf16) (x3 : FVec Ideal ⟨2, ![128, 2048]⟩ .bf16)
  (x4 x5 : FVec Ideal ⟨2, ![4096, 2048]⟩ .f32) (x6 : FVec Ideal ⟨2, ![1, 2048]⟩ .f32)

/-- The gradient that the reference sends back through the normalisation. -/
def sent (r q : ℕ) : EReal := prod 128 (table x2) (table x3) r q + prod 5120 (table x0) (table x1) r q

theorem sent_is (i : S4096x2048.Idx) : val_main_v7 (F := Ideal) x0 x1 x2 x3 i = sent x0 x1 x2 x3 (i 0).val (i 1).val := by
  refine (val_main_v7_apply (F := Ideal) x0 x1 x2 x3 i).trans (congrArg₂ (fun x y : EReal => x + y) ?_ ?_)
  · exact (val_main_v5_apply x2 x3 i).trans (Holds.term_sum fun q => congrArg₂ (fun x y : EReal => x * y) (table_holds x2 _) (table_holds x3 _))
  · exact (val_main_v6_apply x0 x1 i).trans (Holds.term_sum fun q => congrArg₂ (fun x y : EReal => x * y) (table_holds x0 _) ((val_main_v4_apply (F := Ideal) x1 _).trans (table_holds x1 _)))

theorem zero_add_sum {k : ℕ} {F : Fin k → EReal} {g : ℕ → EReal} (h : ∀ q : Fin k, F q = g q.val) :
    Ideal.ofBits .f32 0x00000000#32 + ∑ q, F q = ∑ q ∈ Finset.range k, g q := by
  rw [Ideal.ofBits_zero_f32, zero_add]
  exact Holds.term_sum h

theorem square_is (i : (⟨2, ![4096, 1]⟩ : Shape).Idx) : val_main_v14 (F := Ideal) x4 i = square (table x4 (i 0).val) := by
  refine (val_main_v14_apply (F := Ideal) x4 i).trans (congrArg₂ (fun x y : EReal => x + y) ?_ ((val_main_v13_apply i).trans (val_main_cst_1_apply _)))
  refine (val_main_v12_apply (F := Ideal) x4 i).trans (congrArg₂ Ideal.div ?_ ((val_main_v11_apply i).trans (val_main_cst_0_apply _)))
  refine (val_main_v10_apply (F := Ideal) x4 i).trans ((val_main_v9_apply x4 _).trans (zero_add_sum fun q => ?_))
  exact (val_main_v8_apply (F := Ideal) x4 _).trans (congrArg₂ (fun x y : EReal => x * y) (table_holds x4 _) (table_holds x4 _))

theorem root_is (i : (⟨2, ![4096, 1]⟩ : Shape).Idx) : val_main_v15 (F := Ideal) x4 i = root (table x4 (i 0).val) :=
  (val_main_v15_apply (F := Ideal) x4 i).trans (congrArg Ideal.rsqrt (square_is x4 i))

theorem scaled_is (i : S4096x2048.Idx) : val_main_v27 (F := Ideal) x0 x1 x2 x3 x6 i = sent x0 x1 x2 x3 (i 0).val (i 1).val * table x6 0 (i 1).val :=
  (val_main_v27_apply (F := Ideal) x0 x1 x2 x3 x6 i).trans (congrArg₂ (fun x y : EReal => x * y) (sent_is x0 x1 x2 x3 i)
    ((val_main_v26_apply (F := Ideal) x6 i).trans (table_holds x6 _)))

theorem row (i : S4096x2048.Idx) (q : Fin 2048) : (idx_main_v29 (idx_main_v30 (idx_main_v36 (idx_main_v37 i) 0)) q 0).val = (i 0).val := by
  simp only [idx_main_v29, idx_main_v30, idx_main_v36, idx_main_v37]
  exact Nat.mul_one _

theorem pull_is (i : S4096x2048.Idx) : val_main_v37 (F := Ideal) x0 x1 x2 x3 x4 x6 i
    = pull (table x4 (i 0).val) fun s => sent x0 x1 x2 x3 (i 0).val s * table x6 0 s := by
  refine (val_main_v37_apply (F := Ideal) x0 x1 x2 x3 x4 x6 i).trans ((val_main_v36_apply x0 x1 x2 x3 x4 x6 _).trans ?_)
  rw [Fin.sum_univ_one]
  refine (congrArg (· + _) Ideal.ofBits_zero_f32).trans ((zero_add _).trans ?_)
  refine (val_main_v35_apply (F := Ideal) x0 x1 x2 x3 x4 x6 _).trans (congrArg₂ Ideal.div ?_ ((val_main_v34_apply _).trans (val_main_cst_5_apply _)))
  refine (val_main_v33_apply (F := Ideal) x0 x1 x2 x3 x4 x6 _).trans (congrArg₂ (fun x y : EReal => x * y) ?_ ?_)
  · refine (val_main_v30_apply (F := Ideal) x0 x1 x2 x3 x4 x6 _).trans ((val_main_v29_apply x0 x1 x2 x3 x4 x6 _).trans (zero_add_sum fun q => ?_))
    refine (val_main_v28_apply (F := Ideal) x0 x1 x2 x3 x4 x6 _).trans (congrArg₂ (fun x y : EReal => x * y) ?_ ?_)
    · exact (table_holds x4 _).trans (congrArg (fun r => table x4 r q.val) (row i q))
    · exact (scaled_is x0 x1 x2 x3 x6 _).trans (congrArg (fun r => sent x0 x1 x2 x3 r q.val * table x6 0 q.val) (row i q))
  · refine (val_main_v18_apply (F := Ideal) x4 _).trans (congrArg₂ (fun x y : EReal => x * y) ((val_main_v17_apply _).trans (val_main_cst_2_apply _)) ?_)
    exact (val_main_v16_apply (F := Ideal) x4 _).trans (congrArg₂ Ideal.div (root_is x4 _) (square_is x4 _))

theorem reference_is (i : S4096x2048.Idx) : val_main_v42 (F := Ideal) x0 x1 x2 x3 x4 x5 x6 i
    = closed (table x4 (i 0).val) (fun s => sent x0 x1 x2 x3 (i 0).val s * table x6 0 s) (i 1).val + table x5 (i 0).val (i 1).val := by
  refine (val_main_v42_apply (F := Ideal) x0 x1 x2 x3 x4 x5 x6 i).trans (congrArg₂ (fun x y : EReal => x + y) ?_ (table_holds x5 i))
  rw [row_grad]
  refine (val_main_v41_apply (F := Ideal) x0 x1 x2 x3 x4 x6 i).trans (congrArg₂ (fun x y : EReal => x + y) ?_ ?_)
  · refine (val_main_v39_apply (F := Ideal) x0 x1 x2 x3 x4 x6 i).trans (congrArg₂ (fun x y : EReal => x + y) ?_ ?_)
    · exact (val_main_v32_apply (F := Ideal) x0 x1 x2 x3 x4 x6 i).trans (congrArg₂ (fun x y : EReal => x * y) (scaled_is x0 x1 x2 x3 x6 i)
        ((val_main_v31_apply (F := Ideal) x4 i).trans (root_is x4 _)))
    · exact (val_main_v38_apply (F := Ideal) x0 x1 x2 x3 x4 x6 i).trans (congrArg₂ (fun x y : EReal => x * y) (table_holds x4 i) (pull_is x0 x1 x2 x3 x4 x6 i))
  · exact (val_main_v40_apply (F := Ideal) x0 x1 x2 x3 x4 x6 i).trans (congrArg₂ (fun x y : EReal => x * y) (pull_is x0 x1 x2 x3 x4 x6 i) (table_holds x4 i))

theorem column (i : S1x2048.Idx) (r : Fin 4096) : (idx_main_v24 (idx_main_v25 i) r 1).val = (i 1).val := by
  have b0 : (i 0).val < 1 := (i 0).isLt
  simp only [idx_main_v24, idx_main_v25]
  omega

theorem reference_weight_is (i : S1x2048.Idx) : val_main_v25 (F := Ideal) x0 x1 x2 x3 x4 i
    = ∑ r ∈ Finset.range 4096, sent x0 x1 x2 x3 r (i 1).val * (table x4 r (i 1).val * root (table x4 r)) := by
  refine (val_main_v25_apply (F := Ideal) x0 x1 x2 x3 x4 i).trans ((val_main_v24_apply x0 x1 x2 x3 x4 _).trans (zero_add_sum fun r => ?_))
  refine (val_main_v23_apply (F := Ideal) x0 x1 x2 x3 x4 _).trans ((mul_comm (G := EReal) _ _).trans (congrArg₂ (fun x y : EReal => x * y) ?_ ?_))
  · exact (sent_is x0 x1 x2 x3 _).trans (congrArg (sent x0 x1 x2 x3 r.val) (column i r))
  · refine (val_main_v20_apply (F := Ideal) x4 _).trans (congrArg₂ (fun x y : EReal => x * y) ((table_holds x4 _).trans (congrArg (table x4 r.val) (column i r)))
      ((val_main_v19_apply (F := Ideal) x4 _).trans (root_is x4 _)))

end Reference

/-- `Cert.algebraic_Kernel16Ideal_Reference16Ideal` (Defs.lean). -/
theorem algebraic : Cert.algebraic_Kernel16Ideal_Reference16Ideal := by
  intro m ρ m' ρ' _ hagree
  refine ⟨fun c => result m c, fun c => weight m c, ?_, ?_⟩
  · refine (θ_run Cert.Kernel16Ideal.defs _ _).mono (fun r h c => ?_) (Cert.Kernel16Ideal.Value.run_blocks (F := Ideal) m ρ)
    obtain ⟨h1, h2, k⟩ := h c
    exact ⟨h1.trans kernel_is, h2.trans kernel_weight_is, k⟩
  · refine (θ_run Cert.Reference16Ideal.defs _ _).mono (fun r h c => ?_) (Cert.Reference16Ideal.Value.run (F := Ideal) m' ρ')
    obtain ⟨h1, h2, k⟩ := h c
    obtain ⟨g0, g1, g2, g3, g4, g5, g6⟩ := hagree c
    have h1' := h1.trans (Cert.Reference16Ideal.Read.val_main_v42_eq _ _)
    have h2' := h2.trans (Cert.Reference16Ideal.Read.val_main_v25_eq _ _ _ _ _)
    rw [g0, g1, g2, g3, g4, g5, g6] at h1'
    rw [g0, g1, g2, g3, g4] at h2'
    exact ⟨h1'.trans (funext fun i => reference_is _ _ _ _ _ _ _ i), h2'.trans (funext fun i => reference_weight_is _ _ _ _ _ i), k⟩

/-- The reference leaves its arguments, and it declares no semaphore. -/
theorem reference_frame : Cert.quiescent_Reference16Ideal := fun m ρ _ =>
  (θ_run Cert.Reference16Ideal.defs _ _).mono (fun r h => ⟨fun c => (h c).2.2, Idealize.ShloMosaic.sem_eq_zero_of_no_sems (by decide) r.2⟩)
    (Cert.Reference16Ideal.Value.run (F := Ideal) m ρ)

end HiddenNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Pre_finite
public import proofs.«01_k».proof.Proof.Gen.Pre_finite2
public import proofs.«01_k».proof.Proof.Gen.Pre_core12
public import proofs.«01_k».proof.Proof.Gen.Pre_core13
public import proofs.«01_k».proof.Proof.Gen.Pre_core14
public import proofs.«01_k».proof.Proof.Gen.Pre_core15
public import proofs.«01_k».proof.Proof.Gen.On_dx_and_db
public import proofs.«01_k».proof.Proof.DxAndDb
public import proofs.«01_k».proof.Proof.GateAct
public import proofs.«01_k».proof.Proof.HiddenGrad
public import proofs.«01_k».proof.Proof.GateGrad
public import proofs.«01_k».proof.Proof.DownGrad
public import proofs.«01_k».proof.Proof.FeedForward
public import proofs.«01_k».proof.Proof.Projection
public import proofs.«01_k».proof.Proof.OutGrad
public import proofs.«01_k».proof.Proof.MixerGrad
public import proofs.«01_k».proof.Proof.MixerOut
public import proofs.«01_k».proof.Proof.SmallUpdate
public import proofs.«01_k».proof.Proof.DownUpdate
public import proofs.«01_k».proof.Proof.GateUpdate
public import proofs.«01_k».proof.Proof.OutUpdate
public import proofs.«01_k».proof.Proof.InUpdate
public import proofs.«01_k».proof.Proof.HiddenNorm
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_finite.Gen.facts, Cert.Pre_finite2.Gen.facts, Cert.Pre_core12.Gen.facts, Cert.Pre_core13.Gen.facts, Cert.Pre_core14.Gen.facts, Cert.Pre_core15.Gen.facts, Cert.On_dx_and_db.Gen.facts,
    fun m ρ _ => Cert.Kernel.Gen.frame m ρ, fun m ρ _ => Cert.KernelIdeal.Gen.frame m ρ, fun m ρ _ => Cert.KernelIdeal.Gen.frame m ρ,
    SsdBwd.reference_frame, fun m ρ _ => SsdBwd.reference_frame m ρ trivial,
    fun m ρ _ => Cert.Kernel2.Gen.frame m ρ, fun m ρ _ => Cert.Kernel2Ideal.Gen.frame m ρ, fun m ρ _ => Cert.Kernel2Ideal.Gen.frame m ρ,
    GateAct.reference_frame, fun m ρ _ => GateAct.reference_frame m ρ trivial,
    fun m ρ _ => Cert.Kernel3.Gen.frame m ρ, fun m ρ _ => Cert.Kernel3Ideal.Gen.frame m ρ, HiddenGrad.reference_frame,
    fun m ρ _ => Cert.Kernel4.Gen.frame m ρ, fun m ρ _ => Cert.Kernel4Ideal.Gen.frame m ρ, GateGrad.reference_frame,
    fun m ρ _ => Cert.Kernel5.Gen.frame m ρ, fun m ρ _ => Cert.Kernel5Ideal.Gen.frame m ρ, DownGrad.reference_frame,
    fun m ρ _ => Cert.Kernel6.Gen.frame m ρ, fun m ρ _ => Cert.Kernel6Ideal.Gen.frame m ρ, FeedForward.reference_frame,
    fun m ρ _ => Cert.Kernel7.Gen.frame m ρ, fun m ρ _ => Cert.Kernel7Ideal.Gen.frame m ρ, Projection.reference_frame,
    fun m ρ _ => Cert.Kernel8.Gen.frame m ρ, fun m ρ _ => Cert.Kernel8Ideal.Gen.frame m ρ, OutGrad.reference_frame,
    fun m ρ _ => Cert.Kernel9.Gen.frame m ρ, fun m ρ _ => Cert.Kernel9Ideal.Gen.frame m ρ, MixerGrad.reference_frame,
    fun m ρ _ => Cert.Kernel10.Gen.frame m ρ, fun m ρ _ => Cert.Kernel10Ideal.Gen.frame m ρ, MixerOut.reference_frame,
    fun m ρ _ => Cert.Kernel11.Gen.frame m ρ, fun m ρ _ => Cert.Kernel11Ideal.Gen.frame m ρ, SmallUpdate.reference_frame,
    DownUpdate.kernel_frame, DownUpdate.ideal_frame, fun m ρ _ => DownUpdate.ideal_frame m ρ trivial, DownUpdate.reference_frame, fun m ρ _ => DownUpdate.reference_frame m ρ trivial,
    GateUpdate.kernel_frame, GateUpdate.ideal_frame, fun m ρ _ => GateUpdate.ideal_frame m ρ trivial, GateUpdate.reference_frame, fun m ρ _ => GateUpdate.reference_frame m ρ trivial,
    OutUpdate.kernel_frame, OutUpdate.ideal_frame, fun m ρ _ => OutUpdate.ideal_frame m ρ trivial, OutUpdate.reference_frame, fun m ρ _ => OutUpdate.reference_frame m ρ trivial,
    InUpdate.kernel_frame, InUpdate.ideal_frame, fun m ρ _ => InUpdate.ideal_frame m ρ trivial, InUpdate.reference_frame, fun m ρ _ => InUpdate.reference_frame m ρ trivial,
    fun m ρ _ => Cert.Kernel16.Gen.frame m ρ, fun m ρ _ => Cert.Kernel16Ideal.Gen.frame m ρ, HiddenNorm.reference_frame,
    trivial, SsdBwd.algebraic,
    trivial, GateAct.algebraic,
    trivial, HiddenGrad.algebraic,
    trivial, GateGrad.algebraic,
    trivial, DownGrad.algebraic,
    trivial, FeedForward.algebraic,
    trivial, Projection.algebraic,
    trivial, OutGrad.algebraic,
    trivial, MixerGrad.algebraic,
    trivial, MixerOut.algebraic,
    trivial, SmallUpdate.algebraic,
    trivial, DownUpdate.algebraic,
    trivial, GateUpdate.algebraic,
    trivial, OutUpdate.algebraic,
    trivial, InUpdate.algebraic,
    trivial, HiddenNorm.algebraic⟩

end Cert.Proof

end
